-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_as_prepared [hPre_gates_as_prepared : Cert.Pre_gates_as_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_gates_as_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_as_prepared [hPre_gates_as_prepared : Cert.Pre_gates_as_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_as_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_as_prepared [hKernelIdeal : Cert.KernelIdeal.Facts] [hPre_gates_as_prepared : Cert.Pre_gates_as_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_as_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_as_prepared [hReferenceIdeal : Cert.ReferenceIdeal.Facts] [hPre_gates_as_prepared : Cert.Pre_gates_as_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_as_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_gates_as_prepared [hKernelIdeal : Cert.KernelIdeal.Facts] [hReferenceIdeal : Cert.ReferenceIdeal.Facts] [hPre_gates_as_prepared : Cert.Pre_gates_as_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_as_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v95) = v2 c
          ∧ r.2.mem ((c.tc : Thread Cert.Reference4Ideal.nD Cert.Reference4Ideal.τ).loc Cert.Reference4Ideal.main_v97) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gates_as_prepared : Cert.Pre_gates_as_prepared.Facts),
    quiescent_Kernel (hKernel := hKernel)
    ∧ quiescent_KernelIdeal (hKernelIdeal := hKernelIdeal)
    ∧ quiescent_KernelIdeal_pre_gates_as_prepared (hKernelIdeal := hKernelIdeal) (hPre_gates_as_prepared := hPre_gates_as_prepared)
    ∧ quiescent_ReferenceIdeal (hReferenceIdeal := hReferenceIdeal)
    ∧ quiescent_ReferenceIdeal_pre_gates_as_prepared (hReferenceIdeal := hReferenceIdeal) (hPre_gates_as_prepared := hPre_gates_as_prepared)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gates_as_prepared (hKernelIdeal := hKernelIdeal) (hReferenceIdeal := hReferenceIdeal) (hPre_gates_as_prepared := hPre_gates_as_prepared)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gates_as_prepared.lean ====
abbrev S4x4x4096x256 : Shape := ⟨4, ![4, 4, 4096, 256]⟩
abbrev S4x16x1024x256 : Shape := ⟨4, ![4, 16, 1024, 256]⟩
abbrev S4x4096x3072 : Shape := ⟨3, ![4, 4096, 3072]⟩
abbrev S4x1x1024x256 : Shape := ⟨4, ![4, 1, 1024, 256]⟩
abbrev S4x256x1024 : Shape := ⟨3, ![4, 256, 1024]⟩
abbrev S4x4x16x8x256 : Shape := ⟨5, ![4, 4, 16, 8, 256]⟩
abbrev S4x4x4096x128 : Shape := ⟨4, ![4, 4, 4096, 128]⟩
abbrev S4x4x8x256 : Shape := ⟨4, ![4, 4, 8, 256]⟩
abbrev S1x1024 : Shape := ⟨2, ![1, 1024]⟩
abbrev S2048x8192 : Shape := ⟨2, ![2048, 8192]⟩
abbrev S2048x2048 : Shape := ⟨2, ![2048, 2048]⟩
abbrev S4x4x16x2x128 : Shape := ⟨5, ![4, 4, 16, 2, 128]⟩
abbrev S4x4x16x256x128 : Shape := ⟨5, ![4, 4, 16, 256, 128]⟩
abbrev S4x4x16x256x1 : Shape := ⟨5, ![4, 4, 16, 256, 1]⟩
abbrev S4x4x16x256 : Shape := ⟨4, ![4, 4, 16, 256]⟩
abbrev S4x4x16x1x256 : Shape := ⟨5, ![4, 4, 16, 1, 256]⟩
abbrev S4x4x16x2x256 : Shape := ⟨5, ![4, 4, 16, 2, 256]⟩
abbrev S4x4x16x2x1 : Shape := ⟨5, ![4, 4, 16, 2, 1]⟩
abbrev S_ : Shape := ⟨0, ![]⟩
abbrev S4x4x16x2x384 : Shape := ⟨5, ![4, 4, 16, 2, 384]⟩

class Facts : Prop where
  slices_S4x4x16x8x256_S4x4x16x2x128_0_0_0_2_0 : S4x4x16x8x256.Slices ![0, 0, 0, 2, 0] S4x4x16x2x128
  shapeCasts_S4x4x4096x128_S4x4x16x256x128 : S4x4x4096x128.ShapeCasts S4x4x16x256x128
  slices_S4x4x16x256x128_S4x4x16x256x1_0_0_0_0_2 : S4x4x16x256x128.Slices ![0, 0, 0, 0, 2] S4x4x16x256x1
  shapeCasts_S4x4x16x256x1_S4x4x16x256 : S4x4x16x256x1.ShapeCasts S4x4x16x256
  slices_S4x4x16x256x128_S4x4x16x256x1_0_0_0_0_5 : S4x4x16x256x128.Slices ![0, 0, 0, 0, 5] S4x4x16x256x1
  bcast_S4x4x16x256_S4x4x16x1x256_0_1_2_4 : S4x4x16x256.BroadcastsInDim S4x4x16x1x256 (![0, 1, 2, 4] : Fin 4 → Fin S4x4x16x1x256.rank)
  concatenates_S4x4x16x1x256_S4x4x16x1x256_S4x4x16x2x256_d3 : Shape.Concatenates [S4x4x16x1x256, S4x4x16x1x256] S4x4x16x2x256 3
  slices_S4x4x16x2x128_S4x4x16x2x1_0_0_0_0_0 : S4x4x16x2x128.Slices ![0, 0, 0, 0, 0] S4x4x16x2x1
  bcast_S4x4x16x2x1_S4x4x16x2x128_0_1_2_3_4 : S4x4x16x2x1.BroadcastsInDim S4x4x16x2x128 (![0, 1, 2, 3, 4] : Fin 5 → Fin S4x4x16x2x128.rank)
  bcast_S_S4x4x16x2x256 : S_.BroadcastsInDim S4x4x16x2x256 (![] : Fin 0 → Fin S4x4x16x2x256.rank)
  concatenates_S4x4x16x2x128_S4x4x16x2x256_S4x4x16x2x384_d4 : Shape.Concatenates [S4x4x16x2x128, S4x4x16x2x256] S4x4x16x2x384 4

variable [Facts]

def fn {F : FTy → Type} [FloatOps F] (main_arg0 : FVec F S4x4x4096x256 .bf16) (main_arg1 : FVec F S4x16x1024x256 .bf16) (main_arg2 : FVec F S4x4096x3072 .bf16) (main_arg3 : FVec F S4x1x1024x256 .bf16) (main_arg4 : FVec F S4x256x1024 .bf16) (main_arg5 : FVec F S4x4x16x8x256 .f32) (main_arg6 : FVec F S4x4x4096x128 .f32) (main_arg7 : FVec F S4x4x8x256 .f32) (main_arg8 : FVec F S1x1024 .f32) (main_arg9 : FVec F S2048x8192 .f32) (main_arg10 : FVec F S2048x2048 .f32) : IVec S4x4x16x2x384 1 :=
  let main_v0 : FVec F S4x4x16x2x128 .f32 := (extractStridedSlice S4x4x16x2x128 ![0, 0, 0, 2, 0] · slices_S4x4x16x8x256_S4x4x16x2x128_0_0_0_2_0) main_arg5
  let main_v1 : FVec F S4x4x16x256x128 .f32 := shapeCast S4x4x16x256x128 main_arg6 shapeCasts_S4x4x4096x128_S4x4x16x256x128
  let main_v2 : FVec F S4x4x16x256x1 .f32 := (extractStridedSlice S4x4x16x256x1 ![0, 0, 0, 0, 2] · slices_S4x4x16x256x128_S4x4x16x256x1_0_0_0_0_2) main_v1
  let main_v3 : FVec F S4x4x16x256 .f32 := shapeCast S4x4x16x256 main_v2 shapeCasts_S4x4x16x256x1_S4x4x16x256
  let main_v4 : FVec F S4x4x16x256x1 .f32 := (extractStridedSlice S4x4x16x256x1 ![0, 0, 0, 0, 5] · slices_S4x4x16x256x128_S4x4x16x256x1_0_0_0_0_5) main_v1
  let main_v5 : FVec F S4x4x16x256 .f32 := shapeCast S4x4x16x256 main_v4 shapeCasts_S4x4x16x256x1_S4x4x16x256
  let main_v6 : FVec F S4x4x16x1x256 .f32 := broadcastInDim S4x4x16x1x256 ![0, 1, 2, 4] bcast_S4x4x16x256_S4x4x16x1x256_0_1_2_4 main_v3
  let main_v7 : FVec F S4x4x16x1x256 .f32 := broadcastInDim S4x4x16x1x256 ![0, 1, 2, 4] bcast_S4x4x16x256_S4x4x16x1x256_0_1_2_4 main_v5
  let main_v8 : FVec F S4x4x16x2x256 .f32 := (fun a b => concatenate S4x4x16x2x256 3 [⟨S4x4x16x1x256, a⟩, ⟨S4x4x16x1x256, b⟩] concatenates_S4x4x16x1x256_S4x4x16x1x256_S4x4x16x2x256_d3) main_v6 main_v7
  let main_v9 : FVec F S4x4x16x2x1 .f32 := (extractStridedSlice S4x4x16x2x1 ![0, 0, 0, 0, 0] · slices_S4x4x16x2x128_S4x4x16x2x1_0_0_0_0_0) main_v0
  let main_v10 : FVec F S4x4x16x2x128 .f32 := broadcastInDim S4x4x16x2x128 ![0, 1, 2, 3, 4] bcast_S4x4x16x2x1_S4x4x16x2x128_0_1_2_3_4 main_v9
  let main_v11 : IVec S4x4x16x2x128 1 := cmpf .oeq main_v0 main_v10
  let main_cst : FVec F S_ .f32 := constant S_ .f32 0x00000000#32
  let main_v12 : FVec F S4x4x16x2x256 .f32 := broadcastInDim S4x4x16x2x256 ![] bcast_S_S4x4x16x2x256 main_cst
  let main_v13 : IVec S4x4x16x2x256 1 := cmpf .ogt main_v8 main_v12
  let main_v14 : IVec S4x4x16x2x384 1 := (fun a b => concatenate S4x4x16x2x384 4 [⟨S4x4x16x2x128, a⟩, ⟨S4x4x16x2x256, b⟩] concatenates_S4x4x16x2x128_S4x4x16x2x256_S4x4x16x2x384_d4) main_v11 main_v13
  main_v14
-- ==== Kernel.lean ====
abbrev S4x4x4096x256 : Shape := ⟨4, ![4, 4, 4096, 256]⟩
abbrev S4x16x1024x256 : Shape := ⟨4, ![4, 16, 1024, 256]⟩
abbrev S4x4096x3072 : Shape := ⟨3, ![4, 4096, 3072]⟩
abbrev S4x1x1024x256 : Shape := ⟨4, ![4, 1, 1024, 256]⟩
abbrev S4x256x1024 : Shape := ⟨3, ![4, 256, 1024]⟩
abbrev S4x4x16x8x256 : Shape := ⟨5, ![4, 4, 16, 8, 256]⟩
abbrev S4x4x4096x128 : Shape := ⟨4, ![4, 4, 4096, 128]⟩
abbrev S4x4x8x256 : Shape := ⟨4, ![4, 4, 8, 256]⟩
abbrev S1x1024 : Shape := ⟨2, ![1, 1024]⟩
abbrev S2048x8192 : Shape := ⟨2, ![2048, 8192]⟩
abbrev S2048x2048 : Shape := ⟨2, ![2048, 2048]⟩
abbrev S4x4096x1024 : Shape := ⟨3, ![4, 4096, 1024]⟩
abbrev S1x1x4096x256 : Shape := ⟨4, ![1, 1, 4096, 256]⟩
abbrev S1x16x256x256 : Shape := ⟨4, ![1, 16, 256, 256]⟩
abbrev S1x4096x256 : Shape := ⟨3, ![1, 4096, 256]⟩
abbrev S1x1x256x256 : Shape := ⟨4, ![1, 1, 256, 256]⟩
abbrev S1x256x256 : Shape := ⟨3, ![1, 256, 256]⟩
abbrev S1x1x16x8x256 : Shape := ⟨5, ![1, 1, 16, 8, 256]⟩
abbrev S1x1x4096x128 : Shape := ⟨4, ![1, 1, 4096, 128]⟩
abbrev S1x1x8x256 : Shape := ⟨4, ![1, 1, 8, 256]⟩
abbrev S1x256 : Shape := ⟨2, ![1, 256]⟩
abbrev S128x8192 : Shape := ⟨2, ![128, 8192]⟩
abbrev S128x2048 : Shape := ⟨2, ![128, 2048]⟩
abbrev S4096x256 : Shape := ⟨2, ![4096, 256]⟩
abbrev S256x384 : Shape := ⟨2, ![256, 384]⟩
abbrev S256x256 : Shape := ⟨2, ![256, 256]⟩
abbrev S256x128 : Shape := ⟨2, ![256, 128]⟩
abbrev S1x1x1x256 : Shape := ⟨4, ![1, 1, 1, 256]⟩
abbrev S1x1x256x128 : Shape := ⟨4, ![1, 1, 256, 128]⟩
abbrev S256x1 : Shape := ⟨2, ![256, 1]⟩
abbrev S1x1x1x8x256 : Shape := ⟨5, ![1, 1, 1, 8, 256]⟩
abbrev S8x256 : Shape := ⟨2, ![8, 256]⟩
abbrev S1x128 : Shape := ⟨2, ![1, 128]⟩
abbrev S1x384 : Shape := ⟨2, ![1, 384]⟩
abbrev S256 : Shape := ⟨1, ![256]⟩

abbrev nBuf : Space → Nat
  | .hbm => 14
  | .vmem => 33
  | .smem => 0
  | _ => 0

abbrev bufTy : (tb : Table) → Fin (tcTables nBuf tb) → BufTy
  | .hbm, ⟨0, _⟩ => ⟨S4x4x4096x256, .bf16⟩
  | .hbm, ⟨1, _⟩ => ⟨S4x16x1024x256, .bf16⟩
  | .hbm, ⟨2, _⟩ => ⟨S4x4096x3072, .bf16⟩
  | .hbm, ⟨3, _⟩ => ⟨S4x1x1024x256, .bf16⟩
  | .hbm, ⟨4, _⟩ => ⟨S4x256x1024, .bf16⟩
  | .hbm, ⟨5, _⟩ => ⟨S4x4x16x8x256, .f32⟩
  | .hbm, ⟨6, _⟩ => ⟨S4x4x4096x128, .f32⟩
  | .hbm, ⟨7, _⟩ => ⟨S4x4x8x256, .f32⟩
  | .hbm, ⟨8, _⟩ => ⟨S1x1024, .f32⟩
  | .hbm, ⟨9, _⟩ => ⟨S2048x8192, .f32⟩
  | .hbm, ⟨10, _⟩ => ⟨S2048x2048, .f32⟩
  | .hbm, ⟨11, _⟩ => ⟨S4x4096x1024, .bf16⟩
  | .hbm, ⟨12, _⟩ => ⟨S2048x8192, .bf16⟩
  | .hbm, ⟨13, _⟩ => ⟨S2048x2048, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x16x256x256, .bf16⟩
  | .local _ .vmem, ⟨3, _⟩ => ⟨S1x16x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x1x16x8x256, .f32⟩
  | .local _ .vmem, ⟨13, _⟩ => ⟨S1x1x16x8x256, .f32⟩
  | .local _ .vmem, ⟨14, _⟩ => ⟨S1x1x4096x128, .f32⟩
  | .local _ .vmem, ⟨15, _⟩ => ⟨S1x1x4096x128, .f32⟩
  | .local _ .vmem, ⟨16, _⟩ => ⟨S1x1x8x256, .f32⟩
  | .local _ .vmem, ⟨17, _⟩ => ⟨S1x1x8x256, .f32⟩
  | .local _ .vmem, ⟨18, _⟩ => ⟨S1x256, .f32⟩
  | .local _ .vmem, ⟨19, _⟩ => ⟨S1x256, .f32⟩
  | .local _ .vmem, ⟨20, _⟩ => ⟨S128x8192, .f32⟩
  | .local _ .vmem, ⟨21, _⟩ => ⟨S128x8192, .f32⟩
  | .local _ .vmem, ⟨22, _⟩ => ⟨S128x2048, .f32⟩
  | .local _ .vmem, ⟨23, _⟩ => ⟨S128x2048, .f32⟩
  | .local _ .vmem, ⟨24, _⟩ => ⟨S1x4096x256, .bf16⟩
  | .local _ .vmem, ⟨25, _⟩ => ⟨S1x4096x256, .bf16⟩
  | .local _ .vmem, ⟨26, _⟩ => ⟨S128x8192, .bf16⟩
  | .local _ .vmem, ⟨27, _⟩ => ⟨S128x8192, .bf16⟩
  | .local _ .vmem, ⟨28, _⟩ => ⟨S128x2048, .bf16⟩
  | .local _ .vmem, ⟨29, _⟩ => ⟨S128x2048, .bf16⟩
  | .local _ .vmem, ⟨30, _⟩ => ⟨S4096x256, .f32⟩
  | .local _ .vmem, ⟨31, _⟩ => ⟨S256x384, .f32⟩
  | .local _ .vmem, ⟨32, _⟩ => ⟨S256x384, .f32⟩
  | _, _ => ⟨S4x4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c256_i32 : BitVec 32 := 256#32
  let v37 : BitVec 32 := Scalar.muli c0_i32 c256_i32
  v37
def k0_off1 (c0_i32 : BitVec 32) : Fin 4 → Nat :=
  let c0_31 : Index := 0#32
  let c0_32 : Index := 0#32
  let c256_i32 : BitVec 32 := 256#32
  let v37 : BitVec 32 := Scalar.muli c0_i32 c256_i32
  let v38 : BitVec 32 := v37
  let v39 : Index := Scalar.indexCast v38
  let c0_33 : Index := 0#32
  ![0, 0, v39.toNat, 0]
def k0_off2 (c0_i32 : BitVec 32) : Fin 3 → Nat :=
  let c0_37 : Index := 0#32
  let c256_i32 : BitVec 32 := 256#32
  let v37 : BitVec 32 := Scalar.muli c0_i32 c256_i32
  let v38 : BitVec 32 := v37
  let v45 : Index := Scalar.indexCast v38
  let c0_38 : Index := 0#32
  ![0, v45.toNat, 0]
def k0_off3 (c0_i32 : BitVec 32) : Fin 4 → Nat :=
  let c0_40 : Index := 0#32
  let c0_41 : Index := 0#32
  let c256_i32 : BitVec 32 := 256#32
  let v37 : BitVec 32 := Scalar.muli c0_i32 c256_i32
  let v38 : BitVec 32 := v37
  let v50 : Index := Scalar.indexCast v38
  let c0_42 : Index := 0#32
  ![0, 0, v50.toNat, 0]
def k0_mult2 : BitVec 32 :=
  let c0_i32 : BitVec 32 := 0#32
  let c256_i32_57 : BitVec 32 := 256#32
  let v99 : BitVec 32 := Scalar.muli c0_i32 c256_i32_57
  v99
def k0_off4 (c0_i32 : BitVec 32) : Fin 2 → Nat :=
  let c256_i32_57 : BitVec 32 := 256#32
  let v99 : BitVec 32 := Scalar.muli c0_i32 c256_i32_57
  let v100 : BitVec 32 := v99
  let v101 : Index := Scalar.indexCast v100
  let c0_58 : Index := 0#32
  ![v101.toNat, 0]
def k0_mult3 : BitVec 32 :=
  let c15_i32 : BitVec 32 := 15#32
  let c0_i32 : BitVec 32 := 0#32
  let v36 : BitVec 32 := Scalar.subi c15_i32 c0_i32
  let c256_i32_59 : BitVec 32 := 256#32
  let v105 : BitVec 32 := Scalar.muli v36 c256_i32_59
  v105
def k0_off5 (c0_i32 : BitVec 32) : Fin 4 → Nat :=
  let c0_60 : Index := 0#32
  let c0_61 : Index := 0#32
  let c15_i32 : BitVec 32 := 15#32
  let v36 : BitVec 32 := Scalar.subi c15_i32 c0_i32
  let c256_i32_59 : BitVec 32 := 256#32
  let v105 : BitVec 32 := Scalar.muli v36 c256_i32_59
  let v106 : BitVec 32 := v105
  let v107 : Index := Scalar.indexCast v106
  let c0_62 : Index := 0#32
  ![0, 0, v107.toNat, 0]
def k0_off6 (c0_i32 : BitVec 32) : Fin 4 → Nat :=
  let c0_63 : Index := 0#32
  let c15_i32 : BitVec 32 := 15#32
  let v36 : BitVec 32 := Scalar.subi c15_i32 c0_i32
  let v110 : Index := Scalar.indexCast v36
  let c0_64 : Index := 0#32
  let c0_65 : Index := 0#32
  ![0, v110.toNat, 0, 0]
def k0_off7 (c0_i32 : BitVec 32) : Fin 3 → Nat :=
  let c0_66 : Index := 0#32
  let c15_i32 : BitVec 32 := 15#32
  let v36 : BitVec 32 := Scalar.subi c15_i32 c0_i32
  let c256_i32_59 : BitVec 32 := 256#32
  let v105 : BitVec 32 := Scalar.muli v36 c256_i32_59
  let v106 : BitVec 32 := v105
  let v113 : Index := Scalar.indexCast v106
  let c0_67 : Index := 0#32
  ![0, v113.toNat, 0]
def k0_off8 (c0_i32 : BitVec 32) : Fin 4 → Nat :=
  let c0_69 : Index := 0#32
  let c0_70 : Index := 0#32
  let c15_i32 : BitVec 32 := 15#32
  let v36 : BitVec 32 := Scalar.subi c15_i32 c0_i32
  let c256_i32_59 : BitVec 32 := 256#32
  let v105 : BitVec 32 := Scalar.muli v36 c256_i32_59
  let v106 : BitVec 32 := v105
  let v118 : Index := Scalar.indexCast v106
  let c0_71 : Index := 0#32
  ![0, 0, v118.toNat, 0]
def k0_off9 (c0_i32 : BitVec 32) : Fin 5 → Nat :=
  let c0_72 : Index := 0#32
  let c0_73 : Index := 0#32
  let c15_i32 : BitVec 32 := 15#32
  let v36 : BitVec 32 := Scalar.subi c15_i32 c0_i32
  let v124 : Index := Scalar.indexCast v36
  let c0_74 : Index := 0#32
  let c0_75 : Index := 0#32
  ![0, 0, v124.toNat, 0, 0]
def k0_mult4 : BitVec 32 :=
  let c15_i32 : BitVec 32 := 15#32
  let c0_i32 : BitVec 32 := 0#32
  let v36 : BitVec 32 := Scalar.subi c15_i32 c0_i32
  let c256_i32_86 : BitVec 32 := 256#32
  let v167 : BitVec 32 := Scalar.muli v36 c256_i32_86
  v167
def k0_off10 (c0_i32 : BitVec 32) : Fin 2 → Nat :=
  let c15_i32 : BitVec 32 := 15#32
  let v36 : BitVec 32 := Scalar.subi c15_i32 c0_i32
  let c256_i32_86 : BitVec 32 := 256#32
  let v167 : BitVec 32 := Scalar.muli v36 c256_i32_86
  let v168 : BitVec 32 := v167
  let v169 : Index := Scalar.indexCast v168
  let c0_87 : Index := 0#32
  ![v169.toNat, 0]
def k0_mult5 : BitVec 32 :=
  let c1_i32 : BitVec 32 := 1#32
  let c256_i32_89 : BitVec 32 := 256#32
  let v174 : BitVec 32 := Scalar.muli c1_i32 c256_i32_89
  v174
def k0_mult6 : BitVec 32 :=
  let c1_i32 : BitVec 32 := 1#32
  let c256_i32_116 : BitVec 32 := 256#32
  let v236 : BitVec 32 := Scalar.muli c1_i32 c256_i32_116
  v236
def k0_mult7 : BitVec 32 :=
  let c15_i32_88 : BitVec 32 := 15#32
  let c1_i32 : BitVec 32 := 1#32
  let v173 : BitVec 32 := Scalar.subi c15_i32_88 c1_i32
  let c256_i32_118 : BitVec 32 := 256#32
  let v242 : BitVec 32 := Scalar.muli v173 c256_i32_118
  v242
def k0_mult8 : BitVec 32 :=
  let c15_i32_88 : BitVec 32 := 15#32
  let c1_i32 : BitVec 32 := 1#32
  let v173 : BitVec 32 := Scalar.subi c15_i32_88 c1_i32
  let c256_i32_145 : BitVec 32 := 256#32
  let v304 : BitVec 32 := Scalar.muli v173 c256_i32_145
  v304
def k0_mult9 : BitVec 32 :=
  let c2_i32 : BitVec 32 := 2#32
  let c256_i32_148 : BitVec 32 := 256#32
  let v311 : BitVec 32 := Scalar.muli c2_i32 c256_i32_148
  v311
def k0_mult10 : BitVec 32 :=
  let c2_i32 : BitVec 32 := 2#32
  let c256_i32_175 : BitVec 32 := 256#32
  let v373 : BitVec 32 := Scalar.muli c2_i32 c256_i32_175
  v373
def k0_mult11 : BitVec 32 :=
  let c15_i32_147 : BitVec 32 := 15#32
  let c2_i32 : BitVec 32 := 2#32
  let v310 : BitVec 32 := Scalar.subi c15_i32_147 c2_i32
  let c256_i32_177 : BitVec 32 := 256#32
  let v379 : BitVec 32 := Scalar.muli v310 c256_i32_177
  v379
def k0_mult12 : BitVec 32 :=
  let c15_i32_147 : BitVec 32 := 15#32
  let c2_i32 : BitVec 32 := 2#32
  let v310 : BitVec 32 := Scalar.subi c15_i32_147 c2_i32
  let c256_i32_204 : BitVec 32 := 256#32
  let v441 : BitVec 32 := Scalar.muli v310 c256_i32_204
  v441
def k0_mult13 : BitVec 32 :=
  let c3_i32 : BitVec 32 := 3#32
  let c256_i32_207 : BitVec 32 := 256#32
  let v448 : BitVec 32 := Scalar.muli c3_i32 c256_i32_207
  v448
def k0_mult14 : BitVec 32 :=
  let c3_i32 : BitVec 32 := 3#32
  let c256_i32_234 : BitVec 32 := 256#32
  let v510 : BitVec 32 := Scalar.muli c3_i32 c256_i32_234
  v510
def k0_mult15 : BitVec 32 :=
  let c15_i32_206 : BitVec 32 := 15#32
  let c3_i32 : BitVec 32 := 3#32
  let v447 : BitVec 32 := Scalar.subi c15_i32_206 c3_i32
  let c256_i32_236 : BitVec 32 := 256#32
  let v516 : BitVec 32 := Scalar.muli v447 c256_i32_236
  v516
def k0_mult16 : BitVec 32 :=
  let c15_i32_206 : BitVec 32 := 15#32
  let c3_i32 : BitVec 32 := 3#32
  let v447 : BitVec 32 := Scalar.subi c15_i32_206 c3_i32
  let c256_i32_263 : BitVec 32 := 256#32
  let v578 : BitVec 32 := Scalar.muli v447 c256_i32_263
  v578
def k0_mult17 : BitVec 32 :=
  let c4_i32 : BitVec 32 := 4#32
  let c256_i32_266 : BitVec 32 := 256#32
  let v585 : BitVec 32 := Scalar.muli c4_i32 c256_i32_266
  v585
def k0_mult18 : BitVec 32 :=
  let c4_i32 : BitVec 32 := 4#32
  let c256_i32_293 : BitVec 32 := 256#32
  let v647 : BitVec 32 := Scalar.muli c4_i32 c256_i32_293
  v647
def k0_mult19 : BitVec 32 :=
  let c15_i32_265 : BitVec 32 := 15#32
  let c4_i32 : BitVec 32 := 4#32
  let v584 : BitVec 32 := Scalar.subi c15_i32_265 c4_i32
  let c256_i32_295 : BitVec 32 := 256#32
  let v653 : BitVec 32 := Scalar.muli v584 c256_i32_295
  v653
def k0_mult20 : BitVec 32 :=
  let c15_i32_265 : BitVec 32 := 15#32
  let c4_i32 : BitVec 32 := 4#32
  let v584 : BitVec 32 := Scalar.subi c15_i32_265 c4_i32
  let c256_i32_322 : BitVec 32 := 256#32
  let v715 : BitVec 32 := Scalar.muli v584 c256_i32_322
  v715
def k0_mult21 : BitVec 32 :=
  let c5_i32 : BitVec 32 := 5#32
  let c256_i32_325 : BitVec 32 := 256#32
  let v722 : BitVec 32 := Scalar.muli c5_i32 c256_i32_325
  v722
def k0_mult22 : BitVec 32 :=
  let c5_i32 : BitVec 32 := 5#32
  let c256_i32_352 : BitVec 32 := 256#32
  let v784 : BitVec 32 := Scalar.muli c5_i32 c256_i32_352
  v784
def k0_mult23 : BitVec 32 :=
  let c15_i32_324 : BitVec 32 := 15#32
  let c5_i32 : BitVec 32 := 5#32
  let v721 : BitVec 32 := Scalar.subi c15_i32_324 c5_i32
  let c256_i32_354 : BitVec 32 := 256#32
  let v790 : BitVec 32 := Scalar.muli v721 c256_i32_354
  v790
def k0_mult24 : BitVec 32 :=
  let c15_i32_324 : BitVec 32 := 15#32
  let c5_i32 : BitVec 32 := 5#32
  let v721 : BitVec 32 := Scalar.subi c15_i32_324 c5_i32
  let c256_i32_381 : BitVec 32 := 256#32
  let v852 : BitVec 32 := Scalar.muli v721 c256_i32_381
  v852
def k0_mult25 : BitVec 32 :=
  let c6_i32 : BitVec 32 := 6#32
  let c256_i32_384 : BitVec 32 := 256#32
  let v859 : BitVec 32 := Scalar.muli c6_i32 c256_i32_384
  v859
def k0_mult26 : BitVec 32 :=
  let c6_i32 : BitVec 32 := 6#32
  let c256_i32_411 : BitVec 32 := 256#32
  let v921 : BitVec 32 := Scalar.muli c6_i32 c256_i32_411
  v921
def k0_mult27 : BitVec 32 :=
  let c15_i32_383 : BitVec 32 := 15#32
  let c6_i32 : BitVec 32 := 6#32
  let v858 : BitVec 32 := Scalar.subi c15_i32_383 c6_i32
  let c256_i32_413 : BitVec 32 := 256#32
  let v927 : BitVec 32 := Scalar.muli v858 c256_i32_413
  v927
def k0_mult28 : BitVec 32 :=
  let c15_i32_383 : BitVec 32 := 15#32
  let c6_i32 : BitVec 32 := 6#32
  let v858 : BitVec 32 := Scalar.subi c15_i32_383 c6_i32
  let c256_i32_440 : BitVec 32 := 256#32
  let v989 : BitVec 32 := Scalar.muli v858 c256_i32_440
  v989
def k0_mult29 : BitVec 32 :=
  let c7_i32 : BitVec 32 := 7#32
  let c256_i32_443 : BitVec 32 := 256#32
  let v996 : BitVec 32 := Scalar.muli c7_i32 c256_i32_443
  v996
def k0_mult30 : BitVec 32 :=
  let c7_i32 : BitVec 32 := 7#32
  let c256_i32_470 : BitVec 32 := 256#32
  let v1058 : BitVec 32 := Scalar.muli c7_i32 c256_i32_470
  v1058
def k0_mult31 : BitVec 32 :=
  let c15_i32_442 : BitVec 32 := 15#32
  let c7_i32 : BitVec 32 := 7#32
  let v995 : BitVec 32 := Scalar.subi c15_i32_442 c7_i32
  let c256_i32_472 : BitVec 32 := 256#32
  let v1064 : BitVec 32 := Scalar.muli v995 c256_i32_472
  v1064
def k0_mult32 : BitVec 32 :=
  let c15_i32_442 : BitVec 32 := 15#32
  let c7_i32 : BitVec 32 := 7#32
  let v995 : BitVec 32 := Scalar.subi c15_i32_442 c7_i32
  let c256_i32_499 : BitVec 32 := 256#32
  let v1126 : BitVec 32 := Scalar.muli v995 c256_i32_499
  v1126
def k0_mult33 : BitVec 32 :=
  let c8_i32_501 : BitVec 32 := 8#32
  let c256_i32_503 : BitVec 32 := 256#32
  let v1133 : BitVec 32 := Scalar.muli c8_i32_501 c256_i32_503
  v1133
def k0_mult34 : BitVec 32 :=
  let c8_i32_501 : BitVec 32 := 8#32
  let c256_i32_530 : BitVec 32 := 256#32
  let v1195 : BitVec 32 := Scalar.muli c8_i32_501 c256_i32_530
  v1195
def k0_mult35 : BitVec 32 :=
  let c8_i32_501 : BitVec 32 := 8#32
  let c256_i32_532 : BitVec 32 := 256#32
  let v1200 : BitVec 32 := Scalar.muli c8_i32_501 c256_i32_532
  v1200
def k0_mult36 : BitVec 32 :=
  let c15_i32_502 : BitVec 32 := 15#32
  let c8_i32_501 : BitVec 32 := 8#32
  let v1132 : BitVec 32 := Scalar.subi c15_i32_502 c8_i32_501
  let c256_i32_542 : BitVec 32 := 256#32
  let v1225 : BitVec 32 := Scalar.muli v1132 c256_i32_542
  v1225
def k0_mult37 : BitVec 32 :=
  let c15_i32_502 : BitVec 32 := 15#32
  let c8_i32_501 : BitVec 32 := 8#32
  let v1132 : BitVec 32 := Scalar.subi c15_i32_502 c8_i32_501
  let c256_i32_569 : BitVec 32 := 256#32
  let v1287 : BitVec 32 := Scalar.muli v1132 c256_i32_569
  v1287
def k0_mult38 : BitVec 32 :=
  let c15_i32_502 : BitVec 32 := 15#32
  let c8_i32_501 : BitVec 32 := 8#32
  let v1132 : BitVec 32 := Scalar.subi c15_i32_502 c8_i32_501
  let c256_i32_571 : BitVec 32 := 256#32
  let v1292 : BitVec 32 := Scalar.muli v1132 c256_i32_571
  v1292
def k0_mult39 : BitVec 32 :=
  let c9_i32 : BitVec 32 := 9#32
  let c256_i32_582 : BitVec 32 := 256#32
  let v1318 : BitVec 32 := Scalar.muli c9_i32 c256_i32_582
  v1318
def k0_mult40 : BitVec 32 :=
  let c9_i32 : BitVec 32 := 9#32
  let c256_i32_609 : BitVec 32 := 256#32
  let v1380 : BitVec 32 := Scalar.muli c9_i32 c256_i32_609
  v1380
def k0_mult41 : BitVec 32 :=
  let c9_i32 : BitVec 32 := 9#32
  let c256_i32_611 : BitVec 32 := 256#32
  let v1385 : BitVec 32 := Scalar.muli c9_i32 c256_i32_611
  v1385
def k0_mult42 : BitVec 32 :=
  let c15_i32_581 : BitVec 32 := 15#32
  let c9_i32 : BitVec 32 := 9#32
  let v1317 : BitVec 32 := Scalar.subi c15_i32_581 c9_i32
  let c256_i32_621 : BitVec 32 := 256#32
  let v1410 : BitVec 32 := Scalar.muli v1317 c256_i32_621
  v1410
def k0_mult43 : BitVec 32 :=
  let c15_i32_581 : BitVec 32 := 15#32
  let c9_i32 : BitVec 32 := 9#32
  let v1317 : BitVec 32 := Scalar.subi c15_i32_581 c9_i32
  let c256_i32_648 : BitVec 32 := 256#32
  let v1472 : BitVec 32 := Scalar.muli v1317 c256_i32_648
  v1472
def k0_mult44 : BitVec 32 :=
  let c15_i32_581 : BitVec 32 := 15#32
  let c9_i32 : BitVec 32 := 9#32
  let v1317 : BitVec 32 := Scalar.subi c15_i32_581 c9_i32
  let c256_i32_650 : BitVec 32 := 256#32
  let v1477 : BitVec 32 := Scalar.muli v1317 c256_i32_650
  v1477
def k0_mult45 : BitVec 32 :=
  let c10_i32 : BitVec 32 := 10#32
  let c256_i32_661 : BitVec 32 := 256#32
  let v1503 : BitVec 32 := Scalar.muli c10_i32 c256_i32_661
  v1503
def k0_mult46 : BitVec 32 :=
  let c10_i32 : BitVec 32 := 10#32
  let c256_i32_688 : BitVec 32 := 256#32
  let v1565 : BitVec 32 := Scalar.muli c10_i32 c256_i32_688
  v1565
def k0_mult47 : BitVec 32 :=
  let c10_i32 : BitVec 32 := 10#32
  let c256_i32_690 : BitVec 32 := 256#32
  let v1570 : BitVec 32 := Scalar.muli c10_i32 c256_i32_690
  v1570
def k0_mult48 : BitVec 32 :=
  let c15_i32_660 : BitVec 32 := 15#32
  let c10_i32 : BitVec 32 := 10#32
  let v1502 : BitVec 32 := Scalar.subi c15_i32_660 c10_i32
  let c256_i32_700 : BitVec 32 := 256#32
  let v1595 : BitVec 32 := Scalar.muli v1502 c256_i32_700
  v1595
def k0_mult49 : BitVec 32 :=
  let c15_i32_660 : BitVec 32 := 15#32
  let c10_i32 : BitVec 32 := 10#32
  let v1502 : BitVec 32 := Scalar.subi c15_i32_660 c10_i32
  let c256_i32_727 : BitVec 32 := 256#32
  let v1657 : BitVec 32 := Scalar.muli v1502 c256_i32_727
  v1657
def k0_mult50 : BitVec 32 :=
  let c15_i32_660 : BitVec 32 := 15#32
  let c10_i32 : BitVec 32 := 10#32
  let v1502 : BitVec 32 := Scalar.subi c15_i32_660 c10_i32
  let c256_i32_729 : BitVec 32 := 256#32
  let v1662 : BitVec 32 := Scalar.muli v1502 c256_i32_729
  v1662
def k0_mult51 : BitVec 32 :=
  let c11_i32 : BitVec 32 := 11#32
  let c256_i32_740 : BitVec 32 := 256#32
  let v1688 : BitVec 32 := Scalar.muli c11_i32 c256_i32_740
  v1688
def k0_mult52 : BitVec 32 :=
  let c11_i32 : BitVec 32 := 11#32
  let c256_i32_767 : BitVec 32 := 256#32
  let v1750 : BitVec 32 := Scalar.muli c11_i32 c256_i32_767
  v1750
def k0_mult53 : BitVec 32 :=
  let c11_i32 : BitVec 32 := 11#32
  let c256_i32_769 : BitVec 32 := 256#32
  let v1755 : BitVec 32 := Scalar.muli c11_i32 c256_i32_769
  v1755
def k0_mult54 : BitVec 32 :=
  let c15_i32_739 : BitVec 32 := 15#32
  let c11_i32 : BitVec 32 := 11#32
  let v1687 : BitVec 32 := Scalar.subi c15_i32_739 c11_i32
  let c256_i32_779 : BitVec 32 := 256#32
  let v1780 : BitVec 32 := Scalar.muli v1687 c256_i32_779
  v1780
def k0_mult55 : BitVec 32 :=
  let c15_i32_739 : BitVec 32 := 15#32
  let c11_i32 : BitVec 32 := 11#32
  let v1687 : BitVec 32 := Scalar.subi c15_i32_739 c11_i32
  let c256_i32_806 : BitVec 32 := 256#32
  let v1842 : BitVec 32 := Scalar.muli v1687 c256_i32_806
  v1842
def k0_mult56 : BitVec 32 :=
  let c15_i32_739 : BitVec 32 := 15#32
  let c11_i32 : BitVec 32 := 11#32
  let v1687 : BitVec 32 := Scalar.subi c15_i32_739 c11_i32
  let c256_i32_808 : BitVec 32 := 256#32
  let v1847 : BitVec 32 := Scalar.muli v1687 c256_i32_808
  v1847
def k0_mult57 : BitVec 32 :=
  let c12_i32 : BitVec 32 := 12#32
  let c256_i32_819 : BitVec 32 := 256#32
  let v1873 : BitVec 32 := Scalar.muli c12_i32 c256_i32_819
  v1873
def k0_mult58 : BitVec 32 :=
  let c12_i32 : BitVec 32 := 12#32
  let c256_i32_846 : BitVec 32 := 256#32
  let v1935 : BitVec 32 := Scalar.muli c12_i32 c256_i32_846
  v1935
def k0_mult59 : BitVec 32 :=
  let c12_i32 : BitVec 32 := 12#32
  let c256_i32_848 : BitVec 32 := 256#32
  let v1940 : BitVec 32 := Scalar.muli c12_i32 c256_i32_848
  v1940
def k0_mult60 : BitVec 32 :=
  let c15_i32_818 : BitVec 32 := 15#32
  let c12_i32 : BitVec 32 := 12#32
  let v1872 : BitVec 32 := Scalar.subi c15_i32_818 c12_i32
  let c256_i32_858 : BitVec 32 := 256#32
  let v1965 : BitVec 32 := Scalar.muli v1872 c256_i32_858
  v1965
def k0_mult61 : BitVec 32 :=
  let c15_i32_818 : BitVec 32 := 15#32
  let c12_i32 : BitVec 32 := 12#32
  let v1872 : BitVec 32 := Scalar.subi c15_i32_818 c12_i32
  let c256_i32_885 : BitVec 32 := 256#32
  let v2027 : BitVec 32 := Scalar.muli v1872 c256_i32_885
  v2027
def k0_mult62 : BitVec 32 :=
  let c15_i32_818 : BitVec 32 := 15#32
  let c12_i32 : BitVec 32 := 12#32
  let v1872 : BitVec 32 := Scalar.subi c15_i32_818 c12_i32
  let c256_i32_887 : BitVec 32 := 256#32
  let v2032 : BitVec 32 := Scalar.muli v1872 c256_i32_887
  v2032
def k0_mult63 : BitVec 32 :=
  let c13_i32 : BitVec 32 := 13#32
  let c256_i32_898 : BitVec 32 := 256#32
  let v2058 : BitVec 32 := Scalar.muli c13_i32 c256_i32_898
  v2058
def k0_mult64 : BitVec 32 :=
  let c13_i32 : BitVec 32 := 13#32
  let c256_i32_925 : BitVec 32 := 256#32
  let v2120 : BitVec 32 := Scalar.muli c13_i32 c256_i32_925
  v2120
def k0_mult65 : BitVec 32 :=
  let c13_i32 : BitVec 32 := 13#32
  let c256_i32_927 : BitVec 32 := 256#32
  let v2125 : BitVec 32 := Scalar.muli c13_i32 c256_i32_927
  v2125
def k0_mult66 : BitVec 32 :=
  let c15_i32_897 : BitVec 32 := 15#32
  let c13_i32 : BitVec 32 := 13#32
  let v2057 : BitVec 32 := Scalar.subi c15_i32_897 c13_i32
  let c256_i32_937 : BitVec 32 := 256#32
  let v2150 : BitVec 32 := Scalar.muli v2057 c256_i32_937
  v2150
def k0_mult67 : BitVec 32 :=
  let c15_i32_897 : BitVec 32 := 15#32
  let c13_i32 : BitVec 32 := 13#32
  let v2057 : BitVec 32 := Scalar.subi c15_i32_897 c13_i32
  let c256_i32_964 : BitVec 32 := 256#32
  let v2212 : BitVec 32 := Scalar.muli v2057 c256_i32_964
  v2212
def k0_mult68 : BitVec 32 :=
  let c15_i32_897 : BitVec 32 := 15#32
  let c13_i32 : BitVec 32 := 13#32
  let v2057 : BitVec 32 := Scalar.subi c15_i32_897 c13_i32
  let c256_i32_966 : BitVec 32 := 256#32
  let v2217 : BitVec 32 := Scalar.muli v2057 c256_i32_966
  v2217
def k0_mult69 : BitVec 32 :=
  let c14_i32 : BitVec 32 := 14#32
  let c256_i32_977 : BitVec 32 := 256#32
  let v2243 : BitVec 32 := Scalar.muli c14_i32 c256_i32_977
  v2243
def k0_mult70 : BitVec 32 :=
  let c14_i32 : BitVec 32 := 14#32
  let c256_i32_1004 : BitVec 32 := 256#32
  let v2305 : BitVec 32 := Scalar.muli c14_i32 c256_i32_1004
  v2305
def k0_mult71 : BitVec 32 :=
  let c14_i32 : BitVec 32 := 14#32
  let c256_i32_1006 : BitVec 32 := 256#32
  let v2310 : BitVec 32 := Scalar.muli c14_i32 c256_i32_1006
  v2310
def k0_mult72 : BitVec 32 :=
  let c15_i32_976 : BitVec 32 := 15#32
  let c14_i32 : BitVec 32 := 14#32
  let v2242 : BitVec 32 := Scalar.subi c15_i32_976 c14_i32
  let c256_i32_1016 : BitVec 32 := 256#32
  let v2335 : BitVec 32 := Scalar.muli v2242 c256_i32_1016
  v2335
def k0_mult73 : BitVec 32 :=
  let c15_i32_976 : BitVec 32 := 15#32
  let c14_i32 : BitVec 32 := 14#32
  let v2242 : BitVec 32 := Scalar.subi c15_i32_976 c14_i32
  let c256_i32_1043 : BitVec 32 := 256#32
  let v2397 : BitVec 32 := Scalar.muli v2242 c256_i32_1043
  v2397
def k0_mult74 : BitVec 32 :=
  let c15_i32_976 : BitVec 32 := 15#32
  let c14_i32 : BitVec 32 := 14#32
  let v2242 : BitVec 32 := Scalar.subi c15_i32_976 c14_i32
  let c256_i32_1045 : BitVec 32 := 256#32
  let v2402 : BitVec 32 := Scalar.muli v2242 c256_i32_1045
  v2402
def k0_mult75 : BitVec 32 :=
  let c15_i32_1055 : BitVec 32 := 15#32
  let c256_i32_1057 : BitVec 32 := 256#32
  let v2428 : BitVec 32 := Scalar.muli c15_i32_1055 c256_i32_1057
  v2428
def k0_mult76 : BitVec 32 :=
  let c15_i32_1055 : BitVec 32 := 15#32
  let c256_i32_1084 : BitVec 32 := 256#32
  let v2490 : BitVec 32 := Scalar.muli c15_i32_1055 c256_i32_1084
  v2490
def k0_mult77 : BitVec 32 :=
  let c15_i32_1055 : BitVec 32 := 15#32
  let c256_i32_1086 : BitVec 32 := 256#32
  let v2495 : BitVec 32 := Scalar.muli c15_i32_1055 c256_i32_1086
  v2495
def k0_mult78 : BitVec 32 :=
  let c15_i32_1056 : BitVec 32 := 15#32
  let c15_i32_1055 : BitVec 32 := 15#32
  let v2427 : BitVec 32 := Scalar.subi c15_i32_1056 c15_i32_1055
  let c256_i32_1096 : BitVec 32 := 256#32
  let v2520 : BitVec 32 := Scalar.muli v2427 c256_i32_1096
  v2520
def k0_mult79 : BitVec 32 :=
  let c15_i32_1056 : BitVec 32 := 15#32
  let c15_i32_1055 : BitVec 32 := 15#32
  let v2427 : BitVec 32 := Scalar.subi c15_i32_1056 c15_i32_1055
  let c256_i32_1123 : BitVec 32 := 256#32
  let v2582 : BitVec 32 := Scalar.muli v2427 c256_i32_1123
  v2582
def k0_mult80 : BitVec 32 :=
  let c15_i32_1056 : BitVec 32 := 15#32
  let c15_i32_1055 : BitVec 32 := 15#32
  let v2427 : BitVec 32 := Scalar.subi c15_i32_1056 c15_i32_1055
  let c256_i32_1125 : BitVec 32 := 256#32
  let v2587 : BitVec 32 := Scalar.muli v2427 c256_i32_1125
  v2587
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4x4096x256 : Shape := ⟨4, ![4, 4, 4096, 256]⟩
abbrev S4x16x1024x256 : Shape := ⟨4, ![4, 16, 1024, 256]⟩
abbrev S4x4096x3072 : Shape := ⟨3, ![4, 4096, 3072]⟩
abbrev S4x1x1024x256 : Shape := ⟨4, ![4, 1, 1024, 256]⟩
abbrev S4x256x1024 : Shape := ⟨3, ![4, 256, 1024]⟩
abbrev S4x4x16x8x256 : Shape := ⟨5, ![4, 4, 16, 8, 256]⟩
abbrev S4x4x4096x128 : Shape := ⟨4, ![4, 4, 4096, 128]⟩
abbrev S4x4x8x256 : Shape := ⟨4, ![4, 4, 8, 256]⟩
abbrev S1x1024 : Shape := ⟨2, ![1, 1024]⟩
abbrev S2048x8192 : Shape := ⟨2, ![2048, 8192]⟩
abbrev S2048x2048 : Shape := ⟨2, ![2048, 2048]⟩
abbrev S4x4x16x256x256 : Shape := ⟨5, ![4, 4, 16, 256, 256]⟩
abbrev S4x16x4x256x256 : Shape := ⟨5, ![4, 16, 4, 256, 256]⟩
abbrev S4x4096x1024 : Shape := ⟨3, ![4, 4096, 1024]⟩
abbrev S4x16x256x4x256 : Shape := ⟨5, ![4, 16, 256, 4, 256]⟩
abbrev S4x4x256x256 : Shape := ⟨4, ![4, 4, 256, 256]⟩
abbrev S4x256x4x256 : Shape := ⟨4, ![4, 256, 4, 256]⟩
abbrev S_ : Shape := ⟨0, ![]⟩
abbrev S256x256 : Shape := ⟨2, ![256, 256]⟩
abbrev S1x256x256 : Shape := ⟨3, ![1, 256, 256]⟩
abbrev S2x256x256 : Shape := ⟨3, ![2, 256, 256]⟩
abbrev S2x1x1x256x256 : Shape := ⟨5, ![2, 1, 1, 256, 256]⟩
abbrev S4x4x16x256x128 : Shape := ⟨5, ![4, 4, 16, 256, 128]⟩
abbrev S4x4x16x256x8 : Shape := ⟨5, ![4, 4, 16, 256, 8]⟩
abbrev S16x4x4x256x256 : Shape := ⟨5, ![16, 4, 4, 256, 256]⟩
abbrev S16x1x4x4x256x256 : Shape := ⟨6, ![16, 1, 4, 4, 256, 256]⟩
abbrev S16x2x4x4x256x256 : Shape := ⟨6, ![16, 2, 4, 4, 256, 256]⟩
abbrev S4x4x16x256x1 : Shape := ⟨5, ![4, 4, 16, 256, 1]⟩
abbrev S4x4x16x256 : Shape := ⟨4, ![4, 4, 16, 256]⟩
abbrev S16x4x4x256 : Shape := ⟨4, ![16, 4, 4, 256]⟩
abbrev S16x1x4x4x256 : Shape := ⟨5, ![16, 1, 4, 4, 256]⟩
abbrev S16x2x4x4x256 : Shape := ⟨5, ![16, 2, 4, 4, 256]⟩
abbrev S4x4x16x1x8 : Shape := ⟨5, ![4, 4, 16, 1, 8]⟩
abbrev S4x4x16x8 : Shape := ⟨4, ![4, 4, 16, 8]⟩
abbrev S4x4x16x1 : Shape := ⟨4, ![4, 4, 16, 1]⟩
abbrev S4x4x16 : Shape := ⟨3, ![4, 4, 16]⟩
abbrev S16x4x4 : Shape := ⟨3, ![16, 4, 4]⟩
abbrev S16x1x4x4 : Shape := ⟨4, ![16, 1, 4, 4]⟩
abbrev S16x2x4x4 : Shape := ⟨4, ![16, 2, 4, 4]⟩
abbrev S4x4x2x256 : Shape := ⟨4, ![4, 4, 2, 256]⟩
abbrev S2x4x4x256 : Shape := ⟨4, ![2, 4, 4, 256]⟩
abbrev S2x4x4x256x1 : Shape := ⟨5, ![2, 4, 4, 256, 1]⟩
abbrev S1x4x4x256x256 : Shape := ⟨5, ![1, 4, 4, 256, 256]⟩
abbrev S2x4x4x256x256 : Shape := ⟨5, ![2, 4, 4, 256, 256]⟩
abbrev S4x4x256x2x256 : Shape := ⟨5, ![4, 4, 256, 2, 256]⟩
abbrev S1x2x4x4x256x256 : Shape := ⟨6, ![1, 2, 4, 4, 256, 256]⟩
abbrev S1x2x4x4x256 : Shape := ⟨5, ![1, 2, 4, 4, 256]⟩
abbrev S1x2x4x4 : Shape := ⟨4, ![1, 2, 4, 4]⟩
abbrev S2x4x4 : Shape := ⟨3, ![2, 4, 4]⟩
abbrev S2x4x4x1x256 : Shape := ⟨5, ![2, 4, 4, 1, 256]⟩
abbrev S2x4x4x1x1 : Shape := ⟨5, ![2, 4, 4, 1, 1]⟩
abbrev S2x4x4x1 : Shape := ⟨4, ![2, 4, 4, 1]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S4x256 : Shape := ⟨2, ![4, 256]⟩
abbrev S1x1x4x256 : Shape := ⟨4, ![1, 1, 4, 256]⟩

abbrev nBuf : Space → Nat
  | .hbm => 293
  | .vmem => 0
  | .smem => 0
  | _ => 0

abbrev hbmTy0_0 (i : Nat) : BufTy := match i % 128 with
  | 0 => ⟨S4x4x4096x256, .bf16⟩
  | 1 => ⟨S4x16x1024x256, .bf16⟩
  | 2 => ⟨S4x4096x3072, .bf16⟩
  | 3 => ⟨S4x1x1024x256, .bf16⟩
  | 4 => ⟨S4x256x1024, .bf16⟩
  | 5 => ⟨S4x4x16x8x256, .f32⟩
  | 6 => ⟨S4x4x4096x128, .f32⟩
  | 7 => ⟨S4x4x8x256, .f32⟩
  | 8 => ⟨S1x1024, .f32⟩
  | 9 => ⟨S2048x8192, .f32⟩
  | 10 => ⟨S2048x2048, .f32⟩
  | 11 => ⟨S4x4x4096x256, .f32⟩
  | 12 => ⟨S4x4x16x256x256, .f32⟩
  | 13 => ⟨S4x16x1024x256, .f32⟩
  | 14 => ⟨S4x16x4x256x256, .f32⟩
  | 15 => ⟨S4x4x16x256x256, .f32⟩
  | 16 => ⟨S4x4096x1024, .bf16⟩
  | 17 => ⟨S4x4096x1024, .f32⟩
  | 18 => ⟨S4x16x256x4x256, .f32⟩
  | 19 => ⟨S4x4x16x256x256, .f32⟩
  | 20 => ⟨S4x1x1024x256, .f32⟩
  | 21 => ⟨S4x4x256x256, .f32⟩
  | 22 => ⟨S4x4x256x256, .f32⟩
  | 23 => ⟨S4x256x1024, .f32⟩
  | 24 => ⟨S4x256x4x256, .f32⟩
  | 25 => ⟨S4x4x256x256, .f32⟩
  | 26 => ⟨S_, .i1⟩
  | 27 => ⟨S256x256, .i1⟩
  | 28 => ⟨S256x256, .i32⟩
  | 29 => ⟨S_, .i32⟩
  | 30 => ⟨S256x256, .i32⟩
  | 31 => ⟨S256x256, .i32⟩
  | 32 => ⟨S256x256, .i32⟩
  | 33 => ⟨S256x256, .i1⟩
  | 34 => ⟨S_, .i1⟩
  | 35 => ⟨S256x256, .i1⟩
  | 36 => ⟨S256x256, .i1⟩
  | 37 => ⟨S256x256, .i1⟩
  | 38 => ⟨S1x256x256, .i1⟩
  | 39 => ⟨S1x256x256, .i1⟩
  | 40 => ⟨S2x256x256, .i1⟩
  | 41 => ⟨S2x1x1x256x256, .i1⟩
  | 42 => ⟨S4x4x16x256x128, .f32⟩
  | 43 => ⟨S4x4x16x256x8, .f32⟩
  | 44 => ⟨S16x4x4x256x256, .f32⟩
  | 45 => ⟨S16x4x4x256x256, .f32⟩
  | 46 => ⟨S16x4x4x256x256, .f32⟩
  | 47 => ⟨S16x1x4x4x256x256, .f32⟩
  | 48 => ⟨S16x1x4x4x256x256, .f32⟩
  | 49 => ⟨S16x2x4x4x256x256, .f32⟩
  | 50 => ⟨S16x4x4x256x256, .f32⟩
  | 51 => ⟨S16x4x4x256x256, .f32⟩
  | 52 => ⟨S16x4x4x256x256, .f32⟩
  | 53 => ⟨S16x1x4x4x256x256, .f32⟩
  | 54 => ⟨S16x1x4x4x256x256, .f32⟩
  | 55 => ⟨S16x2x4x4x256x256, .f32⟩
  | 56 => ⟨S16x4x4x256x256, .f32⟩
  | 57 => ⟨S16x4x4x256x256, .f32⟩
  | 58 => ⟨S16x4x4x256x256, .f32⟩
  | 59 => ⟨S16x1x4x4x256x256, .f32⟩
  | 60 => ⟨S16x1x4x4x256x256, .f32⟩
  | 61 => ⟨S16x2x4x4x256x256, .f32⟩
  | 62 => ⟨S4x4x16x256x1, .f32⟩
  | 63 => ⟨S4x4x16x256, .f32⟩
  | 64 => ⟨S4x4x16x256x1, .f32⟩
  | 65 => ⟨S4x4x16x256, .f32⟩
  | 66 => ⟨S16x4x4x256, .f32⟩
  | 67 => ⟨S16x4x4x256, .f32⟩
  | 68 => ⟨S16x4x4x256, .f32⟩
  | 69 => ⟨S16x1x4x4x256, .f32⟩
  | 70 => ⟨S16x1x4x4x256, .f32⟩
  | 71 => ⟨S16x2x4x4x256, .f32⟩
  | 72 => ⟨S4x4x16x1x8, .f32⟩
  | 73 => ⟨S4x4x16x8, .f32⟩
  | 74 => ⟨S4x4x16x1, .f32⟩
  | 75 => ⟨S4x4x16, .f32⟩
  | 76 => ⟨S4x4x16x1, .f32⟩
  | 77 => ⟨S4x4x16, .f32⟩
  | 78 => ⟨S16x4x4, .f32⟩
  | 79 => ⟨S16x4x4, .f32⟩
  | 80 => ⟨S16x4x4, .f32⟩
  | 81 => ⟨S16x1x4x4, .f32⟩
  | 82 => ⟨S16x1x4x4, .f32⟩
  | 83 => ⟨S16x2x4x4, .f32⟩
  | 84 => ⟨S4x4x16x256x1, .f32⟩
  | 85 => ⟨S4x4x16x256, .f32⟩
  | 86 => ⟨S4x4x16x256x1, .f32⟩
  | 87 => ⟨S4x4x16x256, .f32⟩
  | 88 => ⟨S16x4x4x256, .f32⟩
  | 89 => ⟨S16x4x4x256, .f32⟩
  | 90 => ⟨S16x4x4x256, .f32⟩
  | 91 => ⟨S16x1x4x4x256, .f32⟩
  | 92 => ⟨S16x1x4x4x256, .f32⟩
  | 93 => ⟨S16x2x4x4x256, .f32⟩
  | 94 => ⟨S4x4x16x256x1, .f32⟩
  | 95 => ⟨S4x4x16x256, .f32⟩
  | 96 => ⟨S4x4x16x256x1, .f32⟩
  | 97 => ⟨S4x4x16x256, .f32⟩
  | 98 => ⟨S16x4x4x256, .f32⟩
  | 99 => ⟨S16x4x4x256, .f32⟩
  | 100 => ⟨S16x4x4x256, .f32⟩
  | 101 => ⟨S16x1x4x4x256, .f32⟩
  | 102 => ⟨S16x1x4x4x256, .f32⟩
  | 103 => ⟨S16x2x4x4x256, .f32⟩
  | 104 => ⟨S4x4x16x256x1, .f32⟩
  | 105 => ⟨S4x4x16x256, .f32⟩
  | 106 => ⟨S4x4x16x256x1, .f32⟩
  | 107 => ⟨S4x4x16x256, .f32⟩
  | 108 => ⟨S16x4x4x256, .f32⟩
  | 109 => ⟨S16x4x4x256, .f32⟩
  | 110 => ⟨S16x4x4x256, .f32⟩
  | 111 => ⟨S16x1x4x4x256, .f32⟩
  | 112 => ⟨S16x1x4x4x256, .f32⟩
  | 113 => ⟨S16x2x4x4x256, .f32⟩
  | 114 => ⟨S4x4x16x256x1, .f32⟩
  | 115 => ⟨S4x4x16x256, .f32⟩
  | 116 => ⟨S4x4x16x256x1, .f32⟩
  | 117 => ⟨S4x4x16x256, .f32⟩
  | 118 => ⟨S16x4x4x256, .f32⟩
  | 119 => ⟨S16x4x4x256, .f32⟩
  | 120 => ⟨S16x4x4x256, .f32⟩
  | 121 => ⟨S16x1x4x4x256, .f32⟩
  | 122 => ⟨S16x1x4x4x256, .f32⟩
  | 123 => ⟨S16x2x4x4x256, .f32⟩
  | 124 => ⟨S4x4x2x256, .f32⟩
  | 125 => ⟨S2x4x4x256, .f32⟩
  | 126 => ⟨S2x4x4x256x1, .f32⟩
  | 127 => ⟨S1x4x4x256x256, .f32⟩
  | _ => ⟨S4x4x4096x256, .bf16⟩

abbrev hbmTy0_1 (i : Nat) : BufTy := match i % 128 with
  | 0 => ⟨S2x4x4x256x256, .f32⟩
  | 1 => ⟨S2x4x4x256x256, .f32⟩
  | 2 => ⟨S2x4x4x256x256, .f32⟩
  | 3 => ⟨S4x4x256x2x256, .f32⟩
  | 4 => ⟨S2x4x4x256x256, .f32⟩
  | 5 => ⟨S_, .f32⟩
  | 6 => ⟨S2x4x4x256, .f32⟩
  | 7 => ⟨S_, .f32⟩
  | 8 => ⟨S16x2x4x4x256x256, .f32⟩
  | 9 => ⟨S_, .i32⟩
  | 10 => ⟨S16x2x4x4x256x256, .f32⟩
  | 11 => ⟨S16x2x4x4x256x256, .f32⟩
  | 12 => ⟨S16x2x4x4x256x256, .f32⟩
  | 13 => ⟨S16x2x4x4x256, .f32⟩
  | 14 => ⟨S16x2x4x4, .f32⟩
  | 15 => ⟨S16x2x4x4x256, .f32⟩
  | 16 => ⟨S16x2x4x4x256, .f32⟩
  | 17 => ⟨S16x2x4x4x256, .f32⟩
  | 18 => ⟨S16x2x4x4x256, .f32⟩
  | 19 => ⟨S2x1x1x256x256, .i1⟩
  | 20 => ⟨S_, .i32⟩
  | 21 => ⟨S2x4x4x256x256, .f32⟩
  | 22 => ⟨S2x4x4x256, .f32⟩
  | 23 => ⟨S16x2x4x4x256x256, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S1x2x4x4x256x256, .f32⟩
  | 32 => ⟨S2x4x4x256x256, .f32⟩
  | 33 => ⟨S_, .i32⟩
  | 34 => ⟨S_, .i32⟩
  | 35 => ⟨S_, .i32⟩
  | 36 => ⟨S_, .i32⟩
  | 37 => ⟨S_, .i32⟩
  | 38 => ⟨S1x2x4x4x256x256, .f32⟩
  | 39 => ⟨S2x4x4x256x256, .f32⟩
  | 40 => ⟨S_, .i32⟩
  | 41 => ⟨S_, .i32⟩
  | 42 => ⟨S_, .i32⟩
  | 43 => ⟨S_, .i32⟩
  | 44 => ⟨S_, .i32⟩
  | 45 => ⟨S1x2x4x4x256x256, .f32⟩
  | 46 => ⟨S2x4x4x256x256, .f32⟩
  | 47 => ⟨S_, .i32⟩
  | 48 => ⟨S_, .i32⟩
  | 49 => ⟨S_, .i32⟩
  | 50 => ⟨S_, .i32⟩
  | 51 => ⟨S1x2x4x4x256, .f32⟩
  | 52 => ⟨S2x4x4x256, .f32⟩
  | 53 => ⟨S_, .i32⟩
  | 54 => ⟨S_, .i32⟩
  | 55 => ⟨S_, .i32⟩
  | 56 => ⟨S1x2x4x4, .f32⟩
  | 57 => ⟨S2x4x4, .f32⟩
  | 58 => ⟨S_, .i32⟩
  | 59 => ⟨S_, .i32⟩
  | 60 => ⟨S_, .i32⟩
  | 61 => ⟨S_, .i32⟩
  | 62 => ⟨S1x2x4x4x256, .f32⟩
  | 63 => ⟨S2x4x4x256, .f32⟩
  | 64 => ⟨S_, .i32⟩
  | 65 => ⟨S_, .i32⟩
  | 66 => ⟨S_, .i32⟩
  | 67 => ⟨S_, .i32⟩
  | 68 => ⟨S1x2x4x4x256, .f32⟩
  | 69 => ⟨S2x4x4x256, .f32⟩
  | 70 => ⟨S_, .i32⟩
  | 71 => ⟨S_, .i32⟩
  | 72 => ⟨S_, .i32⟩
  | 73 => ⟨S_, .i32⟩
  | 74 => ⟨S1x2x4x4x256, .f32⟩
  | 75 => ⟨S2x4x4x256, .f32⟩
  | 76 => ⟨S_, .i32⟩
  | 77 => ⟨S_, .i32⟩
  | 78 => ⟨S_, .i32⟩
  | 79 => ⟨S_, .i32⟩
  | 80 => ⟨S1x2x4x4x256, .f32⟩
  | 81 => ⟨S2x4x4x256, .f32⟩
  | 82 => ⟨S2x4x4x256x256, .f32⟩
  | 83 => ⟨S2x4x4x1x256, .f32⟩
  | 84 => ⟨S2x4x4x256x1, .f32⟩
  | 85 => ⟨S2x4x4x256x256, .f32⟩
  | 86 => ⟨S2x4x4x256x256, .f32⟩
  | 87 => ⟨S2x4x4x256x256, .f32⟩
  | 88 => ⟨S_, .f32⟩
  | 89 => ⟨S_, .f32⟩
  | 90 => ⟨S2x4x4x256x256, .i1⟩
  | 91 => ⟨S2x4x4x256x256, .f32⟩
  | 92 => ⟨S2x4x4x256x256, .f32⟩
  | 93 => ⟨S2x4x4x256x256, .f32⟩
  | 94 => ⟨S2x4x4x256x256, .f32⟩
  | 95 => ⟨S2x4x4x256x1, .f32⟩
  | 96 => ⟨S2x4x4x256x256, .f32⟩
  | 97 => ⟨S2x4x4x256x256, .f32⟩
  | 98 => ⟨S2x4x4x256x256, .f32⟩
  | 99 => ⟨S2x4x4x256x256, .f32⟩
  | 100 => ⟨S2x4x4x256x256, .f32⟩
  | 101 => ⟨S2x4x4x256, .f32⟩
  | 102 => ⟨S_, .f32⟩
  | 103 => ⟨S2x4x4x256, .f32⟩
  | 104 => ⟨S2x4x4x256, .f32⟩
  | 105 => ⟨S2x4x4x256, .f32⟩
  | 106 => ⟨S2x4x4x256, .f32⟩
  | 107 => ⟨S2x4x4x256x1, .f32⟩
  | 108 => ⟨S2x4x4x256x256, .f32⟩
  | 109 => ⟨S2x4x4x256x256, .f32⟩
  | 110 => ⟨S2x4x4x256x1, .f32⟩
  | 111 => ⟨S2x4x4x256x256, .f32⟩
  | 112 => ⟨S2x4x4x256x256, .f32⟩
  | 113 => ⟨S2x4x4x1x1, .f32⟩
  | 114 => ⟨S2x4x4x256x256, .f32⟩
  | 115 => ⟨S2x4x4x256x256, .f32⟩
  | 116 => ⟨S2x4x4x256x256, .f32⟩
  | 117 => ⟨S2x4x4x256x256, .f32⟩
  | 118 => ⟨S2x4x4x1, .f32⟩
  | 119 => ⟨S2x4x4x256, .f32⟩
  | 120 => ⟨S2x4x4x256, .f32⟩
  | 121 => ⟨S_, .f32⟩
  | 122 => ⟨S2x4x4x256, .f32⟩
  | 123 => ⟨S2x4x4x256, .f32⟩
  | 124 => ⟨S1x2x4x4x256x256, .f32⟩
  | 125 => ⟨S_, .i32⟩
  | 126 => ⟨S_, .i32⟩
  | 127 => ⟨S_, .i32⟩
  | _ => ⟨S4x4x4096x256, .bf16⟩

abbrev hbmTy0_2 (i : Nat) : BufTy := match i % 128 with
  | 0 => ⟨S_, .i32⟩
  | 1 => ⟨S_, .i32⟩
  | 2 => ⟨S16x2x4x4x256x256, .f32⟩
  | 3 => ⟨S_, .i32⟩
  | 4 => ⟨S_, .i32⟩
  | 5 => ⟨S16x1x4x4x256x256, .f32⟩
  | 6 => ⟨S16x4x4x256x256, .f32⟩
  | 7 => ⟨S16x1x4x4x256x256, .f32⟩
  | 8 => ⟨S16x4x4x256x256, .f32⟩
  | 9 => ⟨S16x4x4x256x256, .f32⟩
  | 10 => ⟨S16x4x4x256x256, .f32⟩
  | 11 => ⟨S4x16x256x4x256, .f32⟩
  | 12 => ⟨S4x4096x4x256, .f32⟩
  | 13 => ⟨S4x4096x4x256, .f32⟩
  | 14 => ⟨S_, .f32⟩
  | 15 => ⟨S4x4096x4, .f32⟩
  | 16 => ⟨S4x4096x4x1, .f32⟩
  | 17 => ⟨S_, .f32⟩
  | 18 => ⟨S4x4096x4x1, .f32⟩
  | 19 => ⟨S4x4096x4x1, .f32⟩
  | 20 => ⟨S_, .f32⟩
  | 21 => ⟨S4x4096x4x1, .f32⟩
  | 22 => ⟨S4x4096x4x1, .f32⟩
  | 23 => ⟨S4x4096x4x1, .f32⟩
  | 24 => ⟨S4x4096x4x256, .f32⟩
  | 25 => ⟨S4x4096x4x256, .f32⟩
  | 26 => ⟨S4x4096x1024, .bf16⟩
  | 27 => ⟨S4x4096x1024, .f32⟩
  | 28 => ⟨S4x256, .f32⟩
  | 29 => ⟨S1x1x4x256, .f32⟩
  | 30 => ⟨S4x4096x4x256, .f32⟩
  | 31 => ⟨S4x4096x4x256, .f32⟩
  | 32 => ⟨S4x4096x1024, .f32⟩
  | 33 => ⟨S4x4096x1024, .f32⟩
  | 34 => ⟨S4x4096x1024, .bf16⟩
  | 35 => ⟨S2048x8192, .bf16⟩
  | 36 => ⟨S2048x2048, .bf16⟩
  | _ => ⟨S4x4x4096x256, .bf16⟩

abbrev hbmTy (i : Nat) : BufTy := match i / 128 with
  | 0 => hbmTy0_0 i
  | 1 => hbmTy0_1 i
  | 2 => hbmTy0_2 i
  | _ => ⟨S4x4x4096x256, .bf16⟩

abbrev bufTy : (tb : Table) → Fin (tcTables nBuf tb) → BufTy
  | .hbm, ⟨i, _⟩ => hbmTy i
  | _, _ => ⟨S4x4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst : Ref sig .tc := ⟨.hbm, 133, rfl⟩
abbrev main_v113 : Ref sig .tc := ⟨.hbm, 134, rfl⟩
abbrev main_cst_0 : Ref sig .tc := ⟨.hbm, 135, rfl⟩
abbrev main_v114 : Ref sig .tc := ⟨.hbm, 136, rfl⟩
abbrev main_c_1 : Ref sig .tc := ⟨.hbm, 137, rfl⟩
abbrev main_v115_0 : Ref sig .tc := ⟨.hbm, 138, rfl⟩
abbrev main_v115_1 : Ref sig .tc := ⟨.hbm, 139, rfl⟩
abbrev main_v115_2 : Ref sig .tc := ⟨.hbm, 140, rfl⟩
abbrev main_v115_3 : Ref sig .tc := ⟨.hbm, 141, rfl⟩
abbrev main_v115_4 : Ref sig .tc := ⟨.hbm, 142, rfl⟩
abbrev main_v115_5 : Ref sig .tc := ⟨.hbm, 143, rfl⟩
abbrev main_v115_6 : Ref sig .tc := ⟨.hbm, 144, rfl⟩
abbrev main_v115_7 : Ref sig .tc := ⟨.hbm, 145, rfl⟩
abbrev main_v115_8 : Ref sig .tc := ⟨.hbm, 146, rfl⟩
abbrev main_v115_9 : Ref sig .tc := ⟨.hbm, 147, rfl⟩
abbrev main_v115_10 : Ref sig .tc := ⟨.hbm, 148, rfl⟩
abbrev main_v115_11 : Ref sig .tc := ⟨.hbm, 149, rfl⟩
abbrev main_v115_12 : Ref sig .tc := ⟨.hbm, 150, rfl⟩
abbrev main_v115_13 : Ref sig .tc := ⟨.hbm, 151, rfl⟩
abbrev main_while0c_c_18 : Ref sig .tc := ⟨.hbm, 152, rfl⟩
abbrev main_while0c_v145 : Ref sig .tc := ⟨.hbm, 153, rfl⟩
abbrev main_while0b_call10_c : Ref sig .tc := ⟨.hbm, 154, rfl⟩
abbrev main_while0b_call10_c_0 : Ref sig .tc := ⟨.hbm, 155, rfl⟩
abbrev main_while0b_call10_c_1 : Ref sig .tc := ⟨.hbm, 156, rfl⟩
abbrev main_while0b_call10_c_2 : Ref sig .tc := ⟨.hbm, 157, rfl⟩
abbrev main_while0b_call10_c_3 : Ref sig .tc := ⟨.hbm, 158, rfl⟩
abbrev main_while0b_call10_v0 : Ref sig .tc := ⟨.hbm, 159, rfl⟩
abbrev main_while0b_v145 : Ref sig .tc := ⟨.hbm, 160, rfl⟩
abbrev main_while0b_call11_c : Ref sig .tc := ⟨.hbm, 161, rfl⟩
abbrev main_while0b_call11_c_0 : Ref sig .tc := ⟨.hbm, 162, rfl⟩
abbrev main_while0b_call11_c_1 : Ref sig .tc := ⟨.hbm, 163, rfl⟩
abbrev main_while0b_call11_c_2 : Ref sig .tc := ⟨.hbm, 164, rfl⟩
abbrev main_while0b_call11_c_3 : Ref sig .tc := ⟨.hbm, 165, rfl⟩
abbrev main_while0b_call11_v0 : Ref sig .tc := ⟨.hbm, 166, rfl⟩
abbrev main_while0b_v146 : Ref sig .tc := ⟨.hbm, 167, rfl⟩
abbrev main_while0b_call12_c : Ref sig .tc := ⟨.hbm, 168, rfl⟩
abbrev main_while0b_call12_c_0 : Ref sig .tc := ⟨.hbm, 169, rfl⟩
abbrev main_while0b_call12_c_1 : Ref sig .tc := ⟨.hbm, 170, rfl⟩
abbrev main_while0b_call12_c_2 : Ref sig .tc := ⟨.hbm, 171, rfl⟩
abbrev main_while0b_call12_c_3 : Ref sig .tc := ⟨.hbm, 172, rfl⟩
abbrev main_while0b_call12_v0 : Ref sig .tc := ⟨.hbm, 173, rfl⟩
abbrev main_while0b_v147 : Ref sig .tc := ⟨.hbm, 174, rfl⟩
abbrev main_while0b_call13_c : Ref sig .tc := ⟨.hbm, 175, rfl⟩
abbrev main_while0b_call13_c_0 : Ref sig .tc := ⟨.hbm, 176, rfl⟩
abbrev main_while0b_call13_c_1 : Ref sig .tc := ⟨.hbm, 177, rfl⟩
abbrev main_while0b_call13_c_2 : Ref sig .tc := ⟨.hbm, 178, rfl⟩
abbrev main_while0b_call13_v0 : Ref sig .tc := ⟨.hbm, 179, rfl⟩
abbrev main_while0b_v148 : Ref sig .tc := ⟨.hbm, 180, rfl⟩
abbrev main_while0b_call14_c : Ref sig .tc := ⟨.hbm, 181, rfl⟩
abbrev main_while0b_call14_c_0 : Ref sig .tc := ⟨.hbm, 182, rfl⟩
abbrev main_while0b_call14_c_1 : Ref sig .tc := ⟨.hbm, 183, rfl⟩
abbrev main_while0b_call14_v0 : Ref sig .tc := ⟨.hbm, 184, rfl⟩
abbrev main_while0b_v149 : Ref sig .tc := ⟨.hbm, 185, rfl⟩
abbrev main_while0b_call15_c : Ref sig .tc := ⟨.hbm, 186, rfl⟩
abbrev main_while0b_call15_c_0 : Ref sig .tc := ⟨.hbm, 187, rfl⟩
abbrev main_while0b_call15_c_1 : Ref sig .tc := ⟨.hbm, 188, rfl⟩
abbrev main_while0b_call15_c_2 : Ref sig .tc := ⟨.hbm, 189, rfl⟩
abbrev main_while0b_call15_v0 : Ref sig .tc := ⟨.hbm, 190, rfl⟩
abbrev main_while0b_v150 : Ref sig .tc := ⟨.hbm, 191, rfl⟩
abbrev main_while0b_call16_c : Ref sig .tc := ⟨.hbm, 192, rfl⟩
abbrev main_while0b_call16_c_0 : Ref sig .tc := ⟨.hbm, 193, rfl⟩
abbrev main_while0b_call16_c_1 : Ref sig .tc := ⟨.hbm, 194, rfl⟩
abbrev main_while0b_call16_c_2 : Ref sig .tc := ⟨.hbm, 195, rfl⟩
abbrev main_while0b_call16_v0 : Ref sig .tc := ⟨.hbm, 196, rfl⟩
abbrev main_while0b_v151 : Ref sig .tc := ⟨.hbm, 197, rfl⟩
abbrev main_while0b_call17_c : Ref sig .tc := ⟨.hbm, 198, rfl⟩
abbrev main_while0b_call17_c_0 : Ref sig .tc := ⟨.hbm, 199, rfl⟩
abbrev main_while0b_call17_c_1 : Ref sig .tc := ⟨.hbm, 200, rfl⟩
abbrev main_while0b_call17_c_2 : Ref sig .tc := ⟨.hbm, 201, rfl⟩
abbrev main_while0b_call17_v0 : Ref sig .tc := ⟨.hbm, 202, rfl⟩
abbrev main_while0b_v152 : Ref sig .tc := ⟨.hbm, 203, rfl⟩
abbrev main_while0b_call18_c : Ref sig .tc := ⟨.hbm, 204, rfl⟩
abbrev main_while0b_call18_c_0 : Ref sig .tc := ⟨.hbm, 205, rfl⟩
abbrev main_while0b_call18_c_1 : Ref sig .tc := ⟨.hbm, 206, rfl⟩
abbrev main_while0b_call18_c_2 : Ref sig .tc := ⟨.hbm, 207, rfl⟩
abbrev main_while0b_call18_v0 : Ref sig .tc := ⟨.hbm, 208, rfl⟩
abbrev main_while0b_v153 : Ref sig .tc := ⟨.hbm, 209, rfl⟩
abbrev main_while0b_v154 : Ref sig .tc := ⟨.hbm, 210, rfl⟩
abbrev main_while0b_v155 : Ref sig .tc := ⟨.hbm, 211, rfl⟩
abbrev main_while0b_v156 : Ref sig .tc := ⟨.hbm, 212, rfl⟩
abbrev main_while0b_v157 : Ref sig .tc := ⟨.hbm, 213, rfl⟩
abbrev main_while0b_v158 : Ref sig .tc := ⟨.hbm, 214, rfl⟩
abbrev main_while0b_v159 : Ref sig .tc := ⟨.hbm, 215, rfl⟩
abbrev main_while0b_cst_18 : Ref sig .tc := ⟨.hbm, 216, rfl⟩
abbrev main_while0b_call19_v0 : Ref sig .tc := ⟨.hbm, 217, rfl⟩
abbrev main_while0b_call19_v1 : Ref sig .tc := ⟨.hbm, 218, rfl⟩
abbrev main_while0b_call19_v2 : Ref sig .tc := ⟨.hbm, 219, rfl⟩
abbrev main_while0b_v160 : Ref sig .tc := ⟨.hbm, 220, rfl⟩
abbrev main_while0b_v161 : Ref sig .tc := ⟨.hbm, 221, rfl⟩
abbrev main_while0b_v162 : Ref sig .tc := ⟨.hbm, 222, rfl⟩
abbrev main_while0b_v163 : Ref sig .tc := ⟨.hbm, 223, rfl⟩
abbrev main_while0b_v164 : Ref sig .tc := ⟨.hbm, 224, rfl⟩
abbrev main_while0b_v165 : Ref sig .tc := ⟨.hbm, 225, rfl⟩
abbrev main_while0b_v166 : Ref sig .tc := ⟨.hbm, 226, rfl⟩
abbrev main_while0b_v167 : Ref sig .tc := ⟨.hbm, 227, rfl⟩
abbrev main_while0b_v168 : Ref sig .tc := ⟨.hbm, 228, rfl⟩
abbrev main_while0b_v169 : Ref sig .tc := ⟨.hbm, 229, rfl⟩
abbrev main_while0b_cst_19 : Ref sig .tc := ⟨.hbm, 230, rfl⟩
abbrev main_while0b_v170 : Ref sig .tc := ⟨.hbm, 231, rfl⟩
abbrev main_while0b_v171 : Ref sig .tc := ⟨.hbm, 232, rfl⟩
abbrev main_while0b_v172 : Ref sig .tc := ⟨.hbm, 233, rfl⟩
abbrev main_while0b_v173 : Ref sig .tc := ⟨.hbm, 234, rfl⟩
abbrev main_while0b_v174 : Ref sig .tc := ⟨.hbm, 235, rfl⟩
abbrev main_while0b_v175 : Ref sig .tc := ⟨.hbm, 236, rfl⟩
abbrev main_while0b_v176 : Ref sig .tc := ⟨.hbm, 237, rfl⟩
abbrev main_while0b_v177 : Ref sig .tc := ⟨.hbm, 238, rfl⟩
abbrev main_while0b_v178 : Ref sig .tc := ⟨.hbm, 239, rfl⟩
abbrev main_while0b_v179 : Ref sig .tc := ⟨.hbm, 240, rfl⟩
abbrev main_while0b_v180 : Ref sig .tc := ⟨.hbm, 241, rfl⟩
abbrev main_while0b_v181 : Ref sig .tc := ⟨.hbm, 242, rfl⟩
abbrev main_while0b_v182 : Ref sig .tc := ⟨.hbm, 243, rfl⟩
abbrev main_while0b_v183 : Ref sig .tc := ⟨.hbm, 244, rfl⟩
abbrev main_while0b_v184 : Ref sig .tc := ⟨.hbm, 245, rfl⟩
abbrev main_while0b_v185 : Ref sig .tc := ⟨.hbm, 246, rfl⟩
abbrev main_while0b_v186 : Ref sig .tc := ⟨.hbm, 247, rfl⟩
abbrev main_while0b_v187 : Ref sig .tc := ⟨.hbm, 248, rfl⟩
abbrev main_while0b_cst_20 : Ref sig .tc := ⟨.hbm, 249, rfl⟩
abbrev main_while0b_v188 : Ref sig .tc := ⟨.hbm, 250, rfl⟩
abbrev main_while0b_v189 : Ref sig .tc := ⟨.hbm, 251, rfl⟩
abbrev main_while0b_call20_v0 : Ref sig .tc := ⟨.hbm, 252, rfl⟩
abbrev main_while0b_call20_c : Ref sig .tc := ⟨.hbm, 253, rfl⟩
abbrev main_while0b_call20_c_0 : Ref sig .tc := ⟨.hbm, 254, rfl⟩
abbrev main_while0b_call20_c_1 : Ref sig .tc := ⟨.hbm, 255, rfl⟩
abbrev main_while0b_call20_c_2 : Ref sig .tc := ⟨.hbm, 256, rfl⟩
abbrev main_while0b_call20_c_3 : Ref sig .tc := ⟨.hbm, 257, rfl⟩
abbrev main_while0b_v190 : Ref sig .tc := ⟨.hbm, 258, rfl⟩
abbrev main_while0b_c_21 : Ref sig .tc := ⟨.hbm, 259, rfl⟩
abbrev main_while0b_v191 : Ref sig .tc := ⟨.hbm, 260, rfl⟩
abbrev main_v116 : Ref sig .tc := ⟨.hbm, 261, rfl⟩
abbrev main_v117 : Ref sig .tc := ⟨.hbm, 262, rfl⟩
abbrev main_v118 : Ref sig .tc := ⟨.hbm, 263, rfl⟩
abbrev main_v119 : Ref sig .tc := ⟨.hbm, 264, rfl⟩
abbrev main_v120 : Ref sig .tc := ⟨.hbm, 265, rfl⟩
abbrev main_v121 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_cst_2 : Ref sig .tc := ⟨.hbm, 270, rfl⟩
abbrev main_v125 : Ref sig .tc := ⟨.hbm, 271, rfl⟩
abbrev main_v126 : Ref sig .tc := ⟨.hbm, 272, rfl⟩
abbrev main_cst_3 : Ref sig .tc := ⟨.hbm, 273, rfl⟩
abbrev main_v127 : Ref sig .tc := ⟨.hbm, 274, rfl⟩
abbrev main_v128 : Ref sig .tc := ⟨.hbm, 275, rfl⟩
abbrev main_cst_4 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S4x4096x2048 : Shape := ⟨3, ![4, 4096, 2048]⟩
abbrev S2048x8192 : Shape := ⟨2, ![2048, 8192]⟩
abbrev S8192x2048 : Shape := ⟨2, ![8192, 2048]⟩
abbrev S8x6x2048 : Shape := ⟨3, ![8, 6, 2048]⟩
abbrev S1x2048 : Shape := ⟨2, ![1, 2048]⟩
abbrev S1x512x2048 : Shape := ⟨3, ![1, 512, 2048]⟩
abbrev S2048x1024 : Shape := ⟨2, ![2048, 1024]⟩
abbrev S1024x2048 : Shape := ⟨2, ![1024, 2048]⟩
abbrev S1x6x2048 : Shape := ⟨3, ![1, 6, 2048]⟩
abbrev S512x2048 : Shape := ⟨2, ![512, 2048]⟩
abbrev S512x1024 : Shape := ⟨2, ![512, 1024]⟩
abbrev S256x2048 : Shape := ⟨2, ![256, 2048]⟩
abbrev S1x256x2048 : Shape := ⟨3, ![1, 256, 2048]⟩
abbrev S256x1024 : Shape := ⟨2, ![256, 1024]⟩
abbrev S1x1x2048 : Shape := ⟨3, ![1, 1, 2048]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S8192x2048, .bf16⟩
  | .hbm, ⟨3, _⟩ => ⟨S4x4096x2048, .f32⟩
  | .hbm, ⟨4, _⟩ => ⟨S8x6x2048, .f32⟩
  | .hbm, ⟨5, _⟩ => ⟨S1x2048, .f32⟩
  | .hbm, ⟨6, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | .local _ .vmem, ⟨13, _⟩ => ⟨S512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S4x4096x2048 : Shape := ⟨3, ![4, 4096, 2048]⟩
abbrev S2048x8192 : Shape := ⟨2, ![2048, 8192]⟩
abbrev S8192x2048 : Shape := ⟨2, ![8192, 2048]⟩
abbrev S8x6x2048 : Shape := ⟨3, ![8, 6, 2048]⟩
abbrev S1x2048 : Shape := ⟨2, ![1, 2048]⟩
abbrev S4x1x2048 : Shape := ⟨3, ![4, 1, 2048]⟩
abbrev S4x2048 : Shape := ⟨2, ![4, 2048]⟩
abbrev S4x4096x8192 : Shape := ⟨3, ![4, 4096, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S8192x2048, .bf16⟩
  | .hbm, ⟨3, _⟩ => ⟨S4x4096x2048, .f32⟩
  | .hbm, ⟨4, _⟩ => ⟨S8x6x2048, .f32⟩
  | .hbm, ⟨5, _⟩ => ⟨S1x2048, .f32⟩
  | .hbm, ⟨6, _⟩ => ⟨S4x1x2048, .f32⟩
  | .hbm, ⟨7, _⟩ => ⟨S4x2048, .f32⟩
  | .hbm, ⟨8, _⟩ => ⟨S4x1x2048, .f32⟩
  | .hbm, ⟨9, _⟩ => ⟨S4x4096x2048, .f32⟩
  | .hbm, ⟨10, _⟩ => ⟨S2048x8192, .f32⟩
  | .hbm, ⟨11, _⟩ => ⟨S4x4096x8192, .f32⟩
  | .hbm, ⟨12, _⟩ => ⟨S_, .f32⟩
  | .hbm, ⟨13, _⟩ => ⟨S4x4096x8192, .f32⟩
  | .hbm, ⟨14, _⟩ => ⟨S4x4096x8192, .f32⟩
  | .hbm, ⟨15, _⟩ => ⟨S4x4096x8192, .f32⟩
  | .hbm, ⟨16, _⟩ => ⟨S8192x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S64x1x1024 : Shape := ⟨3, ![64, 1, 1024]⟩
abbrev S64x1024 : Shape := ⟨2, ![64, 1024]⟩
abbrev S8x6x2048 : Shape := ⟨3, ![8, 6, 2048]⟩
abbrev S1x2048 : Shape := ⟨2, ![1, 2048]⟩
abbrev S2048x2048 : Shape := ⟨2, ![2048, 2048]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1x256x1024 : Shape := ⟨3, ![1, 256, 1024]⟩
abbrev S256x1024 : Shape := ⟨2, ![256, 1024]⟩
abbrev S1024x2048 : Shape := ⟨2, ![1024, 2048]⟩
abbrev S256x2048 : Shape := ⟨2, ![256, 2048]⟩
abbrev S1x256x2048 : Shape := ⟨3, ![1, 256, 2048]⟩
abbrev S4x1x1024 : Shape := ⟨3, ![4, 1, 1024]⟩
abbrev S4x64x1024 : Shape := ⟨3, ![4, 64, 1024]⟩
abbrev S1x64x1024 : Shape := ⟨3, ![1, 64, 1024]⟩
abbrev S4x64x2048 : Shape := ⟨3, ![4, 64, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S64x1x1024, .f32⟩
  | .hbm, ⟨4, _⟩ => ⟨S64x1024, .f32⟩
  | .hbm, ⟨5, _⟩ => ⟨S8x6x2048, .f32⟩
  | .hbm, ⟨6, _⟩ => ⟨S1x2048, .f32⟩
  | .hbm, ⟨7, _⟩ => ⟨S2048x2048, .bf16⟩
  | .hbm, ⟨8, _⟩ => ⟨S4x4096x2048, .f32⟩
  | .hbm, ⟨9, _⟩ => ⟨S4x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S64x1x1024, .f32⟩
  | .local _ .vmem, ⟨7, _⟩ => ⟨S64x1024, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S2048x2048, .bf16⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 3 → Nat :=
  let arg1 : BitVec 32 := BitVec.ofNat 32 (i 1).val
  let c512_i32 : BitVec 32 := 512#32
  let v11 : BitVec 32 := Scalar.muli arg1 c512_i32
  let v12 : BitVec 32 := Scalar.addi v11 c0_i32
  let c0_i32_12 : BitVec 32 := 0#32
  let v14 : BitVec 1 := Scalar.cmpi .sgt v12 c0_i32_12
  let v15 : BitVec 32 := Scalar.extui v14
  let c0_i32_13 : BitVec 32 := 0#32
  let v16 : BitVec 1 := Scalar.cmpi .slt v12 c0_i32_13
  let v17 : BitVec 32 := Scalar.extui v16
  let v18 : BitVec 32 := Scalar.subi v15 v17
  let c64_i32 : BitVec 32 := 64#32
  let c0_i32_14 : BitVec 32 := 0#32
  let v19 : BitVec 1 := Scalar.cmpi .sgt c64_i32 c0_i32_14
  let v20 : BitVec 32 := Scalar.extui v19
  let c0_i32_15 : BitVec 32 := 0#32
  let v21 : BitVec 1 := Scalar.cmpi .slt c64_i32 c0_i32_15
  let v22 : BitVec 32 := Scalar.extui v21
  let v23 : BitVec 32 := Scalar.subi v20 v22
  let v24 : BitVec 1 := Scalar.cmpi .ne v18 v23
  let v25 : BitVec 32 := Scalar.remsi v12 c64_i32
  let c0_i32_16 : BitVec 32 := 0#32
  let v26 : BitVec 1 := Scalar.cmpi .ne v25 c0_i32_16
  let v27 : BitVec 1 := Scalar.andi v24 v26
  let v13 : BitVec 32 := Scalar.divsi v12 c64_i32
  let c1_i32 : BitVec 32 := 1#32
  let v28 : BitVec 32 := Scalar.subi v13 c1_i32
  let v29 : BitVec 32 := Scalar.select v27 v28 v13
  let v30 : Index := Scalar.indexCast v29
  let c0_17 : Index := 0#32
  let c0_18 : Index := 0#32
  ![v30.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x4096x1024 : Shape := ⟨3, ![4, 4096, 1024]⟩
abbrev S4x4096x2048 : Shape := ⟨3, ![4, 4096, 2048]⟩
abbrev S64x1x1024 : Shape := ⟨3, ![64, 1, 1024]⟩
abbrev S64x1024 : Shape := ⟨2, ![64, 1024]⟩
abbrev S8x6x2048 : Shape := ⟨3, ![8, 6, 2048]⟩
abbrev S1x2048 : Shape := ⟨2, ![1, 2048]⟩
abbrev S2048x2048 : Shape := ⟨2, ![2048, 2048]⟩
abbrev S64x64x1024 : Shape := ⟨3, ![64, 64, 1024]⟩
abbrev S1x64x1024 : Shape := ⟨3, ![1, 64, 1024]⟩
abbrev S64x64x2048 : Shape := ⟨3, ![64, 64, 2048]⟩
abbrev S4096x2048 : Shape := ⟨2, ![4096, 2048]⟩
abbrev S4x1x2048 : Shape := ⟨3, ![4, 1, 2048]⟩
abbrev S4x2048 : Shape := ⟨2, ![4, 2048]⟩
abbrev S1x4096x2048 : Shape := ⟨3, ![1, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x2048, .f32⟩
  | .hbm, ⟨3, _⟩ => ⟨S64x1x1024, .f32⟩
  | .hbm, ⟨4, _⟩ => ⟨S64x1024, .f32⟩
  | .hbm, ⟨5, _⟩ => ⟨S8x6x2048, .f32⟩
  | .hbm, ⟨6, _⟩ => ⟨S1x2048, .f32⟩
  | .hbm, ⟨7, _⟩ => ⟨S2048x2048, .bf16⟩
  | .hbm, ⟨8, _⟩ => ⟨S64x64x1024, .f32⟩
  | .hbm, ⟨9, _⟩ => ⟨S1x64x1024, .f32⟩
  | .hbm, ⟨10, _⟩ => ⟨S64x64x1024, .f32⟩
  | .hbm, ⟨11, _⟩ => ⟨S64x64x2048, .f32⟩
  | .hbm, ⟨12, _⟩ => ⟨S4096x2048, .f32⟩
  | .hbm, ⟨13, _⟩ => ⟨S4x1x2048, .f32⟩
  | .hbm, ⟨14, _⟩ => ⟨S4x2048, .f32⟩
  | .hbm, ⟨15, _⟩ => ⟨S4x1x2048, .f32⟩
  | .hbm, ⟨16, _⟩ => ⟨S4x1x2048, .f32⟩
  | .hbm, ⟨17, _⟩ => ⟨S4x2048, .f32⟩
  | .hbm, ⟨18, _⟩ => ⟨S4x1x2048, .f32⟩
  | .hbm, ⟨19, _⟩ => ⟨S4x1x2048, .f32⟩
  | .hbm, ⟨20, _⟩ => ⟨S4x2048, .f32⟩
  | .hbm, ⟨21, _⟩ => ⟨S4x1x2048, .f32⟩
  | .hbm, ⟨22, _⟩ => ⟨S4x4096x2048, .bf16⟩
  | .hbm, ⟨23, _⟩ => ⟨S4x4096x2048, .f32⟩
  | .hbm, ⟨24, _⟩ => ⟨S1x4096x2048, .f32⟩
  | .hbm, ⟨25, _⟩ => ⟨S4x4096x2048, .f32⟩
  | .hbm, ⟨26, _⟩ => ⟨S4x4096x2048, .f32⟩
  | .hbm, ⟨27, _⟩ => ⟨S2048x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S_, .f32⟩
  | .hbm, ⟨49, _⟩ => ⟨S4x1x2048, .f32⟩
  | .hbm, ⟨50, _⟩ => ⟨S4x1x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel4.lean ====
abbrev S4x4096x2048 : Shape := ⟨3, ![4, 4096, 2048]⟩
abbrev S64x1x1024 : Shape := ⟨3, ![64, 1, 1024]⟩
abbrev S64x1024 : Shape := ⟨2, ![64, 1024]⟩
abbrev S8x6x2048 : Shape := ⟨3, ![8, 6, 2048]⟩
abbrev S1x2048 : Shape := ⟨2, ![1, 2048]⟩
abbrev S2048x5136 : Shape := ⟨2, ![2048, 5136]⟩
abbrev S2048x128 : Shape := ⟨2, ![2048, 128]⟩
abbrev S5x2048 : Shape := ⟨2, ![5, 2048]⟩
abbrev S4x4096x3072 : Shape := ⟨3, ![4, 4096, 3072]⟩
abbrev S4x4x4096x256 : Shape := ⟨4, ![4, 4, 4096, 256]⟩
abbrev S4x16x1024x256 : Shape := ⟨4, ![4, 16, 1024, 256]⟩
abbrev S4x4096x128 : Shape := ⟨3, ![4, 4096, 128]⟩
abbrev S1x512x2048 : Shape := ⟨3, ![1, 512, 2048]⟩
abbrev S1x16x2048 : Shape := ⟨3, ![1, 16, 2048]⟩
abbrev S1x6x2048 : Shape := ⟨3, ![1, 6, 2048]⟩
abbrev S2048x5120 : Shape := ⟨2, ![2048, 5120]⟩
abbrev S1x512x3072 : Shape := ⟨3, ![1, 512, 3072]⟩
abbrev S1x4x512x256 : Shape := ⟨4, ![1, 4, 512, 256]⟩
abbrev S1x2x1024x256 : Shape := ⟨4, ![1, 2, 1024, 256]⟩
abbrev S1x512x128 : Shape := ⟨3, ![1, 512, 128]⟩
abbrev S544x512 : Shape := ⟨2, ![544, 512]⟩
abbrev S512x2048 : Shape := ⟨2, ![512, 2048]⟩
abbrev S8x1x1024 : Shape := ⟨3, ![8, 1, 1024]⟩
abbrev S8x64x1024 : Shape := ⟨3, ![8, 64, 1024]⟩
abbrev S1x64x1024 : Shape := ⟨3, ![1, 64, 1024]⟩
abbrev S8x64x2048 : Shape := ⟨3, ![8, 64, 2048]⟩
abbrev S512 : Shape := ⟨1, ![512]⟩
abbrev S512x1 : Shape := ⟨2, ![512, 1]⟩
abbrev S1x1x2048 : Shape := ⟨3, ![1, 1, 2048]⟩
abbrev S16x2048 : Shape := ⟨2, ![16, 2048]⟩
abbrev S1x1x1024 : Shape := ⟨3, ![1, 1, 1024]⟩
abbrev S1x1024 : Shape := ⟨2, ![1, 1024]⟩
abbrev S16x1024 : Shape := ⟨2, ![16, 1024]⟩
abbrev S16 : Shape := ⟨1, ![16]⟩
abbrev S16x1 : Shape := ⟨2, ![16, 1]⟩
abbrev S544x2048 : Shape := ⟨2, ![544, 2048]⟩
abbrev S2048x512 : Shape := ⟨2, ![2048, 512]⟩
abbrev S16x512 : Shape := ⟨2, ![16, 512]⟩
abbrev S512x512 : Shape := ⟨2, ![512, 512]⟩
abbrev S2048x256 : Shape := ⟨2, ![2048, 256]⟩
abbrev S512x256 : Shape := ⟨2, ![512, 256]⟩
abbrev S1x512x256 : Shape := ⟨3, ![1, 512, 256]⟩
abbrev S128x128 : Shape := ⟨2, ![128, 128]⟩
abbrev S1x128 : Shape := ⟨2, ![1, 128]⟩
abbrev S1x1x128x128 : Shape := ⟨4, ![1, 1, 128, 128]⟩
abbrev S512x128 : Shape := ⟨2, ![512, 128]⟩

abbrev nBuf : Space → Nat
  | .hbm => 13
  | .vmem => 27
  | .smem => 0
  | _ => 0

abbrev bufTy : (tb : Table) → Fin (tcTables nBuf tb) → BufTy
  | .hbm, ⟨0, _⟩ => ⟨S4x4096x2048, .f32⟩
  | .hbm, ⟨1, _⟩ => ⟨S64x1x1024, .f32⟩
  | .hbm, ⟨2, _⟩ => ⟨S64x1024, .f32⟩
  | .hbm, ⟨3, _⟩ => ⟨S8x6x2048, .f32⟩
  | .hbm, ⟨4, _⟩ => ⟨S1x2048, .f32⟩
  | .hbm, ⟨5, _⟩ => ⟨S2048x5136, .bf16⟩
  | .hbm, ⟨6, _⟩ => ⟨S2048x128, .bf16⟩
  | .hbm, ⟨7, _⟩ => ⟨S5x2048, .f32⟩
  | .hbm, ⟨8, _⟩ => ⟨S1x2048, .f32⟩
  | .hbm, ⟨9, _⟩ => ⟨S4x4096x3072, .bf16⟩
  | .hbm, ⟨10, _⟩ => ⟨S4x4x4096x256, .bf16⟩
  | .hbm, ⟨11, _⟩ => ⟨S4x16x1024x256, .bf16⟩
  | .hbm, ⟨12, _⟩ => ⟨S4x4096x128, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S64x1x1024, .f32⟩
  | .local _ .vmem, ⟨7, _⟩ => ⟨S64x1024, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S2048x5120, .bf16⟩
  | .local _ .vmem, ⟨12, _⟩ => ⟨S2048x128, .bf16⟩
  | .local _ .vmem, ⟨13, _⟩ => ⟨S5x2048, .f32⟩
  | .local _ .vmem, ⟨14, _⟩ => ⟨S1x2048, .f32⟩
  | .local _ .vmem, ⟨15, _⟩ => ⟨S1x512x3072, .bf16⟩
  | .local _ .vmem, ⟨16, _⟩ => ⟨S1x512x3072, .bf16⟩
  | .local _ .vmem, ⟨17, _⟩ => ⟨S1x4x512x256, .bf16⟩
  | .local _ .vmem, ⟨18, _⟩ => ⟨S1x4x512x256, .bf16⟩
  | .local _ .vmem, ⟨19, _⟩ => ⟨S1x2x1024x256, .bf16⟩
  | .local _ .vmem, ⟨20, _⟩ => ⟨S1x2x1024x256, .bf16⟩
  | .local _ .vmem, ⟨21, _⟩ => ⟨S1x512x128, .f32⟩
  | .local _ .vmem, ⟨22, _⟩ => ⟨S1x512x128, .f32⟩
  | .local _ .vmem, ⟨23, _⟩ => ⟨S544x512, .f32⟩
  | .local _ .vmem, ⟨24, _⟩ => ⟨S544x512, .f32⟩
  | .local _ .vmem, ⟨25, _⟩ => ⟨S544x512, .f32⟩
  | .local _ .vmem, ⟨26, _⟩ => ⟨S544x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let arg1 : BitVec 32 := BitVec.ofNat 32 (i 1).val
  let c8_i32 : BitVec 32 := 8#32
  let v2 : BitVec 32 := Scalar.muli arg1 c8_i32
  let v3 : Index := Scalar.indexCast v2
  let c0_2 : Index := 0#32
  let c0_3 : Index := 0#32
  ![v3.toNat, 0, 0]
def k0_off2 (i : grid0.Coords) : Fin 3 → Nat :=
  let arg1 : BitVec 32 := BitVec.ofNat 32 (i 1).val
  let c8_i32_19 : BitVec 32 := 8#32
  let v40 : BitVec 32 := Scalar.muli arg1 c8_i32_19
  let c1_i32 : BitVec 32 := 1#32
  let v41 : BitVec 32 := Scalar.subi v40 c1_i32
  let c0_i32 : BitVec 32 := 0#32
  let v42 : BitVec 32 := Scalar.maxsi v41 c0_i32
  let v43 : Index := Scalar.indexCast v42
  let c0_20 : Index := 0#32
  let c0_21 : Index := 0#32
  ![v43.toNat, 0, 0]
def k0_off3 (i : grid0.Coords) : Fin 3 → Nat :=
  let arg1 : BitVec 32 := BitVec.ofNat 32 (i 1).val
  let c1_i32_38 : BitVec 32 := 1#32
  let v77 : BitVec 32 := Scalar.addi arg1 c1_i32_38
  let c8_i32_39 : BitVec 32 := 8#32
  let v78 : BitVec 32 := Scalar.muli v77 c8_i32_39
  let c63_i32 : BitVec 32 := 63#32
  let v79 : BitVec 32 := Scalar.minsi v78 c63_i32
  let v80 : Index := Scalar.indexCast v79
  let c0_40 : Index := 0#32
  let c0_41 : Index := 0#32
  ![v80.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S5x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x4096x2048 : Shape := ⟨3, ![4, 4096, 2048]⟩
abbrev S64x1x1024 : Shape := ⟨3, ![64, 1, 1024]⟩
abbrev S64x1024 : Shape := ⟨2, ![64, 1024]⟩
abbrev S8x6x2048 : Shape := ⟨3, ![8, 6, 2048]⟩
abbrev S1x2048 : Shape := ⟨2, ![1, 2048]⟩
abbrev S2048x5136 : Shape := ⟨2, ![2048, 5136]⟩
abbrev S2048x128 : Shape := ⟨2, ![2048, 128]⟩
abbrev S5x2048 : Shape := ⟨2, ![5, 2048]⟩
abbrev S64x64x1024 : Shape := ⟨3, ![64, 64, 1024]⟩
abbrev S1x64x1024 : Shape := ⟨3, ![1, 64, 1024]⟩
abbrev S64x64x2048 : Shape := ⟨3, ![64, 64, 2048]⟩
abbrev S4096x2048 : Shape := ⟨2, ![4096, 2048]⟩
abbrev S4x1x2048 : Shape := ⟨3, ![4, 1, 2048]⟩
abbrev S4x2048 : Shape := ⟨2, ![4, 2048]⟩
abbrev S1x4096x2048 : Shape := ⟨3, ![1, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x1024 : Shape := ⟨2, ![2048, 1024]⟩
abbrev S4x4096x1024 : Shape := ⟨3, ![4, 4096, 1024]⟩
abbrev S2048x2048 : Shape := ⟨2, ![2048, 2048]⟩
abbrev S4x2x2048 : Shape := ⟨3, ![4, 2, 2048]⟩
abbrev S4x4100x2048 : Shape := ⟨3, ![4, 4100, 2048]⟩
abbrev S4x4096x4x256 : Shape := ⟨4, ![4, 4096, 4, 256]⟩
abbrev S4x4x4096x256 : Shape := ⟨4, ![4, 4, 4096, 256]⟩
abbrev S4x16x256x1024 : Shape := ⟨4, ![4, 16, 256, 1024]⟩
abbrev S4x16x1024x256 : Shape := ⟨4, ![4, 16, 1024, 256]⟩
abbrev S4x4096x3072 : Shape := ⟨3, ![4, 4096, 3072]⟩
abbrev S4x4096x128 : Shape := ⟨3, ![4, 4096, 128]⟩

abbrev nBuf : Space → Nat
  | .hbm => 122
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x1x1024, .f32⟩
  | .hbm, ⟨2, _⟩ => ⟨S64x1024, .f32⟩
  | .hbm, ⟨3, _⟩ => ⟨S8x6x2048, .f32⟩
  | .hbm, ⟨4, _⟩ => ⟨S1x2048, .f32⟩
  | .hbm, ⟨5, _⟩ => ⟨S2048x5136, .bf16⟩
  | .hbm, ⟨6, _⟩ => ⟨S2048x128, .bf16⟩
  | .hbm, ⟨7, _⟩ => ⟨S5x2048, .f32⟩
  | .hbm, ⟨8, _⟩ => ⟨S1x2048, .f32⟩
  | .hbm, ⟨9, _⟩ => ⟨S64x64x1024, .f32⟩
  | .hbm, ⟨10, _⟩ => ⟨S1x64x1024, .f32⟩
  | .hbm, ⟨11, _⟩ => ⟨S64x64x1024, .f32⟩
  | .hbm, ⟨12, _⟩ => ⟨S64x64x2048, .f32⟩
  | .hbm, ⟨13, _⟩ => ⟨S4096x2048, .f32⟩
  | .hbm, ⟨14, _⟩ => ⟨S4x1x2048, .f32⟩
  | .hbm, ⟨15, _⟩ => ⟨S4x2048, .f32⟩
  | .hbm, ⟨16, _⟩ => ⟨S4x1x2048, .f32⟩
  | .hbm, ⟨17, _⟩ => ⟨S4x1x2048, .f32⟩
  | .hbm, ⟨18, _⟩ => ⟨S4x2048, .f32⟩
  | .hbm, ⟨19, _⟩ => ⟨S4x1x2048, .f32⟩
  | .hbm, ⟨20, _⟩ => ⟨S1x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S1x1x2048, .f32⟩
  | .hbm, ⟨37, _⟩ => ⟨S4x4096x2048, .f32⟩
  | .hbm, ⟨38, _⟩ => ⟨S4x4096x2048, .f32⟩
  | .hbm, ⟨39, _⟩ => ⟨S_, .f32⟩
  | .hbm, ⟨40, _⟩ => ⟨S4x1x2048, .f32⟩
  | .hbm, ⟨41, _⟩ => ⟨S4x1x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S2048x1024, .bf16⟩
  | .hbm, ⟨47, _⟩ => ⟨S2048x1024, .f32⟩
  | .hbm, ⟨48, _⟩ => ⟨S4x4096x1024, .f32⟩
  | .hbm, ⟨49, _⟩ => ⟨S2048x2048, .bf16⟩
  | .hbm, ⟨50, _⟩ => ⟨S2048x2048, .f32⟩
  | .hbm, ⟨51, _⟩ => ⟨S4x4096x2048, .f32⟩
  | .hbm, ⟨52, _⟩ => ⟨S2048x1024, .bf16⟩
  | .hbm, ⟨53, _⟩ => ⟨S2048x1024, .f32⟩
  | .hbm, ⟨54, _⟩ => ⟨S4x4096x1024, .f32⟩
  | .hbm, ⟨55, _⟩ => ⟨S2048x1024, .bf16⟩
  | .hbm, ⟨56, _⟩ => ⟨S2048x1024, .f32⟩
  | .hbm, ⟨57, _⟩ => ⟨S4x4096x1024, .f32⟩
  | .hbm, ⟨58, _⟩ => ⟨S_, .f32⟩
  | .hbm, ⟨59, _⟩ => ⟨S4x2x2048, .f32⟩
  | .hbm, ⟨60, _⟩ => ⟨S4x4100x2048, .f32⟩
  | .hbm, ⟨61, _⟩ => ⟨S4x4096x2048, .f32⟩
  | .hbm, ⟨62, _⟩ => ⟨S1x2048, .f32⟩
  | .hbm, ⟨63, _⟩ => ⟨S1x1x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S1x2048, .f32⟩
  | .hbm, ⟨68, _⟩ => ⟨S1x1x2048, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S1x2048, .f32⟩
  | .hbm, ⟨74, _⟩ => ⟨S1x1x2048, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S4x4096x2048, .f32⟩
  | .hbm, ⟨79, _⟩ => ⟨S1x2048, .f32⟩
  | .hbm, ⟨80, _⟩ => ⟨S1x1x2048, .f32⟩
  | .hbm, ⟨81, _⟩ => ⟨S4x4096x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S1x2048, .f32⟩
  | .hbm, ⟨86, _⟩ => ⟨S1x1x2048, .f32⟩
  | .hbm, ⟨87, _⟩ => ⟨S4x4096x2048, .f32⟩
  | .hbm, ⟨88, _⟩ => ⟨S4x4096x2048, .f32⟩
  | .hbm, ⟨89, _⟩ => ⟨S4x4096x2048, .f32⟩
  | .hbm, ⟨90, _⟩ => ⟨S4x4096x2048, .f32⟩
  | .hbm, ⟨91, _⟩ => ⟨S4x4096x2048, .f32⟩
  | .hbm, ⟨92, _⟩ => ⟨S_, .f32⟩
  | .hbm, ⟨93, _⟩ => ⟨S4x4096x2048, .f32⟩
  | .hbm, ⟨94, _⟩ => ⟨S4x4096x2048, .f32⟩
  | .hbm, ⟨95, _⟩ => ⟨S_, .f32⟩
  | .hbm, ⟨96, _⟩ => ⟨S4x4096x2048, .f32⟩
  | .hbm, ⟨97, _⟩ => ⟨S4x4096x2048, .f32⟩
  | .hbm, ⟨98, _⟩ => ⟨S4x4096x2048, .f32⟩
  | .hbm, ⟨99, _⟩ => ⟨S1x1x2048, .f32⟩
  | .hbm, ⟨100, _⟩ => ⟨S4x4096x2048, .f32⟩
  | .hbm, ⟨101, _⟩ => ⟨S4x4096x2048, .f32⟩
  | .hbm, ⟨102, _⟩ => ⟨S4x4096x1024, .f32⟩
  | .hbm, ⟨103, _⟩ => ⟨S4x4096x4x256, .f32⟩
  | .hbm, ⟨104, _⟩ => ⟨S4x4x4096x256, .f32⟩
  | .hbm, ⟨105, _⟩ => ⟨S4x4096x1024, .f32⟩
  | .hbm, ⟨106, _⟩ => ⟨S4x16x256x1024, .f32⟩
  | .hbm, ⟨107, _⟩ => ⟨S4x16x1024x256, .f32⟩
  | .hbm, ⟨108, _⟩ => ⟨S4x4096x1024, .f32⟩
  | .hbm, ⟨109, _⟩ => ⟨S4x4096x1024, .f32⟩
  | .hbm, ⟨110, _⟩ => ⟨S_, .f32⟩
  | .hbm, ⟨111, _⟩ => ⟨S4x4096x1024, .f32⟩
  | .hbm, ⟨112, _⟩ => ⟨S4x4096x1024, .f32⟩
  | .hbm, ⟨113, _⟩ => ⟨S_, .f32⟩
  | .hbm, ⟨114, _⟩ => ⟨S4x4096x1024, .f32⟩
  | .hbm, ⟨115, _⟩ => ⟨S4x4096x1024, .f32⟩
  | .hbm, ⟨116, _⟩ => ⟨S4x4096x3072, .f32⟩
  | .hbm, ⟨117, _⟩ => ⟨S4x4096x3072, .bf16⟩
  | .hbm, ⟨118, _⟩ => ⟨S4x4x4096x256, .bf16⟩
  | .hbm, ⟨119, _⟩ => ⟨S4x16x1024x256, .bf16⟩
  | .hbm, ⟨120, _⟩ => ⟨S2048x128, .f32⟩
  | .hbm, ⟨121, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_call0_v5 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_4 : Ref sig .tc := ⟨.hbm, 110, rfl⟩
abbrev main_v88 : Ref sig .tc := ⟨.hbm, 111, rfl⟩
abbrev main_v89 : Ref sig .tc := ⟨.hbm, 112, rfl⟩
abbrev main_cst_5 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩

abbrev nD : Nat := 1
abbrev τ : Topo := Topo.v7x

variable {F : FTy → Type} [FloatOps F]
-- ==== Kernel5.lean ====
abbrev S4x256x2048 : Shape := ⟨3, ![4, 256, 2048]⟩
abbrev S8x6x2048 : Shape := ⟨3, ![8, 6, 2048]⟩
abbrev S1x2048 : Shape := ⟨2, ![1, 2048]⟩
abbrev S2048x5136 : Shape := ⟨2, ![2048, 5136]⟩
abbrev S2048x128 : Shape := ⟨2, ![2048, 128]⟩
abbrev S5x2048 : Shape := ⟨2, ![5, 2048]⟩
abbrev S4x1x1024x256 : Shape := ⟨4, ![4, 1, 1024, 256]⟩
abbrev S4x256x1024 : Shape := ⟨3, ![4, 256, 1024]⟩
abbrev S4x256x128 : Shape := ⟨3, ![4, 256, 128]⟩
abbrev S1x256x2048 : Shape := ⟨3, ![1, 256, 2048]⟩
abbrev S1x6x2048 : Shape := ⟨3, ![1, 6, 2048]⟩
abbrev S2048x2048 : Shape := ⟨2, ![2048, 2048]⟩
abbrev S5x1024 : Shape := ⟨2, ![5, 1024]⟩
abbrev S1x1024 : Shape := ⟨2, ![1, 1024]⟩
abbrev S1x1x1024x256 : Shape := ⟨4, ![1, 1, 1024, 256]⟩
abbrev S1x256x1024 : Shape := ⟨3, ![1, 256, 1024]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S8x1024 : Shape := ⟨2, ![8, 1024]⟩
abbrev S2048x1024 : Shape := ⟨2, ![2048, 1024]⟩
abbrev S256x1024 : Shape := ⟨2, ![256, 1024]⟩
abbrev S272x1024 : Shape := ⟨2, ![272, 1024]⟩
abbrev S1024x256 : Shape := ⟨2, ![1024, 256]⟩
abbrev S256x128 : Shape := ⟨2, ![256, 128]⟩

abbrev nBuf : Space → Nat
  | .hbm => 10
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S8x6x2048, .f32⟩
  | .hbm, ⟨2, _⟩ => ⟨S1x2048, .f32⟩
  | .hbm, ⟨3, _⟩ => ⟨S2048x5136, .bf16⟩
  | .hbm, ⟨4, _⟩ => ⟨S2048x128, .bf16⟩
  | .hbm, ⟨5, _⟩ => ⟨S5x2048, .f32⟩
  | .hbm, ⟨6, _⟩ => ⟨S1x2048, .f32⟩
  | .hbm, ⟨7, _⟩ => ⟨S4x1x1024x256, .bf16⟩
  | .hbm, ⟨8, _⟩ => ⟨S4x256x1024, .bf16⟩
  | .hbm, ⟨9, _⟩ => ⟨S4x256x128, .f32⟩
  | .local _ .vmem, ⟨0, _⟩ => ⟨S1x256x2048, .f32⟩
  | .local _ .vmem, ⟨1, _⟩ => ⟨S1x256x2048, .f32⟩
  | .local _ .vmem, ⟨2, _⟩ => ⟨S1x6x2048, .f32⟩
  | .local _ .vmem, ⟨3, _⟩ => ⟨S1x2048, .f32⟩
  | .local _ .vmem, ⟨4, _⟩ => ⟨S2048x2048, .bf16⟩
  | .local _ .vmem, ⟨5, _⟩ => ⟨S2048x128, .bf16⟩
  | .local _ .vmem, ⟨6, _⟩ => ⟨S5x1024, .f32⟩
  | .local _ .vmem, ⟨7, _⟩ => ⟨S1x1024, .f32⟩
  | .local _ .vmem, ⟨8, _⟩ => ⟨S1x1x1024x256, .bf16⟩
  | .local _ .vmem, ⟨9, _⟩ => ⟨S1x1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x128, .f32⟩
  | .local _ .vmem, ⟨13, _⟩ => ⟨S1x256x128, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x256x2048 : Shape := ⟨3, ![4, 256, 2048]⟩
abbrev S8x6x2048 : Shape := ⟨3, ![8, 6, 2048]⟩
abbrev S1x2048 : Shape := ⟨2, ![1, 2048]⟩
abbrev S2048x5136 : Shape := ⟨2, ![2048, 5136]⟩
abbrev S2048x128 : Shape := ⟨2, ![2048, 128]⟩
abbrev S5x2048 : Shape := ⟨2, ![5, 2048]⟩
abbrev S1x1x2048 : Shape := ⟨3, ![1, 1, 2048]⟩
abbrev S_ : Shape := ⟨0, ![]⟩
abbrev S4x256 : Shape := ⟨2, ![4, 256]⟩
abbrev S4x256x1 : Shape := ⟨3, ![4, 256, 1]⟩
abbrev S2048x1024 : Shape := ⟨2, ![2048, 1024]⟩
abbrev S4x256x1024 : Shape := ⟨3, ![4, 256, 1024]⟩
abbrev S4x2x1024 : Shape := ⟨3, ![4, 2, 1024]⟩
abbrev S4x260x1024 : Shape := ⟨3, ![4, 260, 1024]⟩
abbrev S1x1024 : Shape := ⟨2, ![1, 1024]⟩
abbrev S1x1x1024 : Shape := ⟨3, ![1, 1, 1024]⟩
abbrev S4x1x256x1024 : Shape := ⟨4, ![4, 1, 256, 1024]⟩
abbrev S4x1x1024x256 : Shape := ⟨4, ![4, 1, 1024, 256]⟩
abbrev S4x256x128 : Shape := ⟨3, ![4, 256, 128]⟩

abbrev nBuf : Space → Nat
  | .hbm => 93
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S8x6x2048, .f32⟩
  | .hbm, ⟨2, _⟩ => ⟨S1x2048, .f32⟩
  | .hbm, ⟨3, _⟩ => ⟨S2048x5136, .bf16⟩
  | .hbm, ⟨4, _⟩ => ⟨S2048x128, .bf16⟩
  | .hbm, ⟨5, _⟩ => ⟨S5x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x1x2048, .f32⟩
  | .hbm, ⟨11, _⟩ => ⟨S1x2048, .f32⟩
  | .hbm, ⟨12, _⟩ => ⟨S1x1x2048, .f32⟩
  | .hbm, ⟨13, _⟩ => ⟨S4x256x2048, .f32⟩
  | .hbm, ⟨14, _⟩ => ⟨S_, .f32⟩
  | .hbm, ⟨15, _⟩ => ⟨S4x256, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x1, .f32⟩
  | .hbm, ⟨24, _⟩ => ⟨S4x256x2048, .f32⟩
  | .hbm, ⟨25, _⟩ => ⟨S4x256x2048, .f32⟩
  | .hbm, ⟨26, _⟩ => ⟨S1x1x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S2048x1024, .bf16⟩
  | .hbm, ⟨37, _⟩ => ⟨S2048x1024, .f32⟩
  | .hbm, ⟨38, _⟩ => ⟨S4x256x1024, .f32⟩
  | .hbm, ⟨39, _⟩ => ⟨S2048x1024, .bf16⟩
  | .hbm, ⟨40, _⟩ => ⟨S2048x1024, .f32⟩
  | .hbm, ⟨41, _⟩ => ⟨S4x256x1024, .f32⟩
  | .hbm, ⟨42, _⟩ => ⟨S_, .f32⟩
  | .hbm, ⟨43, _⟩ => ⟨S4x2x1024, .f32⟩
  | .hbm, ⟨44, _⟩ => ⟨S4x260x1024, .f32⟩
  | .hbm, ⟨45, _⟩ => ⟨S4x256x1024, .f32⟩
  | .hbm, ⟨46, _⟩ => ⟨S1x1024, .f32⟩
  | .hbm, ⟨47, _⟩ => ⟨S1x1x1024, .f32⟩
  | .hbm, ⟨48, _⟩ => ⟨S4x256x1024, .f32⟩
  | .hbm, ⟨49, _⟩ => ⟨S4x256x1024, .f32⟩
  | .hbm, ⟨50, _⟩ => ⟨S4x256x1024, .f32⟩
  | .hbm, ⟨51, _⟩ => ⟨S1x1024, .f32⟩
  | .hbm, ⟨52, _⟩ => ⟨S1x1x1024, .f32⟩
  | .hbm, ⟨53, _⟩ => ⟨S4x256x1024, .f32⟩
  | .hbm, ⟨54, _⟩ => ⟨S4x256x1024, .f32⟩
  | .hbm, ⟨55, _⟩ => ⟨S4x256x1024, .f32⟩
  | .hbm, ⟨56, _⟩ => ⟨S4x256x1024, .f32⟩
  | .hbm, ⟨57, _⟩ => ⟨S1x1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | .hbm, ⟨63, _⟩ => ⟨S1x1024, .f32⟩
  | .hbm, ⟨64, _⟩ => ⟨S1x1x1024, .f32⟩
  | .hbm, ⟨65, _⟩ => ⟨S4x256x1024, .f32⟩
  | .hbm, ⟨66, _⟩ => ⟨S4x256x1024, .f32⟩
  | .hbm, ⟨67, _⟩ => ⟨S4x256x1024, .f32⟩
  | .hbm, ⟨68, _⟩ => ⟨S4x256x1024, .f32⟩
  | .hbm, ⟨69, _⟩ => ⟨S1x1024, .f32⟩
  | .hbm, ⟨70, _⟩ => ⟨S1x1x1024, .f32⟩
  | .hbm, ⟨71, _⟩ => ⟨S4x256x1024, .f32⟩
  | .hbm, ⟨72, _⟩ => ⟨S4x256x1024, .f32⟩
  | .hbm, ⟨73, _⟩ => ⟨S4x256x1024, .f32⟩
  | .hbm, ⟨74, _⟩ => ⟨S4x256x1024, .f32⟩
  | .hbm, ⟨75, _⟩ => ⟨S4x256x1024, .f32⟩
  | .hbm, ⟨76, _⟩ => ⟨S_, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S4x256x1024, .f32⟩
  | .hbm, ⟨81, _⟩ => ⟨S4x256x1024, .f32⟩
  | .hbm, ⟨82, _⟩ => ⟨S4x256x1024, .f32⟩
  | .hbm, ⟨83, _⟩ => ⟨S1x1024, .f32⟩
  | .hbm, ⟨84, _⟩ => ⟨S1x1x1024, .f32⟩
  | .hbm, ⟨85, _⟩ => ⟨S4x256x1024, .f32⟩
  | .hbm, ⟨86, _⟩ => ⟨S4x256x1024, .f32⟩
  | .hbm, ⟨87, _⟩ => ⟨S4x1x256x1024, .f32⟩
  | .hbm, ⟨88, _⟩ => ⟨S4x1x1024x256, .f32⟩
  | .hbm, ⟨89, _⟩ => ⟨S4x1x1024x256, .bf16⟩
  | .hbm, ⟨90, _⟩ => ⟨S4x256x1024, .bf16⟩
  | .hbm, ⟨91, _⟩ => ⟨S2048x128, .f32⟩
  | .hbm, ⟨92, _⟩ => ⟨S4x256x128, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Proof.LoopRun.lean ====
/- The reference's loop as a sequence of states. A memory that HOLDS a state (the carried arrays, the arrays the loop
   only reads, and the trip's number at its counters) gives each value of one trip as the step's own definition of it, so
   one trip keeps holding at the next state; what runs before the loop holds the first state, and what runs after it
   reads the sixteenth. The text follows the generated modules on the reference's run, the carried stack of the chunks'
   rows (`step_13`) stated by definitional equality. -/
module

public import proofs.«01_k».proof.Proof.Gen.ReferenceIdeal.Run
public import proofs.«01_k».proof.Proof.Gen.ReferenceIdeal.Step

@[expose] public section

noncomputable section

namespace Cert.ReferenceIdeal.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v115_11) = s.main_v115_11
  f_12 : V0 (Proc.devRef .tc main_v115_12) = s.main_v115_12
  f_13 : V0 (Proc.devRef .tc main_v115_13) = s.main_v115_13
  f_0 : V0 (Proc.devRef .tc main_v115_0) = s.main_v115_0
  f_1 : V0 (Proc.devRef .tc main_v115_1) = s.main_v115_1
  f_2 : V0 (Proc.devRef .tc main_v115_2) = s.main_v115_2
  f_3 : V0 (Proc.devRef .tc main_v115_3) = s.main_v115_3
  f_4 : V0 (Proc.devRef .tc main_v115_4) = s.main_v115_4
  f_5 : V0 (Proc.devRef .tc main_v115_5) = s.main_v115_5
  f_6 : V0 (Proc.devRef .tc main_v115_6) = s.main_v115_6
  f_7 : V0 (Proc.devRef .tc main_v115_7) = s.main_v115_7
  f_8 : V0 (Proc.devRef .tc main_v115_8) = s.main_v115_8
  n_10 : V0 (Proc.devRef .tc main_v115_10) = constantI S_ 32 (BitVec.ofNat 32 j)
  k_9 : V0 (Proc.devRef .tc main_v115_9) = Cert.ReferenceIdeal.Step.K_main_v21 (F := F)

variable {V0 s j}

set_option maxRecDepth 8192 in
theorem al_0 (h : Holds V0 s j) : (constantI S_ 32 0#32 : (Proc.devRef .tc main_while0b_call10_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call10_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call10_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call10_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call10_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x4x4x256x256 (V0 (Proc.devRef .tc main_v115_0)) (fun k => (((![V0 (Proc.devRef .tc main_v115_10), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S16x2x4x4x256x256_S1x2x4x4x256x256 : (Proc.devRef .tc main_while0b_call10_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_10]
  try rfl
set_option maxRecDepth 8192 in
theorem al_6 (h : Holds V0 s j) : (res_main_while0b_v145 V0 : (Proc.devRef .tc main_while0b_v145 : DevRef τ sig).ty.Contents (Elt F)) = Cert.ReferenceIdeal.Step.b6 j s := by
  unfold res_main_while0b_v145 Cert.ReferenceIdeal.Step.b6
  rw [← al_5 h]
  try rfl
set_option maxRecDepth 8192 in
theorem al_7 (h : Holds V0 s j) : (constantI S_ 32 0#32 : (Proc.devRef .tc main_while0b_call11_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call11_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call11_c_1 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call11_c_2 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call11_c_3 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2x4x4x256x256 (V0 (Proc.devRef .tc main_v115_1)) (fun k => (((![V0 (Proc.devRef .tc main_v115_10), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S16x2x4x4x256x256_S1x2x4x4x256x256 : (Proc.devRef .tc main_while0b_call11_v0 : DevRef τ sig).ty.Contents (Elt F)) = Cert.ReferenceIdeal.Step.b12 j s := by
  unfold Cert.ReferenceIdeal.Step.b12
  rw [← al_7 h, ← al_8 h, ← al_9 h, ← al_10 h, ← al_11 h, h.f_1, h.n_10]
  try rfl
set_option maxRecDepth 8192 in
theorem al_13 (h : Holds V0 s j) : (res_main_while0b_v146 V0 : (Proc.devRef .tc main_while0b_v146 : DevRef τ sig).ty.Contents (Elt F)) = Cert.ReferenceIdeal.Step.b13 j s := by
  unfold res_main_while0b_v146 Cert.ReferenceIdeal.Step.b13
  rw [← al_12 h]
  try rfl
set_option maxRecDepth 8192 in
theorem al_14 (h : Holds V0 s j) : (constantI S_ 32 0#32 : (Proc.devRef .tc main_while0b_call12_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call12_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call12_c_1 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call12_c_2 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call12_c_3 : DevRef τ sig).ty.Contents (Elt F)) = Cert.ReferenceIdeal.Step.b18 j s := by
  unfold Cert.ReferenceIdeal.Step.b18
  rfl
set_option maxRecDepth 8192 in
theorem al_19 (h : Holds V0 s j) : (Host.dynamicSlice S1x2x4x4x256x256 (V0 (Proc.devRef .tc main_v115_2)) (fun k => (((![V0 (Proc.devRef .tc main_v115_10), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S16x2x4x4x256x256_S1x2x4x4x256x256 : (Proc.devRef .tc main_while0b_call12_v0 : DevRef τ sig).ty.Contents (Elt F)) = Cert.ReferenceIdeal.Step.b19 j s := by
  unfold Cert.ReferenceIdeal.Step.b19
  rw [← al_14 h, ← al_15 h, ← al_16 h, ← al_17 h, ← al_18 h, h.f_2, h.n_10]
  try rfl
set_option maxRecDepth 8192 in
theorem al_20 (h : Holds V0 s j) : (res_main_while0b_v147 V0 : (Proc.devRef .tc main_while0b_v147 : DevRef τ sig).ty.Contents (Elt F)) = Cert.ReferenceIdeal.Step.b20 j s := by
  unfold res_main_while0b_v147 Cert.ReferenceIdeal.Step.b20
  rw [← al_19 h]
  try rfl
set_option maxRecDepth 8192 in
theorem al_21 (h : Holds V0 s j) : (constantI S_ 32 0#32 : (Proc.devRef .tc main_while0b_call13_c : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call13_c_0 : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call13_c_1 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call13_c_2 : DevRef τ sig).ty.Contents (Elt F)) = Cert.ReferenceIdeal.Step.b24 j s := by
  unfold Cert.ReferenceIdeal.Step.b24
  rfl
set_option maxRecDepth 8192 in
theorem al_25 (h : Holds V0 s j) : (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256 : (Proc.devRef .tc main_while0b_call13_v0 : DevRef τ sig).ty.Contents (Elt F)) = Cert.ReferenceIdeal.Step.b25 j s := by
  unfold Cert.ReferenceIdeal.Step.b25
  rw [← al_21 h, ← al_22 h, ← al_23 h, ← al_24 h, h.f_3, h.n_10]
  try rfl
set_option maxRecDepth 8192 in
theorem al_26 (h : Holds V0 s j) : (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256 : (Proc.devRef .tc main_while0b_v148 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constantI S_ 32 0#32 : (Proc.devRef .tc main_while0b_call14_c : DevRef τ sig).ty.Contents (Elt F)) = Cert.ReferenceIdeal.Step.b27 j s := by
  unfold Cert.ReferenceIdeal.Step.b27
  rfl
set_option maxRecDepth 8192 in
theorem al_28 (h : Holds V0 s j) : (constantI S_ 32 0#32 : (Proc.devRef .tc main_while0b_call14_c_0 : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call14_c_1 : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S1x2x4x4 (V0 (Proc.devRef .tc main_v115_4)) (fun k => (((![V0 (Proc.devRef .tc main_v115_10), constantI S_ 32 0#32, constantI S_ 32 0#32, constantI S_ 32 0#32] : Fin 4 → (⟨S_, .i32⟩ : BufTy).Contents (Elt F))) k (Shape.Idx.first h_S_)).toInt) sliceFits_S16x2x4x4_S1x2x4x4 : (Proc.devRef .tc main_while0b_call14_v0 : DevRef τ sig).ty.Contents (Elt F)) = Cert.ReferenceIdeal.Step.b30 j s := by
  unfold Cert.ReferenceIdeal.Step.b30
  rw [← al_27 h, ← al_28 h, ← al_29 h, h.f_4, h.n_10]
  try rfl
set_option maxRecDepth 8192 in
theorem al_31 (h : Holds V0 s j) : (res_main_while0b_v149 V0 : (Proc.devRef .tc main_while0b_v149 : DevRef τ sig).ty.Contents (Elt F)) = Cert.ReferenceIdeal.Step.b31 j s := by
  unfold res_main_while0b_v149 Cert.ReferenceIdeal.Step.b31
  rw [← al_30 h]
  try rfl
set_option maxRecDepth 8192 in
theorem al_32 (h : Holds V0 s j) : (constantI S_ 32 0#32 : (Proc.devRef .tc main_while0b_call15_c : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call15_c_0 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call15_c_1 : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call15_c_2 : DevRef τ sig).ty.Contents (Elt F)) = Cert.ReferenceIdeal.Step.b35 j s := by
  unfold Cert.ReferenceIdeal.Step.b35
  rfl
set_option maxRecDepth 8192 in
theorem al_36 (h : Holds V0 s j) : (Host.dynamicSlice S1x2x4x4x256 (V0 (Proc.devRef .tc main_v115_5)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256 : (Proc.devRef .tc main_while0b_call15_v0 : DevRef τ sig).ty.Contents (Elt F)) = Cert.ReferenceIdeal.Step.b36 j s := by
  unfold Cert.ReferenceIdeal.Step.b36
  rw [← al_32 h, ← al_33 h, ← al_34 h, ← al_35 h, h.f_5, h.n_10]
  try rfl
set_option maxRecDepth 8192 in
theorem al_37 (h : Holds V0 s j) : (shapeCast S2x4x4x256 (Host.dynamicSlice S1x2x4x4x256 (V0 (Proc.devRef .tc main_v115_5)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256 : (Proc.devRef .tc main_while0b_v150 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (constantI S_ 32 0#32 : (Proc.devRef .tc main_while0b_call16_c : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call16_c_0 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call16_c_1 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call16_c_2 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256 : (Proc.devRef .tc main_while0b_call16_v0 : DevRef τ sig).ty.Contents (Elt F)) = Cert.ReferenceIdeal.Step.b42 j s := by
  unfold Cert.ReferenceIdeal.Step.b42
  rw [← al_38 h, ← al_39 h, ← al_40 h, ← al_41 h, h.f_6, h.n_10]
  try rfl
set_option maxRecDepth 8192 in
theorem al_43 (h : Holds V0 s j) : (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256 : (Proc.devRef .tc main_while0b_v151 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (constantI S_ 32 0#32 : (Proc.devRef .tc main_while0b_call17_c : DevRef τ sig).ty.Contents (Elt F)) = Cert.ReferenceIdeal.Step.b44 j s := by
  unfold Cert.ReferenceIdeal.Step.b44
  rfl
set_option maxRecDepth 8192 in
theorem al_45 (h : Holds V0 s j) : (constantI S_ 32 0#32 : (Proc.devRef .tc main_while0b_call17_c_0 : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call17_c_1 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call17_c_2 : DevRef τ sig).ty.Contents (Elt F)) = Cert.ReferenceIdeal.Step.b47 j s := by
  unfold Cert.ReferenceIdeal.Step.b47
  rfl
set_option maxRecDepth 8192 in
theorem al_48 (h : Holds V0 s j) : (Host.dynamicSlice S1x2x4x4x256 (V0 (Proc.devRef .tc main_v115_7)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256 : (Proc.devRef .tc main_while0b_call17_v0 : DevRef τ sig).ty.Contents (Elt F)) = Cert.ReferenceIdeal.Step.b48 j s := by
  unfold Cert.ReferenceIdeal.Step.b48
  rw [← al_44 h, ← al_45 h, ← al_46 h, ← al_47 h, h.f_7, h.n_10]
  try rfl
set_option maxRecDepth 8192 in
theorem al_49 (h : Holds V0 s j) : (shapeCast S2x4x4x256 (Host.dynamicSlice S1x2x4x4x256 (V0 (Proc.devRef .tc main_v115_7)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256 : (Proc.devRef .tc main_while0b_v152 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (constantI S_ 32 0#32 : (Proc.devRef .tc main_while0b_call18_c : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call18_c_0 : DevRef τ sig).ty.Contents (Elt F)) = Cert.ReferenceIdeal.Step.b51 j s := by
  unfold Cert.ReferenceIdeal.Step.b51
  rfl
set_option maxRecDepth 8192 in
theorem al_52 (h : Holds V0 s j) : (constantI S_ 32 0#32 : (Proc.devRef .tc main_while0b_call18_c_1 : DevRef τ sig).ty.Contents (Elt F)) = Cert.ReferenceIdeal.Step.b52 j s := by
  unfold Cert.ReferenceIdeal.Step.b52
  rfl
set_option maxRecDepth 8192 in
theorem al_53 (h : Holds V0 s j) : (constantI S_ 32 0#32 : (Proc.devRef .tc main_while0b_call18_c_2 : DevRef τ sig).ty.Contents (Elt F)) = Cert.ReferenceIdeal.Step.b53 j s := by
  unfold Cert.ReferenceIdeal.Step.b53
  rfl
set_option maxRecDepth 8192 in
theorem al_54 (h : Holds V0 s j) : (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256 : (Proc.devRef .tc main_while0b_call18_v0 : DevRef τ sig).ty.Contents (Elt F)) = Cert.ReferenceIdeal.Step.b54 j s := by
  unfold Cert.ReferenceIdeal.Step.b54
  rw [← al_50 h, ← al_51 h, ← al_52 h, ← al_53 h, h.f_8, h.n_10]
  try rfl
set_option maxRecDepth 8192 in
theorem al_55 (h : Holds V0 s j) : (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256 : (Proc.devRef .tc main_while0b_v153 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (Host.dotGeneral dot_S2x4x4x256x256_S2x4x4x256x256_S2x4x4x256x256_4_4_3_3_012_012 none (res_main_while0b_v145 V0) (res_main_while0b_v146 V0) : (Proc.devRef .tc main_while0b_v154 : DevRef τ sig).ty.Contents (Elt F)) = Cert.ReferenceIdeal.Step.b56 j s := by
  unfold Cert.ReferenceIdeal.Step.b56
  rw [← al_6 h, ← al_13 h]
  try rfl
set_option maxRecDepth 8192 in
theorem al_57 (h : Holds V0 s j) : (broadcastInDim S2x4x4x1x256 ![0, 1, 2, 4] bcast_S2x4x4x256_S2x4x4x1x256_0_1_2_4 (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256) : (Proc.devRef .tc main_while0b_v155 : DevRef τ sig).ty.Contents (Elt F)) = Cert.ReferenceIdeal.Step.b57 j s := by
  unfold Cert.ReferenceIdeal.Step.b57
  rw [← al_26 h]
  try rfl
set_option maxRecDepth 8192 in
theorem al_58 (h : Holds V0 s j) : (broadcastInDim S2x4x4x256x1 ![0, 1, 2, 3] bcast_S2x4x4x256_S2x4x4x256x1_0_1_2_3 (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256) : (Proc.devRef .tc main_while0b_v156 : DevRef τ sig).ty.Contents (Elt F)) = Cert.ReferenceIdeal.Step.b58 j s := by
  unfold Cert.ReferenceIdeal.Step.b58
  rw [← al_43 h]
  try rfl
set_option maxRecDepth 8192 in
theorem al_59 (h : Holds V0 s j) : (broadcastInDim S2x4x4x256x256 ![0, 1, 2, 3, 4] bcast_S2x4x4x1x256_S2x4x4x256x256_0_1_2_3_4 (broadcastInDim S2x4x4x1x256 ![0, 1, 2, 4] bcast_S2x4x4x256_S2x4x4x1x256_0_1_2_4 (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)) : (Proc.devRef .tc main_while0b_v157 : DevRef τ sig).ty.Contents (Elt F)) = Cert.ReferenceIdeal.Step.b59 j s := by
  unfold Cert.ReferenceIdeal.Step.b59
  rw [← al_57 h]
  try rfl
set_option maxRecDepth 8192 in
theorem al_60 (h : Holds V0 s j) : (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)) : (Proc.devRef .tc main_while0b_v158 : DevRef τ sig).ty.Contents (Elt F)) = Cert.ReferenceIdeal.Step.b60 j s := by
  unfold Cert.ReferenceIdeal.Step.b60
  rw [← al_58 h]
  try rfl
set_option maxRecDepth 8192 in
theorem al_61 (h : Holds V0 s j) : (subf (broadcastInDim S2x4x4x256x256 ![0, 1, 2, 3, 4] bcast_S2x4x4x1x256_S2x4x4x256x256_0_1_2_3_4 (broadcastInDim S2x4x4x1x256 ![0, 1, 2, 4] bcast_S2x4x4x256_S2x4x4x1x256_0_1_2_4 (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))) : (Proc.devRef .tc main_while0b_v159 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (constant S_ .f32 0xFF800000#32 : (Proc.devRef .tc main_while0b_cst_18 : DevRef τ sig).ty.Contents (Elt F)) = Cert.ReferenceIdeal.Step.b62 j s := by
  unfold Cert.ReferenceIdeal.Step.b62
  rfl
set_option maxRecDepth 8192 in
theorem al_63 (h : Holds V0 s j) : (id (constant S_ .f32 0xFF800000#32) : (Proc.devRef .tc main_while0b_call19_v0 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (broadcastInDim S2x4x4x256x256 ![0, 1, 2, 3, 4] bcast_S2x1x1x256x256_S2x4x4x256x256_0_1_2_3_4 (V0 (Proc.devRef .tc main_v115_9)) : (Proc.devRef .tc main_while0b_call19_v1 : DevRef τ sig).ty.Contents (Elt F)) = Cert.ReferenceIdeal.Step.b64 j s := by
  unfold Cert.ReferenceIdeal.Step.b64
  rw [h.k_9]
  try rfl
set_option maxRecDepth 8192 in
theorem al_65 (h : Holds V0 s j) : (broadcastInDim S2x4x4x256x256 ![] bcast_S_S2x4x4x256x256 (id (constant S_ .f32 0xFF800000#32)) : (Proc.devRef .tc main_while0b_call19_v2 : DevRef τ sig).ty.Contents (Elt F)) = Cert.ReferenceIdeal.Step.b65 j s := by
  unfold Cert.ReferenceIdeal.Step.b65
  rw [← al_63 h]
  try rfl
set_option maxRecDepth 8192 in
theorem al_66 (h : Holds V0 s j) : (select (broadcastInDim S2x4x4x256x256 ![0, 1, 2, 3, 4] bcast_S2x1x1x256x256_S2x4x4x256x256_0_1_2_3_4 (V0 (Proc.devRef .tc main_v115_9))) (subf (broadcastInDim S2x4x4x256x256 ![0, 1, 2, 3, 4] bcast_S2x4x4x1x256_S2x4x4x256x256_0_1_2_3_4 (broadcastInDim S2x4x4x1x256 ![0, 1, 2, 4] bcast_S2x4x4x256_S2x4x4x1x256_0_1_2_4 (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)))) (broadcastInDim S2x4x4x256x256 ![] bcast_S_S2x4x4x256x256 (id (constant S_ .f32 0xFF800000#32))) : (Proc.devRef .tc main_while0b_v160 : DevRef τ sig).ty.Contents (Elt F)) = Cert.ReferenceIdeal.Step.b66 j s := by
  unfold Cert.ReferenceIdeal.Step.b66
  rw [← al_64 h, ← al_61 h, ← al_65 h]
  try rfl
set_option maxRecDepth 8192 in
theorem al_67 (h : Holds V0 s j) : (Host.exp (select (broadcastInDim S2x4x4x256x256 ![0, 1, 2, 3, 4] bcast_S2x1x1x256x256_S2x4x4x256x256_0_1_2_3_4 (V0 (Proc.devRef .tc main_v115_9))) (subf (broadcastInDim S2x4x4x256x256 ![0, 1, 2, 3, 4] bcast_S2x4x4x1x256_S2x4x4x256x256_0_1_2_3_4 (broadcastInDim S2x4x4x1x256 ![0, 1, 2, 4] bcast_S2x4x4x256_S2x4x4x1x256_0_1_2_4 (shapeCast S2x4x4x256 (Host.dynamicSlice S1x2x4x4x256 (V0 (Proc.devRef .tc main_v115_3)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_6)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)))) (broadcastInDim S2x4x4x256x256 ![] bcast_S_S2x4x4x256x256 (id (constant S_ .f32 0xFF800000#32)))) : (Proc.devRef .tc main_while0b_v161 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (res_main_while0b_v162 V0 : (Proc.devRef .tc main_while0b_v162 : DevRef τ sig).ty.Contents (Elt F)) = Cert.ReferenceIdeal.Step.b68 j s := by
  unfold res_main_while0b_v162 Cert.ReferenceIdeal.Step.b68
  rw [← al_56 h, ← al_67 h]
  try rfl
set_option maxRecDepth 8192 in
theorem al_69 (h : Holds V0 s j) : (broadcastInDim S2x4x4x256x1 ![0, 1, 2, 3] bcast_S2x4x4x256_S2x4x4x256x1_0_1_2_3 (shapeCast S2x4x4x256 (Host.dynamicSlice S1x2x4x4x256 (V0 (Proc.devRef .tc main_v115_7)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256) : (Proc.devRef .tc main_while0b_v163 : DevRef τ sig).ty.Contents (Elt F)) = Cert.ReferenceIdeal.Step.b69 j s := by
  unfold Cert.ReferenceIdeal.Step.b69
  rw [← al_49 h]
  try rfl
set_option maxRecDepth 8192 in
theorem al_70 (h : Holds V0 s j) : (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_7)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)) : (Proc.devRef .tc main_while0b_v164 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (res_main_while0b_v165 V0 : (Proc.devRef .tc main_while0b_v165 : DevRef τ sig).ty.Contents (Elt F)) = Cert.ReferenceIdeal.Step.b71 j s := by
  unfold res_main_while0b_v165 Cert.ReferenceIdeal.Step.b71
  rw [← al_6 h, ← al_70 h]
  try rfl
set_option maxRecDepth 8192 in
theorem al_72 (h : Holds V0 s j) : (Host.dotGeneral dot_S2x4x4x256x256_S2x4x4x256x256_S2x4x4x256x256_4_3_3_4_012_012 none (res_main_while0b_v165 V0) (V0 (Proc.devRef .tc main_v115_11)) : (Proc.devRef .tc main_while0b_v166 : DevRef τ sig).ty.Contents (Elt F)) = Cert.ReferenceIdeal.Step.b72 j s := by
  unfold Cert.ReferenceIdeal.Step.b72
  rw [← al_71 h, h.f_11]
  try rfl
set_option maxRecDepth 8192 in
theorem al_73 (h : Holds V0 s j) : (Host.dotGeneral dot_S2x4x4x256x256_S2x4x4x256x256_S2x4x4x256x256_4_3_3_4_012_012 none (res_main_while0b_v162 V0) (res_main_while0b_v147 V0) : (Proc.devRef .tc main_while0b_v167 : DevRef τ sig).ty.Contents (Elt F)) = Cert.ReferenceIdeal.Step.b73 j s := by
  unfold Cert.ReferenceIdeal.Step.b73
  rw [← al_68 h, ← al_20 h]
  try rfl
set_option maxRecDepth 8192 in
theorem al_74 (h : Holds V0 s j) : (addf (Host.dotGeneral dot_S2x4x4x256x256_S2x4x4x256x256_S2x4x4x256x256_4_3_3_4_012_012 none (res_main_while0b_v165 V0) (V0 (Proc.devRef .tc main_v115_11))) (Host.dotGeneral dot_S2x4x4x256x256_S2x4x4x256x256_S2x4x4x256x256_4_3_3_4_012_012 none (res_main_while0b_v162 V0) (res_main_while0b_v147 V0)) : (Proc.devRef .tc main_while0b_v168 : DevRef τ sig).ty.Contents (Elt F)) = Cert.ReferenceIdeal.Step.b74 j s := by
  unfold Cert.ReferenceIdeal.Step.b74
  rw [← al_72 h, ← al_73 h]
  try rfl
set_option maxRecDepth 8192 in
theorem al_75 (h : Holds V0 s j) : (Host.dotGeneral dot_S2x4x4x256x256_S2x4x4x256_S2x4x4x256_4_3_3_n_012_012 none (res_main_while0b_v165 V0) (V0 (Proc.devRef .tc main_v115_12)) : (Proc.devRef .tc main_while0b_v169 : DevRef τ sig).ty.Contents (Elt F)) = Cert.ReferenceIdeal.Step.b75 j s := by
  unfold Cert.ReferenceIdeal.Step.b75
  rw [← al_71 h, h.f_12]
  try rfl
set_option maxRecDepth 8192 in
theorem al_76 (h : Holds V0 s j) : (constant S_ .f32 0x00000000#32 : (Proc.devRef .tc main_while0b_cst_19 : DevRef τ sig).ty.Contents (Elt F)) = Cert.ReferenceIdeal.Step.b76 j s := by
  unfold Cert.ReferenceIdeal.Step.b76
  rfl
set_option maxRecDepth 8192 in
theorem al_77 (h : Holds V0 s j) : (Host.reduceAdd (res_main_while0b_v162 V0) (constant S_ .f32 0x00000000#32) reducesTo_S2x4x4x256x256_S2x4x4x256_d4 h_S_ : (Proc.devRef .tc main_while0b_v170 : DevRef τ sig).ty.Contents (Elt F)) = Cert.ReferenceIdeal.Step.b77 j s := by
  unfold Cert.ReferenceIdeal.Step.b77
  rw [← al_68 h, ← al_76 h]
  try rfl
set_option maxRecDepth 8192 in
theorem al_78 (h : Holds V0 s j) : (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_) : (Proc.devRef .tc main_while0b_v171 : DevRef τ sig).ty.Contents (Elt F)) = Cert.ReferenceIdeal.Step.b78 j s := by
  unfold Cert.ReferenceIdeal.Step.b78
  rw [← al_75 h, ← al_77 h]
  try rfl
set_option maxRecDepth 8192 in
theorem al_79 (h : Holds V0 s j) : (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_)) : (Proc.devRef .tc main_while0b_v172 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256) : (Proc.devRef .tc main_while0b_v173 : DevRef τ sig).ty.Contents (Elt F)) = Cert.ReferenceIdeal.Step.b80 j s := by
  unfold Cert.ReferenceIdeal.Step.b80
  rw [← al_79 h, ← al_55 h]
  try rfl
set_option maxRecDepth 8192 in
theorem al_81 (h : Holds V0 s j) : (broadcastInDim S2x4x4x256x1 ![0, 1, 2, 3] bcast_S2x4x4x256_S2x4x4x256x1_0_1_2_3 (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)) : (Proc.devRef .tc main_while0b_v174 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))) : (Proc.devRef .tc main_while0b_v175 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (Host.divf (addf (Host.dotGeneral dot_S2x4x4x256x256_S2x4x4x256x256_S2x4x4x256x256_4_3_3_4_012_012 none (res_main_while0b_v165 V0) (V0 (Proc.devRef .tc main_v115_11))) (Host.dotGeneral dot_S2x4x4x256x256_S2x4x4x256x256_S2x4x4x256x256_4_3_3_4_012_012 none (res_main_while0b_v162 V0) (res_main_while0b_v147 V0))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)))) : (Proc.devRef .tc main_while0b_v176 : DevRef τ sig).ty.Contents (Elt F)) = Cert.ReferenceIdeal.Step.b83 j s := by
  unfold Cert.ReferenceIdeal.Step.b83
  rw [← al_74 h, ← al_82 h]
  try rfl
set_option maxRecDepth 8192 in
theorem al_84 (h : Holds V0 s j) : (broadcastInDim S2x4x4x256x1 ![0, 1, 2, 3] bcast_S2x4x4x256_S2x4x4x256x1_0_1_2_3 (shapeCast S2x4x4x256 (Host.dynamicSlice S1x2x4x4x256 (V0 (Proc.devRef .tc main_v115_5)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256) : (Proc.devRef .tc main_while0b_v177 : DevRef τ sig).ty.Contents (Elt F)) = Cert.ReferenceIdeal.Step.b84 j s := by
  unfold Cert.ReferenceIdeal.Step.b84
  rw [← al_37 h]
  try rfl
set_option maxRecDepth 8192 in
theorem al_85 (h : Holds V0 s j) : (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (shapeCast S2x4x4x256 (Host.dynamicSlice S1x2x4x4x256 (V0 (Proc.devRef .tc main_v115_5)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)) : (Proc.devRef .tc main_while0b_v178 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (res_main_while0b_v179 V0 : (Proc.devRef .tc main_while0b_v179 : DevRef τ sig).ty.Contents (Elt F)) = Cert.ReferenceIdeal.Step.b86 j s := by
  unfold res_main_while0b_v179 Cert.ReferenceIdeal.Step.b86
  rw [← al_13 h, ← al_85 h]
  try rfl
set_option maxRecDepth 8192 in
theorem al_87 (h : Holds V0 s j) : (broadcastInDim S2x4x4x1x1 ![0, 1, 2] bcast_S2x4x4_S2x4x4x1x1_0_1_2 (res_main_while0b_v149 V0) : (Proc.devRef .tc main_while0b_v180 : DevRef τ sig).ty.Contents (Elt F)) = Cert.ReferenceIdeal.Step.b87 j s := by
  unfold Cert.ReferenceIdeal.Step.b87
  rw [← al_31 h]
  try rfl
set_option maxRecDepth 8192 in
theorem al_88 (h : Holds V0 s j) : (broadcastInDim S2x4x4x256x256 ![0, 1, 2, 3, 4] bcast_S2x4x4x1x1_S2x4x4x256x256_0_1_2_3_4 (broadcastInDim S2x4x4x1x1 ![0, 1, 2] bcast_S2x4x4_S2x4x4x1x1_0_1_2 (res_main_while0b_v149 V0)) : (Proc.devRef .tc main_while0b_v181 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (mulf (broadcastInDim S2x4x4x256x256 ![0, 1, 2, 3, 4] bcast_S2x4x4x1x1_S2x4x4x256x256_0_1_2_3_4 (broadcastInDim S2x4x4x1x1 ![0, 1, 2] bcast_S2x4x4_S2x4x4x1x1_0_1_2 (res_main_while0b_v149 V0))) (V0 (Proc.devRef .tc main_v115_11)) : (Proc.devRef .tc main_while0b_v182 : DevRef τ sig).ty.Contents (Elt F)) = Cert.ReferenceIdeal.Step.b89 j s := by
  unfold Cert.ReferenceIdeal.Step.b89
  rw [← al_88 h, h.f_11]
  try rfl
set_option maxRecDepth 8192 in
theorem al_90 (h : Holds V0 s j) : (Host.dotGeneral dot_S2x4x4x256x256_S2x4x4x256x256_S2x4x4x256x256_3_3_4_4_012_012 none (res_main_while0b_v179 V0) (res_main_while0b_v147 V0) : (Proc.devRef .tc main_while0b_v183 : DevRef τ sig).ty.Contents (Elt F)) = Cert.ReferenceIdeal.Step.b90 j s := by
  unfold Cert.ReferenceIdeal.Step.b90
  rw [← al_86 h, ← al_20 h]
  try rfl
set_option maxRecDepth 8192 in
theorem al_91 (h : Holds V0 s j) : (addf (mulf (broadcastInDim S2x4x4x256x256 ![0, 1, 2, 3, 4] bcast_S2x4x4x1x1_S2x4x4x256x256_0_1_2_3_4 (broadcastInDim S2x4x4x1x1 ![0, 1, 2] bcast_S2x4x4_S2x4x4x1x1_0_1_2 (res_main_while0b_v149 V0))) (V0 (Proc.devRef .tc main_v115_11))) (Host.dotGeneral dot_S2x4x4x256x256_S2x4x4x256x256_S2x4x4x256x256_3_3_4_4_012_012 none (res_main_while0b_v179 V0) (res_main_while0b_v147 V0)) : (Proc.devRef .tc main_while0b_v184 : DevRef τ sig).ty.Contents (Elt F)) = Cert.ReferenceIdeal.Step.b91 j s := by
  unfold Cert.ReferenceIdeal.Step.b91
  rw [← al_89 h, ← al_90 h]
  try rfl
set_option maxRecDepth 8192 in
theorem al_92 (h : Holds V0 s j) : (broadcastInDim S2x4x4x1 ![0, 1, 2] bcast_S2x4x4_S2x4x4x1_0_1_2 (res_main_while0b_v149 V0) : (Proc.devRef .tc main_while0b_v185 : DevRef τ sig).ty.Contents (Elt F)) = Cert.ReferenceIdeal.Step.b92 j s := by
  unfold Cert.ReferenceIdeal.Step.b92
  rw [← al_31 h]
  try rfl
set_option maxRecDepth 8192 in
theorem al_93 (h : Holds V0 s j) : (broadcastInDim S2x4x4x256 ![0, 1, 2, 3] bcast_S2x4x4x1_S2x4x4x256_0_1_2_3 (broadcastInDim S2x4x4x1 ![0, 1, 2] bcast_S2x4x4_S2x4x4x1_0_1_2 (res_main_while0b_v149 V0)) : (Proc.devRef .tc main_while0b_v186 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (mulf (broadcastInDim S2x4x4x256 ![0, 1, 2, 3] bcast_S2x4x4x1_S2x4x4x256_0_1_2_3 (broadcastInDim S2x4x4x1 ![0, 1, 2] bcast_S2x4x4_S2x4x4x1_0_1_2 (res_main_while0b_v149 V0))) (V0 (Proc.devRef .tc main_v115_12)) : (Proc.devRef .tc main_while0b_v187 : DevRef τ sig).ty.Contents (Elt F)) = Cert.ReferenceIdeal.Step.b94 j s := by
  unfold Cert.ReferenceIdeal.Step.b94
  rw [← al_93 h, h.f_12]
  try rfl
set_option maxRecDepth 8192 in
theorem al_95 (h : Holds V0 s j) : (constant S_ .f32 0x00000000#32 : (Proc.devRef .tc main_while0b_cst_20 : DevRef τ sig).ty.Contents (Elt F)) = Cert.ReferenceIdeal.Step.b95 j s := by
  unfold Cert.ReferenceIdeal.Step.b95
  rfl
set_option maxRecDepth 8192 in
theorem al_96 (h : Holds V0 s j) : (Host.reduceAdd (res_main_while0b_v179 V0) (constant S_ .f32 0x00000000#32) reducesTo_S2x4x4x256x256_S2x4x4x256_d3 h_S_ : (Proc.devRef .tc main_while0b_v188 : DevRef τ sig).ty.Contents (Elt F)) = Cert.ReferenceIdeal.Step.b96 j s := by
  unfold Cert.ReferenceIdeal.Step.b96
  rw [← al_86 h, ← al_95 h]
  try rfl
set_option maxRecDepth 8192 in
theorem al_97 (h : Holds V0 s j) : (addf (mulf (broadcastInDim S2x4x4x256 ![0, 1, 2, 3] bcast_S2x4x4x1_S2x4x4x256_0_1_2_3 (broadcastInDim S2x4x4x1 ![0, 1, 2] bcast_S2x4x4_S2x4x4x1_0_1_2 (res_main_while0b_v149 V0))) (V0 (Proc.devRef .tc main_v115_12))) (Host.reduceAdd (res_main_while0b_v179 V0) (constant S_ .f32 0x00000000#32) reducesTo_S2x4x4x256x256_S2x4x4x256_d3 h_S_) : (Proc.devRef .tc main_while0b_v189 : DevRef τ sig).ty.Contents (Elt F)) = Cert.ReferenceIdeal.Step.b97 j s := by
  unfold Cert.ReferenceIdeal.Step.b97
  rw [← al_94 h, ← al_96 h]
  try rfl
set_option maxRecDepth 8192 in
theorem al_98 (h : Holds V0 s j) : (broadcastInDim S1x2x4x4x256x256 ![1, 2, 3, 4, 5] bcast_S2x4x4x256x256_S1x2x4x4x256x256_1_2_3_4_5 (Host.divf (addf (Host.dotGeneral dot_S2x4x4x256x256_S2x4x4x256x256_S2x4x4x256x256_4_3_3_4_012_012 none (res_main_while0b_v165 V0) (V0 (Proc.devRef .tc main_v115_11))) (Host.dotGeneral dot_S2x4x4x256x256_S2x4x4x256x256_S2x4x4x256x256_4_3_3_4_012_012 none (res_main_while0b_v162 V0) (res_main_while0b_v147 V0))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256))))) : (Proc.devRef .tc main_while0b_call20_v0 : DevRef τ sig).ty.Contents (Elt F)) = Cert.ReferenceIdeal.Step.b98 j s := by
  unfold Cert.ReferenceIdeal.Step.b98
  rw [← al_83 h]
  try rfl
set_option maxRecDepth 8192 in
theorem al_99 (h : Holds V0 s j) : (constantI S_ 32 0#32 : (Proc.devRef .tc main_while0b_call20_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call20_c_0 : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call20_c_1 : DevRef τ sig).ty.Contents (Elt F)) = Cert.ReferenceIdeal.Step.b101 j s := by
  unfold Cert.ReferenceIdeal.Step.b101
  rfl
set_option maxRecDepth 8192 in
theorem al_102 (h : Holds V0 s j) : (constantI S_ 32 0#32 : (Proc.devRef .tc main_while0b_call20_c_2 : DevRef τ sig).ty.Contents (Elt F)) = Cert.ReferenceIdeal.Step.b102 j s := by
  unfold Cert.ReferenceIdeal.Step.b102
  rfl
set_option maxRecDepth 8192 in
theorem al_103 (h : Holds V0 s j) : (constantI S_ 32 0#32 : (Proc.devRef .tc main_while0b_call20_c_3 : DevRef τ sig).ty.Contents (Elt F)) = Cert.ReferenceIdeal.Step.b103 j s := by
  unfold Cert.ReferenceIdeal.Step.b103
  rfl
set_option maxRecDepth 8192 in
theorem al_104 (h : Holds V0 s j) : (Host.dynamicUpdateSlice (V0 (Proc.devRef .tc main_v115_13)) (broadcastInDim S1x2x4x4x256x256 ![1, 2, 3, 4, 5] bcast_S2x4x4x256x256_S1x2x4x4x256x256_1_2_3_4_5 (Host.divf (addf (Host.dotGeneral dot_S2x4x4x256x256_S2x4x4x256x256_S2x4x4x256x256_4_3_3_4_012_012 none (res_main_while0b_v165 V0) (V0 (Proc.devRef .tc main_v115_11))) (Host.dotGeneral dot_S2x4x4x256x256_S2x4x4x256x256_S2x4x4x256x256_4_3_3_4_012_012 none (res_main_while0b_v162 V0) (res_main_while0b_v147 V0))) (broadcastInDim S2x4x4x256x256 ![0, 1, 2, 3, 4] bcast_S2x4x4x256x1_S2x4x4x256x256_0_1_2_3_4 (broadcastInDim S2x4x4x256x1 ![0, 1, 2, 3] bcast_S2x4x4x256_S2x4x4x256x1_0_1_2_3 (maximumf (Host.absf (addf (Host.dotGeneral dot_S2x4x4x256x256_S2x4x4x256_S2x4x4x256_4_3_3_n_012_012 none (res_main_while0b_v165 V0) (V0 (Proc.devRef .tc main_v115_12))) (Host.reduceAdd (res_main_while0b_v162 V0) (constant S_ .f32 0x00000000#32) reducesTo_S2x4x4x256x256_S2x4x4x256_d4 h_S_))) (shapeCast S2x4x4x256 (Host.dynamicSlice S1x2x4x4x256 (V0 (Proc.devRef .tc main_v115_8)) (fun k => (((![V0 (Proc.devRef .tc main_v115_10), constantI S_ 32 0#32, constantI S_ 32 0#32, constantI S_ 32 0#32, constantI S_ 32 0#32] : Fin 5 → (⟨S_, .i32⟩ : BufTy).Contents (Elt F))) k (Shape.Idx.first h_S_)).toInt) sliceFits_S16x2x4x4x256_S1x2x4x4x256) shapeCasts_S1x2x4x4x256_S2x4x4x256)))))) (fun k => (((![V0 (Proc.devRef .tc main_v115_10), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S16x2x4x4x256x256_S1x2x4x4x256x256 : (Proc.devRef .tc main_while0b_v190 : DevRef τ sig).ty.Contents (Elt F)) = Cert.ReferenceIdeal.Step.b104 j s := by
  unfold Cert.ReferenceIdeal.Step.b104
  rw [← al_98 h, ← al_99 h, ← al_100 h, ← al_101 h, ← al_102 h, ← al_103 h, h.f_13, h.n_10]
  try rfl

/-! One trip's step of the carried values is `step`, field by field; a counter steps to the next number. -/

theorem step_11 (h : Holds V0 s j) : step_main_v115_11 V0 = (step j s).main_v115_11 := by
  unfold step_main_v115_11 Cert.ReferenceIdeal.Step.step
  show id (addf (mulf (broadcastInDim S2x4x4x256x256 ![0, 1, 2, 3, 4] bcast_S2x4x4x1x1_S2x4x4x256x256_0_1_2_3_4 (broadcastInDim S2x4x4x1x1 ![0, 1, 2] bcast_S2x4x4_S2x4x4x1x1_0_1_2 (res_main_while0b_v149 V0))) (V0 (Proc.devRef .tc main_v115_11))) (Host.dotGeneral dot_S2x4x4x256x256_S2x4x4x256x256_S2x4x4x256x256_3_3_4_4_012_012 none (res_main_while0b_v179 V0) (res_main_while0b_v147 V0))) = _
  rw [al_91 h]
  try rfl
theorem step_12 (h : Holds V0 s j) : step_main_v115_12 V0 = (step j s).main_v115_12 := by
  unfold step_main_v115_12 Cert.ReferenceIdeal.Step.step
  show id (addf (mulf (broadcastInDim S2x4x4x256 ![0, 1, 2, 3] bcast_S2x4x4x1_S2x4x4x256_0_1_2_3 (broadcastInDim S2x4x4x1 ![0, 1, 2] bcast_S2x4x4_S2x4x4x1_0_1_2 (res_main_while0b_v149 V0))) (V0 (Proc.devRef .tc main_v115_12))) (Host.reduceAdd (res_main_while0b_v179 V0) (constant S_ .f32 0x00000000#32) reducesTo_S2x4x4x256x256_S2x4x4x256_d3 h_S_)) = _
  rw [al_97 h]
  try rfl
theorem step_13 (h : Holds V0 s j) : step_main_v115_13 V0 = (step j s).main_v115_13 := by
  unfold step_main_v115_13 Cert.ReferenceIdeal.Step.step
  exact al_104 h
theorem step_10 (h : Holds V0 s j) : step_main_v115_10 V0 = constantI S_ 32 (BitVec.ofNat 32 (j + 1)) := by
  unfold step_main_v115_10
  rw [h.n_10]
  funext i
  show BitVec.ofNat 32 j + 1#32 = BitVec.ofNat 32 (j + 1)
  simp only [BitVec.ofNat_add]

set_option maxRecDepth 8192 in
theorem out_main_v142_holds (h : Holds V0 s j) {x_main_arg2 : (⟨S4x4096x3072, .bf16⟩ : BufTy).Contents (Elt F)} (h_main_arg2 : V0 (Proc.devRef .tc main_arg2) = x_main_arg2) {x_main_arg8 : (⟨S1x1024, .f32⟩ : BufTy).Contents (Elt F)} (h_main_arg8 : V0 (Proc.devRef .tc main_arg8) = x_main_arg8) : out_main_v142 V0 = Cert.ReferenceIdeal.Step.R_main_v142 s x_main_arg2 x_main_arg8 := by
  unfold out_main_v142 Cert.ReferenceIdeal.Step.R_main_v142
  rw [h.f_13, h_main_arg2, h_main_arg8]
  try rfl

set_option maxRecDepth 8192 in
theorem out_main_v143_holds (h : Holds V0 s j) {x_main_arg9 : (⟨S2048x8192, .f32⟩ : BufTy).Contents (Elt F)} (h_main_arg9 : V0 (Proc.devRef .tc main_arg9) = x_main_arg9) : out_main_v143 V0 = Cert.ReferenceIdeal.Step.R_main_v143 s x_main_arg9 := by
  unfold out_main_v143 Cert.ReferenceIdeal.Step.R_main_v143
  rw [h_main_arg9]
  try rfl

set_option maxRecDepth 8192 in
theorem out_main_v144_holds (h : Holds V0 s j) {x_main_arg10 : (⟨S2048x2048, .f32⟩ : BufTy).Contents (Elt F)} (h_main_arg10 : V0 (Proc.devRef .tc main_arg10) = x_main_arg10) : out_main_v144 V0 = Cert.ReferenceIdeal.Step.R_main_v144 s x_main_arg10 := by
  unfold out_main_v144 Cert.ReferenceIdeal.Step.R_main_v144
  rw [h_main_arg10]
  try rfl

/-- One trip keeps the valuation holding: `step` of the state, the same set-up values, the next number. -/
theorem holds_step (h : Holds V0 s j) : Holds (STEP V0) (step j s) (j + 1) where
  f_11 := (STEP_main_v115_11 V0).trans (step_11 h)
  f_12 := (STEP_main_v115_12 V0).trans (step_12 h)
  f_13 := (STEP_main_v115_13 V0).trans (step_13 h)
  n_10 := (STEP_main_v115_10 V0).trans (step_10 h)
  k_9 := (STEP_main_v115_9 V0).trans h.k_9
  f_0 := (STEP_main_v115_0 V0).trans h.f_0
  f_1 := (STEP_main_v115_1 V0).trans h.f_1
  f_2 := (STEP_main_v115_2 V0).trans h.f_2
  f_3 := (STEP_main_v115_3 V0).trans h.f_3
  f_4 := (STEP_main_v115_4 V0).trans h.f_4
  f_5 := (STEP_main_v115_5 V0).trans h.f_5
  f_6 := (STEP_main_v115_6 V0).trans h.f_6
  f_7 := (STEP_main_v115_7 V0).trans h.f_7
  f_8 := (STEP_main_v115_8 V0).trans h.f_8

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 1100000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v142) = Cert.ReferenceIdeal.Step.R_main_v142 (it c 16) (m ((c.tc : Thread nD τ).loc main_arg2)) (m ((c.tc : Thread nD τ).loc main_arg8))
      ∧ r.2.mem ((c.tc : Thread nD τ).loc main_v143) = Cert.ReferenceIdeal.Step.R_main_v143 (it c 16) (m ((c.tc : Thread nD τ).loc main_arg9))
      ∧ r.2.mem ((c.tc : Thread nD τ).loc main_v144) = Cert.ReferenceIdeal.Step.R_main_v144 (it c 16) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 16
    ⟨(h c).1.trans (out_main_v142_holds hk (iter_main_arg2 m c 16) (iter_main_arg8 m c 16)), (h c).2.1.trans (out_main_v143_holds hk (iter_main_arg9 m c 16)), (h c).2.2.1.trans (out_main_v144_holds hk (iter_main_arg10 m c 16)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.LoopRun

end
-- ==== Proof.Spec.lean ====
/- One head of the mLSTM in one direction, as mathematics over the extended reals: a recurrence over
   sixteen chunks of 256 time steps. -/
module

public import Idealize.ShloMosaic.Lib.Pointwise

@[expose] public section

noncomputable section

namespace Cert.Mlstm

open Idealize.ShloMosaic

/-- The arrays both programs take, as functions of their coordinates: queries, keys (transposed within
    a chunk), the projections that hold the values and output gates, the context's keys and values, the
    gate rows and columns, the context's weights and the heads' gains. -/
structure Args where
  q : Fin 4 → Fin 4 → Fin 4096 → Fin 256 → EReal
  kt : Fin 4 → Fin 16 → Fin 1024 → Fin 256 → EReal
  p : Fin 4 → Fin 4096 → Fin 3072 → EReal
  kct : Fin 4 → Fin 1 → Fin 1024 → Fin 256 → EReal
  vc : Fin 4 → Fin 256 → Fin 1024 → EReal
  rows : Fin 4 → Fin 4 → Fin 16 → Fin 8 → Fin 256 → EReal
  cols : Fin 4 → Fin 4 → Fin 4096 → Fin 128 → EReal
  crows : Fin 4 → Fin 4 → Fin 8 → Fin 256 → EReal
  gain : Fin 1 → Fin 1024 → EReal

/-- Step `t` of chunk `c`. -/
def pos (c : Fin 16) (t : Fin 256) : Fin 4096 := ⟨(c : ℕ) * 256 + t, by omega⟩
/-- Feature `d` of head `h`. -/
def feat (h : Fin 4) (d : Fin 256) : Fin 1024 := ⟨(h : ℕ) * 256 + d, by omega⟩
/-- The chunk that step `n` of direction `z` is at: the backward direction takes them in reverse. -/
def chunk (z : Fin 2) (n : ℕ) : Fin 16 :=
  if (z : ℕ) < 1 then ⟨n % 16, by omega⟩ else ⟨15 - n % 16, by omega⟩

/-- What one direction of one head reads at each step. -/
structure Thread where
  q : ℕ → Fin 256 → Fin 256 → EReal
  k : ℕ → Fin 256 → Fin 256 → EReal
  v : ℕ → Fin 256 → Fin 256 → EReal
  w : ℕ → Fin 256 → EReal
  dec : ℕ → EReal
  g : ℕ → Fin 256 → EReal
  m : ℕ → Fin 256 → EReal
  a : ℕ → Fin 256 → EReal
  e : ℕ → Fin 256 → EReal
  kc : Fin 256 → Fin 256 → EReal
  vc : Fin 256 → Fin 256 → EReal
  wc : Fin 256 → EReal
  seen : Fin 256 → Fin 256 → BitVec 1

namespace Thread
variable (T : Thread)

/-- The matrix state before step `n`. -/
def C : ℕ → Fin 256 → Fin 256 → EReal
  | 0 => fun d e => ∑ s, T.kc s d * T.wc s * T.vc s e
  | n + 1 => fun d e => T.dec n * C n d e + ∑ s, T.k n s d * T.g n s * T.v n s e

/-- The normaliser before step `n`. -/
def N : ℕ → Fin 256 → EReal
  | 0 => fun d => ∑ s, T.kc s d * T.wc s
  | n + 1 => fun d => T.dec n * N n d + ∑ s, T.k n s d * T.g n s

/-- The weight of step `s` of the chunk in row `t`. -/
def wt (n : ℕ) (t s : Fin 256) : EReal :=
  (∑ d, T.q n t d * T.k n s d) * Ideal.exp (if T.seen t s = 1#1 then T.w n s - T.m n t else ⊥)

/-- The numerator. -/
def num (n : ℕ) (t e : Fin 256) : EReal :=
  ∑ d, T.q n t d * T.a n t * T.C n d e + ∑ s, T.wt n t s * T.v n s e

/-- The denominator. -/
def den (n : ℕ) (t : Fin 256) : EReal := ∑ d, T.q n t d * T.a n t * T.N n d + ∑ s, T.wt n t s

/-- The direction's rows. -/
def out (n : ℕ) (t e : Fin 256) : EReal :=
  Ideal.div (T.num n t e) (max (max (T.den n t) (-T.den n t)) (T.e n t))

end Thread

/-- Direction `z` of head `h` of batch member `b`. -/
def thread (A : Args) (z : Fin 2) (b h : Fin 4) : Thread where
  q n t d := A.q b h (pos (chunk z n) t) d
  k n s d := A.kt b (chunk z n) (feat h d) s
  v n s e := A.p b (pos (chunk z n) s) ⟨1024 + feat h e, by omega⟩
  w n s := A.rows b h (chunk z n) ⟨z, by omega⟩ s
  dec n := A.rows b h (chunk z n) ⟨2 + z, by omega⟩ 0
  g n s := A.rows b h (chunk z n) ⟨4 + z, by omega⟩ s
  m n t := A.cols b h (pos (chunk z n) t) ⟨3 * z, by omega⟩
  a n t := A.cols b h (pos (chunk z n) t) ⟨3 * z + 1, by omega⟩
  e n t := A.cols b h (pos (chunk z n) t) ⟨3 * z + 2, by omega⟩
  kc s d := A.kct b 0 (feat h d) s
  vc s e := A.vc b s (feat h e)
  wc s := A.crows b h ⟨z, by omega⟩ s
  seen t s := if (z : ℕ) < 1 then (if (s : ℕ) ≤ t then 1#1 else 0#1) else (if (t : ℕ) ≤ s then 1#1 else 0#1)

/-- What the gate preparation makes: one decay for all lanes of a chunk, and positive floors. -/
structure Good (A : Args) : Prop where
  dec : ∀ b h c (z : Fin 2) (l : Fin 128), A.rows b h c ⟨2 + z, by omega⟩ ⟨l, by omega⟩ = A.rows b h c ⟨2 + z, by omega⟩ 0
  floor : ∀ b h r (z : Fin 2), 0 < A.cols b h r ⟨3 * z + 2, by omega⟩

/-- Both directions' rows at step `t` of chunk `c`. -/
def both (A : Args) (b h : Fin 4) (c : Fin 16) (t e : Fin 256) : EReal :=
  (thread A 0 b h).out c t e + (thread A 1 b h).out (15 - c) t e

/-- The layer's result: both directions' rows normalised by their root mean square over the head,
    scaled by the head's gains and the output gate. -/
def result (A : Args) (b h : Fin 4) (c : Fin 16) (t e : Fin 256) : EReal :=
  both A b h c t e *
    Ideal.rsqrt (Ideal.div (∑ x, both A b h c t x * both A b h c t x) (Ideal.ofBits .f32 0x43800000#32) +
      Ideal.ofBits .f32 0x358637BD#32) * A.gain 0 (feat h e) * A.p b (pos c t) ⟨2048 + feat h e, by omega⟩

end Cert.Mlstm
-- ==== Proof.Setup.lean ====
/- What the reference's host code lays out before its loop, entry by entry: the arrays of both directions,
   stacked by chunk, the first states and the masks. -/
module

public import Idealize.ShloMosaic.Lib.Pointwise
public import Idealize.ShloMosaic.Lib.WordCmp
public import proofs.«01_k».proof.Proof.Gen.ReferenceIdeal.Step
public import proofs.«01_k».proof.Proof.Spec

@[expose] public section

noncomputable section

namespace Cert.ReferenceIdeal.Setup

open Idealize.ShloMosaic Cert.ReferenceIdeal Cert.ReferenceIdeal.Gen Cert.ReferenceIdeal.Step Cert.Mlstm

variable (a0 : FVec Ideal S4x4x4096x256 .bf16) (a1 : FVec Ideal S4x16x1024x256 .bf16) (a2 : FVec Ideal S4x4096x3072 .bf16)
  (a3 : FVec Ideal S4x1x1024x256 .bf16) (a4 : FVec Ideal S4x256x1024 .bf16) (a5 : FVec Ideal S4x4x16x8x256 .f32)
  (a6 : FVec Ideal S4x4x4096x128 .f32) (a7 : FVec Ideal S4x4x8x256 .f32) (a8 : FVec Ideal S1x1024 .f32)

/-- The argument arrays as functions of their coordinates. -/
def argsOf : Args where
  q b h r d := a0 (ix4 b h r d)
  kt b c f s := a1 (ix4 b c f s)
  p b r f := a2 (ix3 b r f)
  kct b c f s := a3 (ix4 b c f s)
  vc b s f := a4 (ix3 b s f)
  rows b h c r s := a5 (ix5 b h c r s)
  cols b h r j := a6 (ix4 b h r j)
  crows b h r s := a7 (ix4 b h r s)
  gain i f := a8 (ix2 i f)

/-- The forward direction takes the chunks in order. -/
theorem chunk_zero (n : Fin 16) : chunk 0 n = n := Fin.ext (by simp only [chunk]; simp)
/-- The backward direction takes the chunks in reverse. -/
theorem chunk_one (n : Fin 16) : chunk 1 n = n.rev := Fin.ext (by simp only [chunk, Fin.val_rev]; simp; omega)

/-- The queries. -/
theorem q_apply (n : Fin 16) (z : Fin 2) (b h : Fin 4) (t d : Fin 256) :
    (A_main_v29 (F := Ideal) a0 a1 a2 a3 a4 a5 a6 a7 (ix6 n z b h t d) : EReal) = a0 (ix4 b h (pos (chunk z n) t) d) := by
  pointwise [A_main_v29, A_main_v28, A_main_v27, A_main_v26, A_main_v25, A_main_v24, A_main_v1, A_main_v0]
  obtain rfl | rfl : z = 0 ∨ z = 1 := by omega
  · rw [chunk_zero]; rfl
  · rw [chunk_one]; rfl

/-- The keys. -/
theorem k_apply (n : Fin 16) (z : Fin 2) (b h : Fin 4) (s d : Fin 256) :
    (A_main_v35 (F := Ideal) a0 a1 a2 a3 a4 a5 a6 a7 (ix6 n z b h s d) : EReal) = a1 (ix4 b (chunk z n) (feat h d) s) := by
  pointwise [A_main_v35, A_main_v34, A_main_v33, A_main_v32, A_main_v31, A_main_v30, A_main_v4, A_main_v3, A_main_v2]
  obtain rfl | rfl : z = 0 ∨ z = 1 := by omega
  · rw [chunk_zero]; rfl
  · rw [chunk_one]; rfl

/-- The values. -/
theorem v_apply (n : Fin 16) (z : Fin 2) (b h : Fin 4) (s e : Fin 256) :
    (A_main_v41 (F := Ideal) a0 a1 a2 a3 a4 a5 a6 a7 (ix6 n z b h s e) : EReal) = a2 (ix3 b (pos (chunk z n) s) ⟨1024 + feat h e, by omega⟩) := by
  obtain rfl | rfl : z = 0 ∨ z = 1 := by omega
  · rw [chunk_zero]
    pointwise [A_main_v41, A_main_v40, A_main_v39, A_main_v38, A_main_v37, A_main_v36, A_main_v8, A_main_v7, A_main_v6, A_main_v5]
    rfl
  · rw [chunk_one]
    pointwise [A_main_v41, A_main_v40, A_main_v39, A_main_v38, A_main_v37, A_main_v36, A_main_v8, A_main_v7, A_main_v6, A_main_v5]
    rfl

/-- The log-weights. -/
theorem w_apply (n : Fin 16) (z : Fin 2) (b h : Fin 4) (s : Fin 256) :
    (A_main_v51 (F := Ideal) a0 a1 a2 a3 a4 a5 a6 a7 (ix5 n z b h s) : EReal) = a5 (ix5 b h (chunk z n) ⟨z, by omega⟩ s) := by
  pointwise [A_main_v51, A_main_v50, A_main_v49, A_main_v48, A_main_v47, A_main_v46, A_main_v45, A_main_v44, A_main_v43, A_main_v42, A_main_v23]
  obtain rfl | rfl : z = 0 ∨ z = 1 := by omega
  · rw [chunk_zero]; rfl
  · rw [chunk_one]; rfl

/-- The decays. -/
theorem dec_apply (n : Fin 16) (z : Fin 2) (b h : Fin 4) :
    (A_main_v63 (F := Ideal) a0 a1 a2 a3 a4 a5 a6 a7 (ix4 n z b h) : EReal) = a5 (ix5 b h (chunk z n) ⟨2 + z, by omega⟩ 0) := by
  pointwise [A_main_v63, A_main_v62, A_main_v61, A_main_v60, A_main_v59, A_main_v58, A_main_v57, A_main_v56, A_main_v55, A_main_v54, A_main_v53, A_main_v52, A_main_v23]
  obtain rfl | rfl : z = 0 ∨ z = 1 := by omega
  · rw [chunk_zero]; rfl
  · rw [chunk_one]; rfl

/-- The weights the keys enter the state with. -/
theorem g_apply (n : Fin 16) (z : Fin 2) (b h : Fin 4) (s : Fin 256) :
    (A_main_v73 (F := Ideal) a0 a1 a2 a3 a4 a5 a6 a7 (ix5 n z b h s) : EReal) = a5 (ix5 b h (chunk z n) ⟨4 + z, by omega⟩ s) := by
  pointwise [A_main_v73, A_main_v72, A_main_v71, A_main_v70, A_main_v69, A_main_v68, A_main_v67, A_main_v66, A_main_v65, A_main_v64, A_main_v23]
  obtain rfl | rfl : z = 0 ∨ z = 1 := by omega
  · rw [chunk_zero]; rfl
  · rw [chunk_one]; rfl

/-- The running maxima. -/
theorem m_apply (n : Fin 16) (z : Fin 2) (b h : Fin 4) (t : Fin 256) :
    (A_main_v83 (F := Ideal) a0 a1 a2 a3 a4 a5 a6 a7 (ix5 n z b h t) : EReal) = a6 (ix4 b h (pos (chunk z n) t) ⟨3 * z, by omega⟩) := by
  pointwise [A_main_v83, A_main_v82, A_main_v81, A_main_v80, A_main_v79, A_main_v78, A_main_v77, A_main_v76, A_main_v75, A_main_v74, A_main_v22]
  obtain rfl | rfl : z = 0 ∨ z = 1 := by omega
  · rw [chunk_zero]; rfl
  · rw [chunk_one]; rfl

/-- The weights of the state. -/
theorem a_apply (n : Fin 16) (z : Fin 2) (b h : Fin 4) (t : Fin 256) :
    (A_main_v93 (F := Ideal) a0 a1 a2 a3 a4 a5 a6 a7 (ix5 n z b h t) : EReal) = a6 (ix4 b h (pos (chunk z n) t) ⟨3 * z + 1, by omega⟩) := by
  pointwise [A_main_v93, A_main_v92, A_main_v91, A_main_v90, A_main_v89, A_main_v88, A_main_v87, A_main_v86, A_main_v85, A_main_v84, A_main_v22]
  obtain rfl | rfl : z = 0 ∨ z = 1 := by omega
  · rw [chunk_zero]; rfl
  · rw [chunk_one]; rfl

/-- The floors. -/
theorem e_apply (n : Fin 16) (z : Fin 2) (b h : Fin 4) (t : Fin 256) :
    (A_main_v103 (F := Ideal) a0 a1 a2 a3 a4 a5 a6 a7 (ix5 n z b h t) : EReal) = a6 (ix4 b h (pos (chunk z n) t) ⟨3 * z + 2, by omega⟩) := by
  pointwise [A_main_v103, A_main_v102, A_main_v101, A_main_v100, A_main_v99, A_main_v98, A_main_v97, A_main_v96, A_main_v95, A_main_v94, A_main_v22]
  obtain rfl | rfl : z = 0 ∨ z = 1 := by omega
  · rw [chunk_zero]; rfl
  · rw [chunk_one]; rfl

/-- The masks. -/
theorem seen_apply (z : Fin 2) (t s : Fin 256) :
    K_main_v21 (F := Ideal) (ix5 z 0 0 t s) = (if (z : ℕ) < 1 then (if (s : ℕ) ≤ t then 1#1 else 0#1) else (if (t : ℕ) ≤ s then 1#1 else 0#1)) := by
  pointwise [K_main_v21, K_main_v20, K_main_v19, K_main_v18, K_main_v17, K_main_v16, K_main_v15, K_main_c, K_main_call0_v5, K_main_call0_v4, K_main_call0_v3, K_main_call0_v2, K_main_call0_v1, K_main_call0_v0, K_main_call0_c, K_main_call0_c_0]
  have e : ∀ x : BitVec 32, IntOp.addi x 0#32 = x := fun x => BitVec.add_zero x
  rw [e, e, WordCmp.cmpi_sge_ofNat (by omega) (by omega), WordCmp.cmpi_sge_ofNat (by omega) (by omega)]
  by_cases hz : (z : ℕ) < 1
  · rw [dif_pos hz, if_pos hz]
    by_cases hs : (s : ℕ) ≤ t <;> simp [hs, Scalar.select]
  · rw [dif_neg hz, if_neg hz]
    by_cases hs : (t : ℕ) ≤ s <;> simp [hs, Scalar.select]

/-- The first normaliser. -/
theorem N0_apply (z : Fin 2) (b h : Fin 4) (d : Fin 256) :
    (A_main_v113 (F := Ideal) a0 a1 a2 a3 a4 a5 a6 a7 (ix4 z b h d) : EReal) = ∑ s : Fin 256, a3 (ix4 b 0 (feat h d) s) * a7 (ix4 b h ⟨z, by omega⟩ s) := by
  pointwise [A_main_v113, A_main_v110, A_main_v109, A_main_v108, A_main_v107, A_main_v106, A_main_v105, A_main_v104, A_main_v11, A_main_v10, A_main_v9, K_main_cst]
  rfl

/-- The first matrix state. -/
theorem C0_apply (z : Fin 2) (b h : Fin 4) (d e : Fin 256) :
    (A_main_v112 (F := Ideal) a0 a1 a2 a3 a4 a5 a6 a7 (ix5 z b h d e) : EReal) = ∑ s : Fin 256, a3 (ix4 b 0 (feat h d) s) * a7 (ix4 b h ⟨z, by omega⟩ s) * a4 (ix3 b s (feat h e)) := by
  pointwise [A_main_v112, A_main_v111, A_main_v110, A_main_v109, A_main_v108, A_main_v107, A_main_v106, A_main_v105, A_main_v104, A_main_v11, A_main_v10, A_main_v9, A_main_v14, A_main_v13, A_main_v12]
  exact Finset.sum_congr rfl fun x _ => mul_comm _ _

end Cert.ReferenceIdeal.Setup

end
-- ==== Proof.Recur.lean ====
/- One trip of the reference's loop, entry by entry, and the sixteen trips by induction: the states are the
   recurrence's, and the rows written are the directions' outputs. -/
module

public import Idealize.ShloMosaic.Lib.Pointwise
public import Idealize.ShloMosaic.Lib.WordCmp
public import Idealize.ShloMosaic.Lib.DynamicIndex
public import proofs.«01_k».proof.Proof.Gen.ReferenceIdeal.Step
public import proofs.«01_k».proof.Proof.Setup

@[expose] public section

noncomputable section

namespace Cert.ReferenceIdeal.Recur

open Idealize.ShloMosaic Cert.ReferenceIdeal Cert.ReferenceIdeal.Gen Cert.ReferenceIdeal.Step Cert.Mlstm

variable (n : Fin 16) (s : State Ideal) (z : Fin 2) (b h : Fin 4)

/-- A trip's number as a word reads back as itself. -/
theorem toInt_trip : (BitVec.ofNat 32 (n : ℕ)).toInt = (n : ℕ) := WordCmp.toInt_ofNat_of_lt (by omega)

/-- The block a stack of rank 6 holds at the trip's number. -/
theorem slice6 (x : FVec Ideal S16x2x4x4x256x256 .f32) (hin : S16x2x4x4x256x256.Slices (fun _ => 0) S1x2x4x4x256x256) (hc : S1x2x4x4x256x256.ShapeCasts S2x4x4x256x256) (t d : Fin 256) :
    (shapeCast S2x4x4x256x256 (Host.dynamicSlice S1x2x4x4x256x256 x (fun k => ((![constantI S_ 32 (BitVec.ofNat 32 n), constantI S_ 32 0#32, constantI S_ 32 0#32, constantI S_ 32 0#32, constantI S_ 32 0#32, constantI S_ 32 0#32] : Fin 6 → IVec S_ 32) k (Shape.Idx.first h_S_)).toInt) hin) hc (ix5 z b h t d) : EReal) =
      x (ix6 n z b h t d) := by
  have hoff : S16x2x4x4x256x256.Slices (![(n : ℕ), 0, 0, 0, 0, 0] : Fin 6 → ℕ) S1x2x4x4x256x256 :=
    ⟨rfl, fun a => by fin_cases a <;> first | exact n.isLt | exact le_rfl⟩
  rw [Host.dynamicSlice_eq_extractStridedSlice _ _ _ _ _ hoff (fun a => by
    fin_cases a
    · exact toInt_trip n
    all_goals rfl)]
  pointwise []

/-- The block a stack of rank 5 holds at the trip's number. -/
theorem slice5 (x : FVec Ideal S16x2x4x4x256 .f32) (hin : S16x2x4x4x256.Slices (fun _ => 0) S1x2x4x4x256) (hc : S1x2x4x4x256.ShapeCasts S2x4x4x256) (t : Fin 256) :
    (shapeCast S2x4x4x256 (Host.dynamicSlice S1x2x4x4x256 x (fun k => ((![constantI S_ 32 (BitVec.ofNat 32 n), constantI S_ 32 0#32, constantI S_ 32 0#32, constantI S_ 32 0#32, constantI S_ 32 0#32] : Fin 5 → IVec S_ 32) k (Shape.Idx.first h_S_)).toInt) hin) hc (ix4 z b h t) : EReal) =
      x (ix5 n z b h t) := by
  have hoff : S16x2x4x4x256.Slices (![(n : ℕ), 0, 0, 0, 0] : Fin 5 → ℕ) S1x2x4x4x256 :=
    ⟨rfl, fun a => by fin_cases a <;> first | exact n.isLt | exact le_rfl⟩
  rw [Host.dynamicSlice_eq_extractStridedSlice _ _ _ _ _ hoff (fun a => by
    fin_cases a
    · exact toInt_trip n
    all_goals rfl)]
  pointwise []

/-- The block a stack of rank 4 holds at the trip's number. -/
theorem slice4 (x : FVec Ideal S16x2x4x4 .f32) (hin : S16x2x4x4.Slices (fun _ => 0) S1x2x4x4) (hc : S1x2x4x4.ShapeCasts S2x4x4) :
    (shapeCast S2x4x4 (Host.dynamicSlice S1x2x4x4 x (fun k => ((![constantI S_ 32 (BitVec.ofNat 32 n), constantI S_ 32 0#32, constantI S_ 32 0#32, constantI S_ 32 0#32] : Fin 4 → IVec S_ 32) k (Shape.Idx.first h_S_)).toInt) hin) hc (ix3 z b h) : EReal) =
      x (ix4 n z b h) := by
  have hoff : S16x2x4x4.Slices (![(n : ℕ), 0, 0, 0] : Fin 4 → ℕ) S1x2x4x4 :=
    ⟨rfl, fun a => by fin_cases a <;> first | exact n.isLt | exact le_rfl⟩
  rw [Host.dynamicSlice_eq_extractStridedSlice _ _ _ _ _ hoff (fun a => by
    fin_cases a
    · exact toInt_trip n
    all_goals rfl)]
  pointwise []

/-- The trip's queries. -/
theorem q_now (t d : Fin 256) : (b6 n s (ix5 z b h t d) : EReal) = s.main_v115_0 (ix6 n z b h t d) :=
  slice6 n z b h _ _ _ t d

/-- The trip's keys. -/
theorem k_now (t d : Fin 256) : (b13 n s (ix5 z b h t d) : EReal) = s.main_v115_1 (ix6 n z b h t d) :=
  slice6 n z b h _ _ _ t d

/-- The trip's values. -/
theorem v_now (t d : Fin 256) : (b20 n s (ix5 z b h t d) : EReal) = s.main_v115_2 (ix6 n z b h t d) :=
  slice6 n z b h _ _ _ t d

/-- The trip's log-weights. -/
theorem w_now (t : Fin 256) : (b26 n s (ix4 z b h t) : EReal) = s.main_v115_3 (ix5 n z b h t) :=
  slice5 n z b h _ _ _ t

/-- The trip's decay. -/
theorem dec_now : (b31 n s (ix3 z b h) : EReal) = s.main_v115_4 (ix4 n z b h) :=
  slice4 n z b h _ _ _

/-- The weights the trip's keys enter the state with. -/
theorem g_now (t : Fin 256) : (b37 n s (ix4 z b h t) : EReal) = s.main_v115_5 (ix5 n z b h t) :=
  slice5 n z b h _ _ _ t

/-- The trip's running maxima. -/
theorem m_now (t : Fin 256) : (b43 n s (ix4 z b h t) : EReal) = s.main_v115_6 (ix5 n z b h t) :=
  slice5 n z b h _ _ _ t

/-- The trip's weights of the state. -/
theorem a_now (t : Fin 256) : (b49 n s (ix4 z b h t) : EReal) = s.main_v115_7 (ix5 n z b h t) :=
  slice5 n z b h _ _ _ t

/-- The trip's floors. -/
theorem e_now (t : Fin 256) : (b55 n s (ix4 z b h t) : EReal) = s.main_v115_8 (ix5 n z b h t) :=
  slice5 n z b h _ _ _ t

/-- The trip writes its rows at its own number and leaves the others. -/
theorem hs_next (j : Fin 16) (t e : Fin 256) :
    (b104 n s (ix6 j z b h t e) : EReal) = if j = n then b83 n s (ix5 z b h t e) else s.main_v115_13 (ix6 j z b h t e) := by
  have hoff : S16x2x4x4x256x256.Slices (![(n : ℕ), 0, 0, 0, 0, 0] : Fin 6 → ℕ) S1x2x4x4x256x256 :=
    ⟨rfl, fun a => by fin_cases a <;> first | exact n.isLt | exact le_rfl⟩
  have hs : ∀ a : Fin 6, ((![(constantI S_ 32 (BitVec.ofNat 32 n)), b99 n s, b100 n s, b101 n s, b102 n s, b103 n s] : Fin 6 → (⟨S_, .i32⟩ : BufTy).Contents (Elt Ideal)) a (Shape.Idx.first h_S_)).toInt =
      ((![(n : ℕ), 0, 0, 0, 0, 0] : Fin 6 → ℕ) a : ℤ) := by
    intro a
    fin_cases a
    · exact toInt_trip n
    all_goals rfl
  unfold b104
  rw [WordCmp.dynamicUpdateSlice_eq_update _ _ _ _ _ hoff hs]
  pointwise [b98]
  by_cases hj : j = n
  · rw [dif_pos (by omega), if_pos hj]
  · rw [dif_neg (by omega), if_neg hj]

/-- The word that masks a future step is −∞. -/
theorem mask_word : Ideal.ofBits .f32 0xFF800000#32 = ⊥ := by
  decide +kernel

/-- What the reference's state holds before trip `i`: the recurrence's states, the rows of the trips done and the
    stacks as they were laid out. -/
structure Inv (A : Args) (i : ℕ) (s : State Ideal) : Prop where
  C : ∀ z b h d e, (s.main_v115_11 (ix5 z b h d e) : EReal) = (thread A z b h).C i d e
  N : ∀ z b h d, (s.main_v115_12 (ix4 z b h d) : EReal) = (thread A z b h).N i d
  hs : ∀ (j : Fin 16) z b h t e, (j : ℕ) < i → (s.main_v115_13 (ix6 j z b h t e) : EReal) = (thread A z b h).out j t e
  q : ∀ (n : Fin 16) z b h t d, (s.main_v115_0 (ix6 n z b h t d) : EReal) = (thread A z b h).q n t d
  k : ∀ (n : Fin 16) z b h t d, (s.main_v115_1 (ix6 n z b h t d) : EReal) = (thread A z b h).k n t d
  v : ∀ (n : Fin 16) z b h t d, (s.main_v115_2 (ix6 n z b h t d) : EReal) = (thread A z b h).v n t d
  w : ∀ (n : Fin 16) z b h t, (s.main_v115_3 (ix5 n z b h t) : EReal) = (thread A z b h).w n t
  dec : ∀ (n : Fin 16) z b h, (s.main_v115_4 (ix4 n z b h) : EReal) = (thread A z b h).dec n
  g : ∀ (n : Fin 16) z b h t, (s.main_v115_5 (ix5 n z b h t) : EReal) = (thread A z b h).g n t
  m : ∀ (n : Fin 16) z b h t, (s.main_v115_6 (ix5 n z b h t) : EReal) = (thread A z b h).m n t
  a : ∀ (n : Fin 16) z b h t, (s.main_v115_7 (ix5 n z b h t) : EReal) = (thread A z b h).a n t
  e : ∀ (n : Fin 16) z b h t, (s.main_v115_8 (ix5 n z b h t) : EReal) = (thread A z b h).e n t

section
variable {n s} {A : Args} (H : Inv A n s)
include H

/-- The trip's weights. -/
theorem wt_apply (t x : Fin 256) : (b68 n s (ix5 z b h t x) : EReal) = (thread A z b h).wt n t x := by
  pointwise [b68, b67, b66, b65, b64, b63, b62, b61, b60, b59, b58, b57, b56]
  rw [Setup.seen_apply, w_now, m_now, H.w, H.m, mask_word]
  simp only [q_now, k_now, H.q, H.k]
  rfl

/-- The trip's rows. -/
theorem out_apply (t x : Fin 256) : (b83 n s (ix5 z b h t x) : EReal) = (thread A z b h).out n t x := by
  pointwise [b83, b82, b81, b80, b79, b78, b77, b76, b75, b74, b73, b72, b71, b70, b69]
  simp only [wt_apply z b h H, q_now, a_now, v_now, e_now, H.q, H.a, H.v, H.e, H.C, H.N]
  rfl

/-- The trip's next matrix state. -/
theorem C_next (d x : Fin 256) : (b91 n s (ix5 z b h d x) : EReal) = (thread A z b h).C (n + 1) d x := by
  pointwise [b91, b90, b89, b88, b87, b86, b85, b84]
  simp only [k_now, g_now, v_now, dec_now, H.k, H.g, H.v, H.dec, H.C]
  rfl

/-- The trip's next normaliser. -/
theorem N_next (d : Fin 256) : (b97 n s (ix4 z b h d) : EReal) = (thread A z b h).N (n + 1) d := by
  pointwise [b97, b96, b95, b94, b93, b92, b86, b85, b84]
  simp only [k_now, g_now, dec_now, H.k, H.g, H.dec, H.N]
  rfl

/-- One trip keeps the invariant. -/
theorem inv_step : Inv A (n + 1) (step n s) where
  C z b h d e := C_next z b h H d e
  N z b h d := N_next z b h H d
  hs j z b h t e hj := by
    refine (hs_next n s z b h j t e).trans ?_
    by_cases hjn : j = n
    · rw [if_pos hjn, hjn]; exact out_apply z b h H t e
    · rw [if_neg hjn]; exact H.hs j z b h t e (by omega)
  q := H.q
  k := H.k
  v := H.v
  w := H.w
  dec := H.dec
  g := H.g
  m := H.m
  a := H.a
  e := H.e

end

section
variable (a0 : FVec Ideal S4x4x4096x256 .bf16) (a1 : FVec Ideal S4x16x1024x256 .bf16) (a2 : FVec Ideal S4x4096x3072 .bf16)
  (a3 : FVec Ideal S4x1x1024x256 .bf16) (a4 : FVec Ideal S4x256x1024 .bf16) (a5 : FVec Ideal S4x4x16x8x256 .f32)
  (a6 : FVec Ideal S4x4x4096x128 .f32) (a7 : FVec Ideal S4x4x8x256 .f32) (a8 : FVec Ideal S1x1024 .f32)

/-- The loop's first state holds it. -/
theorem inv_init : Inv (Setup.argsOf a0 a1 a2 a3 a4 a5 a6 a7 a8) 0 (init a0 a1 a2 a3 a4 a5 a6 a7) where
  C z b h d e := Setup.C0_apply a0 a1 a2 a3 a4 a5 a6 a7 z b h d e
  N z b h d := Setup.N0_apply a0 a1 a2 a3 a4 a5 a6 a7 z b h d
  hs j _ _ _ _ _ hj := absurd hj (by omega)
  q n z b h t d := Setup.q_apply a0 a1 a2 a3 a4 a5 a6 a7 n z b h t d
  k n z b h t d := Setup.k_apply a0 a1 a2 a3 a4 a5 a6 a7 n z b h t d
  v n z b h t d := Setup.v_apply a0 a1 a2 a3 a4 a5 a6 a7 n z b h t d
  w n z b h t := Setup.w_apply a0 a1 a2 a3 a4 a5 a6 a7 n z b h t
  dec n z b h := Setup.dec_apply a0 a1 a2 a3 a4 a5 a6 a7 n z b h
  g n z b h t := Setup.g_apply a0 a1 a2 a3 a4 a5 a6 a7 n z b h t
  m n z b h t := Setup.m_apply a0 a1 a2 a3 a4 a5 a6 a7 n z b h t
  a n z b h t := Setup.a_apply a0 a1 a2 a3 a4 a5 a6 a7 n z b h t
  e n z b h t := Setup.e_apply a0 a1 a2 a3 a4 a5 a6 a7 n z b h t

/-- The states of the loop. -/
def states : ℕ → State Ideal
  | 0 => init a0 a1 a2 a3 a4 a5 a6 a7
  | n + 1 => step n (states n)

/-- Every state the loop goes through holds it. -/
theorem inv_states : ∀ n ≤ 16, Inv (Setup.argsOf a0 a1 a2 a3 a4 a5 a6 a7 a8) n (states a0 a1 a2 a3 a4 a5 a6 a7 n)
  | 0, _ => inv_init a0 a1 a2 a3 a4 a5 a6 a7 a8
  | n + 1, hn => inv_step (n := ⟨n, by omega⟩) (inv_states n (by omega))

end

end Cert.ReferenceIdeal.Recur

end
-- ==== Proof.Finish.lean ====
/- What the reference does after its loop, entry by entry: both directions' rows added, normalised over the head,
   scaled by the gains and the output gate. -/
module

public import proofs.«01_k».proof.Proof.Recur

@[expose] public section

noncomputable section

namespace Cert.ReferenceIdeal.Finish

open Idealize.ShloMosaic Cert.ReferenceIdeal Cert.ReferenceIdeal.Gen Cert.ReferenceIdeal.Step Cert.Mlstm

/-- Both directions' rows, the backward ones put back in order. -/
def sumOf (hs : FVec Ideal S16x2x4x4x256x256 .f32) : FVec Ideal S16x4x4x256x256 .f32 :=
  addf (shapeCast _ (extractStridedSlice S16x1x4x4x256x256 ![0, 0, 0, 0, 0, 0] hs slices_S16x2x4x4x256x256_S16x1x4x4x256x256_0_0_0_0_0_0) shapeCasts_S16x1x4x4x256x256_S16x4x4x256x256)
    (Host.reverse [0] (shapeCast _ (extractStridedSlice S16x1x4x4x256x256 ![0, 1, 0, 0, 0, 0] hs slices_S16x2x4x4x256x256_S16x1x4x4x256x256_0_1_0_0_0_0) shapeCasts_S16x1x4x4x256x256_S16x4x4x256x256))

/-- The rows by time step. -/
def rowsOf (y : FVec Ideal S16x4x4x256x256 .f32) : FVec Ideal S4x4096x4x256 .f32 :=
  shapeCast _ (transpose S4x16x256x4x256 [1, 0, 3, 2, 4] y transposes_S16x4x4x256x256_S4x16x256x4x256_1_0_3_2_4) shapeCasts_S4x16x256x4x256_S4x4096x4x256

/-- The rows normalised over the head and scaled by the gains. -/
def normOf (r : FVec Ideal S4x4096x4x256 .f32) (g : FVec Ideal S1x1024 .f32) : FVec Ideal S4x4096x4x256 .f32 :=
  mulf (mulf r (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf r r) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32))))))
    (broadcastInDim S4x4096x4x256 ![0, 1, 2, 3] bcast_S1x1x4x256_S4x4096x4x256_0_1_2_3 (broadcastInDim S1x1x4x256 ![2, 3] bcast_S4x256_S1x1x4x256_2_3 (shapeCast _ g shapeCasts_S1x1024_S4x256)))

/-- The heads side by side, times the output gate. -/
def gateOf (r : FVec Ideal S4x4096x4x256 .f32) (p : FVec Ideal S4x4096x3072 .bf16) : FVec Ideal S4x4096x1024 .bf16 :=
  truncf .bf16 (mulf (shapeCast _ r shapeCasts_S4x4096x4x256_S4x4096x1024) (extf .f32 (extractStridedSlice S4x4096x1024 ![0, 0, 2048] p slices_S4x4096x3072_S4x4096x1024_0_0_2048) bitsLt_bf16_f32)) bitsLt_bf16_f32

theorem result_eq (s : State Ideal) (p : FVec Ideal S4x4096x3072 .bf16) (g : FVec Ideal S1x1024 .f32) :
    R_main_v142 s p g = gateOf (normOf (rowsOf (sumOf s.main_v115_13)) g) p := by
  unfold R_main_v142 gateOf normOf rowsOf sumOf
  rfl

theorem sumOf_apply (hs : FVec Ideal S16x2x4x4x256x256 .f32) (c : Fin 16) (b h : Fin 4) (t e : Fin 256) :
    (sumOf hs (ix5 c b h t e) : EReal) = hs (ix6 c 0 b h t e) + hs (ix6 c.rev 1 b h t e) := by
  pointwise [sumOf]
  rfl

theorem rowsOf_apply (y : FVec Ideal S16x4x4x256x256 .f32) (c : Fin 16) (b h : Fin 4) (t e : Fin 256) :
    (rowsOf y (ix4 b (pos c t) h e) : EReal) = y (ix5 c b h t e) := by
  unfold rowsOf pos
  pointwise []

theorem normOf_apply (r : FVec Ideal S4x4096x4x256 .f32) (g : FVec Ideal S1x1024 .f32) (b h : Fin 4) (t : Fin 4096) (e : Fin 256) :
    (normOf r g (ix4 b t h e) : EReal) = r (ix4 b t h e) *
      Ideal.rsqrt (Ideal.div (∑ x : Fin 256, (r (ix4 b t h x) * r (ix4 b t h x) : EReal)) (Ideal.ofBits .f32 0x43800000#32) +
        Ideal.ofBits .f32 0x358637BD#32) * g (ix2 0 (feat h e)) := by
  pointwise [normOf]
  rfl

theorem gateOf_apply (r : FVec Ideal S4x4096x4x256 .f32) (p : FVec Ideal S4x4096x3072 .bf16) (b h : Fin 4) (t : Fin 4096) (e : Fin 256) :
    (gateOf r p (ix3 b t (feat h e)) : EReal) = r (ix4 b t h e) * p (ix3 b t ⟨2048 + feat h e, by omega⟩) := by
  unfold feat
  pointwise [gateOf]

/-- The reference's first result, entry by entry. -/
theorem result_apply {A : Args} {s : State Ideal} (H : Recur.Inv A 16 s) (p : FVec Ideal S4x4096x3072 .bf16) (g : FVec Ideal S1x1024 .f32)
    (hp : ∀ b r f, p (ix3 b r f) = A.p b r f) (hg : ∀ f, g (ix2 0 f) = A.gain 0 f)
    (b : Fin 4) (c : Fin 16) (t : Fin 256) (h : Fin 4) (e : Fin 256) :
    (R_main_v142 s p g (ix3 b (pos c t) (feat h e)) : EReal) = result A b h c t e := by
  have hb : ∀ y : Fin 256, (rowsOf (sumOf s.main_v115_13) (ix4 b (pos c t) h y) : EReal) = both A b h c t y := by
    intro y
    rw [rowsOf_apply, sumOf_apply, H.hs c 0 b h t y c.isLt, H.hs c.rev 1 b h t y c.rev.isLt]
    have hc : (c.rev : ℕ) = 15 - c := by rw [Fin.val_rev]; omega
    rw [hc]
    rfl
  rw [result_eq, gateOf_apply, normOf_apply, hp, hg]
  simp only [hb]
  rfl

end Cert.ReferenceIdeal.Finish

end
-- ==== Proof.Chunk.lean ====
/- What the mLSTM kernel does with one chunk of 256 time steps in one direction: the state it
   carries on, the output rows it makes, and the normalisation that ends a chunk. -/
module

public import proofs.«01_k».proof.Proof.Gen.KernelIdeal.Skeleton

@[expose] public section

set_option maxRecDepth 16384

noncomputable section

namespace Cert.KernelIdeal.Chunk

open Idealize.ShloMosaic Idealize.ShloMosaic.TcCoe Cert.KernelIdeal Cert.KernelIdeal.Gen

variable {F : FTy → Type} [FloatOps F] [Named F]

/-- The values of a chunk with 128 columns of ones beside them: those columns make a product with
    the values also sum the weights. -/
def ext (v : Vec F S1x256x256 .bf16) : FVec F S256x384 .bf16 :=
  concatenate S256x384 1
    [⟨S256x256, shapeCast S256x256 v shapeCasts_S1x256x256_S256x256⟩,
     ⟨S256x128, broadcast S256x128 (Scalar.ofBits .bf16 0x3F80#16 : F .bf16)⟩]
    concatenates_S256x256_S256x128_S256x384_d1

/-- The weighted keys against the extended values. -/
def upd (k : FVec F S256x256 .bf16) (w : FVec F S1x256 .f32) (v : FVec F S256x384 .bf16) :
    FVec F S256x384 .f32 :=
  matmul dot_S256x256_S256x384_S256x384_1_0_0_1_n_n none
    (mulf k (broadcastTo S256x256 (truncf .bf16 w bitsLt_bf16_f32) broadcasts_S1x256_S256x256)) v
    (constant S256x384 .f32 0x00000000#32)

/-- The state a direction begins with, from the context's keys, values and weights. -/
def start (k : Vec F S1x1x256x256 .bf16) (w : Vec F S1x1x1x256 .f32) (v : Vec F S1x256x256 .bf16) :
    FVec F S256x384 .f32 :=
  shapeCast S256x384
    (upd (shapeCast S256x256 k shapeCasts_S1x1x256x256_S256x256)
      (shapeCast S1x256 w shapeCasts_S1x1x1x256_S1x256) (ext v))
    shapeCasts_S256x384_S256x384

/-- The state after a chunk: the one before it decayed, plus the chunk's weighted keys against its
    extended values. -/
def carry (k : FVec F S256x256 .bf16) (v : FVec F S256x384 .bf16) (dec : FVec F S1x128 .f32)
    (g : FVec F S1x256 .f32) (st : FVec F S256x384 .f32) : FVec F S256x384 .f32 :=
  shapeCast S256x384
    (addf
      (mulf st (broadcastTo S256x384
        (concatenate S1x384 1 [⟨S1x128, dec⟩, ⟨S1x128, dec⟩, ⟨S1x128, dec⟩]
          concatenates_S1x128_S1x128_S1x128_S1x384_d1) broadcasts_S1x384_S256x384))
      (upd k g v))
    shapeCasts_S256x384_S256x384

/-- The numerators (256 columns) and the denominators (128 equal columns) of a chunk's rows. -/
def sums (seen : IVec S256x256 1) (q k : FVec F S256x256 .bf16) (v : FVec F S256x384 .bf16)
    (mx a : FVec F S256x1 .f32) (w : FVec F S1x256 .f32) (st : FVec F S256x384 .f32) :
    FVec F S256x384 .f32 :=
  addf
    (matmul dot_S256x256_S256x384_S256x384_1_0_0_1_n_n none
      (truncf .bf16
        (mulf
          (matmul dot_S256x256_S256x256_S256x256_1_0_0_1_n_n none q k
            (constant S256x256 .f32 0x00000000#32))
          (exp (select seen
            (subf (broadcastTo S256x256 w broadcasts_S1x256_S256x256)
              (broadcastTo S256x256 mx broadcasts_S256x1_S256x256))
            (broadcast S256x256 (Named.named κ "mask" 0xF149F2CA#32 : F .f32)))))
        bitsLt_bf16_f32) v
      (constant S256x384 .f32 0x00000000#32))
    (matmul dot_S256x256_S256x384_S256x384_1_0_0_1_n_n none
      (mulf q (broadcastTo S256x256 (truncf .bf16 a bitsLt_bf16_f32) broadcasts_S256x1_S256x256))
      (truncf .bf16 st bitsLt_bf16_f32)
      (constant S256x384 .f32 0x00000000#32))

/-- A chunk's rows: numerator times the reciprocal of the bounded denominator. -/
def ratio (s : FVec F S256x384 .f32) (e : FVec F S256x1 .f32) : FVec F S256x256 .f32 :=
  let r : FVec F S256x128 .f32 :=
    divf (broadcast S256x128 (Scalar.ofBits .f32 0x3F800000#32 : F .f32))
      (maximumf (absf (extractStridedSlice S256x128 ![0, 256] s slices_S256x384_o0_256_S256x128))
        (broadcastTo S256x128 e broadcasts_S256x1_S256x128))
  mulf (extractStridedSlice S256x256 ![0, 0] s slices_S256x384_o0_0_S256x256)
    (concatenate S256x256 1 [⟨S256x128, r⟩, ⟨S256x128, r⟩] concatenates_S256x128_S256x128_S256x256_d1)

/-- The end of a chunk: rows normalised by their root mean square, scaled by the head's gains and
    by the output gate. -/
def close (h : FVec F S256x256 .f32) (gain : Vec F S1x256 .f32) (o : Vec F S1x256x256 .bf16) :
    FVec F S1x256x256 .bf16 :=
  shapeCast S1x256x256
    (truncf .bf16
      (mulf
        (mulf
          (mulf h (broadcastTo S256x256
            (rsqrt (addf
              (divf
                (shapeCast S256x1
                  (multiReduction .add [1] S256 (mulf h h) 0x00000000#32 reduces_S256x256_S256
                    (.inl rfl) rfl) shapeCasts_S256_S256x1)
                (broadcast S256x1 (Scalar.ofBits .f32 0x43800000#32 : F .f32)))
              (broadcast S256x1 (Scalar.ofBits .f32 0x358637BD#32 : F .f32))))
            broadcasts_S256x1_S256x256))
          (broadcastTo S256x256 gain broadcasts_S1x256_S256x256))
        (extf .f32 (shapeCast S256x256 o shapeCasts_S1x256x256_S256x256) bitsLt_bf16_f32))
      bitsLt_bf16_f32)
    shapeCasts_S256x256_S1x256x256

/-- What one head's program reads: its chunks' queries, keys (transposed), values, output gates,
    gate rows and gate columns, the context's keys, values and weights, and the head's gains. -/
structure Blocks (F : FTy → Type) where
  q : Fin 16 → Vec F S1x1x256x256 .bf16
  k : Fin 16 → Vec F S1x1x256x256 .bf16
  v : Fin 16 → Vec F S1x256x256 .bf16
  o : Fin 16 → Vec F S1x256x256 .bf16
  rows : Fin 16 → Vec F S1x1x1x8x256 .f32
  cols : Fin 16 → Vec F S1x1x256x128 .f32
  kc : Vec F S1x1x256x256 .bf16
  vc : Vec F S1x256x256 .bf16
  wf : Vec F S1x1x1x256 .f32
  wb : Vec F S1x1x1x256 .f32
  gain : Vec F S1x256 .f32

namespace Blocks
variable (X : Blocks F)

/-- The rows of a chunk's gate tables. -/
def row (c : Fin 16) : FVec F S8x256 .f32 := shapeCast S8x256 (X.rows c) shapeCasts_S1x1x1x8x256_S8x256
/-- The columns of a chunk's gate tables. -/
def col (c : Fin 16) : FVec F S256x128 .f32 := shapeCast S256x128 (X.cols c) shapeCasts_S1x1x256x128_S256x128

/-- The forward direction's state after chunk `c`. -/
def carryF (c : Fin 16) (st : FVec F S256x384 .f32) : FVec F S256x384 .f32 :=
  carry (shapeCast S256x256 (X.k c) shapeCasts_S1x1x256x256_S256x256) (ext (X.v c))
    (extractStridedSlice S1x128 ![2, 0] (X.row c) slices_S8x256_o2_0_S1x128)
    (extractStridedSlice S1x256 ![4, 0] (X.row c) slices_S8x256_o4_0_S1x256) st

/-- The backward direction's state after chunk `c`. -/
def carryB (c : Fin 16) (st : FVec F S256x384 .f32) : FVec F S256x384 .f32 :=
  carry (shapeCast S256x256 (X.k c) shapeCasts_S1x1x256x256_S256x256) (ext (X.v c))
    (extractStridedSlice S1x128 ![3, 0] (X.row c) slices_S8x256_o3_0_S1x128)
    (extractStridedSlice S1x256 ![5, 0] (X.row c) slices_S8x256_o5_0_S1x256) st

/-- The forward direction's rows of chunk `c`, from the state before it. -/
def outF (c : Fin 16) (st : FVec F S256x384 .f32) : FVec F S256x256 .f32 :=
  ratio
    (sums (cmpi .sle (iota .tc S256x256 32 [1] iota_S256x256_d1_w32)
        (iota .tc S256x256 32 [0] iota_S256x256_d0_w32))
      (shapeCast S256x256 (X.q c) shapeCasts_S1x1x256x256_S256x256)
      (shapeCast S256x256 (X.k c) shapeCasts_S1x1x256x256_S256x256) (ext (X.v c))
      (extractStridedSlice S256x1 ![0, 0] (X.col c) slices_S256x128_o0_0_S256x1)
      (extractStridedSlice S256x1 ![0, 1] (X.col c) slices_S256x128_o0_1_S256x1)
      (extractStridedSlice S1x256 ![0, 0] (X.row c) slices_S8x256_o0_0_S1x256) st)
    (extractStridedSlice S256x1 ![0, 2] (X.col c) slices_S256x128_o0_2_S256x1)

/-- The backward direction's rows of chunk `c`, from the state before it. -/
def outB (c : Fin 16) (st : FVec F S256x384 .f32) : FVec F S256x256 .f32 :=
  ratio
    (sums (cmpi .sge (iota .tc S256x256 32 [1] iota_S256x256_d1_w32)
        (iota .tc S256x256 32 [0] iota_S256x256_d0_w32))
      (shapeCast S256x256 (X.q c) shapeCasts_S1x1x256x256_S256x256)
      (shapeCast S256x256 (X.k c) shapeCasts_S1x1x256x256_S256x256) (ext (X.v c))
      (extractStridedSlice S256x1 ![0, 3] (X.col c) slices_S256x128_o0_3_S256x1)
      (extractStridedSlice S256x1 ![0, 4] (X.col c) slices_S256x128_o0_4_S256x1)
      (extractStridedSlice S1x256 ![1, 0] (X.row c) slices_S8x256_o1_0_S1x256) st)
    (extractStridedSlice S256x1 ![0, 5] (X.col c) slices_S256x128_o0_5_S256x1)

/-- Chunk `n` of the sixteen. -/
abbrev at_ (n : ℕ) : Fin 16 := ⟨n % 16, Nat.mod_lt _ (by decide)⟩
/-- Chunk `15 − n`, the one the backward direction is at in step `n`. -/
abbrev back (n : ℕ) : Fin 16 := ⟨(15 - n) % 16, Nat.mod_lt _ (by decide)⟩

/-- The forward state before step `n`. -/
def stF : ℕ → FVec F S256x384 .f32
  | 0 => start X.kc X.wf X.vc
  | n + 1 => X.carryF (at_ n) (stF n)

/-- The backward state before step `n`. -/
def stB : ℕ → FVec F S256x384 .f32
  | 0 => start X.kc X.wb X.vc
  | n + 1 => X.carryB (back n) (stB n)

/-- Chunk `c` of the head's result: both directions' rows summed and closed. -/
def result (c : Fin 16) : FVec F S1x256x256 .bf16 :=
  close (addf (X.outF c (X.stF c)) (X.outB c (X.stB (15 - c)))) X.gain (X.o c)

end Blocks

end Cert.KernelIdeal.Chunk
-- ==== Proof.Pieces.lean ====
/- The pieces the mLSTM kernel's program leaves in its output buffer are the sixteen chunks of
   `Chunk.Blocks.result`. -/
module

public import proofs.«01_k».proof.Proof.Gen.KernelIdeal.Frame
public import proofs.«01_k».proof.Proof.Chunk
public import Idealize.ShloMosaic.Lib.VecWindow
public import Idealize.ShloMosaic.Lib.Pipeline.ReadBack

@[expose] public section

set_option maxRecDepth 65536

noncomputable section

namespace Cert.KernelIdeal.Pieces

open Idealize.ShloMosaic Idealize.ShloMosaic.TcCoe Cert.KernelIdeal Cert.KernelIdeal.Gen Cert.KernelIdeal.Chunk
open Cert.KernelIdeal.Chunk.Blocks

variable {F : FTy → Type} [FloatOps F] [Named F]

/-- The whole of a direction's state. -/
abbrev whole : Rect S256x384 := Rect.unit (s := S256x384) ![0, 0] S256x384.size inb_S256x384_S256x384_0_0

theorem inb_row (c : Fin 16) : ∀ k, (![256 * (c : ℕ), 0] : Fin 2 → ℕ) k + S256x256.size k ≤ S4096x256.size k := by
  intro k; have := c.2; fin_cases k <;> simp [Shape.size] <;> omega

/-- The rows of chunk `c` in the buffer of both directions' rows. -/
abbrev rowsOf (c : Fin 16) : Rect S4096x256 := Rect.unit (s := S4096x256) ![256 * (c : ℕ), 0] S256x256.size (inb_row c)

theorem inb_q (c : Fin 16) : ∀ k, (![0, 0, 256 * (c : ℕ), 0] : Fin 4 → ℕ) k + S1x1x256x256.size k ≤ S1x1x4096x256.size k := by
  intro k; have := c.2; fin_cases k <;> simp [Shape.size] <;> omega
theorem inb_k (c : Fin 16) : ∀ k, (![0, (c : ℕ), 0, 0] : Fin 4 → ℕ) k + S1x1x256x256.size k ≤ S1x16x256x256.size k := by
  intro k; have := c.2; fin_cases k <;> simp [Shape.size] <;> omega
theorem inb_v (c : Fin 16) : ∀ k, (![0, 256 * (c : ℕ), 0] : Fin 3 → ℕ) k + S1x256x256.size k ≤ S1x4096x256.size k := by
  intro k; have := c.2; fin_cases k <;> simp [Shape.size] <;> omega
theorem inb_rows (c : Fin 16) : ∀ k, (![0, 0, (c : ℕ), 0, 0] : Fin 5 → ℕ) k + S1x1x1x8x256.size k ≤ S1x1x16x8x256.size k := by
  intro k; have := c.2; fin_cases k <;> simp [Shape.size] <;> omega
theorem inb_cols (c : Fin 16) : ∀ k, (![0, 0, 256 * (c : ℕ), 0] : Fin 4 → ℕ) k + S1x1x256x128.size k ≤ S1x1x4096x128.size k := by
  intro k; have := c.2; fin_cases k <;> simp [Shape.size] <;> omega
theorem inb_w (d : Fin 2) : ∀ k, (![0, 0, (d : ℕ), 0] : Fin 4 → ℕ) k + S1x1x1x256.size k ≤ S1x1x8x256.size k := by
  intro k; have := d.2; fin_cases k <;> simp [Shape.size] <;> omega

/-- What a direction's state buffer has been written with before step `n`, last first, where each
    step writes what it makes of what it reads there. -/
def stPieces (M : Memref sig .tc .vmem S256x384 .f32) (x : FVec F S256x384 .f32)
    (f : ℕ → FVec F S256x384 .f32 → FVec F S256x384 .f32) : ℕ → List (View.Piece (Elt F) S256x384 .f32)
  | 0 => [⟨whole, x⟩]
  | n + 1 => ⟨whole, f n (M.view.readCov (stPieces M x f n) whole.toLoadRect)⟩ :: stPieces M x f n

/-- What the buffer of both directions' rows has been written with after `n` steps of each
    direction, last first. -/
def rowPieces (f g : ℕ → FVec F S256x256 .f32) : ℕ → List (View.Piece (Elt F) S4096x256 .f32)
  | 0 => []
  | n + 1 => ⟨rowsOf (back n), g n⟩ :: ⟨rowsOf (at_ n), f n⟩ :: rowPieces f g n

/-- Chunk `c` of the head's result. -/
abbrev outOf (c : Fin 16) : Rect S1x4096x256 := Rect.unit (s := S1x4096x256) ![0, 256 * (c : ℕ), 0] S1x256x256.size (inb_v c)

/-- What the result has been written with after `n` steps of the second half, last first. -/
def outPieces (f g : ℕ → FVec F S1x256x256 .bf16) : ℕ → List (View.Piece (Elt F) S1x4096x256 .bf16)
  | 0 => []
  | n + 1 => ⟨outOf (back (8 + n)), g (8 + n)⟩ :: ⟨outOf (at_ (8 + n)), f (8 + n)⟩ :: outPieces f g n

/-- The forward state as read before step `n`. -/
def rdF (X : Blocks F) (M : Memref sig .tc .vmem S256x384 .f32) (n : ℕ) : FVec F S256x384 .f32 :=
  M.view.readCov (stPieces M (start X.kc X.wf X.vc) (fun n => X.carryF (at_ n)) n) whole.toLoadRect
/-- The backward state as read before step `n`. -/
def rdB (X : Blocks F) (M : Memref sig .tc .vmem S256x384 .f32) (n : ℕ) : FVec F S256x384 .f32 :=
  M.view.readCov (stPieces M (start X.kc X.wb X.vc) (fun n => X.carryB (back n)) n) whole.toLoadRect

/-- The rows of both directions' first halves. -/
def halves (X : Blocks F) (M N : Memref sig .tc .vmem S256x384 .f32) : List (View.Piece (Elt F) S4096x256 .f32) :=
  rowPieces (fun n => shapeCast S256x256 (X.outF (at_ n) (rdF X M n)) shapeCasts_S256x256_S256x256)
    (fun n => shapeCast S256x256 (X.outB (back n) (rdB X N n)) shapeCasts_S256x256_S256x256) 8

/-- The pieces of the result, over what the program reads. -/
def pieces (X : Blocks F) (M N : Memref sig .tc .vmem S256x384 .f32) (H : Memref sig .tc .vmem S4096x256 .f32) :
    List (View.Piece (Elt F) S1x4096x256 .bf16) :=
  outPieces
    (fun n => close (addf (X.outF (at_ n) (rdF X M n))
      (H.view.readCov (halves X M N) (rowsOf (at_ n)).toLoadRect)) X.gain (X.o (at_ n)))
    (fun n => close (addf (X.outB (back n) (rdB X N n))
      (H.view.readCov (halves X M N) (rowsOf (back n)).toLoadRect)) X.gain (X.o (back n))) 8

section
variable (c : Dev nD) (i : grid0.Coords)
  (arg2 : Memref sig .tc .vmem S1x1x4096x256 .bf16) (harg2 : arg2.IsWhole)
  (arg3 : Memref sig .tc .vmem S1x16x256x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S1x1x256x256 .bf16) (harg6 : arg6.IsWhole)
  (arg7 : Memref sig .tc .vmem S1x256x256 .bf16) (harg7 : arg7.IsWhole)
  (arg8 : Memref sig .tc .vmem S1x1x16x8x256 .f32) (harg8 : arg8.IsWhole)
  (arg9 : Memref sig .tc .vmem S1x1x4096x128 .f32) (harg9 : arg9.IsWhole)
  (arg10 : Memref sig .tc .vmem S1x1x8x256 .f32) (harg10 : arg10.IsWhole)
  (arg11 : Memref sig .tc .vmem S1x256 .f32) (harg11 : arg11.IsWhole)
  (arg12 : Memref sig .tc .vmem S128x8192 .f32) (harg12 : arg12.IsWhole)
  (arg13 : Memref sig .tc .vmem S128x2048 .f32) (harg13 : arg13.IsWhole)
  (arg14 : Memref sig .tc .vmem S1x4096x256 .bf16) (harg14 : arg14.IsWhole)
  (arg15 : Memref sig .tc .vmem S128x8192 .bf16) (harg15 : arg15.IsWhole)
  (arg16 : Memref sig .tc .vmem S128x2048 .bf16) (harg16 : arg16.IsWhole)
  (arg17 : Memref sig .tc .vmem S4096x256 .f32) (harg17 : arg17.IsWhole)
  (arg18 : Memref sig .tc .vmem S256x384 .f32) (harg18 : arg18.IsWhole)
  (arg19 : Memref sig .tc .vmem S256x384 .f32) (harg19 : arg19.IsWhole)
  (x0 : Vec F S1x1x4096x256 .bf16)
  (x1 : Vec F S1x16x256x256 .bf16)
  (x2 : Vec F S1x4096x256 .bf16)
  (x3 : Vec F S1x4096x256 .bf16)
  (x4 : Vec F S1x1x256x256 .bf16)
  (x5 : Vec F S1x256x256 .bf16)
  (x6 : Vec F S1x1x16x8x256 .f32)
  (x7 : Vec F S1x1x4096x128 .f32)
  (x8 : Vec F S1x1x8x256 .f32)
  (x9 : Vec F S1x256 .f32)
  (x10 : Vec F S128x8192 .f32)
  (x11 : Vec F S128x2048 .f32)

/-- What the program reads, chunk by chunk, through its staging buffers. -/
def blocks : Blocks F where
  q c := View.readAt (Elt F) arg2.view (Rect.unit (s := S1x1x4096x256) ![0, 0, 256 * (c : ℕ), 0] S1x1x256x256.size (inb_q c)).toLoadRect (harg2.unread x0)
  k c := View.readAt (Elt F) arg3.view (Rect.unit (s := S1x16x256x256) ![0, (c : ℕ), 0, 0] S1x1x256x256.size (inb_k c)).toLoadRect (harg3.unread x1)
  v c := View.readAt (Elt F) arg4.view (Rect.unit (s := S1x4096x256) ![0, 256 * (c : ℕ), 0] S1x256x256.size (inb_v c)).toLoadRect (harg4.unread x2)
  o c := View.readAt (Elt F) arg5.view (Rect.unit (s := S1x4096x256) ![0, 256 * (c : ℕ), 0] S1x256x256.size (inb_v c)).toLoadRect (harg5.unread x3)
  rows c := View.readAt (Elt F) arg8.view (Rect.unit (s := S1x1x16x8x256) ![0, 0, (c : ℕ), 0, 0] S1x1x1x8x256.size (inb_rows c)).toLoadRect (harg8.unread x6)
  cols c := View.readAt (Elt F) arg9.view (Rect.unit (s := S1x1x4096x128) ![0, 0, 256 * (c : ℕ), 0] S1x1x256x128.size (inb_cols c)).toLoadRect (harg9.unread x7)
  kc := View.readAt (Elt F) arg6.view (Rect.unit (s := S1x1x256x256) ![0, 0, 0, 0] S1x1x256x256.size inb_S1x1x256x256_S1x1x256x256_0_0_0_0).toLoadRect (harg6.unread x4)
  vc := View.readAt (Elt F) arg7.view (Rect.unit (s := S1x256x256) ![0, 0, 0] S1x256x256.size inb_S1x256x256_S1x256x256_0_0_0).toLoadRect (harg7.unread x5)
  wf := View.readAt (Elt F) arg10.view (Rect.unit (s := S1x1x8x256) ![0, 0, 0, 0] S1x1x1x256.size (inb_w 0)).toLoadRect (harg10.unread x8)
  wb := View.readAt (Elt F) arg10.view (Rect.unit (s := S1x1x8x256) ![0, 0, 1, 0] S1x1x1x256.size (inb_w 1)).toLoadRect (harg10.unread x8)
  gain := View.readAt (Elt F) arg11.view (Rect.unit (s := S1x256) ![0, 0] S1x256.size inb_S1x256_S1x256_0_0).toLoadRect (harg11.unread x9)

set_option maxHeartbeats 4000000 in
theorem run_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).1 =
      pieces (blocks arg2 harg2 arg3 harg3 arg4 harg4 arg5 harg5 arg6 harg6 arg7 harg7 arg8 harg8 arg9 harg9 arg10 harg10 arg11 harg11 x0 x1 x2 x3 x4 x5 x6 x7 x8 x9) arg18 arg19 arg17 := by
  sl_kernel_rfl
/-- The rounded block of the first weight array, which the program writes beside the result. -/
theorem up_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.1 =
    [⟨Rect.unit (s := S128x8192) ![0, 0] S128x8192.size inb_S128x8192_S128x8192_0_0,
      k0_pay1 (View.readAt (Elt F) arg12.view (Rect.unit (s := S128x8192) ![0, 0] S128x8192.size inb_S128x8192_S128x8192_0_0).toLoadRect (harg12.unread x10))⟩] := by
  sl_kernel_rfl

/-- The rounded block of the second weight array. -/
theorem down_eq : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.2.1 =
    [⟨Rect.unit (s := S128x2048) ![0, 0] S128x2048.size inb_S128x2048_S128x2048_0_0,
      k0_pay2 (View.readAt (Elt F) arg13.view (Rect.unit (s := S128x2048) ![0, 0] S128x2048.size inb_S128x2048_S128x2048_0_0).toLoadRect (harg13.unread x11))⟩] := by
  sl_kernel_rfl
end

end Cert.KernelIdeal.Pieces
-- ==== Proof.Reads.lean ====
/- What the mLSTM program's pieces hold: the states it reads back are the recursion's, the rows of the
   first half are read back in the second, and each chunk of the result is `Chunk.Blocks.result`. -/
module

public import proofs.«01_k».proof.Proof.Pieces
public import Idealize.ShloMosaic.Lib.Pipeline.ValueKit.Geometry

@[expose] public section

set_option maxRecDepth 16384

noncomputable section

namespace Cert.KernelIdeal.Pieces

open Idealize.ShloMosaic Idealize.ShloMosaic.TcCoe Cert.KernelIdeal Cert.KernelIdeal.Gen Cert.KernelIdeal.Chunk
open Cert.KernelIdeal.Chunk.Blocks

section
variable {F : FTy → Type} [FloatOps F] [Named F]

/-- A state buffer is read as the last state stored. -/
theorem readCov_stPieces_succ (M : Memref sig .tc .vmem S256x384 .f32) (x : FVec F S256x384 .f32)
    (f : ℕ → FVec F S256x384 .f32 → FVec F S256x384 .f32) (n : ℕ) :
    M.view.readCov (stPieces M x f (n + 1)) whole.toLoadRect =
      f n (M.view.readCov (stPieces M x f n) whole.toLoadRect) := by
  rw [stPieces, View.readCov_cons_toLoadRect]

theorem readCov_stPieces_zero (M : Memref sig .tc .vmem S256x384 .f32) (x : FVec F S256x384 .f32)
    (f : ℕ → FVec F S256x384 .f32 → FVec F S256x384 .f32) :
    M.view.readCov (stPieces M x f 0) whole.toLoadRect = x := by
  rw [stPieces, View.readCov_cons_toLoadRect]

theorem rdF_eq (X : Blocks F) (M : Memref sig .tc .vmem S256x384 .f32) (n : ℕ) : rdF X M n = X.stF n := by
  unfold rdF
  induction n with
  | zero => rw [readCov_stPieces_zero, stF]
  | succ n ih => rw [readCov_stPieces_succ, ih, stF]

theorem rdB_eq (X : Blocks F) (M : Memref sig .tc .vmem S256x384 .f32) (n : ℕ) : rdB X M n = X.stB n := by
  unfold rdB
  induction n with
  | zero => rw [readCov_stPieces_zero, stB]
  | succ n ih => rw [readCov_stPieces_succ, ih, stB]

/-- Rows of one chunk are not rows of another. -/
theorem rows_not_mem {c d : Fin 16} (h : c ≠ d) (j : (rowsOf c).shape.Idx) : (rowsOf c).emb j ∉ (rowsOf d).set := by
  intro hm
  rw [Rect.mem_set_unit] at hm
  have h0 := hm 0
  rw [ValueKit.rect_emb_unit_val] at h0
  have hj := (j 0).2
  have hn : (c : ℕ) ≠ d := fun e => h (Fin.ext e)
  simp [Shape.size] at h0 hj
  omega

theorem out_not_mem {c d : Fin 16} (h : c ≠ d) (j : (outOf c).shape.Idx) : (outOf c).emb j ∉ (outOf d).set := by
  intro hm
  rw [Rect.mem_set_unit] at hm
  have h0 := hm 1
  rw [ValueKit.rect_emb_unit_val] at h0
  have hj := (j 1).2
  have hn : (c : ℕ) ≠ d := fun e => h (Fin.ext e)
  simp [Shape.size] at h0 hj
  omega

/-- The rows stored for chunk `c` are read back. -/
theorem readCov_rowPieces (H : Memref sig .tc .vmem S4096x256 .f32) (f g : ℕ → FVec F S256x256 .f32) (c : Fin 16) :
    ∀ n ≤ 8, (∀ k < n, c = at_ k → H.view.readCov (rowPieces f g n) (rowsOf c).toLoadRect = f k) ∧
      (∀ k < n, c = back k → H.view.readCov (rowPieces f g n) (rowsOf c).toLoadRect = g k) := by
  intro n hn
  induction n with
  | zero => exact ⟨fun k hk => absurd hk (Nat.not_lt_zero _), fun k hk => absurd hk (Nat.not_lt_zero _)⟩
  | succ n ih =>
    have skip : ∀ {d : Fin 16} (w : FVec F S256x256 .f32) (L : List (View.Piece (Elt F) S4096x256 .f32)), c ≠ d →
        H.view.readCov (⟨rowsOf d, w⟩ :: L) (rowsOf c).toLoadRect = H.view.readCov L (rowsOf c).toLoadRect := by
      intro d w L h
      rw [View.readCov_eq_canon', View.readCov_eq_canon']
      funext j
      exact View.canon_cons_of_not_mem ⟨rowsOf d, w⟩ L (rows_not_mem h j)
    have hit : ∀ (w : FVec F S256x256 .f32) (L : List (View.Piece (Elt F) S4096x256 .f32)),
        H.view.readCov (⟨rowsOf c, w⟩ :: L) (rowsOf c).toLoadRect = w := fun w L => View.readCov_cons_toLoadRect _ _ _ _
    have ne : ∀ a b : ℕ, a < 8 → b < 8 → (at_ a : Fin 16) ≠ back b := by
      intro a b ha hb h
      have := congrArg Fin.val h
      simp only [at_, back] at this
      omega
    have ine : ∀ a b : ℕ, a < 8 → b < 8 → a ≠ b → (at_ a : Fin 16) ≠ at_ b := by
      intro a b ha hb hab h
      have := congrArg Fin.val h
      simp only [at_] at this
      omega
    have jne : ∀ a b : ℕ, a < 8 → b < 8 → a ≠ b → (back a : Fin 16) ≠ back b := by
      intro a b ha hb hab h
      have := congrArg Fin.val h
      simp only [back] at this
      omega
    obtain ⟨i1, i2⟩ := ih (by omega)
    constructor
    · intro k hk hc
      subst hc
      show H.view.readCov (⟨rowsOf (back n), g n⟩ :: ⟨rowsOf (at_ n), f n⟩ :: rowPieces f g n) _ = _
      rw [skip _ _ (ne k n (by omega) (by omega))]
      rcases Nat.lt_succ_iff_lt_or_eq.mp hk with h | rfl
      · rw [skip _ _ (ine k n (by omega) (by omega) (by omega))]
        exact i1 k h rfl
      · exact hit _ _
    · intro k hk hc
      subst hc
      show H.view.readCov (⟨rowsOf (back n), g n⟩ :: ⟨rowsOf (at_ n), f n⟩ :: rowPieces f g n) _ = _
      rcases Nat.lt_succ_iff_lt_or_eq.mp hk with h | rfl
      · rw [skip _ _ (jne k n (by omega) (by omega) (by omega)), skip _ _ (ne n k (by omega) (by omega)).symm]
        exact i2 k h rfl
      · exact hit _ _

/-- Chunk `c` of the result is the last store made there. -/
theorem canon_outPieces (f g : ℕ → FVec F S1x256x256 .bf16) (c : Fin 16) (j : (outOf c).shape.Idx) :
    ∀ n ≤ 8, (∀ k < n, c = at_ (8 + k) → View.canon (outPieces f g n) ((outOf c).emb j) = f (8 + k) j) ∧
      (∀ k < n, c = back (8 + k) → View.canon (outPieces f g n) ((outOf c).emb j) = g (8 + k) j) := by
  intro n hn
  induction n with
  | zero => exact ⟨fun k hk => absurd hk (Nat.not_lt_zero _), fun k hk => absurd hk (Nat.not_lt_zero _)⟩
  | succ n ih =>
    have skip : ∀ {d : Fin 16} (w : FVec F S1x256x256 .bf16) (L : List (View.Piece (Elt F) S1x4096x256 .bf16)), c ≠ d →
        View.canon (⟨outOf d, w⟩ :: L) ((outOf c).emb j) = View.canon L ((outOf c).emb j) :=
      fun w L h => View.canon_cons_of_not_mem _ L (out_not_mem h j)
    have hit : ∀ (w : FVec F S1x256x256 .bf16) (L : List (View.Piece (Elt F) S1x4096x256 .bf16)),
        View.canon (⟨outOf c, w⟩ :: L) ((outOf c).emb j) = w j := fun w L => View.canon_cons_emb _ _ _ _
    have ne : ∀ a b : ℕ, a < 8 → b < 8 → (at_ (8 + a) : Fin 16) ≠ back (8 + b) := by
      intro a b ha hb h
      have := congrArg Fin.val h
      simp only [at_, back] at this
      omega
    have ine : ∀ a b : ℕ, a < 8 → b < 8 → a ≠ b → (at_ (8 + a) : Fin 16) ≠ at_ (8 + b) := by
      intro a b ha hb hab h
      have := congrArg Fin.val h
      simp only [at_] at this
      omega
    have jne : ∀ a b : ℕ, a < 8 → b < 8 → a ≠ b → (back (8 + a) : Fin 16) ≠ back (8 + b) := by
      intro a b ha hb hab h
      have := congrArg Fin.val h
      simp only [back] at this
      omega
    obtain ⟨i1, i2⟩ := ih (by omega)
    constructor
    · intro k hk hc
      subst hc
      show View.canon (⟨outOf (back (8 + n)), g (8 + n)⟩ :: ⟨outOf (at_ (8 + n)), f (8 + n)⟩ :: outPieces f g n) _ = _
      rw [skip _ _ (ne k n (by omega) (by omega))]
      rcases Nat.lt_succ_iff_lt_or_eq.mp hk with h | rfl
      · rw [skip _ _ (ine k n (by omega) (by omega) (by omega))]
        exact i1 k h rfl
      · exact hit _ _
    · intro k hk hc
      subst hc
      show View.canon (⟨outOf (back (8 + n)), g (8 + n)⟩ :: ⟨outOf (at_ (8 + n)), f (8 + n)⟩ :: outPieces f g n) _ = _
      rcases Nat.lt_succ_iff_lt_or_eq.mp hk with h | rfl
      · rw [skip _ _ (jne k n (by omega) (by omega) (by omega)), skip _ _ (ne n k (by omega) (by omega)).symm]
        exact i2 k h rfl
      · exact hit _ _

end

theorem addf_comm (a b : FVec Ideal S256x256 .f32) : addf a b = addf b a :=
  funext fun i => add_comm (a i : EReal) (b i)

/-- Chunk `c` of what the program leaves. -/
theorem canon_pieces (X : Blocks Ideal) (M N : Memref sig .tc .vmem S256x384 .f32) (H : Memref sig .tc .vmem S4096x256 .f32)
    (c : Fin 16) (j : (outOf c).shape.Idx) :
    View.canon (pieces X M N H) ((outOf c).emb j) = X.result c j := by
  have hc := c.2
  unfold pieces
  by_cases h : (c : ℕ) < 8
  · have e : c = back (8 + (7 - c)) := Fin.ext (by simp only [back]; omega)
    rw [(canon_outPieces _ _ c j 8 le_rfl).2 (7 - c) (by omega) e, ← e]
    have hr := (readCov_rowPieces H (fun n => shapeCast S256x256 (X.outF (at_ n) (rdF X M n)) shapeCasts_S256x256_S256x256)
      (fun n => shapeCast S256x256 (X.outB (back n) (rdB X N n)) shapeCasts_S256x256_S256x256) c 8 le_rfl).1 c h
      (Fin.ext (by simp only [at_]; omega))
    unfold halves
    rw [hr, shapeCast_self, rdB_eq, rdF_eq]
    have e1 : (at_ (c : ℕ) : Fin 16) = c := Fin.ext (by simp only [at_]; omega)
    have e2 : 8 + (7 - (c : ℕ)) = 15 - c := by omega
    unfold result
    rw [e1, e2]
    rw [addf_comm]
  · have e : c = at_ (8 + (c - 8)) := Fin.ext (by simp only [at_]; omega)
    rw [(canon_outPieces _ _ c j 8 le_rfl).1 (c - 8) (by omega) e, ← e]
    have hr := (readCov_rowPieces H (fun n => shapeCast S256x256 (X.outF (at_ n) (rdF X M n)) shapeCasts_S256x256_S256x256)
      (fun n => shapeCast S256x256 (X.outB (back n) (rdB X N n)) shapeCasts_S256x256_S256x256) c 8 le_rfl).2 (15 - c) (by omega)
      (Fin.ext (by simp only [back]; omega))
    unfold halves
    rw [hr, shapeCast_self, rdB_eq, rdF_eq]
    have e1 : (back (15 - (c : ℕ)) : Fin 16) = c := Fin.ext (by simp only [back]; omega)
    have e2 : 8 + ((c : ℕ) - 8) = c := by omega
    unfold result
    rw [e1, e2]

end Cert.KernelIdeal.Pieces
-- ==== Proof.Head.lean ====
/- The mLSTM kernel's program on one head computes `Cert.Mlstm.result`: its state's first 256 columns are
   the matrix state, its other 128 columns each the normaliser, and its rows numerator over denominator. -/
module

public import Idealize.ShloMosaic.Lib.WordCmp
public import proofs.«01_k».proof.Proof.Chunk
public import proofs.«01_k».proof.Proof.Spec

@[expose] public section

set_option maxRecDepth 16384

noncomputable section

namespace Cert.KernelIdeal.Head

open Idealize.ShloMosaic Idealize.ShloMosaic.TcCoe Cert.KernelIdeal Cert.KernelIdeal.Gen Cert.KernelIdeal.Chunk
open Cert.Mlstm Cert.KernelIdeal.Chunk.Blocks

/-- Extended values: the values, then ones. -/
theorem ext_lo (v : Vec Ideal S1x256x256 .bf16) (s e : Fin 256) :
    ext v (ix2 s ⟨e, by omega⟩ : S256x384.Idx) = v (ix3 0 s e) := by
  pointwise [ext]

theorem ext_hi (v : Vec Ideal S1x256x256 .bf16) (s : Fin 256) (l : Fin 128) :
    ext v (ix2 s ⟨256 + l, by omega⟩ : S256x384.Idx) = (1 : EReal) := by
  pointwise [ext]

/-- A state of the program holds the thread's matrix state and normaliser before step `n`. -/
structure IsState (T : Thread) (n : ℕ) (st : FVec Ideal S256x384 .f32) : Prop where
  lo : ∀ d e : Fin 256, st (ix2 d ⟨e, by omega⟩) = T.C n d e
  hi : ∀ (d : Fin 256) (l : Fin 128), st (ix2 d ⟨256 + l, by omega⟩) = T.N n d

theorem upd_apply (k : FVec Ideal S256x256 .bf16) (g : FVec Ideal S1x256 .f32) (v : FVec Ideal S256x384 .bf16)
    (d : Fin 256) (e : Fin 384) :
    upd k g v (ix2 d e) = ∑ s : Fin 256, k (ix2 d s) * g (ix2 0 s) * v (ix2 s e) := by
  pointwise [upd]

theorem start_isState (T : Thread) (k : Vec Ideal S1x1x256x256 .bf16) (w : Vec Ideal S1x1x1x256 .f32)
    (v : Vec Ideal S1x256x256 .bf16) (hk : ∀ d s, k (ix4 0 0 d s) = T.kc s d) (hw : ∀ s, w (ix4 0 0 0 s) = T.wc s)
    (hv : ∀ s e, v (ix3 0 s e) = T.vc s e) : IsState T 0 (start k w v) := by
  constructor
  · intro d e
    pointwise [start, upd]
    simp only [ext_lo, hk, hw, hv]
    rfl
  · intro d l
    pointwise [start, upd]
    simp only [ext_hi, hk, hw, mul_one]
    rfl

theorem carry_isState (T : Thread) (n : ℕ) (k : FVec Ideal S256x256 .bf16) (v : Vec Ideal S1x256x256 .bf16)
    (dec : FVec Ideal S1x128 .f32) (g : FVec Ideal S1x256 .f32) (st : FVec Ideal S256x384 .f32)
    (hk : ∀ d s, k (ix2 d s) = T.k n s d) (hv : ∀ s e, v (ix3 0 s e) = T.v n s e)
    (hd : ∀ l, dec (ix2 0 l) = T.dec n) (hg : ∀ s, g (ix2 0 s) = T.g n s) (hst : IsState T n st) :
    IsState T (n + 1) (carry k (ext v) dec g st) := by
  have h : ∀ (d : Fin 256) (e : Fin 384), carry k (ext v) dec g st (ix2 d e) =
      T.dec n * st (ix2 d e) + upd k g (ext v) (ix2 d e) := by
    intro d e
    pointwise [carry]
    simp only [hd, dite_eq_ite, ite_self]
    rw [mul_comm]
  constructor
  · intro d e
    rw [h, upd_apply, hst.lo]
    simp only [ext_lo, hk, hg, hv]
    rfl
  · intro d l
    rw [h, upd_apply, hst.hi]
    simp only [ext_hi, hk, hg, mul_one]
    rfl

/-- A product with the reciprocal is the quotient, by a divisor that is not zero. -/
theorem mul_div_one {x y : EReal} (hy : y ≠ 0) : x * Ideal.div 1 y = Ideal.div x y := by
  simp only [Ideal.div, if_neg hy, one_mul]

theorem named_mask : (Named.named κ "mask" 0xF149F2CA#32 : Ideal .f32) = (⊥ : EReal) := rfl

theorem sums_apply (seen : IVec S256x256 1) (q k : FVec Ideal S256x256 .bf16) (v : FVec Ideal S256x384 .bf16)
    (mx a : FVec Ideal S256x1 .f32) (w : FVec Ideal S1x256 .f32) (st : FVec Ideal S256x384 .f32)
    (t : Fin 256) (e : Fin 384) :
    sums seen q k v mx a w st (ix2 t e) =
      ∑ d : Fin 256, q (ix2 t d) * a (ix2 t 0) * st (ix2 d e) +
      ∑ s : Fin 256, (∑ d : Fin 256, q (ix2 t d) * k (ix2 d s)) *
        Ideal.exp (if seen (ix2 t s) = 1#1 then w (ix2 0 s) - mx (ix2 t 0) else (⊥ : EReal)) * v (ix2 s e) := by
  pointwise [sums]
  rw [add_comm]
  rfl

theorem out_apply (T : Thread) (n : ℕ) (seen : IVec S256x256 1) (q k : FVec Ideal S256x256 .bf16)
    (v : Vec Ideal S1x256x256 .bf16) (mx a e : FVec Ideal S256x1 .f32) (w : FVec Ideal S1x256 .f32)
    (st : FVec Ideal S256x384 .f32) (hs : ∀ t s, seen (ix2 t s) = T.seen t s)
    (hq : ∀ t d, q (ix2 t d) = T.q n t d) (hk : ∀ d s, k (ix2 d s) = T.k n s d)
    (hv : ∀ s x, v (ix3 0 s x) = T.v n s x) (hm : ∀ t, mx (ix2 t 0) = T.m n t) (ha : ∀ t, a (ix2 t 0) = T.a n t)
    (he : ∀ t, e (ix2 t 0) = T.e n t) (hw : ∀ s, w (ix2 0 s) = T.w n s) (hst : IsState T n st)
    (hpos : ∀ t, 0 < T.e n t) (t x : Fin 256) :
    ratio (sums seen q k (ext v) mx a w st) e (ix2 t x) = T.out n t x := by
  have hnum : sums seen q k (ext v) mx a w st (ix2 t ⟨x, by omega⟩) = T.num n t x := by
    rw [sums_apply]
    simp only [ext_lo, hs, hq, hk, hv, hm, ha, hw, hst.lo]
    rfl
  have hden : ∀ l : Fin 128, sums seen q k (ext v) mx a w st (ix2 t ⟨256 + l, by omega⟩) = T.den n t := by
    intro l
    rw [sums_apply]
    simp only [ext_hi, hs, hq, hk, hm, ha, hw, hst.hi, mul_one]
    rfl
  have hne : max (max (T.den n t) (-T.den n t)) (T.e n t) ≠ 0 :=
    (lt_of_lt_of_le (hpos t) (le_max_right _ _)).ne'
  rw [Thread.out, ← mul_div_one hne]
  pointwise [ratio]
  rw [hnum]
  split
  · next h =>
    rw [hden ⟨x, h⟩, he]
    rfl
  · next h =>
    rw [hden ⟨x - 128, by omega⟩, he]
    rfl

/-- The blocks are head `h` of batch member `b`'s parts of the arrays. -/
structure Matches (X : Blocks Ideal) (A : Args) (b h : Fin 4) : Prop where
  q : ∀ c t d, X.q c (ix4 0 0 t d) = A.q b h (pos c t) d
  k : ∀ c d s, X.k c (ix4 0 0 d s) = A.kt b c (feat h d) s
  v : ∀ c s e, X.v c (ix3 0 s e) = A.p b (pos c s) ⟨1024 + feat h e, by omega⟩
  o : ∀ c s e, X.o c (ix3 0 s e) = A.p b (pos c s) ⟨2048 + feat h e, by omega⟩
  rows : ∀ c r s, X.rows c (ix5 0 0 0 r s) = A.rows b h c r s
  cols : ∀ c t j, X.cols c (ix4 0 0 t j) = A.cols b h (pos c t) j
  kc : ∀ d s, X.kc (ix4 0 0 d s) = A.kct b 0 (feat h d) s
  vc : ∀ s e, X.vc (ix3 0 s e) = A.vc b s (feat h e)
  wf : ∀ s, X.wf (ix4 0 0 0 s) = A.crows b h 0 s
  wb : ∀ s, X.wb (ix4 0 0 0 s) = A.crows b h 1 s
  gain : ∀ e, X.gain (ix2 0 e) = A.gain 0 (feat h e)

/-- The causal mask: the steps up to `t`. -/
theorem upto_apply (t s : Fin 256) :
    cmpi .sle (iota .tc S256x256 32 [1] iota_S256x256_d1_w32) (iota .tc S256x256 32 [0] iota_S256x256_d0_w32) (ix2 t s) =
      if (s : ℕ) ≤ t then 1#1 else 0#1 := by
  pointwise []
  rw [Idealize.ShloMosaic.WordCmp.cmpi_sle_ofNat (by omega) (by omega)]
  by_cases hs : (s : ℕ) ≤ t <;> simp [hs]

/-- The mirrored mask: the steps from `t` on. -/
theorem from_apply (t s : Fin 256) :
    cmpi .sge (iota .tc S256x256 32 [1] iota_S256x256_d1_w32) (iota .tc S256x256 32 [0] iota_S256x256_d0_w32) (ix2 t s) =
      if (t : ℕ) ≤ s then 1#1 else 0#1 := by
  pointwise []
  rw [Idealize.ShloMosaic.WordCmp.cmpi_sge_ofNat (by omega) (by omega)]
  by_cases hs : (t : ℕ) ≤ s <;> simp [hs]

section
variable {X : Blocks Ideal} {A : Args} {b h : Fin 4} (hX : Matches X A b h) (hA : Good A)
include hX hA

/-- A step of the forward direction carries the state on. -/
theorem carryF_isState (n : ℕ) (st : FVec Ideal S256x384 .f32) (hst : IsState (thread A 0 b h) n st) :
    IsState (thread A 0 b h) (n + 1) (X.carryF (at_ n) st) := by
  refine carry_isState _ n _ _ _ _ _ ?_ ?_ ?_ ?_ hst
  · intro d s
    pointwise []
    exact hX.k _ d s
  · exact fun s e => hX.v _ s e
  · intro l
    pointwise [Blocks.row]
    rw [hX.rows]
    exact hA.dec b h (at_ n) 0 l
  · intro s
    pointwise [Blocks.row]
    exact hX.rows _ _ _

/-- A step of the backward direction carries the state on. -/
theorem carryB_isState (n : ℕ) (hn : n < 16) (st : FVec Ideal S256x384 .f32) (hst : IsState (thread A 1 b h) n st) :
    IsState (thread A 1 b h) (n + 1) (X.carryB (back n) st) := by
  have hc : chunk 1 n = back n := Fin.ext (by simp only [chunk, back]; simp; omega)
  refine carry_isState _ n _ _ _ _ _ ?_ ?_ ?_ ?_ hst
  · intro d s
    pointwise []
    show _ = A.kt b (chunk 1 n) _ _
    rw [hX.k, hc]
  · intro s e
    show _ = A.p b (pos (chunk 1 n) s) _
    rw [hX.v, hc]
  · intro l
    pointwise [Blocks.row]
    show _ = A.rows b h (chunk 1 n) _ _
    rw [hX.rows, hc]
    exact hA.dec b h (back n) 1 l
  · intro s
    pointwise [Blocks.row]
    show _ = A.rows b h (chunk 1 n) _ _
    rw [hX.rows, hc]
    rfl

theorem stF_isState : ∀ n, IsState (thread A 0 b h) n (X.stF n)
  | 0 => start_isState _ _ _ _ (fun d s => hX.kc d s) (fun s => hX.wf s) (fun s e => hX.vc s e)
  | n + 1 => carryF_isState hX hA n _ (stF_isState n)

theorem stB_isState : ∀ n ≤ 16, IsState (thread A 1 b h) n (X.stB n)
  | 0, _ => start_isState _ _ _ _ (fun d s => hX.kc d s) (fun s => hX.wb s) (fun s e => hX.vc s e)
  | n + 1, hn => carryB_isState hX hA n (by omega) _ (stB_isState n (by omega))

theorem outF_apply (c : Fin 16) (t x : Fin 256) : X.outF c (X.stF c) (ix2 t x) = (thread A 0 b h).out c t x := by
  have hc : chunk 0 c = c := Fin.ext (by simp only [chunk]; simp)
  refine out_apply (thread A 0 b h) c _ _ _ _ _ _ _ _ _ ?_ ?_ ?_ ?_ ?_ ?_ ?_ ?_ (stF_isState hX hA c) ?_ t x
  · exact fun t s => upto_apply t s
  · intro t d
    pointwise []
    show _ = A.q b h (pos (chunk 0 c) t) d
    rw [hX.q, hc]
  · intro d s
    pointwise []
    show _ = A.kt b (chunk 0 c) _ _
    rw [hX.k, hc]
  · intro s e
    show _ = A.p b (pos (chunk 0 c) s) _
    rw [hX.v, hc]
  · intro t
    pointwise [Blocks.col]
    show _ = A.cols b h (pos (chunk 0 c) t) _
    rw [hX.cols, hc]
    rfl
  · intro t
    pointwise [Blocks.col]
    show _ = A.cols b h (pos (chunk 0 c) t) _
    rw [hX.cols, hc]
    rfl
  · intro t
    pointwise [Blocks.col]
    show _ = A.cols b h (pos (chunk 0 c) t) _
    rw [hX.cols, hc]
    rfl
  · intro s
    pointwise [Blocks.row]
    show _ = A.rows b h (chunk 0 c) _ _
    rw [hX.rows, hc]
    rfl
  · exact fun t => hA.floor b h _ 0

theorem outB_apply (c : Fin 16) (t x : Fin 256) :
    X.outB c (X.stB (15 - c)) (ix2 t x) = (thread A 1 b h).out (15 - c) t x := by
  have hc : chunk 1 (15 - c) = c := Fin.ext (by simp only [chunk]; simp; omega)
  refine out_apply (thread A 1 b h) (15 - c) _ _ _ _ _ _ _ _ _ ?_ ?_ ?_ ?_ ?_ ?_ ?_ ?_
    (stB_isState hX hA (15 - c) (by omega)) ?_ t x
  · exact fun t s => from_apply t s
  · intro t d
    pointwise []
    show _ = A.q b h (pos (chunk 1 (15 - c)) t) d
    rw [hX.q, hc]
  · intro d s
    pointwise []
    show _ = A.kt b (chunk 1 (15 - c)) _ _
    rw [hX.k, hc]
  · intro s e
    show _ = A.p b (pos (chunk 1 (15 - c)) s) _
    rw [hX.v, hc]
  · intro t
    pointwise [Blocks.col]
    show _ = A.cols b h (pos (chunk 1 (15 - c)) t) _
    rw [hX.cols, hc]
    rfl
  · intro t
    pointwise [Blocks.col]
    show _ = A.cols b h (pos (chunk 1 (15 - c)) t) _
    rw [hX.cols, hc]
    rfl
  · intro t
    pointwise [Blocks.col]
    show _ = A.cols b h (pos (chunk 1 (15 - c)) t) _
    rw [hX.cols, hc]
    rfl
  · intro s
    pointwise [Blocks.row]
    show _ = A.rows b h (chunk 1 (15 - c)) _ _
    rw [hX.rows, hc]
    rfl
  · exact fun t => hA.floor b h _ 1

/-- The program's chunk is the layer's. -/
theorem result_apply (c : Fin 16) (t x : Fin 256) : X.result c (ix3 0 t x) = Cert.Mlstm.result A b h c t x := by
  have hb : ∀ y : Fin 256, addf (X.outF c (X.stF c)) (X.outB c (X.stB (15 - c))) (ix2 t y) = both A b h c t y := by
    intro y
    pointwise []
    rw [outF_apply hX hA, outB_apply hX hA]
    rfl
  unfold Blocks.result
  generalize addf (X.outF c (X.stF c)) (X.outB c (X.stB (15 - c))) = r at hb ⊢
  pointwise [close]
  simp only [hb, hX.gain, hX.o]
  rfl

end

end Cert.KernelIdeal.Head
-- ==== Proof.Staged.lean ====
/- What the mLSTM kernel's program reads through its staging buffers, when these hold one head's parts of the arrays. -/
module

public import Idealize.ShloMosaic.Lib.WholeRead
public import Idealize.ShloMosaic.Lib.Pipeline.ValueKit
public import proofs.«01_k».proof.Proof.Pieces
public import proofs.«01_k».proof.Proof.Head

@[expose] public section

noncomputable section

namespace Cert.KernelIdeal.Staged

open Idealize.ShloMosaic Idealize.ShloMosaic.TcCoe Cert.KernelIdeal Cert.KernelIdeal.Gen Cert.KernelIdeal.Chunk
open Cert.Mlstm

/-- The staged blocks are head `h` of batch member `b`'s parts of the arrays. -/
structure Held (A : Args) (b h : Fin 4) (x0 : Vec Ideal S1x1x4096x256 .bf16) (x1 : Vec Ideal S1x16x256x256 .bf16)
    (x2 x3 : Vec Ideal S1x4096x256 .bf16) (x4 : Vec Ideal S1x1x256x256 .bf16) (x5 : Vec Ideal S1x256x256 .bf16)
    (x6 : Vec Ideal S1x1x16x8x256 .f32) (x7 : Vec Ideal S1x1x4096x128 .f32) (x8 : Vec Ideal S1x1x8x256 .f32)
    (x9 : Vec Ideal S1x256 .f32) : Prop where
  q : ∀ r d, x0 (ix4 0 0 r d) = A.q b h r d
  k : ∀ c d s, x1 (ix4 0 c d s) = A.kt b c (feat h d) s
  v : ∀ r e, x2 (ix3 0 r e) = A.p b r ⟨1024 + feat h e, by omega⟩
  o : ∀ r e, x3 (ix3 0 r e) = A.p b r ⟨2048 + feat h e, by omega⟩
  kc : ∀ d s, x4 (ix4 0 0 d s) = A.kct b 0 (feat h d) s
  vc : ∀ s e, x5 (ix3 0 s e) = A.vc b s (feat h e)
  rows : ∀ c r s, x6 (ix5 0 0 c r s) = A.rows b h c r s
  cols : ∀ r j, x7 (ix4 0 0 r j) = A.cols b h r j
  crows : ∀ r s, x8 (ix4 0 0 r s) = A.crows b h r s
  gain : ∀ e, x9 (ix2 0 e) = A.gain 0 (feat h e)

section
variable
  (arg2 : Memref sig .tc .vmem S1x1x4096x256 .bf16) (harg2 : arg2.IsWhole)
  (arg3 : Memref sig .tc .vmem S1x16x256x256 .bf16) (harg3 : arg3.IsWhole)
  (arg4 : Memref sig .tc .vmem S1x4096x256 .bf16) (harg4 : arg4.IsWhole)
  (arg5 : Memref sig .tc .vmem S1x4096x256 .bf16) (harg5 : arg5.IsWhole)
  (arg6 : Memref sig .tc .vmem S1x1x256x256 .bf16) (harg6 : arg6.IsWhole)
  (arg7 : Memref sig .tc .vmem S1x256x256 .bf16) (harg7 : arg7.IsWhole)
  (arg8 : Memref sig .tc .vmem S1x1x16x8x256 .f32) (harg8 : arg8.IsWhole)
  (arg9 : Memref sig .tc .vmem S1x1x4096x128 .f32) (harg9 : arg9.IsWhole)
  (arg10 : Memref sig .tc .vmem S1x1x8x256 .f32) (harg10 : arg10.IsWhole)
  (arg11 : Memref sig .tc .vmem S1x256 .f32) (harg11 : arg11.IsWhole)
  {A : Args} {b h : Fin 4}
  {x0 : Vec Ideal S1x1x4096x256 .bf16} {x1 : Vec Ideal S1x16x256x256 .bf16} {x2 x3 : Vec Ideal S1x4096x256 .bf16}
  {x4 : Vec Ideal S1x1x256x256 .bf16} {x5 : Vec Ideal S1x256x256 .bf16} {x6 : Vec Ideal S1x1x16x8x256 .f32}
  {x7 : Vec Ideal S1x1x4096x128 .f32} {x8 : Vec Ideal S1x1x8x256 .f32} {x9 : Vec Ideal S1x256 .f32}
  (H : Held A b h x0 x1 x2 x3 x4 x5 x6 x7 x8 x9)
include H

/-- What the program reads is that head's part, chunk by chunk. -/
theorem matches_ : Head.Matches (Pieces.blocks arg2 harg2 arg3 harg3 arg4 harg4 arg5 harg5 arg6 harg6 arg7 harg7 arg8 harg8 arg9 harg9 arg10 harg10 arg11 harg11 x0 x1 x2 x3 x4 x5 x6 x7 x8 x9) A b h where
  q c t d := (harg2.readAt_unread x0 _ _).trans ((congrArg x0 (funext fun a => by
    fin_cases a <;> (apply Fin.ext; simp [Rect.unit, pos]; try omega))).trans (H.q (pos c t) d))
  k c d s := (harg3.readAt_unread x1 _ _).trans ((congrArg x1 (funext fun a => by
    fin_cases a <;> (apply Fin.ext; simp [Rect.unit, pos]; try omega))).trans (H.k c d s))
  v c s e := (harg4.readAt_unread x2 _ _).trans ((congrArg x2 (funext fun a => by
    fin_cases a <;> (apply Fin.ext; simp [Rect.unit, pos]; try omega))).trans (H.v (pos c s) e))
  o c s e := (harg5.readAt_unread x3 _ _).trans ((congrArg x3 (funext fun a => by
    fin_cases a <;> (apply Fin.ext; simp [Rect.unit, pos]; try omega))).trans (H.o (pos c s) e))
  rows c r s := (harg8.readAt_unread x6 _ _).trans ((congrArg x6 (funext fun a => by
    fin_cases a <;> (apply Fin.ext; simp [Rect.unit, pos]; try omega))).trans (H.rows c r s))
  cols c t j := (harg9.readAt_unread x7 _ _).trans ((congrArg x7 (funext fun a => by
    fin_cases a <;> (apply Fin.ext; simp [Rect.unit, pos]; try omega))).trans (H.cols (pos c t) j))
  kc d s := (harg6.readAt_unread x4 _ _).trans ((congrArg x4 (funext fun a => by
    fin_cases a <;> (apply Fin.ext; simp [Rect.unit, pos]; try omega))).trans (H.kc d s))
  vc s e := (harg7.readAt_unread x5 _ _).trans ((congrArg x5 (funext fun a => by
    fin_cases a <;> (apply Fin.ext; simp [Rect.unit, pos]; try omega))).trans (H.vc s e))
  wf s := (harg10.readAt_unread x8 _ _).trans ((congrArg x8 (funext fun a => by
    fin_cases a <;> (apply Fin.ext; simp [Rect.unit, pos]; try omega))).trans (H.crows 0 s))
  wb s := (harg10.readAt_unread x8 _ _).trans ((congrArg x8 (funext fun a => by
    fin_cases a <;> (apply Fin.ext; simp [Rect.unit, pos]; try omega))).trans (H.crows 1 s))
  gain e := (harg11.readAt_unread x9 _ _).trans ((congrArg x9 (funext fun a => by
    fin_cases a <;> (apply Fin.ext; simp [Rect.unit, pos]; try omega))).trans (H.gain e))

end

end Cert.KernelIdeal.Staged

end
-- ==== Proof.KernelValue.lean ====
/- What the mLSTM kernel's program leaves in its three result arrays. -/
module

public import proofs.«01_k».proof.Proof.Gen.KernelIdeal.Value
public import Idealize.ShloMosaic.Lib.Pipeline.ValueKit
public import proofs.«01_k».proof.Proof.Reads
public import proofs.«01_k».proof.Proof.Staged

@[expose] public section

set_option maxRecDepth 65536

noncomputable section

namespace Cert.KernelIdeal.KernelValue

open Idealize.ShloMosaic Idealize.ShloMosaic.TcCoe Cert.KernelIdeal Cert.KernelIdeal.Gen Cert.KernelIdeal.Chunk
open Cert.Mlstm

variable (m : (ℓ : Loc nD τ sig) → Buf (Elt Ideal) ℓ)

/-- The argument arrays as functions of their coordinates. -/
def argsOf (c : Dev nD) : Args where
  q b h r d := m ((c : Thread nD τ).loc main_arg0) (ix4 b h r d)
  kt b k f s := m ((c : Thread nD τ).loc main_arg1) (ix4 b k f s)
  p b r f := m ((c : Thread nD τ).loc main_arg2) (ix3 b r f)
  kct b k f s := m ((c : Thread nD τ).loc main_arg3) (ix4 b k f s)
  vc b s f := m ((c : Thread nD τ).loc main_arg4) (ix3 b s f)
  rows b h k r s := m ((c : Thread nD τ).loc main_arg5) (ix5 b h k r s)
  cols b h r j := m ((c : Thread nD τ).loc main_arg6) (ix4 b h r j)
  crows b h r s := m ((c : Thread nD τ).loc main_arg7) (ix4 b h r s)
  gain i f := m ((c : Thread nD τ).loc main_arg8) (ix2 i f)

/-- The batch member of a grid point. -/
def bOf (t : Fin cfg0.N) : Fin 4 := ⟨t / 4, by have := t.isLt; have : cfg0.N = 16 := N_0; omega⟩
/-- The head of a grid point. -/
def hOf (t : Fin cfg0.N) : Fin 4 := ⟨t % 4, by omega⟩

theorem idx0 : ∀ t : Fin cfg0.N, win0_0.index t 0 = t / 4 ∧ win0_0.index t 1 = t % 4 ∧ win0_0.index t 2 = 0 ∧ win0_0.index t 3 = 0 :=
  (by decide +kernel : ∀ t : Fin grid0.N, _)
theorem idx1 : ∀ t : Fin cfg0.N, win0_1.index t 0 = t / 4 ∧ win0_1.index t 1 = 0 ∧ win0_1.index t 2 = t % 4 ∧ win0_1.index t 3 = 0 :=
  (by decide +kernel : ∀ t : Fin grid0.N, _)
theorem idx2 : ∀ t : Fin cfg0.N, win0_2.index t 0 = t / 4 ∧ win0_2.index t 1 = 0 ∧ win0_2.index t 2 = 4 + t % 4 :=
  (by decide +kernel : ∀ t : Fin grid0.N, _)
theorem idx3 : ∀ t : Fin cfg0.N, win0_3.index t 0 = t / 4 ∧ win0_3.index t 1 = 0 ∧ win0_3.index t 2 = 8 + t % 4 :=
  (by decide +kernel : ∀ t : Fin grid0.N, _)
theorem idx4 : ∀ t : Fin cfg0.N, win0_4.index t 0 = t / 4 ∧ win0_4.index t 1 = 0 ∧ win0_4.index t 2 = t % 4 ∧ win0_4.index t 3 = 0 :=
  (by decide +kernel : ∀ t : Fin grid0.N, _)
theorem idx5 : ∀ t : Fin cfg0.N, win0_5.index t 0 = t / 4 ∧ win0_5.index t 1 = 0 ∧ win0_5.index t 2 = t % 4 :=
  (by decide +kernel : ∀ t : Fin grid0.N, _)
theorem idx6 : ∀ t : Fin cfg0.N, win0_6.index t 0 = t / 4 ∧ win0_6.index t 1 = t % 4 ∧ win0_6.index t 2 = 0 ∧ win0_6.index t 3 = 0 ∧ win0_6.index t 4 = 0 :=
  (by decide +kernel : ∀ t : Fin grid0.N, _)
theorem idx7 : ∀ t : Fin cfg0.N, win0_7.index t 0 = t / 4 ∧ win0_7.index t 1 = t % 4 ∧ win0_7.index t 2 = 0 ∧ win0_7.index t 3 = 0 :=
  (by decide +kernel : ∀ t : Fin grid0.N, _)
theorem idx8 : ∀ t : Fin cfg0.N, win0_8.index t 0 = t / 4 ∧ win0_8.index t 1 = t % 4 ∧ win0_8.index t 2 = 0 ∧ win0_8.index t 3 = 0 :=
  (by decide +kernel : ∀ t : Fin grid0.N, _)
theorem idx9 : ∀ t : Fin cfg0.N, win0_9.index t 0 = 0 ∧ win0_9.index t 1 = t % 4 :=
  (by decide +kernel : ∀ t : Fin grid0.N, _)
theorem idx10 : ∀ t : Fin cfg0.N, win0_10.index t 0 = t ∧ win0_10.index t 1 = 0 :=
  (by decide +kernel : ∀ t : Fin grid0.N, _)
theorem idx11 : ∀ t : Fin cfg0.N, win0_11.index t 0 = t ∧ win0_11.index t 1 = 0 :=
  (by decide +kernel : ∀ t : Fin grid0.N, _)
theorem idx12 : ∀ t : Fin cfg0.N, win0_12.index t 0 = t / 4 ∧ win0_12.index t 1 = 0 ∧ win0_12.index t 2 = t % 4 :=
  (by decide +kernel : ∀ t : Fin grid0.N, _)
theorem idx13 : ∀ t : Fin cfg0.N, win0_13.index t 0 = t ∧ win0_13.index t 1 = 0 :=
  (by decide +kernel : ∀ t : Fin grid0.N, _)
theorem idx14 : ∀ t : Fin cfg0.N, win0_14.index t 0 = t ∧ win0_14.index t 1 = 0 :=
  (by decide +kernel : ∀ t : Fin grid0.N, _)

/-- What the windows stage at a grid point is its head's part of the arrays. -/
theorem held (c : Dev nD) (t : Fin cfg0.N) :
    Staged.Held (argsOf m c) (bOf t) (hOf t) (iblk m c 0 t) (iblk m c 1 t) (iblk m c 2 t) (iblk m c 3 t) (iblk m c 4 t)
      (iblk m c 5 t) (iblk m c 6 t) (iblk m c 7 t) (iblk m c 8 t) (iblk m c 9 t) where
  q r d := by
    have e := idx0 t
    show _ = m ((c : Thread nD τ).loc main_arg0) (ix4 (bOf t) (hOf t) r d)
    unfold bOf hOf
    blk_ext! [iblk, V, idx0 t]
  k k d s := by
    show _ = m ((c : Thread nD τ).loc main_arg1) (ix4 (bOf t) k (feat (hOf t) d) s)
    unfold bOf hOf feat
    blk_ext! [iblk, V, idx1 t]
  v r e := by
    show _ = m ((c : Thread nD τ).loc main_arg2) (ix3 (bOf t) r ⟨1024 + feat (hOf t) e, _⟩)
    unfold bOf hOf feat
    blk_ext! [iblk, V, idx2 t]
  o r e := by
    show _ = m ((c : Thread nD τ).loc main_arg2) (ix3 (bOf t) r ⟨2048 + feat (hOf t) e, _⟩)
    unfold bOf hOf feat
    blk_ext! [iblk, V, idx3 t]
  kc d s := by
    show _ = m ((c : Thread nD τ).loc main_arg3) (ix4 (bOf t) 0 (feat (hOf t) d) s)
    unfold bOf hOf feat
    blk_ext! [iblk, V, idx4 t]
  vc s e := by
    show _ = m ((c : Thread nD τ).loc main_arg4) (ix3 (bOf t) s (feat (hOf t) e))
    unfold bOf hOf feat
    blk_ext! [iblk, V, idx5 t]
  rows k r s := by
    show _ = m ((c : Thread nD τ).loc main_arg5) (ix5 (bOf t) (hOf t) k r s)
    unfold bOf hOf
    blk_ext! [iblk, V, idx6 t]
  cols r j := by
    show _ = m ((c : Thread nD τ).loc main_arg6) (ix4 (bOf t) (hOf t) r j)
    unfold bOf hOf
    blk_ext! [iblk, V, idx7 t]
  crows r s := by
    show _ = m ((c : Thread nD τ).loc main_arg7) (ix4 (bOf t) (hOf t) r s)
    unfold bOf hOf
    blk_ext! [iblk, V, idx8 t]
  gain e := by
    show _ = m ((c : Thread nD τ).loc main_arg8) (ix2 0 (feat (hOf t) e))
    unfold hOf feat
    blk_ext! [iblk, V, idx9 t]

/-- The first result array. -/
def mixed (c : Dev nD) : Vec Ideal S4x4096x1024 .bf16 := fun i =>
  result (argsOf m c) (i 0) ⟨(i 2 : ℕ) / 256, by have : (i 2 : ℕ) < 1024 := (i 2).isLt; omega⟩
    ⟨(i 1 : ℕ) / 256, by have : (i 1 : ℕ) < 4096 := (i 1).isLt; omega⟩ ⟨(i 1 : ℕ) % 256, by omega⟩ ⟨(i 2 : ℕ) % 256, by omega⟩

/-- What a grid point leaves in its block of the first result. -/
theorem out12 (c : Dev nD) (t : Fin cfg0.N) (hA : Good (argsOf m c)) (k : Fin 16) (r e : Fin 256) :
    (outsAt0 m c t).1 (ix3 0 (pos k r) e) = result (argsOf m c) (bOf t) (hOf t) k r e := by
  unfold outsAt0 out0_A_12
  dsimp only
  rw [View.read_writes_junk_eq_canon, Pieces.run_eq]
  have hi : (ix3 0 (pos k r) e : S1x4096x256.Idx) = (Pieces.outOf k).emb (ix3 0 r e) := by
    funext a
    apply Fin.ext
    refine Eq.trans ?_ (ValueKit.rect_emb_unit_val _ _ _ _ _).symm
    fin_cases a <;> (simp [pos]; try omega)
  rw [hi, Pieces.canon_pieces]
  exact Head.result_apply (Staged.matches_ _ _ _ _ _ _ _ _ _ _ _ _ _ _ _ _ _ _ _ _ (held m c t)) hA k r e

/-- An element of the first result, its three coordinates given. -/
theorem mixed_at (c : Dev nD) (i : S4x4096x1024.Idx) (b h : Fin 4) (k : Fin 16) (r d : Fin 256)
    (h0 : (i 0 : ℕ) = b) (h1 : (i 1 : ℕ) = (k : ℕ) * 256 + r) (h2 : (i 2 : ℕ) = (h : ℕ) * 256 + d) :
    mixed m c i = result (argsOf m c) b h k r d := by
  unfold mixed
  congr 1 <;> apply Fin.ext <;> simp <;> omega

/-- The first result array after the run. -/
theorem final12 (c : Dev nD) (hA : Good (argsOf m c)) : (dats m 0 c).arrAt 12 cfg0.N = mixed m c := by
  refine (dats m 0 c).arrAt_eq_of_covers 12 _ (by decide +kernel) fun t hf y => ?_
  blk_simp
  rw [after0_12]
  have h1 : (y 1 : ℕ) < 4096 := (y 1).isLt
  have h2 : (y 2 : ℕ) < 256 := (y 2).isLt
  have h0 : (y 0 : ℕ) < 1 := (y 0).isLt
  have hy : y = (ix3 0 (pos ⟨(y 1 : ℕ) / 256, by omega⟩ ⟨(y 1 : ℕ) % 256, by omega⟩) ⟨(y 2 : ℕ), h2⟩ : S1x4096x256.Idx) := by
    funext a
    fin_cases a <;> (apply Fin.ext; simp [pos]; try omega)
  refine (congrArg (outsAt0 m c t).1 hy).trans ((out12 m c t hA _ _ _).trans ?_)
  have i12 := idx12 t
  have e0 : ((((cfg0.win 12).blk t).view.emb y 0 : Fin _) : ℕ) = t / 4 := by blk_simp; omega
  have e1 : ((((cfg0.win 12).blk t).view.emb y 1 : Fin _) : ℕ) = y 1 := by blk_simp; omega
  have e2 : ((((cfg0.win 12).blk t).view.emb y 2 : Fin _) : ℕ) = t % 4 * 256 + y 2 := by blk_simp; omega
  exact (mixed_at m c _ (bOf t) (hOf t) _ _ _ e0 (e1.trans (by simp; omega)) e2).symm

/-- The first rounded weight array after the run. -/
theorem final13 (c : Dev nD) : (dats m 0 c).arrAt 13 cfg0.N = m ((c : Thread nD τ).loc main_arg9) := by
  refine (dats m 0 c).arrAt_eq_of_covers 13 _ (by decide +kernel) fun t hf y => ?_
  blk_simp
  rw [after0_13]
  unfold outsAt0 out0_A_13
  dsimp only
  rw [View.read_writes_junk_eq_canon, Pieces.up_eq, View.canon_unit_zero (funext fun a => by fin_cases a <;> rfl)]
  unfold k0_pay1
  show View.readAt _ _ _ _ _ = _
  rw [Memref.IsWhole.readAt_unread]
  have i10 := idx10 t
  have i13 := idx13 t
  refine (congrArg (iblk m c 10 t) (a₂ := y) ?_).trans ?_
  · funext a
    fin_cases a <;> (apply Fin.ext; simp; try omega)
  blk_ext! [iblk, V, idx10 t, idx13 t]

/-- The second rounded weight array after the run. -/
theorem final14 (c : Dev nD) : (dats m 0 c).arrAt 14 cfg0.N = m ((c : Thread nD τ).loc main_arg10) := by
  refine (dats m 0 c).arrAt_eq_of_covers 14 _ (by decide +kernel) fun t hf y => ?_
  blk_simp
  rw [after0_14]
  unfold outsAt0 out0_A_14
  dsimp only
  rw [View.read_writes_junk_eq_canon, Pieces.down_eq, View.canon_unit_zero (funext fun a => by fin_cases a <;> rfl)]
  unfold k0_pay2
  show View.readAt _ _ _ _ _ = _
  rw [Memref.IsWhole.readAt_unread]
  have i11 := idx11 t
  have i14 := idx14 t
  refine (congrArg (iblk m c 11 t) (a₂ := y) ?_).trans ?_
  · funext a
    fin_cases a <;> (apply Fin.ext; simp; try omega)
  blk_ext! [iblk, V, idx11 t, idx14 t]

end Cert.KernelIdeal.KernelValue

end
-- ==== Proof.Prepared.lean ====
/- The precondition, evaluated at every place, gives the two facts about the prepared gates. -/
module

public import proofs.«01_k».proof.Defs
public import proofs.«01_k».proof.Proof.Gen.Pre_gates_as_prepared
public import proofs.«01_k».proof.Proof.KernelValue

@[expose] public section

noncomputable section

namespace Cert.Prepared

open Idealize.ShloMosaic Idealize.ShloMosaic.TcCoe Cert.Pre_gates_as_prepared Cert.Mlstm

variable (a0 : FVec Ideal S4x4x4096x256 .bf16) (a1 : FVec Ideal S4x16x1024x256 .bf16)
  (a2 : FVec Ideal S4x4096x3072 .bf16) (a3 : FVec Ideal S4x1x1024x256 .bf16) (a4 : FVec Ideal S4x256x1024 .bf16)
  (a5 : FVec Ideal S4x4x16x8x256 .f32) (a6 : FVec Ideal S4x4x4096x128 .f32) (a7 : FVec Ideal S4x4x8x256 .f32)
  (a8 : FVec Ideal S1x1024 .f32) (a9 : FVec Ideal S2048x8192 .f32) (a10 : FVec Ideal S2048x2048 .f32)

theorem ofBool_one {p : Bool} (h : BitVec.ofBool p = 1#1) : p = true := by
  revert h
  cases p <;> decide

/-- The first 128 places of a row compare the chunk's decay in each lane with its first lane. -/
theorem dec_of (h : fn a0 a1 a2 a3 a4 a5 a6 a7 a8 a9 a10 = fun _ => 1#1) (b hd : Fin 4) (c : Fin 16) (z : Fin 2) (l : Fin 128) :
    (a5 (ix5 b hd c ⟨2 + z, by omega⟩ ⟨l, by omega⟩) : EReal) = a5 (ix5 b hd c ⟨2 + z, by omega⟩ 0) := by
  have e := congrFun h (ix5 b hd c z ⟨l, by omega⟩)
  revert e
  pointwise [fn]
  intro e
  exact of_decide_eq_true (ofBool_one e)

/-- The other 256 places of a row compare the least denominator of each step with zero. -/
theorem floor_of (h : fn a0 a1 a2 a3 a4 a5 a6 a7 a8 a9 a10 = fun _ => 1#1) (b hd : Fin 4) (c : Fin 16) (z : Fin 2) (t : Fin 256) :
    (0 : EReal) < a6 (ix4 b hd (pos c t) ⟨3 * z + 2, by omega⟩) := by
  have e := congrFun h (ix5 b hd c z ⟨128 + t, by omega⟩)
  revert e
  pointwise [fn]
  intro e
  have e' := of_decide_eq_true (ofBool_one e)
  fin_cases z <;> exact e'

/-- The arrays of a memory that meets the precondition are good. -/
theorem good {m : (ℓ : Loc Cert.KernelIdeal.nD Cert.KernelIdeal.τ Cert.KernelIdeal.sig) → Buf (Elt Ideal) ℓ}
    (h : Pre_KernelIdeal_gates_as_prepared m) (c : Dev Cert.KernelIdeal.nD) :
    Good (Cert.KernelIdeal.KernelValue.argsOf m c) where
  dec b hd k z l := dec_of _ _ _ _ _ _ _ _ _ _ _ (h c) b hd k z l
  floor b hd r z := by
    have e := floor_of _ _ _ _ _ _ _ _ _ _ _ (h c) b hd ⟨(r : ℕ) / 256, by omega⟩ z ⟨(r : ℕ) % 256, by omega⟩
    have hr : pos ⟨(r : ℕ) / 256, by omega⟩ ⟨(r : ℕ) % 256, by omega⟩ = r := Fin.ext (by simp [pos]; omega)
    rw [hr] at e
    exact e

end Cert.Prepared

end
-- ==== Proof.MlpSpec.lean ====
/- The MLP with its modulated residual and the normalization after it, as mathematics over the extended reals. -/
module

public import Idealize.ShloMosaic.Lib.Pointwise
public import Mathlib.Logic.Equiv.Fin.Basic

@[expose] public section

noncomputable section

namespace Cert.Mlp

open Idealize.ShloMosaic

/-- The arrays both programs take, as functions of their coordinates: the normed input, the two weights, the residual
    stream, the modulation and the last norm's gains. -/
structure Args where
  hm : Fin 4 → Fin 4096 → Fin 2048 → EReal
  up : Fin 2048 → Fin 8192 → EReal
  down : Fin 8192 → Fin 2048 → EReal
  x : Fin 4 → Fin 4096 → Fin 2048 → EReal
  mod : Fin 8 → Fin 6 → Fin 2048 → EReal
  gain : Fin 2048 → EReal

/-- The square of the positive part. -/
def relu2 (x : EReal) : EReal := max x 0 * max x 0

/-- A hidden unit. -/
def hidden (A : Args) (b : Fin 4) (r : Fin 4096) (f : Fin 8192) : EReal := relu2 (∑ d, A.hm b r d * A.up d f)

/-- A row divided by its root mean square, under the gains. -/
def normed (v g : Fin 2048 → EReal) (e : Fin 2048) : EReal :=
  v e * Ideal.rsqrt (Ideal.div (∑ x, v x * v x) (Ideal.ofBits .f32 1157627904#32) + Ideal.ofBits .f32 897988541#32) * g e

/-- The residual stream after the MLP. -/
def stream (A : Args) (b : Fin 4) (r : Fin 4096) (e : Fin 2048) : EReal :=
  A.x b r e + A.mod ⟨b, by omega⟩ 5 e * ∑ f, hidden A b r f * A.down f e

/-- The layer's output. -/
def result (A : Args) (b : Fin 4) (r : Fin 4096) (e : Fin 2048) : EReal := normed (stream A b r) A.gain e

/-- Unit `j` of the `n`-th block of 1024 hidden units. -/
def unit (n : Fin 8) (j : Fin 1024) : Fin 8192 := ⟨n * 1024 + j, by omega⟩

/-- What one block of hidden units adds to the second product. -/
def part (A : Args) (b : Fin 4) (r : Fin 4096) (e : Fin 2048) (n : Fin 8) : EReal :=
  ∑ j, hidden A b r (unit n j) * A.down (unit n j) e

/-- The sum of the first `n + 1` blocks' contributions, added one after the other. -/
def upTo (A : Args) (b : Fin 4) (r : Fin 4096) (e : Fin 2048) : (n : ℕ) → n < 8 → EReal
  | 0, h => part A b r e ⟨0, h⟩
  | n + 1, h => upTo A b r e n (by omega) + part A b r e ⟨n + 1, h⟩

/-- The blocks make up the whole sum. -/
theorem upTo_last (A : Args) (b : Fin 4) (r : Fin 4096) (e : Fin 2048) :
    upTo A b r e 7 (by omega) = ∑ f, hidden A b r f * A.down f e := by
  have h := (finProdFinEquiv (m := 8) (n := 1024)).sum_comp (fun f => hidden A b r f * A.down f e)
  refine Eq.trans ?_ h
  rw [Fintype.sum_prod_type]
  have hu : ∀ (n : Fin 8) (j : Fin 1024), finProdFinEquiv (n, j) = unit n j := fun n j => Fin.ext
    ((finProdFinEquiv_apply_val (n, j)).trans (show (j : ℕ) + 1024 * n = n * 1024 + j by omega))
  simp only [hu]
  change _ = ∑ n : Fin 8, part A b r e n
  simp only [Fin.sum_univ_eight]
  rfl

end Cert.Mlp

end
-- ==== Proof.MlpBlock.lean ====
/- What the MLP kernel's program computes of the blocks it reads, element by element. -/
module

public import proofs.«01_k».proof.Proof.Gen.Kernel2Ideal.Frame
public import proofs.«01_k».proof.Proof.MlpSpec

@[expose] public section

noncomputable section

namespace Cert.Kernel2Ideal.MlpBlock

open Idealize.ShloMosaic Cert.Kernel2Ideal Cert.Kernel2Ideal.Gen Cert.Mlp

/-- What the staged blocks contribute to the second product. -/
def gathers (x0 : Vec Ideal S1x512x2048 .bf16) (x1 : Vec Ideal S2048x1024 .bf16) (x2 : Vec Ideal S1024x2048 .bf16)
    (r : Fin 512) (e : Fin 2048) : EReal :=
  ∑ f : Fin 1024, relu2 (∑ d : Fin 2048, x0 (ix3 0 r d) * x1 (ix2 d f)) * x2 (ix2 f e)

/-- The output's row over the staged blocks and what was gathered before. -/
def closes (acc : Vec Ideal S512x2048 .f32) (x0 : Vec Ideal S1x512x2048 .bf16) (x1 : Vec Ideal S2048x1024 .bf16)
    (x2 : Vec Ideal S1024x2048 .bf16) (x3 : Vec Ideal S1x512x2048 .f32) (x4 : Vec Ideal S1x6x2048 .f32)
    (x5 : Vec Ideal S1x2048 .f32) (r : Fin 512) (e : Fin 2048) : EReal :=
  normed (fun e => x3 (ix3 0 r e) + x4 (ix3 0 5 e) * (acc (ix2 r e) + gathers x0 x1 x2 r e)) (fun e => x5 (ix2 0 e)) e

/-- A block's contribution: its hidden units against the block of the second weight. -/
theorem pay1_apply (x0 : Vec Ideal S1x512x2048 .bf16) (x1 : Vec Ideal S2048x1024 .bf16) (x2 : Vec Ideal S1024x2048 .bf16)
    (r : Fin 512) (e : Fin 2048) :
    (k0_pay1 (F := Ideal) x0 x1 x2 (ix2 r e) : EReal) =
      ∑ f : Fin 1024, relu2 (∑ d : Fin 2048, x0 (ix3 0 r d) * x1 (ix2 d f)) * x2 (ix2 f e) := by
  pointwise [k0_pay1]
  rfl

/-- The same, added to what has been gathered. -/
theorem pay2_apply (acc : Vec Ideal S512x2048 .f32) (x0 : Vec Ideal S1x512x2048 .bf16) (x1 : Vec Ideal S2048x1024 .bf16) (x2 : Vec Ideal S1024x2048 .bf16)
    (r : Fin 512) (e : Fin 2048) :
    (k0_pay2 (F := Ideal) acc x0 x1 x2 (ix2 r e) : EReal) =
      acc (ix2 r e) + ∑ f : Fin 1024, relu2 (∑ d : Fin 2048, x0 (ix3 0 r d) * x1 (ix2 d f)) * x2 (ix2 f e) := by
  pointwise [k0_pay2]
  rfl

/-- The last block's step on the first half of the rows: residual, gate and norm. -/
theorem pay4_apply (acc : Vec Ideal S256x2048 .f32) (x0 : Vec Ideal S1x256x2048 .bf16) (x1 : Vec Ideal S2048x1024 .bf16) (x2 : Vec Ideal S1024x2048 .bf16)
    (x3 : Vec Ideal S1x256x2048 .f32) (x4 : Vec Ideal S1x1x2048 .f32) (x5 : Vec Ideal S1x2048 .f32)
    (r : Fin 256) (e : Fin 2048) :
    (k0_pay5 (k0_pay4 (F := Ideal) acc x0 x1 x2 x3 x4 x5) (ix3 0 r e) : EReal) =
      normed (fun e => x3 (ix3 0 r e) + x4 (ix3 0 0 e) * (acc (ix2 r e) +
        ∑ f : Fin 1024, relu2 (∑ d : Fin 2048, x0 (ix3 0 r d) * x1 (ix2 d f)) * x2 (ix2 f e))) (fun e => x5 (ix2 0 e)) e := by
  pointwise [k0_pay5, k0_pay4]
  rfl

/-- The same on the second half. -/
theorem pay6_apply (acc : Vec Ideal S256x2048 .f32) (x0 : Vec Ideal S1x256x2048 .bf16) (x1 : Vec Ideal S2048x1024 .bf16) (x2 : Vec Ideal S1024x2048 .bf16)
    (x3 : Vec Ideal S1x256x2048 .f32) (x4 : Vec Ideal S1x1x2048 .f32) (x5 : Vec Ideal S1x2048 .f32)
    (r : Fin 256) (e : Fin 2048) :
    (k0_pay3 (k0_pay6 (F := Ideal) acc x0 x1 x2 x3 x4 x5) (ix3 0 r e) : EReal) =
      normed (fun e => x3 (ix3 0 r e) + x4 (ix3 0 0 e) * (acc (ix2 r e) +
        ∑ f : Fin 1024, relu2 (∑ d : Fin 2048, x0 (ix3 0 r d) * x1 (ix2 d f)) * x2 (ix2 f e))) (fun e => x5 (ix2 0 e)) e := by
  pointwise [k0_pay3, k0_pay6]
  rfl

end Cert.Kernel2Ideal.MlpBlock

end
-- ==== Proof.MlpPieces.lean ====
/- What the MLP kernel's program writes at a grid point: its pieces, then their elements. -/
module

public import Idealize.ShloMosaic.Lib.WholeRead
public import Idealize.ShloMosaic.Lib.Pipeline.ValueKit
public import proofs.«01_k».proof.Proof.MlpBlock

@[expose] public section

set_option maxRecDepth 65536

noncomputable section

namespace Cert.Kernel2Ideal.MlpPieces

open Idealize.ShloMosaic Cert.Kernel2Ideal Cert.Kernel2Ideal.Gen Cert.Kernel2Ideal.MlpBlock Cert.Mlp

/-- The first 256 rows of a block of 512. -/
abbrev topHalf : Rect S1x512x2048 := Rect.unit (s := S1x512x2048) ![0, 0, 0] S1x256x2048.size inb_S1x512x2048_S1x256x2048_0_0_0
/-- The last 256 rows. -/
abbrev lowHalf : Rect S1x512x2048 := Rect.unit (s := S1x512x2048) ![0, 256, 0] S1x256x2048.size inb_S1x512x2048_S1x256x2048_0_256_0

/-- The halves are disjoint. -/
theorem top_not_mem (j : topHalf.shape.Idx) : topHalf.emb j ∉ lowHalf.set := by
  intro hm
  rw [Rect.mem_set_unit] at hm
  have h0 := (hm 1).1
  rw [ValueKit.rect_emb_unit_val] at h0
  have hj := (j 1).2
  simp [Shape.size] at h0 hj
  omega

section
variable {F : FTy → Type} [FloatOps F] (c : Dev nD) (i : grid0.Coords)
  (arg3 : Memref sig .tc .vmem S1x512x2048 .bf16) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S1x512x2048 .f32) (harg6 : arg6.IsWhole)
  (arg7 : Memref sig .tc .vmem S1x6x2048 .f32) (harg7 : arg7.IsWhole)
  (arg8 : Memref sig .tc .vmem S1x2048 .f32) (harg8 : arg8.IsWhole)
  (arg9 : Memref sig .tc .vmem S1x512x2048 .f32) (harg9 : arg9.IsWhole)
  (arg10 : Memref sig .tc .vmem S512x2048 .f32) (harg10 : arg10.IsWhole)
  (x0 : Vec F S1x512x2048 .bf16)
  (x1 : Vec F S2048x1024 .bf16)
  (x2 : Vec F S1024x2048 .bf16)
  (x3 : Vec F S1x512x2048 .f32)
  (x4 : Vec F S1x6x2048 .f32)
  (x5 : Vec F S1x2048 .f32)
  (xs0 : Vec F S512x2048 .f32)

/-- At a tile's first point the gathered sum is set to the block's contribution. -/
theorem first_eq (hc0 : cond0_0 i) (hc1 : ¬cond0_1 i) (hc2 : ¬cond0_2 i) :
    (kernelRun0_A c i arg3 harg3 arg4 harg4 arg5 harg5 arg6 harg6 arg7 harg7 arg8 harg8 arg9 harg9 arg10 harg10 hc0 hc1 hc2 x0 x1 x2 x3 x4 x5).2.1 =
      [⟨Rect.unit (s := S512x2048) ![0, 0] S512x2048.size inb_S512x2048_S512x2048_0_0,
        k0_pay1 (View.readAt (Elt F) arg3.view (Rect.unit (s := S1x512x2048) ![0, 0, 0] S1x512x2048.size inb_S1x512x2048_S1x512x2048_0_0_0).toLoadRect (harg3.unread x0))
        (View.readAt (Elt F) arg4.view (Rect.unit (s := S2048x1024) ![0, 0] S2048x1024.size inb_S2048x1024_S2048x1024_0_0).toLoadRect (harg4.unread x1))
        (View.readAt (Elt F) arg5.view (Rect.unit (s := S1024x2048) ![0, 0] S1024x2048.size inb_S1024x2048_S1024x2048_0_0).toLoadRect (harg5.unread x2))⟩] := by
  sl_kernel_rfl

/-- At the points between, the block's contribution is added. -/
theorem next_eq (hc0 : ¬cond0_0 i) (hc1 : cond0_1 i) (hc2 : ¬cond0_2 i) :
    (kernelRun0_B c i arg3 harg3 arg4 harg4 arg5 harg5 arg6 harg6 arg7 harg7 arg8 harg8 arg9 harg9 arg10 harg10 hc0 hc1 hc2 x0 x1 x2 x3 x4 x5 xs0).2.1 =
      [⟨Rect.unit (s := S512x2048) ![0, 0] S512x2048.size inb_S512x2048_S512x2048_0_0,
        k0_pay2 (View.readAt (Elt F) arg10.view (Rect.unit (s := S512x2048) ![0, 0] S512x2048.size inb_S512x2048_S512x2048_0_0).toLoadRect (harg10.unread xs0))
        (View.readAt (Elt F) arg3.view (Rect.unit (s := S1x512x2048) ![0, 0, 0] S1x512x2048.size inb_S1x512x2048_S1x512x2048_0_0_0).toLoadRect (harg3.unread x0))
        (View.readAt (Elt F) arg4.view (Rect.unit (s := S2048x1024) ![0, 0] S2048x1024.size inb_S2048x1024_S2048x1024_0_0).toLoadRect (harg4.unread x1))
        (View.readAt (Elt F) arg5.view (Rect.unit (s := S1024x2048) ![0, 0] S1024x2048.size inb_S1024x2048_S1024x2048_0_0).toLoadRect (harg5.unread x2))⟩] := by
  sl_kernel_rfl

/-- At its last point the two halves of the output's block are written. -/
theorem last_eq (hc0 : ¬cond0_0 i) (hc1 : ¬cond0_1 i) (hc2 : cond0_2 i) :
    (kernelRun0_C c i arg3 harg3 arg4 harg4 arg5 harg5 arg6 harg6 arg7 harg7 arg8 harg8 arg9 harg9 arg10 harg10 hc0 hc1 hc2 x0 x1 x2 x3 x4 x5 xs0).1 =
      [⟨lowHalf, k0_pay3 (k0_pay6 (View.readAt (Elt F) arg10.view (Rect.unit (s := S512x2048) ![256, 0] S256x2048.size inb_S512x2048_S256x2048_256_0).toLoadRect (harg10.unread xs0))
        (View.readAt (Elt F) arg3.view (Rect.unit (s := S1x512x2048) ![0, 256, 0] S1x256x2048.size inb_S1x512x2048_S1x256x2048_0_256_0).toLoadRect (harg3.unread x0))
        (View.readAt (Elt F) arg4.view (Rect.unit (s := S2048x1024) ![0, 0] S2048x1024.size inb_S2048x1024_S2048x1024_0_0).toLoadRect (harg4.unread x1))
        (View.readAt (Elt F) arg5.view (Rect.unit (s := S1024x2048) ![0, 0] S1024x2048.size inb_S1024x2048_S1024x2048_0_0).toLoadRect (harg5.unread x2))
        (View.readAt (Elt F) arg6.view (Rect.unit (s := S1x512x2048) ![0, 256, 0] S1x256x2048.size inb_S1x512x2048_S1x256x2048_0_256_0).toLoadRect (harg6.unread x3))
        (View.readAt (Elt F) arg7.view (Rect.unit (s := S1x6x2048) ![0, 5, 0] S1x1x2048.size inb_S1x6x2048_S1x1x2048_0_5_0).toLoadRect (harg7.unread x4))
        (View.readAt (Elt F) arg8.view (Rect.unit (s := S1x2048) ![0, 0] S1x2048.size inb_S1x2048_S1x2048_0_0).toLoadRect (harg8.unread x5)))⟩,
       ⟨topHalf, k0_pay5 (k0_pay4 (View.readAt (Elt F) arg10.view (Rect.unit (s := S512x2048) ![0, 0] S256x2048.size inb_S512x2048_S256x2048_0_0).toLoadRect (harg10.unread xs0))
        (View.readAt (Elt F) arg3.view (Rect.unit (s := S1x512x2048) ![0, 0, 0] S1x256x2048.size inb_S1x512x2048_S1x256x2048_0_0_0).toLoadRect (harg3.unread x0))
        (View.readAt (Elt F) arg4.view (Rect.unit (s := S2048x1024) ![0, 0] S2048x1024.size inb_S2048x1024_S2048x1024_0_0).toLoadRect (harg4.unread x1))
        (View.readAt (Elt F) arg5.view (Rect.unit (s := S1024x2048) ![0, 0] S1024x2048.size inb_S1024x2048_S1024x2048_0_0).toLoadRect (harg5.unread x2))
        (View.readAt (Elt F) arg6.view (Rect.unit (s := S1x512x2048) ![0, 0, 0] S1x256x2048.size inb_S1x512x2048_S1x256x2048_0_0_0).toLoadRect (harg6.unread x3))
        (View.readAt (Elt F) arg7.view (Rect.unit (s := S1x6x2048) ![0, 5, 0] S1x1x2048.size inb_S1x6x2048_S1x1x2048_0_5_0).toLoadRect (harg7.unread x4))
        (View.readAt (Elt F) arg8.view (Rect.unit (s := S1x2048) ![0, 0] S1x2048.size inb_S1x2048_S1x2048_0_0).toLoadRect (harg8.unread x5)))⟩] := by
  sl_kernel_rfl
end

section
variable (c : Dev nD) (i : grid0.Coords)
  (arg3 : Memref sig .tc .vmem S1x512x2048 .bf16) (harg3 : arg3.IsWhole)
  (arg4 : Memref sig .tc .vmem S2048x1024 .bf16) (harg4 : arg4.IsWhole)
  (arg5 : Memref sig .tc .vmem S1024x2048 .bf16) (harg5 : arg5.IsWhole)
  (arg6 : Memref sig .tc .vmem S1x512x2048 .f32) (harg6 : arg6.IsWhole)
  (arg7 : Memref sig .tc .vmem S1x6x2048 .f32) (harg7 : arg7.IsWhole)
  (arg8 : Memref sig .tc .vmem S1x2048 .f32) (harg8 : arg8.IsWhole)
  (arg9 : Memref sig .tc .vmem S1x512x2048 .f32) (harg9 : arg9.IsWhole)
  (arg10 : Memref sig .tc .vmem S512x2048 .f32) (harg10 : arg10.IsWhole)
  (x0 : Vec Ideal S1x512x2048 .bf16)
  (x1 : Vec Ideal S2048x1024 .bf16)
  (x2 : Vec Ideal S1024x2048 .bf16)
  (x3 : Vec Ideal S1x512x2048 .f32)
  (x4 : Vec Ideal S1x6x2048 .f32)
  (x5 : Vec Ideal S1x2048 .f32)
  (xs0 : Vec Ideal S512x2048 .f32)

/-- What the first point leaves gathered. -/
theorem first_apply (hc0 : cond0_0 i) (hc1 : ¬cond0_1 i) (hc2 : ¬cond0_2 i) (r : Fin 512) (e : Fin 2048) :
    (sout0_A_0 c i arg3 harg3 arg4 harg4 arg5 harg5 arg6 harg6 arg7 harg7 arg8 harg8 arg9 harg9 arg10 harg10 hc0 hc1 hc2 x0 x1 x2 x3 x4 x5 (ix2 r e) : EReal) =
      gathers x0 x1 x2 r e := by
  unfold sout0_A_0
  rw [View.read_writes_junk_eq_canon, first_eq, View.canon_unit_zero (funext fun a => by fin_cases a <;> rfl), pay1_apply]
  exact Finset.sum_congr rfl fun f _ => congrArg₂ (· * ·)
      (congrArg relu2 (Finset.sum_congr rfl fun d _ => congrArg₂ (· * ·)
        ((harg3.readAt_unread x0 _ _).trans (congrArg x0 (funext fun a => by fin_cases a <;> (apply Fin.ext; simp))))
        ((harg4.readAt_unread x1 _ _).trans (congrArg x1 (funext fun a => by fin_cases a <;> (apply Fin.ext; simp))))))
      ((harg5.readAt_unread x2 _ _).trans (congrArg x2 (funext fun a => by fin_cases a <;> (apply Fin.ext; simp))))

/-- What a point between leaves gathered, over what the one before left. -/
theorem next_apply (hc0 : ¬cond0_0 i) (hc1 : cond0_1 i) (hc2 : ¬cond0_2 i) (r : Fin 512) (e : Fin 2048) :
    (sout0_B_0 c i arg3 harg3 arg4 harg4 arg5 harg5 arg6 harg6 arg7 harg7 arg8 harg8 arg9 harg9 arg10 harg10 hc0 hc1 hc2 x0 x1 x2 x3 x4 x5 xs0 (ix2 r e) : EReal) =
      xs0 (ix2 r e) + gathers x0 x1 x2 r e := by
  unfold sout0_B_0
  rw [View.read_writes_junk_eq_canon, next_eq, View.canon_unit_zero (funext fun a => by fin_cases a <;> rfl), pay2_apply]
  exact congrArg₂ (· + ·)
    ((harg10.readAt_unread xs0 _ _).trans (congrArg xs0 (funext fun a => by fin_cases a <;> (apply Fin.ext; simp))))
    (Finset.sum_congr rfl fun f _ => congrArg₂ (· * ·)
      (congrArg relu2 (Finset.sum_congr rfl fun d _ => congrArg₂ (· * ·)
        ((harg3.readAt_unread x0 _ _).trans (congrArg x0 (funext fun a => by fin_cases a <;> (apply Fin.ext; simp))))
        ((harg4.readAt_unread x1 _ _).trans (congrArg x1 (funext fun a => by fin_cases a <;> (apply Fin.ext; simp))))))
      ((harg5.readAt_unread x2 _ _).trans (congrArg x2 (funext fun a => by fin_cases a <;> (apply Fin.ext; simp)))))

/-- What the last point writes in the first 256 rows. -/
theorem top_apply (hc0 : ¬cond0_0 i) (hc1 : ¬cond0_1 i) (hc2 : cond0_2 i) (r : Fin 256) (e : Fin 2048) :
    (out0_C_6 c i arg3 harg3 arg4 harg4 arg5 harg5 arg6 harg6 arg7 harg7 arg8 harg8 arg9 harg9 arg10 harg10 hc0 hc1 hc2 x0 x1 x2 x3 x4 x5 xs0 (topHalf.emb (ix3 0 r e)) : EReal) =
      closes xs0 x0 x1 x2 x3 x4 x5 ⟨r, by omega⟩ e := by
  unfold out0_C_6
  rw [View.read_writes_junk_eq_canon, last_eq]
  refine (View.canon_cons_of_not_mem ⟨lowHalf, _⟩ _ (top_not_mem _)).trans ?_
  refine (View.canon_cons_emb _ _ _ _).trans ?_
  refine (pay4_apply _ _ _ _ _ _ _ r e).trans ?_
  exact congrArg₂ (fun v g => normed v g e)
    (funext fun e => congrArg₂ (· + ·) ((harg6.readAt_unread x3 _ _).trans (congrArg x3 (funext fun a => by fin_cases a <;> (apply Fin.ext; simp))))
      (congrArg₂ (· * ·) ((harg7.readAt_unread x4 _ _).trans (congrArg x4 (funext fun a => by fin_cases a <;> (apply Fin.ext; simp))))
        (congrArg₂ (· + ·) ((harg10.readAt_unread xs0 _ _).trans (congrArg xs0 (funext fun a => by fin_cases a <;> (apply Fin.ext; simp))))
    (Finset.sum_congr rfl fun f _ => congrArg₂ (· * ·)
      (congrArg relu2 (Finset.sum_congr rfl fun d _ => congrArg₂ (· * ·)
        ((harg3.readAt_unread x0 _ _).trans (congrArg x0 (funext fun a => by fin_cases a <;> (apply Fin.ext; simp))))
        ((harg4.readAt_unread x1 _ _).trans (congrArg x1 (funext fun a => by fin_cases a <;> (apply Fin.ext; simp))))))
      ((harg5.readAt_unread x2 _ _).trans (congrArg x2 (funext fun a => by fin_cases a <;> (apply Fin.ext; simp))))))))
    (funext fun e => (harg8.readAt_unread x5 _ _).trans (congrArg x5 (funext fun a => by fin_cases a <;> (apply Fin.ext; simp))))

/-- What the last point writes in the last 256 rows. -/
theorem low_apply (hc0 : ¬cond0_0 i) (hc1 : ¬cond0_1 i) (hc2 : cond0_2 i) (r : Fin 256) (e : Fin 2048) :
    (out0_C_6 c i arg3 harg3 arg4 harg4 arg5 harg5 arg6 harg6 arg7 harg7 arg8 harg8 arg9 harg9 arg10 harg10 hc0 hc1 hc2 x0 x1 x2 x3 x4 x5 xs0 (lowHalf.emb (ix3 0 r e)) : EReal) =
      closes xs0 x0 x1 x2 x3 x4 x5 ⟨256 + r, by omega⟩ e := by
  unfold out0_C_6
  rw [View.read_writes_junk_eq_canon, last_eq]
  refine (View.canon_cons_emb _ _ _ _).trans ?_
  refine (pay6_apply _ _ _ _ _ _ _ r e).trans ?_
  exact congrArg₂ (fun v g => normed v g e)
    (funext fun e => congrArg₂ (· + ·) ((harg6.readAt_unread x3 _ _).trans (congrArg x3 (funext fun a => by fin_cases a <;> (apply Fin.ext; simp))))
      (congrArg₂ (· * ·) ((harg7.readAt_unread x4 _ _).trans (congrArg x4 (funext fun a => by fin_cases a <;> (apply Fin.ext; simp))))
        (congrArg₂ (· + ·) ((harg10.readAt_unread xs0 _ _).trans (congrArg xs0 (funext fun a => by fin_cases a <;> (apply Fin.ext; simp))))
    (Finset.sum_congr rfl fun f _ => congrArg₂ (· * ·)
      (congrArg relu2 (Finset.sum_congr rfl fun d _ => congrArg₂ (· * ·)
        ((harg3.readAt_unread x0 _ _).trans (congrArg x0 (funext fun a => by fin_cases a <;> (apply Fin.ext; simp))))
        ((harg4.readAt_unread x1 _ _).trans (congrArg x1 (funext fun a => by fin_cases a <;> (apply Fin.ext; simp))))))
      ((harg5.readAt_unread x2 _ _).trans (congrArg x2 (funext fun a => by fin_cases a <;> (apply Fin.ext; simp))))))))
    (funext fun e => (harg8.readAt_unread x5 _ _).trans (congrArg x5 (funext fun a => by fin_cases a <;> (apply Fin.ext; simp))))

end

end Cert.Kernel2Ideal.MlpPieces

end
-- ==== Proof.MlpValue.lean ====
/- What the MLP kernel's program leaves in its result array. -/
module

public import proofs.«01_k».proof.Proof.Gen.Kernel2Ideal.Value
public import Idealize.ShloMosaic.Lib.Pipeline.ValueKit
public import proofs.«01_k».proof.Proof.MlpPieces

@[expose] public section

set_option maxRecDepth 65536

noncomputable section

namespace Cert.Kernel2Ideal.MlpValue

open Idealize.ShloMosaic Idealize.ShloMosaic.TcCoe Cert.Kernel2Ideal Cert.Kernel2Ideal.Gen Cert.Kernel2Ideal.MlpPieces
open Cert.Kernel2Ideal.MlpBlock Cert.Mlp

variable (m : (ℓ : Loc nD τ sig) → Buf (Elt Ideal) ℓ)

/-- The argument arrays as functions of their coordinates. -/
def argsOf (c : Dev nD) : Args where
  hm b r d := m ((c : Thread nD τ).loc main_arg0) (ix3 b r d)
  up d f := m ((c : Thread nD τ).loc main_arg1) (ix2 d f)
  down f e := m ((c : Thread nD τ).loc main_arg2) (ix2 f e)
  x b r e := m ((c : Thread nD τ).loc main_arg3) (ix3 b r e)
  mod b j e := m ((c : Thread nD τ).loc main_arg4) (ix3 b j e)
  gain e := m ((c : Thread nD τ).loc main_arg5) (ix2 0 e)

/-- The batch member of a grid point. -/
def bOf (t : Fin cfg0.N) : Fin 4 := ⟨t / 64, by have := t.isLt; have : cfg0.N = 256 := N_0; omega⟩
/-- A row of the tile of a grid point. -/
def rowOf (t : Fin cfg0.N) (r : Fin 512) : Fin 4096 := ⟨t / 8 % 8 * 512 + r, by omega⟩
/-- The block of hidden units of a grid point. -/
def fOf (t : Fin cfg0.N) : Fin 8 := ⟨t % 8, by omega⟩

theorem idx0 : ∀ t : Fin cfg0.N, win0_0.index t 0 = t / 64 ∧ win0_0.index t 1 = t / 8 % 8 ∧ win0_0.index t 2 = 0 :=
  (by decide +kernel : ∀ t : Fin grid0.N, _)
theorem idx1 : ∀ t : Fin cfg0.N, win0_1.index t 0 = 0 ∧ win0_1.index t 1 = t % 8 :=
  (by decide +kernel : ∀ t : Fin grid0.N, _)
theorem idx2 : ∀ t : Fin cfg0.N, win0_2.index t 0 = t % 8 ∧ win0_2.index t 1 = 0 :=
  (by decide +kernel : ∀ t : Fin grid0.N, _)
theorem idx3 : ∀ t : Fin cfg0.N, win0_3.index t 0 = t / 64 ∧ win0_3.index t 1 = t / 8 % 8 ∧ win0_3.index t 2 = 0 :=
  (by decide +kernel : ∀ t : Fin grid0.N, _)
theorem idx4 : ∀ t : Fin cfg0.N, win0_4.index t 0 = t / 64 ∧ win0_4.index t 1 = 0 ∧ win0_4.index t 2 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = t / 64 ∧ win0_6.index t 1 = t / 8 % 8 ∧ win0_6.index t 2 = 0 :=
  (by decide +kernel : ∀ t : Fin grid0.N, _)

theorem hm_eq (c : Dev nD) (t : Fin cfg0.N) (r : Fin 512) (d : Fin 2048) :
    (iblk m c 0 t (ix3 0 r d) : EReal) = (argsOf m c).hm (bOf t) (rowOf t r) d := by
  show _ = m ((c : Thread nD τ).loc main_arg0) (ix3 (bOf t) (rowOf t r) d)
  unfold bOf rowOf
  blk_ext! [iblk, V, idx0 t]
theorem up_eq (c : Dev nD) (t : Fin cfg0.N) (d : Fin 2048) (f : Fin 1024) :
    (iblk m c 1 t (ix2 d f) : EReal) = (argsOf m c).up d (unit (fOf t) f) := by
  show _ = m ((c : Thread nD τ).loc main_arg1) (ix2 d (unit (fOf t) f))
  unfold fOf unit
  blk_ext! [iblk, V, idx1 t]
theorem down_eq (c : Dev nD) (t : Fin cfg0.N) (f : Fin 1024) (e : Fin 2048) :
    (iblk m c 2 t (ix2 f e) : EReal) = (argsOf m c).down (unit (fOf t) f) e := by
  show _ = m ((c : Thread nD τ).loc main_arg2) (ix2 (unit (fOf t) f) e)
  unfold fOf unit
  blk_ext! [iblk, V, idx2 t]
theorem x_eq (c : Dev nD) (t : Fin cfg0.N) (r : Fin 512) (e : Fin 2048) :
    (iblk m c 3 t (ix3 0 r e) : EReal) = (argsOf m c).x (bOf t) (rowOf t r) e := by
  show _ = m ((c : Thread nD τ).loc main_arg3) (ix3 (bOf t) (rowOf t r) e)
  unfold bOf rowOf
  blk_ext! [iblk, V, idx3 t]
theorem mod_eq (c : Dev nD) (t : Fin cfg0.N) (j : Fin 6) (e : Fin 2048) :
    (iblk m c 4 t (ix3 0 j e) : EReal) = (argsOf m c).mod ⟨bOf t, by omega⟩ j e := by
  show _ = m ((c : Thread nD τ).loc main_arg4) (ix3 ⟨bOf t, _⟩ j e)
  unfold bOf
  blk_ext! [iblk, V, idx4 t]
theorem gain_eq (c : Dev nD) (t : Fin cfg0.N) (e : Fin 2048) :
    (iblk m c 5 t (ix2 0 e) : EReal) = (argsOf m c).gain e := by
  show _ = m ((c : Thread nD τ).loc main_arg5) (ix2 0 e)
  blk_ext! [iblk, V, idx5 t]

/-- The contribution computed at a grid point is that of its block of hidden units. -/
theorem part_eq (c : Dev nD) (t : Fin cfg0.N) (r : Fin 512) (e : Fin 2048) :
    gathers (iblk m c 0 t) (iblk m c 1 t) (iblk m c 2 t) r e = part (argsOf m c) (bOf t) (rowOf t r) e (fOf t) := by
  unfold gathers part Mlp.hidden
  exact Finset.sum_congr rfl fun f _ => congrArg₂ (· * ·)
    (congrArg relu2 (Finset.sum_congr rfl fun d _ => congrArg₂ (· * ·) (hm_eq m c t r d) (up_eq m c t d f)))
    (down_eq m c t f e)

/-- A tile's first point leaves its block's contribution. -/
theorem first_at (c : Dev nD) (t : Fin cfg0.N) (h : t.val % 8 = 0) (r : Fin 512) (e : Fin 2048) :
    ((outsAt0 m c t.val t.isLt).2 (ix2 r e) : EReal) = part (argsOf m c) (bOf t) (rowOf t r) e (fOf t) := by
  refine (congrArg (fun p => p.2 (ix2 r e)) (outsAt0_A m c t h (by omega) (by omega))).trans ?_
  dsimp only
  rw [first_apply]
  exact part_eq m c t r e

/-- A point between adds its block's contribution to what the one before left. -/
theorem next_at (c : Dev nD) (t : Fin cfg0.N) (h0 : t.val % 8 ≠ 0) (h : t.val % 8 ≠ 7) (r : Fin 512) (e : Fin 2048) :
    ((outsAt0 m c t.val t.isLt).2 (ix2 r e) : EReal) =
      (outsAt0 m c (t.val - 1) (Nat.lt_of_le_of_lt (Nat.sub_le _ _) t.isLt)).2 (ix2 r e) +
        part (argsOf m c) (bOf t) (rowOf t r) e (fOf t) := by
  refine (congrArg (fun p => p.2 (ix2 r e)) (outsAt0_B m c t h0 (by omega) h)).trans ?_
  dsimp only
  rw [next_apply]
  exact congrArg₂ (· + ·) rfl (part_eq m c t r e)

/-- Before a tile's last point, what has been gathered is the sum of the blocks so far. -/
theorem gathered (c : Dev nD) : ∀ (n : ℕ) (hn : n < cfg0.N) (hk : n % 8 < 7) (r : Fin 512) (e : Fin 2048),
    ((outsAt0 m c n hn).2 (ix2 r e) : EReal) =
      upTo (argsOf m c) (bOf ⟨n, hn⟩) (rowOf ⟨n, hn⟩ r) e (n % 8) (by omega) := by
  have base : ∀ (n : ℕ) (hn : n < cfg0.N) (h : n % 8 = 0) (r : Fin 512) (e : Fin 2048),
      ((outsAt0 m c n hn).2 (ix2 r e) : EReal) =
        upTo (argsOf m c) (bOf ⟨n, hn⟩) (rowOf ⟨n, hn⟩ r) e (n % 8) (by omega) := by
    intro n hn h r e
    refine (first_at m c ⟨n, hn⟩ h r e).trans ?_
    simp only [h, upTo, fOf]
  intro n
  induction n with
  | zero => exact fun hn hk r e => base 0 hn rfl r e
  | succ n ih =>
    intro hn hk r e
    have hN : cfg0.N = 256 := N_0
    by_cases h : (n + 1) % 8 = 0
    · exact base (n + 1) hn h r e
    · refine (next_at m c ⟨n + 1, hn⟩ h (show (n + 1) % 8 ≠ 7 by omega) r e).trans ?_
      refine (congrArg (· + part (argsOf m c) (bOf ⟨n + 1, hn⟩) (rowOf ⟨n + 1, hn⟩ r) e (fOf ⟨n + 1, hn⟩))
        (ih (by omega) (by omega) r e)).trans ?_
      have e1 : (n + 1) % 8 = n % 8 + 1 := by omega
      have eb : bOf ⟨n, by omega⟩ = bOf ⟨n + 1, hn⟩ := Fin.ext (by simp only [bOf]; omega)
      have er : rowOf ⟨n, by omega⟩ r = rowOf ⟨n + 1, hn⟩ r := Fin.ext (by simp only [rowOf]; omega)
      rw [eb, er]
      simp only [e1, upTo, fOf]

/-- At a tile's last point the whole sum is there. -/
theorem whole_eq (c : Dev nD) (t : Fin cfg0.N) (h : t.val % 8 = 7) (r : Fin 512) (e : Fin 2048) :
    ((outsAt0 m c (t.val - 1) (Nat.lt_of_le_of_lt (Nat.sub_le _ _) t.isLt)).2 (ix2 r e) : EReal) +
      gathers (iblk m c 0 t) (iblk m c 1 t) (iblk m c 2 t) r e =
      ∑ f, Mlp.hidden (argsOf m c) (bOf t) (rowOf t r) f * (argsOf m c).down f e := by
  have hN : cfg0.N = 256 := N_0
  have hlt := t.isLt
  refine (congrArg₂ (· + ·) (gathered m c (t.val - 1) _ (by omega) r e) (part_eq m c t r e)).trans ?_
  rw [← upTo_last]
  have e1 : (t.val - 1) % 8 = 6 := by omega
  have eb : bOf ⟨t.val - 1, by omega⟩ = bOf t := Fin.ext (by simp only [bOf]; omega)
  have er : rowOf ⟨t.val - 1, by omega⟩ r = rowOf t r := Fin.ext (by simp only [rowOf]; omega)
  have ef : fOf t = ⟨7, by omega⟩ := Fin.ext h
  rw [eb, er, ef]
  simp only [e1]
  rfl

/-- What the last point writes, from what it reads, is the layer's output there. -/
theorem row_eq (c : Dev nD) (t : Fin cfg0.N) (h : t.val % 8 = 7) (r : Fin 512) (e : Fin 2048) :
    closes (outsAt0 m c (t.val - 1) (Nat.lt_of_le_of_lt (Nat.sub_le _ _) t.isLt)).2 (iblk m c 0 t) (iblk m c 1 t)
      (iblk m c 2 t) (iblk m c 3 t) (iblk m c 4 t) (iblk m c 5 t) r e = result (argsOf m c) (bOf t) (rowOf t r) e :=
  congrArg₂ (fun v g => normed v g e)
    (funext fun e => congrArg₂ (· + ·) (x_eq m c t r e) (congrArg₂ (· * ·) (mod_eq m c t 5 e) (whole_eq m c t h r e)))
    (funext fun e => gain_eq m c t e)

/-- What a tile's last point leaves in its block of the result. -/
theorem out_eq (c : Dev nD) (t : Fin cfg0.N) (h : t.val % 8 = 7) (r : Fin 512) (e : Fin 2048) :
    ((outsAt0 m c t.val t.isLt).1 (ix3 0 r e) : EReal) = result (argsOf m c) (bOf t) (rowOf t r) e := by
  refine (congrArg (fun p => p.1 (ix3 0 r e)) (outsAt0_C m c t (by omega) (by omega) h)).trans ?_
  dsimp only
  by_cases hr : (r : ℕ) < 256
  · have hi : (ix3 0 r e : S1x512x2048.Idx) = topHalf.emb (ix3 0 ⟨r, hr⟩ e) := by
      funext a
      apply Fin.ext
      refine Eq.trans ?_ (ValueKit.rect_emb_unit_val _ _ _ _ _).symm
      fin_cases a <;> (simp; try omega)
    rw [hi, top_apply]
    exact row_eq m c t h r e
  · have hi : (ix3 0 r e : S1x512x2048.Idx) = lowHalf.emb (ix3 0 ⟨r - 256, by omega⟩ e) := by
      funext a
      apply Fin.ext
      refine Eq.trans ?_ (ValueKit.rect_emb_unit_val _ _ _ _ _).symm
      fin_cases a <;> (simp; try omega)
    have er : (⟨256 + (r - 256 : ℕ), by omega⟩ : Fin 512) = r := Fin.ext (by simp only; omega)
    rw [hi, low_apply]
    simp only [er]
    exact row_eq m c t h r e

/-- The result array. -/
def output (c : Dev nD) : Vec Ideal S4x4096x2048 .f32 := fun i => result (argsOf m c) (i 0) (i 1) (i 2)

/-- An element of the result, its three coordinates given. -/
theorem output_at (c : Dev nD) (i : S4x4096x2048.Idx) (b : Fin 4) (r : Fin 4096) (e : Fin 2048)
    (h0 : (i 0 : ℕ) = b) (h1 : (i 1 : ℕ) = r) (h2 : (i 2 : ℕ) = e) : output m c i = result (argsOf m c) b r e := by
  unfold output
  congr 1 <;> apply Fin.ext <;> assumption

/-- The result array after the run. -/
theorem final6 (c : Dev nD) : (dats m 0 c).arrAt 6 cfg0.N = output m c := by
  refine (dats m 0 c).arrAt_eq_of_covers 6 _ (by decide +kernel) fun t hf y => ?_
  have hf' : t.val % 8 = 7 := (flush0_6 t).mp hf
  blk_simp
  rw [after0_6]
  have h1 : (y 1 : ℕ) < 512 := (y 1).isLt
  have h2 : (y 2 : ℕ) < 2048 := (y 2).isLt
  have h0 : (y 0 : ℕ) < 1 := (y 0).isLt
  have hy : y = (ix3 0 ⟨(y 1 : ℕ), h1⟩ ⟨(y 2 : ℕ), h2⟩ : S1x512x2048.Idx) := by
    funext a
    fin_cases a <;> (apply Fin.ext; simp; try omega)
  refine (congrArg (outsAt0 m c t.val t.isLt).1 hy).trans ((out_eq m c t hf' _ _).trans ?_)
  have i6 := idx6 t
  have e0 : ((((cfg0.win 6).blk t).view.emb y 0 : Fin _) : ℕ) = t / 64 := by blk_simp; omega
  have e1 : ((((cfg0.win 6).blk t).view.emb y 1 : Fin _) : ℕ) = t / 8 % 8 * 512 + y 1 := by blk_simp; omega
  have e2 : ((((cfg0.win 6).blk t).view.emb y 2 : Fin _) : ℕ) = y 2 := by blk_simp; omega
  exact (output_at m c _ (bOf t) (rowOf t _) _ e0 e1 e2).symm

end Cert.Kernel2Ideal.MlpValue

end
-- ==== Proof.MlpReference.lean ====
/- The MLP's reference, element by element. -/
module

public import proofs.«01_k».proof.Proof.Gen.Reference2Ideal.Run
public import proofs.«01_k».proof.Proof.MlpSpec

@[expose] public section

noncomputable section

namespace Cert.Reference2Ideal.MlpReference

open Idealize.ShloMosaic Idealize.ShloMosaic.TcCoe Cert.Reference2Ideal Cert.Reference2Ideal.Value Cert.Mlp

variable (m : (ℓ : Loc nD τ sig) → Buf (Elt Ideal) ℓ)

/-- The argument arrays as functions of their coordinates. -/
def argsOf (c : Dev nD) : Args where
  hm b r d := m ((c.tc : Thread nD τ).loc main_arg0) (ix3 b r d)
  up d f := m ((c.tc : Thread nD τ).loc main_arg1) (ix2 d f)
  down f e := m ((c.tc : Thread nD τ).loc main_arg2) (ix2 f e)
  x b r e := m ((c.tc : Thread nD τ).loc main_arg3) (ix3 b r e)
  mod b j e := m ((c.tc : Thread nD τ).loc main_arg4) (ix3 b j e)
  gain e := m ((c.tc : Thread nD τ).loc main_arg5) (ix2 0 e)

/-- The reference's result is the layer's output. -/
theorem result_apply (c : Dev nD) (b : Fin 4) (r : Fin 4096) (e : Fin 2048) :
    (res_main_v25 (F := Ideal) m c (ix3 b r e) : EReal) = result (argsOf m c) b r e := by
  pointwise [res_main_v25]
  rfl

end Cert.Reference2Ideal.MlpReference

end
-- ==== Proof.OutSpec.lean ====
/- The output projection with its gated residual and the modulated norm after it, as mathematics over the extended
   reals. -/
module

public import Idealize.ShloMosaic.Lib.Pointwise

@[expose] public section

noncomputable section

namespace Cert.Outproj

open Idealize.ShloMosaic

/-- The arrays both programs take, as functions of their coordinates: the two branches, the residual stream, the two
    tables of position embeddings, the modulation, the norm's gains and the weight. -/
structure Args where
  yf : Fin 4 → Fin 4096 → Fin 1024 → EReal
  ym : Fin 4 → Fin 4096 → Fin 1024 → EReal
  x : Fin 4 → Fin 4096 → Fin 2048 → EReal
  row : Fin 64 → Fin 1024 → EReal
  col : Fin 64 → Fin 1024 → EReal
  mod : Fin 8 → Fin 6 → Fin 2048 → EReal
  gain : Fin 2048 → EReal
  w : Fin 2048 → Fin 2048 → EReal

/-- Two rows of 1024 channels side by side. -/
def beside (u v : Fin 1024 → EReal) (e : Fin 2048) : EReal :=
  if h : (e : ℕ) < 1024 then u ⟨e, h⟩ else v ⟨e - 1024, by omega⟩

/-- The channel `d` of the first half. -/
def fore (d : Fin 1024) : Fin 2048 := ⟨d, by omega⟩
/-- The channel `d` of the second half. -/
def aft (d : Fin 1024) : Fin 2048 := ⟨1024 + d, by omega⟩

/-- An element of the residual stream after the projection: the stream with its position embedding, and the
    projection `y` under the gate. -/
def gated (x gate : EReal) (row col : Fin 1024 → EReal) (e : Fin 2048) (y : EReal) : EReal :=
  x + beside row col e + gate * y

/-- A row divided by its root mean square, under the gains, scaled and shifted. -/
def modulated (v g scale shift : Fin 2048 → EReal) (e : Fin 2048) : EReal :=
  v e * Ideal.rsqrt (Ideal.div (∑ x, v x * v x) (Ideal.ofBits .f32 1157627904#32) + Ideal.ofBits .f32 897988541#32) * g e *
    (1 + scale e) + shift e

/-- The two branches against a column of the weight. -/
def mixed (A : Args) (b : Fin 4) (r : Fin 4096) (e : Fin 2048) : EReal :=
  (∑ d, A.yf b r d * A.w (fore d) e) + ∑ d, A.ym b r d * A.w (aft d) e

/-- The residual stream after the projection. -/
def stream (A : Args) (b : Fin 4) (r : Fin 4096) (e : Fin 2048) : EReal :=
  gated (A.x b r e) (A.mod ⟨b, by omega⟩ 2 e) (A.row ⟨r / 64, by omega⟩) (A.col ⟨r % 64, by omega⟩) e (mixed A b r e)

/-- The MLP's input. -/
def result (A : Args) (b : Fin 4) (r : Fin 4096) (e : Fin 2048) : EReal :=
  modulated (stream A b r) A.gain (A.mod ⟨b, by omega⟩ 4) (A.mod ⟨b, by omega⟩ 3) e

theorem beside_fore (u v : Fin 1024 → EReal) (d : Fin 1024) : beside u v (fore d) = u d := dif_pos d.isLt

theorem beside_aft (u v : Fin 1024 → EReal) (d : Fin 1024) : beside u v (aft d) = v d := by
  refine (dif_neg (show ¬ (1024 + (d : ℕ) < 1024) by omega)).trans (congrArg v (Fin.ext ?_))
  show 1024 + (d : ℕ) - 1024 = d
  omega

/-- A sum over the channels, half by half. -/
theorem sum_halves (f : Fin 2048 → EReal) : ∑ e, f e = (∑ d, f (fore d)) + ∑ d, f (aft d) :=
  Fin.sum_univ_add (a := 1024) (b := 1024) f

/-- The norm with its sum of squares half by half. -/
theorem modulated_halves (v g scale shift : Fin 2048 → EReal) (e : Fin 2048) :
    modulated v g scale shift e =
      v e * Ideal.rsqrt (Ideal.div ((∑ d, v (fore d) * v (fore d)) + ∑ d, v (aft d) * v (aft d))
        (Ideal.ofBits .f32 1157627904#32) + Ideal.ofBits .f32 897988541#32) * g e * (1 + scale e) + shift e := by
  unfold modulated
  rw [sum_halves fun x => v x * v x]

end Cert.Outproj

end
-- ==== Proof.OutBlock.lean ====
/- What the output projection's program computes of the blocks it reads, element by element. -/
module

public import proofs.«01_k».proof.Proof.Gen.Kernel3Ideal.Frame
public import proofs.«01_k».proof.Proof.OutSpec

@[expose] public section

noncomputable section

namespace Cert.Kernel3Ideal.OutBlock

open Idealize.ShloMosaic Cert.Kernel3Ideal Cert.Kernel3Ideal.Gen Cert.Outproj

/-- The first half's two products. -/
theorem pay2_apply (v0 : Vec Ideal S1x256x1024 .bf16) (v2 : Vec Ideal S1024x2048 .bf16) (v4 : Vec Ideal S1x256x1024 .bf16)
    (v6 : Vec Ideal S1024x2048 .bf16) (r : Fin 256) (e : Fin 2048) :
    (k0_pay2 (F := Ideal) v0 v2 v4 v6 (ix2 r e) : EReal) =
      (∑ d : Fin 1024, v0 (ix3 0 r d) * v2 (ix2 d e)) + ∑ d : Fin 1024, v4 (ix3 0 r d) * v6 (ix2 d e) := by
  pointwise [k0_pay2]

/-- The second half's. -/
theorem pay9_apply (v0 : Vec Ideal S1x256x1024 .bf16) (v2 : Vec Ideal S1024x2048 .bf16) (v4 : Vec Ideal S1x256x1024 .bf16)
    (v6 : Vec Ideal S1024x2048 .bf16) (r : Fin 256) (e : Fin 2048) :
    (k0_pay9 (F := Ideal) v0 v2 v4 v6 (ix2 r e) : EReal) =
      (∑ d : Fin 1024, v0 (ix3 0 r d) * v2 (ix2 d e)) + ∑ d : Fin 1024, v4 (ix3 0 r d) * v6 (ix2 d e) := by
  pointwise [k0_pay9]

/-- The first half's residual stream. -/
theorem pay4_apply (y : Vec Ideal S256x2048 .f32) (x : Vec Ideal S1x256x2048 .f32) (row : Vec Ideal S4x1x1024 .f32)
    (col : Vec Ideal S64x1024 .f32) (gate : Vec Ideal S1x1x2048 .f32) (r : Fin 256) (e : Fin 2048) :
    (k0_pay4 (F := Ideal) y (k0_pay3 x) row col gate (ix2 r e) : EReal) =
      gated (x (ix3 0 r e)) (gate (ix3 0 0 e)) (fun d => row (ix3 ⟨r / 64, by omega⟩ 0 d))
        (fun d => col (ix2 ⟨r % 64, by omega⟩ d)) e (y (ix2 r e)) := by
  pointwise [k0_pay4, k0_pay3]
  rfl

/-- The second half's. -/
theorem pay11_apply (y : Vec Ideal S256x2048 .f32) (x : Vec Ideal S1x256x2048 .f32) (row : Vec Ideal S4x1x1024 .f32)
    (col : Vec Ideal S64x1024 .f32) (gate : Vec Ideal S1x1x2048 .f32) (r : Fin 256) (e : Fin 2048) :
    (k0_pay11 (F := Ideal) y (k0_pay10 x) row col gate (ix2 r e) : EReal) =
      gated (x (ix3 0 r e)) (gate (ix3 0 0 e)) (fun d => row (ix3 ⟨r / 64, by omega⟩ 0 d))
        (fun d => col (ix2 ⟨r % 64, by omega⟩ d)) e (y (ix2 r e)) := by
  pointwise [k0_pay11, k0_pay10]
  rfl

/-- The first half's residual stream as it is written. -/
theorem pay5_apply (y x : Vec Ideal S256x2048 .f32) (row : Vec Ideal S4x1x1024 .f32)
    (col : Vec Ideal S64x1024 .f32) (gate : Vec Ideal S1x1x2048 .f32) (r : Fin 256) (e : Fin 2048) :
    (k0_pay5 (F := Ideal) y x row col gate (ix3 0 r e) : EReal) = k0_pay4 (F := Ideal) y x row col gate (ix2 r e) := by
  unfold k0_pay5
  generalize k0_pay4 (F := Ideal) y x row col gate = z
  pointwise []

/-- The second half's. -/
theorem pay12_apply (y x : Vec Ideal S256x2048 .f32) (row : Vec Ideal S4x1x1024 .f32)
    (col : Vec Ideal S64x1024 .f32) (gate : Vec Ideal S1x1x2048 .f32) (r : Fin 256) (e : Fin 2048) :
    (k0_pay12 (F := Ideal) y x row col gate (ix3 0 r e) : EReal) = k0_pay11 (F := Ideal) y x row col gate (ix2 r e) := by
  unfold k0_pay12
  generalize k0_pay11 (F := Ideal) y x row col gate = z
  pointwise []

/-- The first half's modulated norm, over the stream. -/
theorem pay8_apply (y x : Vec Ideal S256x2048 .f32) (row : Vec Ideal S4x1x1024 .f32)
    (col : Vec Ideal S64x1024 .f32) (gate : Vec Ideal S1x1x2048 .f32) (g : Vec Ideal S1x2048 .f32)
    (scale shift : Vec Ideal S1x1x2048 .f32) (r : Fin 256) (e : Fin 2048) :
    (k0_pay8 (F := Ideal) (k0_pay6 y x row col gate g scale) (k0_pay7 shift) (ix3 0 r e) : EReal) =
      modulated (fun e => k0_pay4 (F := Ideal) y x row col gate (ix2 r e)) (fun e => g (ix2 0 e))
        (fun e => scale (ix3 0 0 e)) (fun e => shift (ix3 0 0 e)) e := by
  unfold k0_pay6
  generalize k0_pay4 (F := Ideal) y x row col gate = z
  pointwise [k0_pay8, k0_pay7]
  rfl

/-- The second half's. -/
theorem pay1_apply (y x : Vec Ideal S256x2048 .f32) (row : Vec Ideal S4x1x1024 .f32)
    (col : Vec Ideal S64x1024 .f32) (gate : Vec Ideal S1x1x2048 .f32) (g : Vec Ideal S1x2048 .f32)
    (scale shift : Vec Ideal S1x1x2048 .f32) (r : Fin 256) (e : Fin 2048) :
    (k0_pay1 (F := Ideal) (k0_pay13 y x row col gate g) (k0_pay14 scale) shift (ix3 0 r e) : EReal) =
      modulated (fun e => k0_pay11 (F := Ideal) y x row col gate (ix2 r e)) (fun e => g (ix2 0 e))
        (fun e => scale (ix3 0 0 e)) (fun e => shift (ix3 0 0 e)) e := by
  unfold k0_pay13
  generalize k0_pay11 (F := Ideal) y x row col gate = z
  pointwise [k0_pay1, k0_pay14]
  rfl

end Cert.Kernel3Ideal.OutBlock

end
-- ==== Proof.OutPieces.lean ====
/- What the output projection's program writes at a grid point: its pieces, then their elements. -/
module

public import Idealize.ShloMosaic.Lib.WholeRead
public import Idealize.ShloMosaic.Lib.Pipeline.ValueKit
public import proofs.«01_k».proof.Proof.OutBlock

@[expose] public section

set_option maxRecDepth 65536

noncomputable section

namespace Cert.Kernel3Ideal.OutPieces

open Idealize.ShloMosaic Cert.Kernel3Ideal Cert.Kernel3Ideal.Gen Cert.Kernel3Ideal.OutBlock Cert.Outproj

/-- The first 256 rows of a block of 512. -/
abbrev topHalf : Rect S1x512x2048 := Rect.unit (s := S1x512x2048) ![0, 0, 0] S1x256x2048.size inb_S1x512x2048_S1x256x2048_0_0_0
/-- The last 256 rows. -/
abbrev lowHalf : Rect S1x512x2048 := Rect.unit (s := S1x512x2048) ![0, 256, 0] S1x256x2048.size inb_S1x512x2048_S1x256x2048_0_256_0

/-- The halves are disjoint. -/
theorem top_not_mem (j : topHalf.shape.Idx) : topHalf.emb j ∉ lowHalf.set := by
  intro hm
  rw [Rect.mem_set_unit] at hm
  have h0 := (hm 1).1
  rw [ValueKit.rect_emb_unit_val] at h0
  have hj := (j 1).2
  simp [Shape.size] at h0 hj
  omega

/-- Where the first half's rows of the grid begin in their table. -/
theorem off_top : ∀ i : grid0.Coords, k0_off1 i 0#32 = ![(i 1 : ℕ) * 8, 0, 0] := by decide +kernel
/-- Where the second half's do. -/
theorem off_low : ∀ i : grid0.Coords, k0_off1 i 256#32 = ![(i 1 : ℕ) * 8 + 4, 0, 0] := by decide +kernel

/-- What is written as the residual stream, over the blocks read at a grid point. -/
def blockStream (i : grid0.Coords)
  (x0 : Vec Ideal S1x512x1024 .bf16)
  (x1 : Vec Ideal S1x512x1024 .bf16)
  (x2 : Vec Ideal S1x512x2048 .f32)
  (x3 : Vec Ideal S64x1x1024 .f32)
  (x4 : Vec Ideal S64x1024 .f32)
  (x5 : Vec Ideal S1x6x2048 .f32)
  (x6 : Vec Ideal S1x2048 .f32)
  (x7 : Vec Ideal S2048x2048 .bf16)
    (r : Fin 512) (e : Fin 2048) : EReal :=
  gated (x2 (ix3 0 r e)) (x5 (ix3 0 2 e))
    (fun d => x3 (ix3 ⟨(i 1 : ℕ) * 8 + r / 64, by have : (i 1 : ℕ) < 8 := (i 1).isLt; omega⟩ 0 d)) (fun d => x4 (ix2 ⟨r % 64, by omega⟩ d)) e
    ((∑ d, x0 (ix3 0 r d) * x7 (ix2 (fore d) e)) + ∑ d, x1 (ix3 0 r d) * x7 (ix2 (aft d) e))

/-- What is written as the MLP's input. -/
def blockNorm (i : grid0.Coords)
  (x0 : Vec Ideal S1x512x1024 .bf16)
  (x1 : Vec Ideal S1x512x1024 .bf16)
  (x2 : Vec Ideal S1x512x2048 .f32)
  (x3 : Vec Ideal S64x1x1024 .f32)
  (x4 : Vec Ideal S64x1024 .f32)
  (x5 : Vec Ideal S1x6x2048 .f32)
  (x6 : Vec Ideal S1x2048 .f32)
  (x7 : Vec Ideal S2048x2048 .bf16)
    (r : Fin 512) (e : Fin 2048) : EReal :=
  modulated (blockStream i x0 x1 x2 x3 x4 x5 x6 x7 r) (fun e => x6 (ix2 0 e)) (fun e => x5 (ix3 0 4 e)) (fun e => x5 (ix3 0 3 e)) e

theorem gated_congr {x x' gate gate' y y' : EReal} {row row' col col' : Fin 1024 → EReal} {e : Fin 2048} (hx : x = x')
    (hg : gate = gate') (hr : row = row') (hc : col = col') (hy : y = y') :
    gated x gate row col e y = gated x' gate' row' col' e y' := by
  subst hx hg hr hc hy
  rfl

theorem modulated_congr {v v' g g' s s' t t' : Fin 2048 → EReal} {e : Fin 2048} (hv : v = v') (hg : g = g') (hs : s = s')
    (ht : t = t') : modulated v g s t e = modulated v' g' s' t' e := by
  subst hv hg hs ht
  rfl

section
variable {F : FTy → Type} [FloatOps F] (c : Dev nD) (i : grid0.Coords)
  (arg2 : Memref sig .tc .vmem S1x512x1024 .bf16) (harg2 : arg2.IsWhole)
  (arg3 : Memref sig .tc .vmem S1x512x1024 .bf16) (harg3 : arg3.IsWhole)
  (arg4 : Memref sig .tc .vmem S1x512x2048 .f32) (harg4 : arg4.IsWhole)
  (arg5 : Memref sig .tc .vmem S64x1x1024 .f32) (harg5 : arg5.IsWhole)
  (arg6 : Memref sig .tc .vmem S64x1024 .f32) (harg6 : arg6.IsWhole)
  (arg7 : Memref sig .tc .vmem S1x6x2048 .f32) (harg7 : arg7.IsWhole)
  (arg8 : Memref sig .tc .vmem S1x2048 .f32) (harg8 : arg8.IsWhole)
  (arg9 : Memref sig .tc .vmem S2048x2048 .bf16) (harg9 : arg9.IsWhole)
  (arg10 : Memref sig .tc .vmem S1x512x2048 .f32) (harg10 : arg10.IsWhole)
  (arg11 : Memref sig .tc .vmem S1x512x2048 .bf16) (harg11 : arg11.IsWhole)
  (x0 : Vec F S1x512x1024 .bf16)
  (x1 : Vec F S1x512x1024 .bf16)
  (x2 : Vec F S1x512x2048 .f32)
  (x3 : Vec F S64x1x1024 .f32)
  (x4 : Vec F S64x1024 .f32)
  (x5 : Vec F S1x6x2048 .f32)
  (x6 : Vec F S1x2048 .f32)
  (x7 : Vec F S2048x2048 .bf16)

/-- The two halves of the residual stream's block. -/
theorem stream_eq :
    (kernelRun0_A c i arg2 harg2 arg3 harg3 arg4 harg4 arg5 harg5 arg6 harg6 arg7 harg7 arg8 harg8 arg9 harg9 arg10 harg10 arg11 harg11 x0 x1 x2 x3 x4 x5 x6 x7).1 =
      [⟨lowHalf, k0_pay12 (k0_pay9 (View.readAt (Elt F) arg2.view (Rect.unit (s := S1x512x1024) ![0, 256, 0] S1x256x1024.size inb_S1x512x1024_S1x256x1024_0_256_0).toLoadRect (harg2.unread x0))
          (View.readAt (Elt F) arg9.view (Rect.unit (s := S2048x2048) ![0, 0] S1024x2048.size inb_S2048x2048_S1024x2048_0_0).toLoadRect (harg9.unread x7))
          (View.readAt (Elt F) arg3.view (Rect.unit (s := S1x512x1024) ![0, 256, 0] S1x256x1024.size inb_S1x512x1024_S1x256x1024_0_256_0).toLoadRect (harg3.unread x1))
          (View.readAt (Elt F) arg9.view (Rect.unit (s := S2048x2048) ![1024, 0] S1024x2048.size inb_S2048x2048_S1024x2048_1024_0).toLoadRect (harg9.unread x7)))
          (k0_pay10 (View.readAt (Elt F) arg4.view (Rect.unit (s := S1x512x2048) ![0, 256, 0] S1x256x2048.size inb_S1x512x2048_S1x256x2048_0_256_0).toLoadRect (harg4.unread x2)))
          (View.readAt (Elt F) arg5.view (Rect.unit (s := S64x1x1024) (k0_off1 i 256#32) S4x1x1024.size (k0_off1_inb i 1)).toLoadRect (harg5.unread x3))
          (View.readAt (Elt F) arg6.view (Rect.unit (s := S64x1024) ![0, 0] S64x1024.size inb_S64x1024_S64x1024_0_0).toLoadRect (harg6.unread x4))
          (View.readAt (Elt F) arg7.view (Rect.unit (s := S1x6x2048) ![0, 2, 0] S1x1x2048.size inb_S1x6x2048_S1x1x2048_0_2_0).toLoadRect (harg7.unread x5))⟩,
       ⟨topHalf, k0_pay5 (k0_pay2 (View.readAt (Elt F) arg2.view (Rect.unit (s := S1x512x1024) ![0, 0, 0] S1x256x1024.size inb_S1x512x1024_S1x256x1024_0_0_0).toLoadRect (harg2.unread x0))
          (View.readAt (Elt F) arg9.view (Rect.unit (s := S2048x2048) ![0, 0] S1024x2048.size inb_S2048x2048_S1024x2048_0_0).toLoadRect (harg9.unread x7))
          (View.readAt (Elt F) arg3.view (Rect.unit (s := S1x512x1024) ![0, 0, 0] S1x256x1024.size inb_S1x512x1024_S1x256x1024_0_0_0).toLoadRect (harg3.unread x1))
          (View.readAt (Elt F) arg9.view (Rect.unit (s := S2048x2048) ![1024, 0] S1024x2048.size inb_S2048x2048_S1024x2048_1024_0).toLoadRect (harg9.unread x7)))
          (k0_pay3 (View.readAt (Elt F) arg4.view (Rect.unit (s := S1x512x2048) ![0, 0, 0] S1x256x2048.size inb_S1x512x2048_S1x256x2048_0_0_0).toLoadRect (harg4.unread x2)))
          (View.readAt (Elt F) arg5.view (Rect.unit (s := S64x1x1024) (k0_off1 i 0#32) S4x1x1024.size (k0_off1_inb i 0)).toLoadRect (harg5.unread x3))
          (View.readAt (Elt F) arg6.view (Rect.unit (s := S64x1024) ![0, 0] S64x1024.size inb_S64x1024_S64x1024_0_0).toLoadRect (harg6.unread x4))
          (View.readAt (Elt F) arg7.view (Rect.unit (s := S1x6x2048) ![0, 2, 0] S1x1x2048.size inb_S1x6x2048_S1x1x2048_0_2_0).toLoadRect (harg7.unread x5))⟩] := by
  sl_kernel_rfl

/-- The two halves of the block of the MLP's input. -/
theorem norm_eq :
    (kernelRun0_A c i arg2 harg2 arg3 harg3 arg4 harg4 arg5 harg5 arg6 harg6 arg7 harg7 arg8 harg8 arg9 harg9 arg10 harg10 arg11 harg11 x0 x1 x2 x3 x4 x5 x6 x7).2.1 =
      [⟨lowHalf, k0_pay1 (k0_pay13 (k0_pay9 (View.readAt (Elt F) arg2.view (Rect.unit (s := S1x512x1024) ![0, 256, 0] S1x256x1024.size inb_S1x512x1024_S1x256x1024_0_256_0).toLoadRect (harg2.unread x0))
          (View.readAt (Elt F) arg9.view (Rect.unit (s := S2048x2048) ![0, 0] S1024x2048.size inb_S2048x2048_S1024x2048_0_0).toLoadRect (harg9.unread x7))
          (View.readAt (Elt F) arg3.view (Rect.unit (s := S1x512x1024) ![0, 256, 0] S1x256x1024.size inb_S1x512x1024_S1x256x1024_0_256_0).toLoadRect (harg3.unread x1))
          (View.readAt (Elt F) arg9.view (Rect.unit (s := S2048x2048) ![1024, 0] S1024x2048.size inb_S2048x2048_S1024x2048_1024_0).toLoadRect (harg9.unread x7)))
          (k0_pay10 (View.readAt (Elt F) arg4.view (Rect.unit (s := S1x512x2048) ![0, 256, 0] S1x256x2048.size inb_S1x512x2048_S1x256x2048_0_256_0).toLoadRect (harg4.unread x2)))
          (View.readAt (Elt F) arg5.view (Rect.unit (s := S64x1x1024) (k0_off1 i 256#32) S4x1x1024.size (k0_off1_inb i 1)).toLoadRect (harg5.unread x3))
          (View.readAt (Elt F) arg6.view (Rect.unit (s := S64x1024) ![0, 0] S64x1024.size inb_S64x1024_S64x1024_0_0).toLoadRect (harg6.unread x4))
          (View.readAt (Elt F) arg7.view (Rect.unit (s := S1x6x2048) ![0, 2, 0] S1x1x2048.size inb_S1x6x2048_S1x1x2048_0_2_0).toLoadRect (harg7.unread x5))
          (View.readAt (Elt F) arg8.view (Rect.unit (s := S1x2048) ![0, 0] S1x2048.size inb_S1x2048_S1x2048_0_0).toLoadRect (harg8.unread x6)))
        (k0_pay14 (View.readAt (Elt F) arg7.view (Rect.unit (s := S1x6x2048) ![0, 4, 0] S1x1x2048.size inb_S1x6x2048_S1x1x2048_0_4_0).toLoadRect (harg7.unread x5)))
        (View.readAt (Elt F) arg7.view (Rect.unit (s := S1x6x2048) ![0, 3, 0] S1x1x2048.size inb_S1x6x2048_S1x1x2048_0_3_0).toLoadRect (harg7.unread x5))⟩,
       ⟨topHalf, k0_pay8 (k0_pay6 (k0_pay2 (View.readAt (Elt F) arg2.view (Rect.unit (s := S1x512x1024) ![0, 0, 0] S1x256x1024.size inb_S1x512x1024_S1x256x1024_0_0_0).toLoadRect (harg2.unread x0))
          (View.readAt (Elt F) arg9.view (Rect.unit (s := S2048x2048) ![0, 0] S1024x2048.size inb_S2048x2048_S1024x2048_0_0).toLoadRect (harg9.unread x7))
          (View.readAt (Elt F) arg3.view (Rect.unit (s := S1x512x1024) ![0, 0, 0] S1x256x1024.size inb_S1x512x1024_S1x256x1024_0_0_0).toLoadRect (harg3.unread x1))
          (View.readAt (Elt F) arg9.view (Rect.unit (s := S2048x2048) ![1024, 0] S1024x2048.size inb_S2048x2048_S1024x2048_1024_0).toLoadRect (harg9.unread x7)))
          (k0_pay3 (View.readAt (Elt F) arg4.view (Rect.unit (s := S1x512x2048) ![0, 0, 0] S1x256x2048.size inb_S1x512x2048_S1x256x2048_0_0_0).toLoadRect (harg4.unread x2)))
          (View.readAt (Elt F) arg5.view (Rect.unit (s := S64x1x1024) (k0_off1 i 0#32) S4x1x1024.size (k0_off1_inb i 0)).toLoadRect (harg5.unread x3))
          (View.readAt (Elt F) arg6.view (Rect.unit (s := S64x1024) ![0, 0] S64x1024.size inb_S64x1024_S64x1024_0_0).toLoadRect (harg6.unread x4))
          (View.readAt (Elt F) arg7.view (Rect.unit (s := S1x6x2048) ![0, 2, 0] S1x1x2048.size inb_S1x6x2048_S1x1x2048_0_2_0).toLoadRect (harg7.unread x5))
          (View.readAt (Elt F) arg8.view (Rect.unit (s := S1x2048) ![0, 0] S1x2048.size inb_S1x2048_S1x2048_0_0).toLoadRect (harg8.unread x6))
          (View.readAt (Elt F) arg7.view (Rect.unit (s := S1x6x2048) ![0, 4, 0] S1x1x2048.size inb_S1x6x2048_S1x1x2048_0_4_0).toLoadRect (harg7.unread x5)))
        (k0_pay7 (View.readAt (Elt F) arg7.view (Rect.unit (s := S1x6x2048) ![0, 3, 0] S1x1x2048.size inb_S1x6x2048_S1x1x2048_0_3_0).toLoadRect (harg7.unread x5)))⟩] := by
  sl_kernel_rfl
end

section
variable (c : Dev nD) (i : grid0.Coords)
  (arg2 : Memref sig .tc .vmem S1x512x1024 .bf16) (harg2 : arg2.IsWhole)
  (arg3 : Memref sig .tc .vmem S1x512x1024 .bf16) (harg3 : arg3.IsWhole)
  (arg4 : Memref sig .tc .vmem S1x512x2048 .f32) (harg4 : arg4.IsWhole)
  (arg5 : Memref sig .tc .vmem S64x1x1024 .f32) (harg5 : arg5.IsWhole)
  (arg6 : Memref sig .tc .vmem S64x1024 .f32) (harg6 : arg6.IsWhole)
  (arg7 : Memref sig .tc .vmem S1x6x2048 .f32) (harg7 : arg7.IsWhole)
  (arg8 : Memref sig .tc .vmem S1x2048 .f32) (harg8 : arg8.IsWhole)
  (arg9 : Memref sig .tc .vmem S2048x2048 .bf16) (harg9 : arg9.IsWhole)
  (arg10 : Memref sig .tc .vmem S1x512x2048 .f32) (harg10 : arg10.IsWhole)
  (arg11 : Memref sig .tc .vmem S1x512x2048 .bf16) (harg11 : arg11.IsWhole)
  (x0 : Vec Ideal S1x512x1024 .bf16)
  (x1 : Vec Ideal S1x512x1024 .bf16)
  (x2 : Vec Ideal S1x512x2048 .f32)
  (x3 : Vec Ideal S64x1x1024 .f32)
  (x4 : Vec Ideal S64x1024 .f32)
  (x5 : Vec Ideal S1x6x2048 .f32)
  (x6 : Vec Ideal S1x2048 .f32)
  (x7 : Vec Ideal S2048x2048 .bf16)

/-- The table's rows read for the first half. -/
theorem row_top (q : Fin 4) (d : Fin 1024) :
    (Rect.unit (s := S64x1x1024) (k0_off1 i 0#32) S4x1x1024.size (k0_off1_inb i 0)).emb (ix3 q 0 d) =
      ix3 ⟨(i 1 : ℕ) * 8 + q, by have : (i 1 : ℕ) < 8 := (i 1).isLt; omega⟩ 0 d := by
  funext a
  apply Fin.ext
  refine (ValueKit.rect_emb_unit_val _ _ _ _ _).trans ?_
  refine (congrArg (· + _) (congrFun (off_top i) a)).trans ?_
  fin_cases a <;> simp

/-- Those read for the second. -/
theorem row_low (q : Fin 4) (d : Fin 1024) :
    (Rect.unit (s := S64x1x1024) (k0_off1 i 256#32) S4x1x1024.size (k0_off1_inb i 1)).emb (ix3 q 0 d) =
      ix3 ⟨(i 1 : ℕ) * 8 + 4 + q, by have : (i 1 : ℕ) < 8 := (i 1).isLt; omega⟩ 0 d := by
  funext a
  apply Fin.ext
  refine (ValueKit.rect_emb_unit_val _ _ _ _ _).trans ?_
  refine (congrArg (· + _) (congrFun (off_low i) a)).trans ?_
  fin_cases a <;> simp

/-- The first 256 rows' stream, from what is read for them. -/
theorem top_read (r : Fin 256) (e : Fin 2048) :
    (k0_pay4 (F := Ideal) (k0_pay2 (View.readAt (Elt Ideal) arg2.view (Rect.unit (s := S1x512x1024) ![0, 0, 0] S1x256x1024.size inb_S1x512x1024_S1x256x1024_0_0_0).toLoadRect (harg2.unread x0))
          (View.readAt (Elt Ideal) arg9.view (Rect.unit (s := S2048x2048) ![0, 0] S1024x2048.size inb_S2048x2048_S1024x2048_0_0).toLoadRect (harg9.unread x7))
          (View.readAt (Elt Ideal) arg3.view (Rect.unit (s := S1x512x1024) ![0, 0, 0] S1x256x1024.size inb_S1x512x1024_S1x256x1024_0_0_0).toLoadRect (harg3.unread x1))
          (View.readAt (Elt Ideal) arg9.view (Rect.unit (s := S2048x2048) ![1024, 0] S1024x2048.size inb_S2048x2048_S1024x2048_1024_0).toLoadRect (harg9.unread x7)))
          (k0_pay3 (View.readAt (Elt Ideal) arg4.view (Rect.unit (s := S1x512x2048) ![0, 0, 0] S1x256x2048.size inb_S1x512x2048_S1x256x2048_0_0_0).toLoadRect (harg4.unread x2)))
          (View.readAt (Elt Ideal) arg5.view (Rect.unit (s := S64x1x1024) (k0_off1 i 0#32) S4x1x1024.size (k0_off1_inb i 0)).toLoadRect (harg5.unread x3))
          (View.readAt (Elt Ideal) arg6.view (Rect.unit (s := S64x1024) ![0, 0] S64x1024.size inb_S64x1024_S64x1024_0_0).toLoadRect (harg6.unread x4))
          (View.readAt (Elt Ideal) arg7.view (Rect.unit (s := S1x6x2048) ![0, 2, 0] S1x1x2048.size inb_S1x6x2048_S1x1x2048_0_2_0).toLoadRect (harg7.unread x5)) (ix2 r e) : EReal) =
      blockStream i x0 x1 x2 x3 x4 x5 x6 x7 ⟨r, by omega⟩ e := by
  refine (pay4_apply _ _ _ _ _ r e).trans (gated_congr
        ((harg4.readAt_unread x2 _ _).trans (congrArg x2 (funext fun a => by fin_cases a <;> (apply Fin.ext; simp))))
        ((harg7.readAt_unread x5 _ _).trans (congrArg x5 (funext fun a => by fin_cases a <;> (apply Fin.ext; simp))))
        (funext fun d => (harg5.readAt_unread x3 _ _).trans (congrArg x3 ((row_top i _ d).trans ?_)))
        (funext fun d => (harg6.readAt_unread x4 _ _).trans (congrArg x4 (funext fun a => by fin_cases a <;> (apply Fin.ext; simp; try omega))))
        ((pay2_apply _ _ _ _ r e).trans (congrArg₂ (· + ·)
          (Finset.sum_congr rfl fun d _ => congrArg₂ (· * ·)
            ((harg2.readAt_unread x0 _ _).trans (congrArg x0 (funext fun a => by fin_cases a <;> (apply Fin.ext; simp))))
            ((harg9.readAt_unread x7 _ _).trans (congrArg x7 (funext fun a => by fin_cases a <;> (apply Fin.ext; simp [fore])))))
          (Finset.sum_congr rfl fun d _ => congrArg₂ (· * ·)
            ((harg3.readAt_unread x1 _ _).trans (congrArg x1 (funext fun a => by fin_cases a <;> (apply Fin.ext; simp))))
            ((harg9.readAt_unread x7 _ _).trans (congrArg x7 (funext fun a => by fin_cases a <;> (apply Fin.ext; simp [aft]))))))))
  funext a
  fin_cases a <;> (apply Fin.ext; simp; try omega)

/-- The first 256 rows of the residual stream's block. -/
theorem top_stream (r : Fin 256) (e : Fin 2048) :
    (out0_A_8 c i arg2 harg2 arg3 harg3 arg4 harg4 arg5 harg5 arg6 harg6 arg7 harg7 arg8 harg8 arg9 harg9 arg10 harg10 arg11 harg11 x0 x1 x2 x3 x4 x5 x6 x7 (topHalf.emb (ix3 0 r e)) : EReal) =
      blockStream i x0 x1 x2 x3 x4 x5 x6 x7 ⟨r, by omega⟩ e := by
  unfold out0_A_8
  rw [View.read_writes_junk_eq_canon, stream_eq]
  refine (View.canon_cons_of_not_mem ⟨lowHalf, _⟩ _ (top_not_mem _)).trans ?_
  refine (View.canon_cons_emb _ _ _ _).trans ?_
  refine (pay5_apply _ _ _ _ _ r e).trans ?_
  exact top_read i arg2 harg2 arg3 harg3 arg4 harg4 arg5 harg5 arg6 harg6 arg7 harg7 arg9 harg9 x0 x1 x2 x3 x4 x5 x6 x7 r e

/-- The first 256 rows of the block of the MLP's input. -/
theorem top_norm (r : Fin 256) (e : Fin 2048) :
    (out0_A_9 c i arg2 harg2 arg3 harg3 arg4 harg4 arg5 harg5 arg6 harg6 arg7 harg7 arg8 harg8 arg9 harg9 arg10 harg10 arg11 harg11 x0 x1 x2 x3 x4 x5 x6 x7 (topHalf.emb (ix3 0 r e)) : EReal) =
      blockNorm i x0 x1 x2 x3 x4 x5 x6 x7 ⟨r, by omega⟩ e := by
  unfold out0_A_9
  rw [View.read_writes_junk_eq_canon, norm_eq]
  refine (View.canon_cons_of_not_mem ⟨lowHalf, _⟩ _ (top_not_mem _)).trans ?_
  refine (View.canon_cons_emb _ _ _ _).trans ?_
  refine (pay8_apply _ _ _ _ _ _ _ _ r e).trans ?_
  exact modulated_congr (funext fun e => top_read i arg2 harg2 arg3 harg3 arg4 harg4 arg5 harg5 arg6 harg6 arg7 harg7 arg9 harg9 x0 x1 x2 x3 x4 x5 x6 x7 r e)
    (funext fun e => ((harg8.readAt_unread x6 _ _).trans (congrArg x6 (funext fun a => by fin_cases a <;> (apply Fin.ext; simp)))))
    (funext fun e => ((harg7.readAt_unread x5 _ _).trans (congrArg x5 (funext fun a => by fin_cases a <;> (apply Fin.ext; simp)))))
    (funext fun e => ((harg7.readAt_unread x5 _ _).trans (congrArg x5 (funext fun a => by fin_cases a <;> (apply Fin.ext; simp)))))

/-- The last 256 rows' stream, from what is read for them. -/
theorem low_read (r : Fin 256) (e : Fin 2048) :
    (k0_pay11 (F := Ideal) (k0_pay9 (View.readAt (Elt Ideal) arg2.view (Rect.unit (s := S1x512x1024) ![0, 256, 0] S1x256x1024.size inb_S1x512x1024_S1x256x1024_0_256_0).toLoadRect (harg2.unread x0))
          (View.readAt (Elt Ideal) arg9.view (Rect.unit (s := S2048x2048) ![0, 0] S1024x2048.size inb_S2048x2048_S1024x2048_0_0).toLoadRect (harg9.unread x7))
          (View.readAt (Elt Ideal) arg3.view (Rect.unit (s := S1x512x1024) ![0, 256, 0] S1x256x1024.size inb_S1x512x1024_S1x256x1024_0_256_0).toLoadRect (harg3.unread x1))
          (View.readAt (Elt Ideal) arg9.view (Rect.unit (s := S2048x2048) ![1024, 0] S1024x2048.size inb_S2048x2048_S1024x2048_1024_0).toLoadRect (harg9.unread x7)))
          (k0_pay10 (View.readAt (Elt Ideal) arg4.view (Rect.unit (s := S1x512x2048) ![0, 256, 0] S1x256x2048.size inb_S1x512x2048_S1x256x2048_0_256_0).toLoadRect (harg4.unread x2)))
          (View.readAt (Elt Ideal) arg5.view (Rect.unit (s := S64x1x1024) (k0_off1 i 256#32) S4x1x1024.size (k0_off1_inb i 1)).toLoadRect (harg5.unread x3))
          (View.readAt (Elt Ideal) arg6.view (Rect.unit (s := S64x1024) ![0, 0] S64x1024.size inb_S64x1024_S64x1024_0_0).toLoadRect (harg6.unread x4))
          (View.readAt (Elt Ideal) arg7.view (Rect.unit (s := S1x6x2048) ![0, 2, 0] S1x1x2048.size inb_S1x6x2048_S1x1x2048_0_2_0).toLoadRect (harg7.unread x5)) (ix2 r e) : EReal) =
      blockStream i x0 x1 x2 x3 x4 x5 x6 x7 ⟨256 + r, by omega⟩ e := by
  refine (pay11_apply _ _ _ _ _ r e).trans (gated_congr
        ((harg4.readAt_unread x2 _ _).trans (congrArg x2 (funext fun a => by fin_cases a <;> (apply Fin.ext; simp))))
        ((harg7.readAt_unread x5 _ _).trans (congrArg x5 (funext fun a => by fin_cases a <;> (apply Fin.ext; simp))))
        (funext fun d => (harg5.readAt_unread x3 _ _).trans (congrArg x3 ((row_low i _ d).trans ?_)))
        (funext fun d => (harg6.readAt_unread x4 _ _).trans (congrArg x4 (funext fun a => by fin_cases a <;> (apply Fin.ext; simp; try omega))))
        ((pay9_apply _ _ _ _ r e).trans (congrArg₂ (· + ·)
          (Finset.sum_congr rfl fun d _ => congrArg₂ (· * ·)
            ((harg2.readAt_unread x0 _ _).trans (congrArg x0 (funext fun a => by fin_cases a <;> (apply Fin.ext; simp))))
            ((harg9.readAt_unread x7 _ _).trans (congrArg x7 (funext fun a => by fin_cases a <;> (apply Fin.ext; simp [fore])))))
          (Finset.sum_congr rfl fun d _ => congrArg₂ (· * ·)
            ((harg3.readAt_unread x1 _ _).trans (congrArg x1 (funext fun a => by fin_cases a <;> (apply Fin.ext; simp))))
            ((harg9.readAt_unread x7 _ _).trans (congrArg x7 (funext fun a => by fin_cases a <;> (apply Fin.ext; simp [aft]))))))))
  funext a
  fin_cases a <;> (apply Fin.ext; simp; try omega)

/-- The last 256 rows of the residual stream's block. -/
theorem low_stream (r : Fin 256) (e : Fin 2048) :
    (out0_A_8 c i arg2 harg2 arg3 harg3 arg4 harg4 arg5 harg5 arg6 harg6 arg7 harg7 arg8 harg8 arg9 harg9 arg10 harg10 arg11 harg11 x0 x1 x2 x3 x4 x5 x6 x7 (lowHalf.emb (ix3 0 r e)) : EReal) =
      blockStream i x0 x1 x2 x3 x4 x5 x6 x7 ⟨256 + r, by omega⟩ e := by
  unfold out0_A_8
  rw [View.read_writes_junk_eq_canon, stream_eq]
  refine (View.canon_cons_emb _ _ _ _).trans ?_
  refine (pay12_apply _ _ _ _ _ r e).trans ?_
  exact low_read i arg2 harg2 arg3 harg3 arg4 harg4 arg5 harg5 arg6 harg6 arg7 harg7 arg9 harg9 x0 x1 x2 x3 x4 x5 x6 x7 r e

/-- The last 256 rows of the block of the MLP's input. -/
theorem low_norm (r : Fin 256) (e : Fin 2048) :
    (out0_A_9 c i arg2 harg2 arg3 harg3 arg4 harg4 arg5 harg5 arg6 harg6 arg7 harg7 arg8 harg8 arg9 harg9 arg10 harg10 arg11 harg11 x0 x1 x2 x3 x4 x5 x6 x7 (lowHalf.emb (ix3 0 r e)) : EReal) =
      blockNorm i x0 x1 x2 x3 x4 x5 x6 x7 ⟨256 + r, by omega⟩ e := by
  unfold out0_A_9
  rw [View.read_writes_junk_eq_canon, norm_eq]
  refine (View.canon_cons_emb _ _ _ _).trans ?_
  refine (pay1_apply _ _ _ _ _ _ _ _ r e).trans ?_
  exact modulated_congr (funext fun e => low_read i arg2 harg2 arg3 harg3 arg4 harg4 arg5 harg5 arg6 harg6 arg7 harg7 arg9 harg9 x0 x1 x2 x3 x4 x5 x6 x7 r e)
    (funext fun e => ((harg8.readAt_unread x6 _ _).trans (congrArg x6 (funext fun a => by fin_cases a <;> (apply Fin.ext; simp)))))
    (funext fun e => ((harg7.readAt_unread x5 _ _).trans (congrArg x5 (funext fun a => by fin_cases a <;> (apply Fin.ext; simp)))))
    (funext fun e => ((harg7.readAt_unread x5 _ _).trans (congrArg x5 (funext fun a => by fin_cases a <;> (apply Fin.ext; simp)))))

end

end Cert.Kernel3Ideal.OutPieces

end
-- ==== Proof.OutValue.lean ====
/- What the output projection's program leaves in its two result arrays. -/
module

public import proofs.«01_k».proof.Proof.Gen.Kernel3Ideal.Value
public import Idealize.ShloMosaic.Lib.Pipeline.ValueKit
public import proofs.«01_k».proof.Proof.OutPieces

@[expose] public section

set_option maxRecDepth 65536

noncomputable section

namespace Cert.Kernel3Ideal.OutValue

open Idealize.ShloMosaic Idealize.ShloMosaic.TcCoe Cert.Kernel3Ideal Cert.Kernel3Ideal.Gen Cert.Kernel3Ideal.OutPieces
open Cert.Kernel3Ideal.OutBlock Cert.Outproj

variable (m : (ℓ : Loc nD τ sig) → Buf (Elt Ideal) ℓ)

/-- The argument arrays as functions of their coordinates. -/
def argsOf (c : Dev nD) : Args where
  yf b r d := m ((c : Thread nD τ).loc main_arg0) (ix3 b r d)
  ym b r d := m ((c : Thread nD τ).loc main_arg1) (ix3 b r d)
  x b r e := m ((c : Thread nD τ).loc main_arg2) (ix3 b r e)
  row r d := m ((c : Thread nD τ).loc main_arg3) (ix3 r 0 d)
  col r d := m ((c : Thread nD τ).loc main_arg4) (ix2 r d)
  mod b j e := m ((c : Thread nD τ).loc main_arg5) (ix3 b j e)
  gain e := m ((c : Thread nD τ).loc main_arg6) (ix2 0 e)
  w d e := m ((c : Thread nD τ).loc main_arg7) (ix2 d e)

/-- The batch member of a grid point. -/
def bOf (t : Fin cfg0.N) : Fin 4 := ⟨t / 8, by have := t.isLt; have : cfg0.N = 32 := N_0; omega⟩
/-- A row of the tile of a grid point. -/
def rowOf (t : Fin cfg0.N) (r : Fin 512) : Fin 4096 := ⟨t % 8 * 512 + r, by omega⟩

theorem idx0 : ∀ t : Fin cfg0.N, win0_0.index t 0 = t / 8 ∧ win0_0.index t 1 = t % 8 ∧ win0_0.index t 2 = 0 :=
  (by decide +kernel : ∀ t : Fin grid0.N, _)
theorem idx1 : ∀ t : Fin cfg0.N, win0_1.index t 0 = t / 8 ∧ win0_1.index t 1 = t % 8 ∧ win0_1.index t 2 = 0 :=
  (by decide +kernel : ∀ t : Fin grid0.N, _)
theorem idx2 : ∀ t : Fin cfg0.N, win0_2.index t 0 = t / 8 ∧ win0_2.index t 1 = t % 8 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t / 8 ∧ win0_5.index t 1 = 0 ∧ win0_5.index t 2 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = t / 8 ∧ win0_8.index t 1 = t % 8 ∧ win0_8.index t 2 = 0 :=
  (by decide +kernel : ∀ t : Fin grid0.N, _)
theorem idx9 : ∀ t : Fin cfg0.N, win0_9.index t 0 = t / 8 ∧ win0_9.index t 1 = t % 8 ∧ win0_9.index t 2 = 0 :=
  (by decide +kernel : ∀ t : Fin grid0.N, _)
/-- The second grid coordinate counts the tiles. -/
theorem coord1 : ∀ t : Fin cfg0.N, ((grid0.coords t 1 : Fin _) : ℕ) = t % 8 :=
  (by decide +kernel : ∀ t : Fin grid0.N, _)

theorem yf_eq (c : Dev nD) (t : Fin cfg0.N) (r : Fin 512) (d : Fin 1024) :
    (iblk m c 0 t (ix3 0 r d) : EReal) = (argsOf m c).yf (bOf t) (rowOf t r) d := by
  show _ = m ((c : Thread nD τ).loc main_arg0) (ix3 (bOf t) (rowOf t r) d)
  unfold bOf rowOf
  blk_ext! [iblk, V, idx0 t]
theorem ym_eq (c : Dev nD) (t : Fin cfg0.N) (r : Fin 512) (d : Fin 1024) :
    (iblk m c 1 t (ix3 0 r d) : EReal) = (argsOf m c).ym (bOf t) (rowOf t r) d := by
  show _ = m ((c : Thread nD τ).loc main_arg1) (ix3 (bOf t) (rowOf t r) d)
  unfold bOf rowOf
  blk_ext! [iblk, V, idx1 t]
theorem x_eq (c : Dev nD) (t : Fin cfg0.N) (r : Fin 512) (e : Fin 2048) :
    (iblk m c 2 t (ix3 0 r e) : EReal) = (argsOf m c).x (bOf t) (rowOf t r) e := by
  show _ = m ((c : Thread nD τ).loc main_arg2) (ix3 (bOf t) (rowOf t r) e)
  unfold bOf rowOf
  blk_ext! [iblk, V, idx2 t]
theorem row_eq (c : Dev nD) (t : Fin cfg0.N) (r : Fin 64) (d : Fin 1024) :
    (iblk m c 3 t (ix3 r 0 d) : EReal) = (argsOf m c).row r d := by
  show _ = m ((c : Thread nD τ).loc main_arg3) (ix3 r 0 d)
  blk_ext! [iblk, V, idx3 t]
theorem col_eq (c : Dev nD) (t : Fin cfg0.N) (r : Fin 64) (d : Fin 1024) :
    (iblk m c 4 t (ix2 r d) : EReal) = (argsOf m c).col r d := by
  show _ = m ((c : Thread nD τ).loc main_arg4) (ix2 r d)
  blk_ext! [iblk, V, idx4 t]
theorem mod_eq (c : Dev nD) (t : Fin cfg0.N) (j : Fin 6) (e : Fin 2048) :
    (iblk m c 5 t (ix3 0 j e) : EReal) = (argsOf m c).mod ⟨bOf t, by omega⟩ j e := by
  show _ = m ((c : Thread nD τ).loc main_arg5) (ix3 ⟨bOf t, _⟩ j e)
  unfold bOf
  blk_ext! [iblk, V, idx5 t]
theorem gain_eq (c : Dev nD) (t : Fin cfg0.N) (e : Fin 2048) :
    (iblk m c 6 t (ix2 0 e) : EReal) = (argsOf m c).gain e := by
  show _ = m ((c : Thread nD τ).loc main_arg6) (ix2 0 e)
  blk_ext! [iblk, V, idx6 t]
theorem w_eq (c : Dev nD) (t : Fin cfg0.N) (d e : Fin 2048) :
    (iblk m c 7 t (ix2 d e) : EReal) = (argsOf m c).w d e := by
  show _ = m ((c : Thread nD τ).loc main_arg7) (ix2 d e)
  blk_ext! [iblk, V, idx7 t]

/-- What a grid point writes as the stream is the projected stream's rows. -/
theorem stream_row (c : Dev nD) (t : Fin cfg0.N) (r : Fin 512) (e : Fin 2048) :
    blockStream (grid0.coords t) (iblk m c 0 t) (iblk m c 1 t) (iblk m c 2 t) (iblk m c 3 t) (iblk m c 4 t) (iblk m c 5 t) (iblk m c 6 t) (iblk m c 7 t) r e =
      stream (argsOf m c) (bOf t) (rowOf t r) e := by
  have h1 := coord1 t
  refine gated_congr (x_eq m c t r e) (mod_eq m c t 2 e)
    (funext fun d => (row_eq m c t _ d).trans (congrArg (fun q => (argsOf m c).row q d) (Fin.ext ?_)))
    (funext fun d => (col_eq m c t _ d).trans (congrArg (fun q => (argsOf m c).col q d) (Fin.ext ?_)))
    (congrArg₂ (· + ·)
      (Finset.sum_congr rfl fun d _ => congrArg₂ (· * ·) (yf_eq m c t r d) (w_eq m c t _ e))
      (Finset.sum_congr rfl fun d _ => congrArg₂ (· * ·) (ym_eq m c t r d) (w_eq m c t _ e)))
  · show ((grid0.coords t 1 : Fin _) : ℕ) * 8 + (r : ℕ) / 64 = (rowOf t r : ℕ) / 64
    rw [h1]
    simp only [rowOf]
    omega
  · show (r : ℕ) % 64 = (rowOf t r : ℕ) % 64
    simp only [rowOf]
    omega

/-- What it writes as the MLP's input is that input's rows. -/
theorem norm_row (c : Dev nD) (t : Fin cfg0.N) (r : Fin 512) (e : Fin 2048) :
    blockNorm (grid0.coords t) (iblk m c 0 t) (iblk m c 1 t) (iblk m c 2 t) (iblk m c 3 t) (iblk m c 4 t) (iblk m c 5 t) (iblk m c 6 t) (iblk m c 7 t) r e =
      result (argsOf m c) (bOf t) (rowOf t r) e :=
  modulated_congr (funext fun e => stream_row m c t r e) (funext fun e => gain_eq m c t e)
    (funext fun e => mod_eq m c t 4 e) (funext fun e => mod_eq m c t 3 e)

/-- A row of a block lies in its first half or in its last. -/
theorem top_ix (r : Fin 512) (e : Fin 2048) (hr : (r : ℕ) < 256) :
    (ix3 0 r e : S1x512x2048.Idx) = topHalf.emb (ix3 0 ⟨r, hr⟩ e) := by
  funext a
  apply Fin.ext
  refine Eq.trans ?_ (ValueKit.rect_emb_unit_val _ _ _ _ _).symm
  fin_cases a <;> (simp; try omega)

theorem low_ix (r : Fin 512) (e : Fin 2048) (hr : ¬ (r : ℕ) < 256) :
    (ix3 0 r e : S1x512x2048.Idx) = lowHalf.emb (ix3 0 ⟨r - 256, by omega⟩ e) := by
  funext a
  apply Fin.ext
  refine Eq.trans ?_ (ValueKit.rect_emb_unit_val _ _ _ _ _).symm
  fin_cases a <;> (simp; try omega)

/-- What a grid point leaves in its block of the residual stream. -/
theorem stream_out (c : Dev nD) (t : Fin cfg0.N) (r : Fin 512) (e : Fin 2048) :
    ((outsAt0 m c t).1 (ix3 0 r e) : EReal) = stream (argsOf m c) (bOf t) (rowOf t r) e := by
  unfold outsAt0
  dsimp only
  by_cases hr : (r : ℕ) < 256
  · rw [top_ix r e hr, top_stream]
    exact stream_row m c t r e
  · have er : (⟨256 + (r - 256 : ℕ), by omega⟩ : Fin 512) = r := Fin.ext (by simp only; omega)
    rw [low_ix r e hr, low_stream]
    simp only [er]
    exact stream_row m c t r e

/-- What a grid point leaves in its block of the MLP's input. -/
theorem norm_out (c : Dev nD) (t : Fin cfg0.N) (r : Fin 512) (e : Fin 2048) :
    ((outsAt0 m c t).2 (ix3 0 r e) : EReal) = result (argsOf m c) (bOf t) (rowOf t r) e := by
  unfold outsAt0
  dsimp only
  by_cases hr : (r : ℕ) < 256
  · rw [top_ix r e hr, top_norm]
    exact norm_row m c t r e
  · have er : (⟨256 + (r - 256 : ℕ), by omega⟩ : Fin 512) = r := Fin.ext (by simp only; omega)
    rw [low_ix r e hr, low_norm]
    simp only [er]
    exact norm_row m c t r e

/-- The array of the residual stream. -/
def streamed (c : Dev nD) : Vec Ideal S4x4096x2048 .f32 := fun i => stream (argsOf m c) (i 0) (i 1) (i 2)

/-- An element of it, its three coordinates given. -/
theorem streamed_at (c : Dev nD) (i : S4x4096x2048.Idx) (b : Fin 4) (r : Fin 4096) (e : Fin 2048)
    (h0 : (i 0 : ℕ) = b) (h1 : (i 1 : ℕ) = r) (h2 : (i 2 : ℕ) = e) : streamed m c i = stream (argsOf m c) b r e := by
  unfold streamed
  congr 1 <;> apply Fin.ext <;> assumption

/-- It is what the run leaves. -/
theorem final8 (c : Dev nD) : (dats m 0 c).arrAt 8 cfg0.N = streamed m c := by
  refine (dats m 0 c).arrAt_eq_of_covers 8 _ (by decide +kernel) fun t hf y => ?_
  blk_simp
  rw [after0_8]
  have h1 : (y 1 : ℕ) < 512 := (y 1).isLt
  have h2 : (y 2 : ℕ) < 2048 := (y 2).isLt
  have h0 : (y 0 : ℕ) < 1 := (y 0).isLt
  have hy : y = (ix3 0 ⟨(y 1 : ℕ), h1⟩ ⟨(y 2 : ℕ), h2⟩ : S1x512x2048.Idx) := by
    funext a
    fin_cases a <;> (apply Fin.ext; simp; try omega)
  refine (congrArg (outsAt0 m c t).1 hy).trans ((stream_out m c t _ _).trans ?_)
  have i8 := idx8 t
  have e0 : ((((cfg0.win 8).blk t).view.emb y 0 : Fin _) : ℕ) = t / 8 := by blk_simp; omega
  have e1 : ((((cfg0.win 8).blk t).view.emb y 1 : Fin _) : ℕ) = t % 8 * 512 + y 1 := by blk_simp; omega
  have e2 : ((((cfg0.win 8).blk t).view.emb y 2 : Fin _) : ℕ) = y 2 := by blk_simp; omega
  exact (streamed_at m c _ (bOf t) (rowOf t _) _ e0 e1 e2).symm

/-- The array of the MLP's input. -/
def normed (c : Dev nD) : Vec Ideal S4x4096x2048 .bf16 := fun i => result (argsOf m c) (i 0) (i 1) (i 2)

/-- An element of it, its three coordinates given. -/
theorem normed_at (c : Dev nD) (i : S4x4096x2048.Idx) (b : Fin 4) (r : Fin 4096) (e : Fin 2048)
    (h0 : (i 0 : ℕ) = b) (h1 : (i 1 : ℕ) = r) (h2 : (i 2 : ℕ) = e) : normed m c i = result (argsOf m c) b r e := by
  unfold normed
  congr 1 <;> apply Fin.ext <;> assumption

/-- It is what the run leaves. -/
theorem final9 (c : Dev nD) : (dats m 0 c).arrAt 9 cfg0.N = normed m c := by
  refine (dats m 0 c).arrAt_eq_of_covers 9 _ (by decide +kernel) fun t hf y => ?_
  blk_simp
  rw [after0_9]
  have h1 : (y 1 : ℕ) < 512 := (y 1).isLt
  have h2 : (y 2 : ℕ) < 2048 := (y 2).isLt
  have h0 : (y 0 : ℕ) < 1 := (y 0).isLt
  have hy : y = (ix3 0 ⟨(y 1 : ℕ), h1⟩ ⟨(y 2 : ℕ), h2⟩ : S1x512x2048.Idx) := by
    funext a
    fin_cases a <;> (apply Fin.ext; simp; try omega)
  refine (congrArg (outsAt0 m c t).2 hy).trans ((norm_out m c t _ _).trans ?_)
  have i9 := idx9 t
  have e0 : ((((cfg0.win 9).blk t).view.emb y 0 : Fin _) : ℕ) = t / 8 := by blk_simp; omega
  have e1 : ((((cfg0.win 9).blk t).view.emb y 1 : Fin _) : ℕ) = t % 8 * 512 + y 1 := by blk_simp; omega
  have e2 : ((((cfg0.win 9).blk t).view.emb y 2 : Fin _) : ℕ) = y 2 := by blk_simp; omega
  exact (normed_at m c _ (bOf t) (rowOf t _) _ e0 e1 e2).symm

end Cert.Kernel3Ideal.OutValue

end
-- ==== Proof.OutReference.lean ====
/- The output projection's reference, element by element. -/
module

public import proofs.«01_k».proof.Proof.Gen.Reference3Ideal.Run
public import proofs.«01_k».proof.Proof.OutSpec

@[expose] public section

noncomputable section

namespace Cert.Reference3Ideal.OutReference

open Idealize.ShloMosaic Idealize.ShloMosaic.TcCoe Cert.Reference3Ideal Cert.Reference3Ideal.Gen Cert.Reference3Ideal.Value Cert.Outproj

variable (m : (ℓ : Loc nD τ sig) → Buf (Elt Ideal) ℓ)

/-- The argument arrays as functions of their coordinates. -/
def argsOf (c : Dev nD) : Args where
  yf b r d := m ((c.tc : Thread nD τ).loc main_arg0) (ix3 b r d)
  ym b r d := m ((c.tc : Thread nD τ).loc main_arg1) (ix3 b r d)
  x b r e := m ((c.tc : Thread nD τ).loc main_arg2) (ix3 b r e)
  row r d := m ((c.tc : Thread nD τ).loc main_arg3) (ix3 r 0 d)
  col r d := m ((c.tc : Thread nD τ).loc main_arg4) (ix2 r d)
  mod b j e := m ((c.tc : Thread nD τ).loc main_arg5) (ix3 b j e)
  gain e := m ((c.tc : Thread nD τ).loc main_arg6) (ix2 0 e)
  w d e := m ((c.tc : Thread nD τ).loc main_arg7) (ix2 d e)

/-- The first result as the run leaves it. -/
def streamed (c : Dev nD) : FVec Ideal S4x4096x2048 .f32 :=
  addf (F := Ideal) (addf (F := Ideal) (m ((c.tc : Thread nD τ).loc main_arg2)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg3)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg4))))⟩] concatenates_S64x64x1024_S64x64x1024_S64x64x2048_d2) shapeCasts_S64x64x2048_S4096x2048)))) (mulf (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 2, 0] (m ((c.tc : Thread nD τ).loc main_arg5)) slices_S8x6x2048_S4x1x2048_0_2_0) shapeCasts_S4x1x2048_S4x2048))) (Host.dotGeneral dot_S4x4096x2048_S2048x2048_S4x4096x2048_2_0_01_1_n_n none (extf .f32 (concatenate S4x4096x2048 2 [⟨S4x4096x1024, (m ((c.tc : Thread nD τ).loc main_arg0))⟩, ⟨S4x4096x1024, (m ((c.tc : Thread nD τ).loc main_arg1))⟩] concatenates_S4x4096x1024_S4x4096x1024_S4x4096x2048_d2) bitsLt_bf16_f32) (extf .f32 (m ((c.tc : Thread nD τ).loc main_arg7)) bitsLt_bf16_f32)))

/-- The reference's second result is the MLP's input. -/
theorem result_apply (c : Dev nD) (b : Fin 4) (r : Fin 4096) (e : Fin 2048) :
    (res_main_v43 (F := Ideal) m c (ix3 b r e) : EReal) = result (argsOf m c) b r e := by
  pointwise [res_main_v43]
  unfold result
  refine Eq.trans ?_ (modulated_halves _ _ _ _ _).symm
  simp only [stream, gated, beside_fore, beside_aft]
  rfl

/-- Its first is the residual stream. -/
theorem stream_apply (c : Dev nD) (b : Fin 4) (r : Fin 4096) (e : Fin 2048) :
    (streamed m c (ix3 b r e) : EReal) = stream (argsOf m c) b r e := by
  pointwise [streamed]
  rfl

end Cert.Reference3Ideal.OutReference

end
-- ==== Proof.InPieces.lean ====
/- What the input projection's program writes at a grid point, as lists of pieces: the tiles of the plain channels, the
   strips of the convolved ones, and the gates. -/
module

public import Idealize.ShloMosaic.Lib.WholeRead
public import Idealize.ShloMosaic.Lib.Pipeline.ReadBack
public import proofs.«01_k».proof.Proof.Gen.Kernel4Ideal.Frame

@[expose] public section

set_option maxRecDepth 65536

noncomputable section

namespace Cert.Kernel4Ideal.InPieces

open Idealize.ShloMosaic Cert.Kernel4Ideal Cert.Kernel4Ideal.Gen

/-- The grid point, the buffers the program is given there, and what the read ones hold. -/
structure Point (F : FTy → Type) [FloatOps F] where
  i : grid0.Coords
  arg2 : Memref sig .tc .vmem S1x512x2048 .f32
  harg2 : arg2.IsWhole
  arg3 : Memref sig .tc .vmem S1x16x2048 .f32
  harg3 : arg3.IsWhole
  arg4 : Memref sig .tc .vmem S1x16x2048 .f32
  harg4 : arg4.IsWhole
  arg5 : Memref sig .tc .vmem S64x1x1024 .f32
  harg5 : arg5.IsWhole
  arg6 : Memref sig .tc .vmem S64x1024 .f32
  harg6 : arg6.IsWhole
  arg7 : Memref sig .tc .vmem S1x6x2048 .f32
  harg7 : arg7.IsWhole
  arg8 : Memref sig .tc .vmem S1x2048 .f32
  harg8 : arg8.IsWhole
  arg9 : Memref sig .tc .vmem S2048x5120 .bf16
  harg9 : arg9.IsWhole
  arg10 : Memref sig .tc .vmem S2048x128 .bf16
  harg10 : arg10.IsWhole
  arg11 : Memref sig .tc .vmem S5x2048 .f32
  harg11 : arg11.IsWhole
  arg12 : Memref sig .tc .vmem S1x2048 .f32
  harg12 : arg12.IsWhole
  arg13 : Memref sig .tc .vmem S1x512x3072 .bf16
  harg13 : arg13.IsWhole
  arg14 : Memref sig .tc .vmem S1x4x512x256 .bf16
  harg14 : arg14.IsWhole
  arg15 : Memref sig .tc .vmem S1x2x1024x256 .bf16
  harg15 : arg15.IsWhole
  arg16 : Memref sig .tc .vmem S1x512x128 .f32
  harg16 : arg16.IsWhole
  arg17 : Memref sig .tc .vmem S544x512 .f32
  harg17 : arg17.IsWhole
  arg18 : Memref sig .tc .vmem S544x512 .f32
  harg18 : arg18.IsWhole
  arg19 : Memref sig .tc .vmem S544x512 .f32
  harg19 : arg19.IsWhole
  arg20 : Memref sig .tc .vmem S544x512 .f32
  harg20 : arg20.IsWhole
  x0 : Vec F S1x512x2048 .f32
  x1 : Vec F S1x16x2048 .f32
  x2 : Vec F S1x16x2048 .f32
  x3 : Vec F S64x1x1024 .f32
  x4 : Vec F S64x1024 .f32
  x5 : Vec F S1x6x2048 .f32
  x6 : Vec F S1x2048 .f32
  x7 : Vec F S2048x5120 .bf16
  x8 : Vec F S2048x128 .bf16
  x9 : Vec F S5x2048 .f32
  x10 : Vec F S1x2048 .f32

namespace Point
variable {F : FTy → Type} [FloatOps F] (X : Point F)

/-- The tile's place in its sequence. -/
def at_ : BitVec 32 := BitVec.ofNat 32 (X.i 1).val

/-- The gains. -/
def gain : Vec F S1x2048 .f32 :=
  View.readAt (Elt F) X.arg8.view (Rect.unit (s := S1x2048) ![0, 0] S1x2048.size inb_S1x2048_S1x2048_0_0).toLoadRect (X.harg8.unread X.x6)
/-- The scale. -/
def scale : Vec F S1x1x2048 .f32 :=
  View.readAt (Elt F) X.arg7.view (Rect.unit (s := S1x6x2048) ![0, 1, 0] S1x1x2048.size inb_S1x6x2048_S1x1x2048_0_1_0).toLoadRect (X.harg7.unread X.x5)
/-- The shift. -/
def shift : Vec F S1x1x2048 .f32 :=
  View.readAt (Elt F) X.arg7.view (Rect.unit (s := S1x6x2048) ![0, 0, 0] S1x1x2048.size inb_S1x6x2048_S1x1x2048_0_0_0).toLoadRect (X.harg7.unread X.x5)

/-- The tile's normed rows. -/
def rows : FVec F S512x2048 .bf16 :=
  k0_pay1 (View.readAt (Elt F) X.arg2.view (Rect.unit (s := S1x512x2048) ![0, 0, 0] S1x512x2048.size inb_S1x512x2048_S1x512x2048_0_0_0).toLoadRect (X.harg2.unread X.x0))
    (View.readAt (Elt F) X.arg5.view (Rect.unit (s := S64x1x1024) (k0_off1 X.i) S8x1x1024.size (k0_off1_inb X.i)).toLoadRect (X.harg5.unread X.x3))
    (View.readAt (Elt F) X.arg6.view (Rect.unit (s := S64x1024) ![0, 0] S64x1024.size inb_S64x1024_S64x1024_0_0).toLoadRect (X.harg6.unread X.x4))
    X.gain X.scale X.shift

/-- The sixteen rows before it. -/
def before : FVec F S16x2048 .bf16 :=
  k0_pay2 (View.readAt (Elt F) X.arg3.view (Rect.unit (s := S1x16x2048) ![0, 0, 0] S1x16x2048.size inb_S1x16x2048_S1x16x2048_0_0_0).toLoadRect (X.harg3.unread X.x1))
    (View.readAt (Elt F) X.arg5.view (Rect.unit (s := S64x1x1024) (k0_off2 X.i) S1x1x1024.size (k0_off2_inb X.i)).toLoadRect (X.harg5.unread X.x3))
    (View.readAt (Elt F) X.arg6.view (Rect.unit (s := S64x1024) ![48, 0] S16x1024.size inb_S64x1024_S16x1024_48_0).toLoadRect (X.harg6.unread X.x4))
    X.gain X.scale X.shift

/-- The tile's rows between the sixteen before it and the sixteen after. -/
def wide : FVec F S544x2048 .bf16 :=
  k0_pay3 X.rows X.before
    (View.readAt (Elt F) X.arg4.view (Rect.unit (s := S1x16x2048) ![0, 0, 0] S1x16x2048.size inb_S1x16x2048_S1x16x2048_0_0_0).toLoadRect (X.harg4.unread X.x2))
    (View.readAt (Elt F) X.arg5.view (Rect.unit (s := S64x1x1024) (k0_off3 X.i) S1x1x1024.size (k0_off3_inb X.i)).toLoadRect (X.harg5.unread X.x3))
    (View.readAt (Elt F) X.arg6.view (Rect.unit (s := S64x1024) ![0, 0] S16x1024.size inb_S64x1024_S16x1024_0_0).toLoadRect (X.harg6.unread X.x4))
    X.gain X.scale X.shift

/-- The 512 columns of the weight behind the convolved channels of scratch buffer `n`. -/
def cols (n : Fin 4) : Vec F S2048x512 .bf16 :=
  View.readAt (Elt F) X.arg9.view (Rect.unit (s := S2048x5120) ![0, 1024 + 512 * (n : ℕ)] S2048x512.size
    (by intro a; have := n.isLt; fin_cases a <;> simp [Shape.size] <;> omega)).toLoadRect (X.harg9.unread X.x7)

end Point

/-- The three parts of a scratch buffer. -/
abbrev headRect : Rect S544x512 := Rect.unit (s := S544x512) ![0, 0] S16x512.size inb_S544x512_S16x512_0_0
abbrev midRect : Rect S544x512 := Rect.unit (s := S544x512) ![16, 0] S512x512.size inb_S544x512_S512x512_16_0
abbrev tailRect : Rect S544x512 := Rect.unit (s := S544x512) ![528, 0] S16x512.size inb_S544x512_S16x512_528_0

namespace Point
variable {F : FTy → Type} [FloatOps F] (X : Point F)

/-- What is stored in scratch buffer `n`. -/
def held (n : Fin 4) : List (View.Piece (Elt F) S544x512 .f32) :=
  [⟨tailRect, k0_pay7 X.at_ X.wide (X.cols n)⟩, ⟨midRect, k0_pay6 X.wide (X.cols n)⟩, ⟨headRect, k0_pay5 X.at_ X.wide (X.cols n)⟩]

/-- The scratch buffers. -/
def scr : Fin 4 → Memref sig .tc .vmem S544x512 .f32
  | 0 => X.arg17 | 1 => X.arg18 | 2 => X.arg19 | 3 => X.arg20

/-- The rows tap `j` of strip `s` reads. A strip is 128 rows of 128 channels; strips `4 b` to `4 b + 3` are those of the
    `b`-th 128 channels. -/
abbrev tapRect (s : Fin 64) (j : Fin 5) : Rect S544x512 :=
  Rect.unit (s := S544x512) ![128 * ((s : ℕ) % 4) + 14 + j, 128 * ((s : ℕ) / 4 % 4)] S128x128.size
    (by intro a; have := s.isLt; have := j.isLt; fin_cases a <;> simp [Shape.size] <;> omega)

def tap (s : Fin 64) (j : Fin 5) : Vec F S128x128 .f32 :=
  (X.scr ⟨(s : ℕ) / 16, by omega⟩).view.readCov (X.held ⟨(s : ℕ) / 16, by omega⟩) (tapRect s j).toLoadRect

/-- The tap's weights. -/
abbrev wtRect (s : Fin 64) (j : Fin 5) : Rect S5x2048 :=
  Rect.unit (s := S5x2048) ![j, 128 * ((s : ℕ) / 4)] S1x128.size
    (by intro a; have := s.isLt; have := j.isLt; fin_cases a <;> simp [Shape.size] <;> omega)

def wt (s : Fin 64) (j : Fin 5) : Vec F S1x128 .f32 :=
  View.readAt (Elt F) X.arg11.view (wtRect s j).toLoadRect (X.harg11.unread X.x9)

/-- The strip's output scale. -/
abbrev postRect (s : Fin 64) : Rect S1x2048 :=
  Rect.unit (s := S1x2048) ![0, 128 * ((s : ℕ) / 4)] S1x128.size
    (by intro a; have := s.isLt; fin_cases a <;> simp [Shape.size] <;> omega)

def post (s : Fin 64) : Vec F S1x128 .f32 :=
  View.readAt (Elt F) X.arg12.view (postRect s).toLoadRect (X.harg12.unread X.x10)

end Point

section
variable {F : FTy → Type} [FloatOps F]

/-- A strip: the five taps under their weights, through silu, scaled. -/
def strip (z : Fin 5 → Vec F S128x128 .f32) (w : Fin 5 → Vec F S1x128 .f32) (p : Vec F S1x128 .f32) : FVec F S128x128 .f32 :=
  have acc : FVec F S128x128 .f32 := addf (addf (addf (addf
    (mulf (z 0) (broadcastTo S128x128 (w 0) broadcasts_S1x128_S128x128))
    (mulf (z 1) (broadcastTo S128x128 (w 1) broadcasts_S1x128_S128x128)))
    (mulf (z 2) (broadcastTo S128x128 (w 2) broadcasts_S1x128_S128x128)))
    (mulf (z 3) (broadcastTo S128x128 (w 3) broadcasts_S1x128_S128x128)))
    (mulf (z 4) (broadcastTo S128x128 (w 4) broadcasts_S1x128_S128x128))
  mulf (mulf acc (logistic acc)) (broadcastTo S128x128 p broadcasts_S1x128_S128x128)

/-- A strip of the queries. -/
def queryStrip (y : FVec F S128x128 .f32) : FVec F S1x1x128x128 .bf16 :=
  shapeCast S1x1x128x128 (truncf .bf16 y bitsLt_bf16_f32) shapeCasts_S128x128_S1x1x128x128

/-- A strip of the keys, stored transposed. -/
def keyStrip (y : FVec F S128x128 .f32) : FVec F S1x1x128x128 .bf16 :=
  shapeCast S1x1x128x128 (truncf .bf16 (transpose S128x128 [1, 0] y transposes_S128x128_p1_0_S128x128) bitsLt_bf16_f32)
    shapeCasts_S128x128_S1x1x128x128
end

/-- Where strip `k` of the queries goes. -/
abbrev queryRect (k : Fin 32) : Rect S1x4x512x256 :=
  Rect.unit (s := S1x4x512x256) ![0, (k : ℕ) / 8, 128 * ((k : ℕ) % 4), 128 * ((k : ℕ) / 4 % 2)] S1x1x128x128.size
    (by intro a; have := k.isLt; fin_cases a <;> simp [Shape.size] <;> omega)

/-- Where strip `k` of the keys goes. -/
abbrev keyRect (k : Fin 32) : Rect S1x2x1024x256 :=
  Rect.unit (s := S1x2x1024x256) ![0, (k : ℕ) % 4 / 2, 128 * ((k : ℕ) / 4), 128 * ((k : ℕ) % 2)] S1x1x128x128.size
    (by intro a; have := k.isLt; fin_cases a <;> simp [Shape.size] <;> omega)

/-- Where tile `k` of the plain channels goes, and where its columns of the weight begin. -/
abbrev tileRect (k : Fin 12) : Rect S1x512x3072 :=
  Rect.unit (s := S1x512x3072) ![0, 0, 256 * (k : ℕ)] S1x512x256.size
    (by intro a; have := k.isLt; fin_cases a <;> simp [Shape.size] <;> omega)

def source (k : Fin 12) : ℕ := if (k : ℕ) < 4 then 256 * k else 2048 + 256 * k

theorem source_le (k : Fin 12) : source k ≤ 4864 := by
  have := k.isLt
  unfold source
  split <;> omega

abbrev sourceRect (k : Fin 12) : Rect S2048x5120 :=
  Rect.unit (s := S2048x5120) ![0, source k] S2048x256.size
    (by intro a; have := source_le k; fin_cases a <;> simp [Shape.size] <;> omega)

/-- The order of the strips, last first. -/
def strips : List (Fin 32) := [31, 30, 29, 28, 27, 26, 25, 24, 23, 22, 21, 20, 19, 18, 17, 16, 15, 14, 13, 12, 11, 10, 9, 8, 7, 6, 5, 4, 3, 2, 1, 0]
/-- The order of the tiles, last first. -/
def tiles : List (Fin 12) := [11, 10, 9, 8, 7, 6, 5, 4, 3, 2, 1, 0]

namespace Point
variable {F : FTy → Type} [FloatOps F] (X : Point F)

def convolved (s : Fin 64) : FVec F S128x128 .f32 := strip (X.tap s) (X.wt s) (X.post s)

def queryPieces : List (View.Piece (Elt F) S1x4x512x256 .bf16) :=
  strips.map fun k => ⟨queryRect k, queryStrip (X.convolved ⟨k, by omega⟩)⟩

def keyPieces : List (View.Piece (Elt F) S1x2x1024x256 .bf16) :=
  strips.map fun k => ⟨keyRect k, keyStrip (X.convolved ⟨32 + k, by omega⟩)⟩

/-- A tile of the plain channels. -/
def tile (k : Fin 12) : FVec F S1x512x256 .bf16 :=
  have w : Vec F S2048x256 .bf16 := View.readAt (Elt F) X.arg9.view (sourceRect k).toLoadRect (X.harg9.unread X.x7)
  if (k : ℕ) < 8 then k0_pay21 X.rows w else k0_pay138 X.rows w

def tilePieces : List (View.Piece (Elt F) S1x512x3072 .bf16) :=
  tiles.map fun k => ⟨tileRect k, X.tile k⟩

def gatePieces : List (View.Piece (Elt F) S1x512x128 .f32) :=
  [⟨Rect.unit (s := S1x512x128) ![0, 0, 0] S1x512x128.size inb_S1x512x128_S1x512x128_0_0_0,
    k0_pay172 X.rows (View.readAt (Elt F) X.arg10.view (Rect.unit (s := S2048x128) ![0, 0] S2048x128.size inb_S2048x128_S2048x128_0_0).toLoadRect (X.harg10.unread X.x8))⟩]

/-- The run of the program at the point. -/
abbrev run (c : Dev nD) :=
  kernelRun0_A c X.i X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10

theorem tiles_eq (c : Dev nD) : (X.run c).1 = X.tilePieces := by sl_kernel_rfl
theorem gates_eq (c : Dev nD) : (X.run c).2.2.2.1 = X.gatePieces := by sl_kernel_rfl
set_option maxHeartbeats 4000000 in
theorem queries_eq (c : Dev nD) : (X.run c).2.1 = X.queryPieces := by sl_kernel_rfl
set_option maxHeartbeats 4000000 in
theorem keys_eq (c : Dev nD) : (X.run c).2.2.1 = X.keyPieces := by sl_kernel_rfl

end Point

end Cert.Kernel4Ideal.InPieces

end
-- ==== Proof.InSpec.lean ====
/- The input projection with the norm before it and the convolution after it, as mathematics over the
   extended reals. -/
module

public import proofs.«01_k».proof.Proof.OutSpec

@[expose] public section

noncomputable section

namespace Cert.Inproj

open Idealize.ShloMosaic Cert.Outproj

/-- The arrays both programs take, as functions of their coordinates: the residual stream, the two tables of position
    embeddings, the modulation, the norm's gains, the weight, the gates' weight, the convolution's taps and the scale
    of the convolved channels. -/
structure Args where
  x : Fin 4 → Fin 4096 → Fin 2048 → EReal
  row : Fin 64 → Fin 1024 → EReal
  col : Fin 64 → Fin 1024 → EReal
  mod : Fin 8 → Fin 6 → Fin 2048 → EReal
  gain : Fin 2048 → EReal
  w : Fin 2048 → Fin 5136 → EReal
  wg : Fin 2048 → Fin 128 → EReal
  taps : Fin 5 → Fin 2048 → EReal
  post : Fin 2048 → EReal

/-- The stream with its position embedding. -/
def placed (A : Args) (b : Fin 4) (t : Fin 4096) (e : Fin 2048) : EReal :=
  A.x b t e + beside (A.row ⟨t / 64, by omega⟩) (A.col ⟨t % 64, by omega⟩) e

/-- The rows the weights are applied to. -/
def normed (A : Args) (b : Fin 4) (t : Fin 4096) (e : Fin 2048) : EReal :=
  modulated (placed A b t) A.gain (A.mod ⟨b, by omega⟩ 1) (A.mod ⟨b, by omega⟩ 0) e

/-- A channel of the projection. -/
def proj (A : Args) (b : Fin 4) (t : Fin 4096) (n : Fin 5136) : EReal := ∑ d, normed A b t d * A.w d n

/-- A convolved channel before the convolution, at row `u - 2` of the sequence: zero outside it. -/
def padded (A : Args) (b : Fin 4) (ch : Fin 2048) (u : ℕ) : EReal :=
  if h : 2 ≤ u ∧ u < 4098 then proj A b ⟨u - 2, by omega⟩ ⟨1024 + ch, by omega⟩ else 0

/-- Five taps under five weights. -/
def conv (z w : Fin 5 → EReal) : EReal := z 0 * w 0 + z 1 * w 1 + z 2 * w 2 + z 3 * w 3 + z 4 * w 4

/-- Silu, scaled. -/
def swish (a s : EReal) : EReal := a * Ideal.logistic a * s

/-- A convolved channel. -/
def convolved (A : Args) (b : Fin 4) (t : Fin 4096) (ch : Fin 2048) : EReal :=
  swish (conv (fun j => padded A b ch (t + j)) fun j => A.taps j ch) (A.post ch)

/-- The plain channels: the Fourier branch's, the values, and the output gate through the logistic. -/
def plain (A : Args) (b : Fin 4) (t : Fin 4096) (n : Fin 3072) : EReal :=
  if (n : ℕ) < 1024 then proj A b t ⟨n, by omega⟩
  else if (n : ℕ) < 2048 then proj A b t ⟨2048 + n, by omega⟩
  else Ideal.logistic (proj A b t ⟨2048 + n, by omega⟩)

/-- A gate before its own activation. -/
def gate (A : Args) (b : Fin 4) (t : Fin 4096) (l : Fin 128) : EReal := ∑ d, normed A b t d * A.wg d l

/-- A query: channel `e` of head `n`. -/
def query (A : Args) (b : Fin 4) (n : Fin 4) (t : Fin 4096) (e : Fin 256) : EReal :=
  convolved A b t ⟨n * 256 + e, by omega⟩

/-- A key, chunk by chunk and transposed: channel `e` at row `r` of chunk `k`. -/
def key (A : Args) (b : Fin 4) (k : Fin 16) (e : Fin 1024) (r : Fin 256) : EReal :=
  convolved A b ⟨k * 256 + r, by omega⟩ ⟨1024 + e, by omega⟩

theorem modulated_congr {v v' g g' s s' t t' : Fin 2048 → EReal} {e : Fin 2048} (hv : v = v') (hg : g = g') (hs : s = s')
    (ht : t = t') : modulated v g s t e = modulated v' g' s' t' e := by
  subst hv hg hs ht
  rfl

/-- A row that agrees with the stream's and the tables' is the placed row. -/
theorem placed_eq (A : Args) (b : Fin 4) (t : Fin 4096) (x : Fin 2048 → EReal) (row col : Fin 1024 → EReal) (hx : ∀ e, x e = A.x b t e)
    (hr : ∀ d, row d = A.row ⟨t / 64, by omega⟩ d) (hc : ∀ d, col d = A.col ⟨t % 64, by omega⟩ d) :
    (fun e => x e + beside row col e) = placed A b t := by
  obtain rfl : row = A.row ⟨t / 64, by omega⟩ := funext hr
  obtain rfl : col = A.col ⟨t % 64, by omega⟩ := funext hc
  exact funext fun e => congrArg (· + _) (hx e)

end Cert.Inproj

end
-- ==== Proof.InBlock.lean ====
/- What the input projection's program computes of the blocks it reads, element by element. -/
module

public import proofs.«01_k».proof.Proof.InPieces
public import proofs.«01_k».proof.Proof.InSpec

@[expose] public section

noncomputable section

namespace Cert.Kernel4Ideal.InBlock

open Idealize.ShloMosaic Cert.Kernel4Ideal Cert.Kernel4Ideal.Gen Cert.Kernel4Ideal.InPieces
open Cert.Outproj hiding Args
open Cert.Inproj

/-- The tile's normed rows. -/
theorem pay1_apply (x : Vec Ideal S1x512x2048 .f32) (row : Vec Ideal S8x1x1024 .f32) (col : Vec Ideal S64x1024 .f32)
    (g : Vec Ideal S1x2048 .f32) (scale shift : Vec Ideal S1x1x2048 .f32) (r : Fin 512) (e : Fin 2048) :
    (k0_pay1 (F := Ideal) x row col g scale shift (ix2 r e) : EReal) =
      modulated (fun e => x (ix3 0 r e) + beside (fun d => row (ix3 ⟨r / 64, by omega⟩ 0 d)) (fun d => col (ix2 ⟨r % 64, by omega⟩ d)) e)
        (fun e => g (ix2 0 e)) (fun e => scale (ix3 0 0 e)) (fun e => shift (ix3 0 0 e)) e := by
  pointwise [k0_pay1]
  refine Eq.trans ?_ (modulated_halves _ _ _ _ _).symm
  simp only [beside_fore, beside_aft]
  rfl

/-- The sixteen rows before it. -/
theorem pay2_apply (x : Vec Ideal S1x16x2048 .f32) (row : Vec Ideal S1x1x1024 .f32) (col : Vec Ideal S16x1024 .f32)
    (g : Vec Ideal S1x2048 .f32) (scale shift : Vec Ideal S1x1x2048 .f32) (r : Fin 16) (e : Fin 2048) :
    (k0_pay2 (F := Ideal) x row col g scale shift (ix2 r e) : EReal) =
      modulated (fun e => x (ix3 0 r e) + beside (fun d => row (ix3 0 0 d)) (fun d => col (ix2 r d)) e)
        (fun e => g (ix2 0 e)) (fun e => scale (ix3 0 0 e)) (fun e => shift (ix3 0 0 e)) e := by
  pointwise [k0_pay2]
  refine Eq.trans ?_ (modulated_halves _ _ _ _ _).symm
  simp only [beside_fore, beside_aft]
  rfl

/-- The rows between their neighbours: the sixteen before. -/
theorem pay3_before (h : FVec Ideal S512x2048 .bf16) (p : FVec Ideal S16x2048 .bf16) (x : Vec Ideal S1x16x2048 .f32)
    (row : Vec Ideal S1x1x1024 .f32) (col : Vec Ideal S16x1024 .f32)
    (g : Vec Ideal S1x2048 .f32) (scale shift : Vec Ideal S1x1x2048 .f32) (u : Fin 544) (hu : (u : ℕ) < 16) (e : Fin 2048) :
    (k0_pay3 (F := Ideal) h p x row col g scale shift (ix2 u e) : EReal) = p (ix2 ⟨u, hu⟩ e) := by
  pointwise [k0_pay3]
  rw [dif_pos hu]

/-- The tile's own. -/
theorem pay3_own (h : FVec Ideal S512x2048 .bf16) (p : FVec Ideal S16x2048 .bf16) (x : Vec Ideal S1x16x2048 .f32)
    (row : Vec Ideal S1x1x1024 .f32) (col : Vec Ideal S16x1024 .f32)
    (g : Vec Ideal S1x2048 .f32) (scale shift : Vec Ideal S1x1x2048 .f32) (u : Fin 544) (hu : 16 ≤ (u : ℕ)) (hv : (u : ℕ) < 528) (e : Fin 2048) :
    (k0_pay3 (F := Ideal) h p x row col g scale shift (ix2 u e) : EReal) = h (ix2 ⟨u - 16, by omega⟩ e) := by
  pointwise [k0_pay3]
  rw [dif_neg (by omega), dif_pos (by omega)]

/-- The sixteen after. -/
theorem pay3_after (h : FVec Ideal S512x2048 .bf16) (p : FVec Ideal S16x2048 .bf16) (x : Vec Ideal S1x16x2048 .f32)
    (row : Vec Ideal S1x1x1024 .f32) (col : Vec Ideal S16x1024 .f32)
    (g : Vec Ideal S1x2048 .f32) (scale shift : Vec Ideal S1x1x2048 .f32) (u : Fin 544) (hu : 528 ≤ (u : ℕ)) (e : Fin 2048) :
    (k0_pay3 (F := Ideal) h p x row col g scale shift (ix2 u e) : EReal) =
      modulated (fun e => x (ix3 0 ⟨u - 528, by omega⟩ e) + beside (fun d => row (ix3 0 0 d)) (fun d => col (ix2 ⟨u - 528, by omega⟩ d)) e)
        (fun e => g (ix2 0 e)) (fun e => scale (ix3 0 0 e)) (fun e => shift (ix3 0 0 e)) e := by
  have hr : ∀ (y : Vec Ideal S1x16x2048 .f32) (e : Fin 2048), y (ix3 0 ⟨(u : ℕ) - 16 - 512, by omega⟩ e) = y (ix3 0 ⟨u - 528, by omega⟩ e) := fun y e => by
    congr 2
  pointwise [k0_pay3]
  rw [dif_neg (by omega), dif_neg (by omega)]
  refine Eq.trans ?_ (modulated_halves _ _ _ _ _).symm
  simp only [beside_fore, beside_aft]
  rfl

/-- A scratch buffer's rows before the tile. -/
theorem pay5_apply (a : BitVec 32) (h : FVec Ideal S544x2048 .bf16) (w : Vec Ideal S2048x512 .bf16) (r : Fin 16) (c : Fin 512) :
    (k0_pay5 (F := Ideal) a h w (ix2 r c) : EReal) =
      if Scalar.cmpi .sgt a 0#32 = 1#1 then ∑ d, h (ix2 ⟨r, by omega⟩ d) * w (ix2 d c) else 0 := by
  pointwise [k0_pay5, k0_pay4]
  rfl

/-- Its own rows. -/
theorem pay6_apply (h : FVec Ideal S544x2048 .bf16) (w : Vec Ideal S2048x512 .bf16) (r : Fin 512) (c : Fin 512) :
    (k0_pay6 (F := Ideal) h w (ix2 r c) : EReal) = ∑ d, h (ix2 ⟨16 + r, by omega⟩ d) * w (ix2 d c) := by
  pointwise [k0_pay6, k0_pay4]

/-- The rows after. -/
theorem pay7_apply (a : BitVec 32) (h : FVec Ideal S544x2048 .bf16) (w : Vec Ideal S2048x512 .bf16) (r : Fin 16) (c : Fin 512) :
    (k0_pay7 (F := Ideal) a h w (ix2 r c) : EReal) =
      if Scalar.cmpi .slt a 7#32 = 1#1 then ∑ d, h (ix2 ⟨528 + r, by omega⟩ d) * w (ix2 d c) else 0 := by
  pointwise [k0_pay7, k0_pay4]
  rfl

/-- A tile of the plain channels. -/
theorem pay21_apply (h : FVec Ideal S512x2048 .bf16) (w : Vec Ideal S2048x256 .bf16) (r : Fin 512) (c : Fin 256) :
    (k0_pay21 (F := Ideal) h w (ix3 0 r c) : EReal) = ∑ d, h (ix2 r d) * w (ix2 d c) := by
  pointwise [k0_pay21]

/-- A tile of the output gate. -/
theorem pay138_apply (h : FVec Ideal S512x2048 .bf16) (w : Vec Ideal S2048x256 .bf16) (r : Fin 512) (c : Fin 256) :
    (k0_pay138 (F := Ideal) h w (ix3 0 r c) : EReal) = Ideal.logistic (∑ d, h (ix2 r d) * w (ix2 d c)) := by
  pointwise [k0_pay138]

/-- The gates. -/
theorem pay172_apply (h : FVec Ideal S512x2048 .bf16) (w : Vec Ideal S2048x128 .bf16) (r : Fin 512) (l : Fin 128) :
    (k0_pay172 (F := Ideal) h w (ix3 0 r l) : EReal) = ∑ d, h (ix2 r d) * w (ix2 d l) := by
  pointwise [k0_pay172]

/-- A strip. -/
theorem strip_apply (z : Fin 5 → Vec Ideal S128x128 .f32) (w : Fin 5 → Vec Ideal S1x128 .f32) (p : Vec Ideal S1x128 .f32)
    (r c : Fin 128) :
    (strip (F := Ideal) z w p (ix2 r c) : EReal) = swish (conv (fun j => z j (ix2 r c)) fun j => w j (ix2 0 c)) (p (ix2 0 c)) := by
  pointwise [strip]
  rfl

/-- A strip of the queries. -/
theorem queryStrip_apply (y : FVec Ideal S128x128 .f32) (r c : Fin 128) :
    (queryStrip (F := Ideal) y (ix4 0 0 r c) : EReal) = y (ix2 r c) := by
  pointwise [queryStrip]

/-- A strip of the keys. -/
theorem keyStrip_apply (y : FVec Ideal S128x128 .f32) (r c : Fin 128) :
    (keyStrip (F := Ideal) y (ix4 0 0 c r) : EReal) = y (ix2 r c) := by
  pointwise [keyStrip]

end Cert.Kernel4Ideal.InBlock

end
-- ==== Proof.InTile.lean ====
/- What the input projection's program writes at a grid point, in terms of the arrays its blocks are cut from. -/
module

public import Idealize.ShloMosaic.Lib.Pipeline.ValueKit
public import proofs.«01_k».proof.Proof.InBlock

@[expose] public section

set_option maxRecDepth 65536

noncomputable section

namespace Cert.Kernel4Ideal.InTile

open Idealize.ShloMosaic Cert.Kernel4Ideal Cert.Kernel4Ideal.Gen Cert.Kernel4Ideal.InPieces Cert.Kernel4Ideal.InBlock
open Cert.Outproj hiding Args
open Cert.Inproj

/-- Of a list of pieces at pairwise disjoint places, each place holds its own. -/
theorem canon_map {s : Shape} {φ : EltTy} {κ : Type} [DecidableEq κ] (R : κ → Rect s) (v : ∀ k, (R k).shape.Idx → Elt Ideal φ)
    (hd : ∀ a b, a ≠ b → ∀ j, (R a).emb j ∉ (R b).set) (k : κ) (j : (R k).shape.Idx) :
    ∀ l : List κ, k ∈ l → View.canon (l.map fun k => (⟨R k, v k⟩ : View.Piece (Elt Ideal) s φ)) ((R k).emb j) = v k j := by
  intro l
  induction l with
  | nil => exact fun h => absurd h List.not_mem_nil
  | cons a l ih =>
    intro h
    by_cases e : k = a
    · subst e
      exact View.canon_cons_emb _ _ _ _
    · refine (View.canon_cons_of_not_mem ⟨R a, v a⟩ _ (hd k a e j)).trans (ih ?_)
      exact (List.mem_cons.mp h).resolve_left e

/-- Where the tile's rows of the grid begin in their table. -/
theorem off1 : ∀ i : grid0.Coords, k0_off1 i = ![(i 1 : ℕ) * 8, 0, 0] := by decide +kernel
/-- The row of the sixteen before. -/
theorem off2 : ∀ i : grid0.Coords, k0_off2 i = ![(i 1 : ℕ) * 8 - 1, 0, 0] := by decide +kernel
/-- The row of the sixteen after. -/
theorem off3 : ∀ i : grid0.Coords, k0_off3 i = ![min (((i 1 : ℕ) + 1) * 8) 63, 0, 0] := by decide +kernel

/-- The tile is not the first. -/
theorem sgt_iff : ∀ k : Fin 8, Scalar.cmpi .sgt (BitVec.ofNat 32 k.val) 0#32 = 1#1 ↔ 0 < (k : ℕ) := by decide
/-- It is not the last. -/
theorem slt_iff : ∀ k : Fin 8, Scalar.cmpi .slt (BitVec.ofNat 32 k.val) 7#32 = 1#1 ↔ (k : ℕ) < 7 := by decide

variable (X : Point Ideal)

/-- The tile's place in its sequence. -/
def place : ℕ := (X.i 1 : ℕ)

theorem place_lt : place X < 8 := (X.i 1).isLt

theorem first_iff : Scalar.cmpi .sgt X.at_ 0#32 = 1#1 ↔ 0 < place X := sgt_iff ⟨place X, place_lt X⟩
theorem last_iff : Scalar.cmpi .slt X.at_ 7#32 = 1#1 ↔ place X < 7 := slt_iff ⟨place X, place_lt X⟩

/-- A row of the tile in its sequence. -/
def rowAt (r : Fin 512) : Fin 4096 := ⟨place X * 512 + r, by have := place_lt X; omega⟩

/-- The blocks are those of tile `place X` of batch member `b`. -/
structure Cut (A : Args) (b : Fin 4) : Prop where
  x0 : ∀ r e, (X.x0 (ix3 0 r e) : EReal) = A.x b (rowAt X r) e
  x1 : ∀ (r : Fin 16) e (t : Fin 4096), (t : ℕ) + 16 = place X * 512 + r → (X.x1 (ix3 0 r e) : EReal) = A.x b t e
  x2 : ∀ (r : Fin 16) e (t : Fin 4096), (t : ℕ) = place X * 512 + 512 + r → (X.x2 (ix3 0 r e) : EReal) = A.x b t e
  x3 : ∀ r d, (X.x3 (ix3 r 0 d) : EReal) = A.row r d
  x4 : ∀ r d, (X.x4 (ix2 r d) : EReal) = A.col r d
  x5 : ∀ j e, (X.x5 (ix3 0 j e) : EReal) = A.mod ⟨b, by omega⟩ j e
  x6 : ∀ e, (X.x6 (ix2 0 e) : EReal) = A.gain e
  x7 : ∀ d (n : Fin 5120), (X.x7 (ix2 d n) : EReal) = A.w d ⟨n, by omega⟩
  x8 : ∀ d l, (X.x8 (ix2 d l) : EReal) = A.wg d l
  x9 : ∀ j e, (X.x9 (ix2 j e) : EReal) = A.taps j e
  x10 : ∀ e, (X.x10 (ix2 0 e) : EReal) = A.post e

variable {X} {A : Args} {b : Fin 4} (hc : Cut X A b)
include hc

theorem gain_apply (e : Fin 2048) : (X.gain (ix2 0 e) : EReal) = A.gain e :=
  ((X.harg8.readAt_unread X.x6 _ _).trans (congrArg X.x6 (funext fun a => by fin_cases a <;> (apply Fin.ext; simp)))).trans (hc.x6 e)
theorem scale_apply (e : Fin 2048) : (X.scale (ix3 0 0 e) : EReal) = A.mod ⟨b, by omega⟩ 1 e :=
  ((X.harg7.readAt_unread X.x5 _ _).trans (congrArg X.x5 (funext fun a => by fin_cases a <;> (apply Fin.ext; simp)))).trans (hc.x5 1 e)
theorem shift_apply (e : Fin 2048) : (X.shift (ix3 0 0 e) : EReal) = A.mod ⟨b, by omega⟩ 0 e :=
  ((X.harg7.readAt_unread X.x5 _ _).trans (congrArg X.x5 (funext fun a => by fin_cases a <;> (apply Fin.ext; simp)))).trans (hc.x5 0 e)

/-- The tile's normed rows. -/
theorem rows_apply (r : Fin 512) (e : Fin 2048) : (X.rows (ix2 r e) : EReal) = normed A b (rowAt X r) e := by
  have hk := place_lt X
  refine (pay1_apply _ _ _ _ _ _ r e).trans (modulated_congr (placed_eq A b (rowAt X r) _ _ _ (fun e => ?_) (fun d => ?_) (fun d => ?_))
    (funext fun e => gain_apply hc e) (funext fun e => scale_apply hc e) (funext fun e => shift_apply hc e))
  · exact ((X.harg2.readAt_unread X.x0 _ _).trans (congrArg X.x0 (funext fun a => by fin_cases a <;> (apply Fin.ext; simp)))).trans (hc.x0 r e)
  · refine ((X.harg5.readAt_unread X.x3 _ _).trans (congrArg X.x3 (funext fun a => Fin.ext ?_))).trans (hc.x3 ⟨(rowAt X r : ℕ) / 64, by omega⟩ d)
    refine (ValueKit.rect_emb_unit_val _ _ _ _ _).trans ?_
    refine (congrArg (· + _) (congrFun (off1 X.i) a)).trans ?_
    have e1 : (rowAt X r : ℕ) = (X.i 1 : ℕ) * 512 + r := rfl
    fin_cases a <;> (simp; try omega)
  · refine ((X.harg6.readAt_unread X.x4 _ _).trans (congrArg X.x4 (funext fun a => Fin.ext ?_))).trans (hc.x4 ⟨(rowAt X r : ℕ) % 64, by omega⟩ d)
    have e1 : (rowAt X r : ℕ) = (X.i 1 : ℕ) * 512 + r := rfl
    fin_cases a <;> (simp; try omega)

/-- The sixteen before it. -/
theorem before_apply (r : Fin 16) (t : Fin 4096) (ht : (t : ℕ) + 16 = place X * 512 + r) (e : Fin 2048) :
    (X.before (ix2 r e) : EReal) = normed A b t e := by
  have hk := place_lt X
  have e1 : place X = (X.i 1 : ℕ) := rfl
  refine (pay2_apply _ _ _ _ _ _ r e).trans (modulated_congr (placed_eq A b t _ _ _ (fun e => ?_) (fun d => ?_) (fun d => ?_))
    (funext fun e => gain_apply hc e) (funext fun e => scale_apply hc e) (funext fun e => shift_apply hc e))
  · exact ((X.harg3.readAt_unread X.x1 _ _).trans (congrArg X.x1 (funext fun a => by fin_cases a <;> (apply Fin.ext; simp)))).trans (hc.x1 r e t ht)
  · refine ((X.harg5.readAt_unread X.x3 _ _).trans (congrArg X.x3 (funext fun a => Fin.ext ?_))).trans (hc.x3 ⟨(t : ℕ) / 64, by omega⟩ d)
    refine (ValueKit.rect_emb_unit_val _ _ _ _ _).trans ?_
    refine (congrArg (· + _) (congrFun (off2 X.i) a)).trans ?_
    fin_cases a <;> (simp; try omega)
  · refine ((X.harg6.readAt_unread X.x4 _ _).trans (congrArg X.x4 (funext fun a => Fin.ext ?_))).trans (hc.x4 ⟨(t : ℕ) % 64, by omega⟩ d)
    fin_cases a <;> (simp; try omega)

/-- All the rows the convolved channels are computed from. -/
theorem wide_apply (u : Fin 544) (t : Fin 4096) (ht : (t : ℕ) + 16 = place X * 512 + u) (e : Fin 2048) :
    (X.wide (ix2 u e) : EReal) = normed A b t e := by
  have hk := place_lt X
  have e1 : place X = (X.i 1 : ℕ) := rfl
  by_cases h1 : (u : ℕ) < 16
  · exact (pay3_before _ _ _ _ _ _ _ _ u h1 e).trans (before_apply hc ⟨u, h1⟩ t ht e)
  · by_cases h2 : (u : ℕ) < 528
    · refine (pay3_own _ _ _ _ _ _ _ _ u (by omega) h2 e).trans ((rows_apply hc ⟨u - 16, by omega⟩ e).trans (congrArg (fun q => normed A b q e) (Fin.ext ?_)))
      show place X * 512 + ((u : ℕ) - 16) = t
      omega
    · refine (pay3_after _ _ _ _ _ _ _ _ u (by omega) e).trans (modulated_congr (placed_eq A b t _ _ _ (fun e => ?_) (fun d => ?_) (fun d => ?_))
        (funext fun e => gain_apply hc e) (funext fun e => scale_apply hc e) (funext fun e => shift_apply hc e))
      · exact ((X.harg4.readAt_unread X.x2 _ _).trans (congrArg X.x2 (funext fun a => by fin_cases a <;> (apply Fin.ext; simp)))).trans
          (hc.x2 ⟨u - 528, by omega⟩ e t (by show (t : ℕ) = place X * 512 + 512 + ((u : ℕ) - 528); omega))
      · refine ((X.harg5.readAt_unread X.x3 _ _).trans (congrArg X.x3 (funext fun a => Fin.ext ?_))).trans (hc.x3 ⟨(t : ℕ) / 64, by omega⟩ d)
        refine (ValueKit.rect_emb_unit_val _ _ _ _ _).trans ?_
        refine (congrArg (· + _) (congrFun (off3 X.i) a)).trans ?_
        fin_cases a <;> (simp; try omega)
      · refine ((X.harg6.readAt_unread X.x4 _ _).trans (congrArg X.x4 (funext fun a => Fin.ext ?_))).trans (hc.x4 ⟨(t : ℕ) % 64, by omega⟩ d)
        fin_cases a <;> (simp; try omega)

/-- The columns of the weight behind scratch buffer `n`. -/
theorem cols_apply (n : Fin 4) (d : Fin 2048) (c : Fin 512) (q : Fin 5136) (hq : (q : ℕ) = 1024 + 512 * n + c) :
    (X.cols n (ix2 d c) : EReal) = A.w d q := by
  refine ((X.harg9.readAt_unread X.x7 _ _).trans (congrArg X.x7 (funext fun a => Fin.ext ?_))).trans
    ((hc.x7 d ⟨q, by omega⟩).trans (congrArg (A.w d) (Fin.ext rfl)))
  fin_cases a <;> (simp; try omega)

/-- A product of a row of the wide tile and a column. -/
theorem wide_proj (n : Fin 4) (c : Fin 512) (u : Fin 544) (t : Fin 4096) (ht : (t : ℕ) + 16 = place X * 512 + u) (q : Fin 5136)
    (hq : (q : ℕ) = 1024 + 512 * n + c) : (∑ d, X.wide (ix2 u d) * X.cols n (ix2 d c) : EReal) = proj A b t q :=
  Finset.sum_congr rfl fun d _ => congrArg₂ (· * ·) (wide_apply hc u t ht d) (cols_apply hc n d c q hq)

omit hc in
/-- The parts of a scratch buffer are disjoint. -/
theorem head_not_mid (j : headRect.shape.Idx) : headRect.emb j ∉ midRect.set := by
  intro hm
  rw [Rect.mem_set_unit] at hm
  have h0 := (hm 0).1
  rw [ValueKit.rect_emb_unit_val] at h0
  have hj := (j 0).2
  simp [Shape.size] at h0 hj
  omega

omit hc in
theorem head_not_tail (j : headRect.shape.Idx) : headRect.emb j ∉ tailRect.set := by
  intro hm
  rw [Rect.mem_set_unit] at hm
  have h0 := (hm 0).1
  rw [ValueKit.rect_emb_unit_val] at h0
  have hj := (j 0).2
  simp [Shape.size] at h0 hj
  omega

omit hc in
theorem mid_not_tail (j : midRect.shape.Idx) : midRect.emb j ∉ tailRect.set := by
  intro hm
  rw [Rect.mem_set_unit] at hm
  have h0 := (hm 0).1
  rw [ValueKit.rect_emb_unit_val] at h0
  have hj := (j 0).2
  simp [Shape.size] at h0 hj
  omega

/-- What a scratch buffer holds: the padded channels. -/
theorem held_apply (n : Fin 4) (u : Fin 544) (c : Fin 512) (p : ℕ) (hp : p + 14 = place X * 512 + u) (ch : Fin 2048)
    (hch : (ch : ℕ) = 512 * n + c) : (View.canon (X.held n) (ix2 u c) : EReal) = padded A b ch p := by
  have hk := place_lt X
  unfold Point.held
  by_cases h1 : (u : ℕ) < 16
  · have hu : (ix2 u c : S544x512.Idx) = headRect.emb (ix2 ⟨u, h1⟩ c) := by
      funext a
      apply Fin.ext
      refine Eq.trans ?_ (ValueKit.rect_emb_unit_val _ _ _ _ _).symm
      fin_cases a <;> (simp; try omega)
    rw [hu]
    refine (View.canon_cons_of_not_mem ⟨tailRect, _⟩ _ (head_not_tail _)).trans ?_
    refine (View.canon_cons_of_not_mem ⟨midRect, _⟩ _ (head_not_mid _)).trans ?_
    refine (View.canon_cons_emb _ _ _ _).trans ((pay5_apply _ _ _ _ _).trans ?_)
    unfold padded
    by_cases h0 : 0 < place X
    · rw [if_pos ((first_iff X).mpr h0), dif_pos (show 2 ≤ p ∧ p < 4098 by omega)]
      refine wide_proj hc n c ⟨u, _⟩ ⟨p - 2, by omega⟩ ?_ ⟨1024 + ch, by omega⟩ (by simp only; omega)
      show p - 2 + 16 = place X * 512 + u
      omega
    · rw [if_neg (fun e => h0 ((first_iff X).mp e)), dif_neg (by omega)]
  · by_cases h2 : (u : ℕ) < 528
    · have hu : (ix2 u c : S544x512.Idx) = midRect.emb (ix2 ⟨u - 16, by omega⟩ c) := by
        funext a
        apply Fin.ext
        refine Eq.trans ?_ (ValueKit.rect_emb_unit_val _ _ _ _ _).symm
        fin_cases a <;> (simp; try omega)
      rw [hu]
      refine (View.canon_cons_of_not_mem ⟨tailRect, _⟩ _ (mid_not_tail _)).trans ?_
      refine (View.canon_cons_emb _ _ _ _).trans ((pay6_apply _ _ _ _).trans ?_)
      unfold padded
      rw [dif_pos (show 2 ≤ p ∧ p < 4098 by omega)]
      refine wide_proj hc n c ⟨16 + (u - 16), _⟩ ⟨p - 2, by omega⟩ ?_ ⟨1024 + ch, by omega⟩ (by simp only; omega)
      show p - 2 + 16 = place X * 512 + (16 + ((u : ℕ) - 16))
      omega
    · have hu : (ix2 u c : S544x512.Idx) = tailRect.emb (ix2 ⟨u - 528, by omega⟩ c) := by
        funext a
        apply Fin.ext
        refine Eq.trans ?_ (ValueKit.rect_emb_unit_val _ _ _ _ _).symm
        fin_cases a <;> (simp; try omega)
      rw [hu]
      refine (View.canon_cons_emb _ _ _ _).trans ((pay7_apply _ _ _ _ _).trans ?_)
      unfold padded
      by_cases h0 : place X < 7
      · rw [if_pos ((last_iff X).mpr h0), dif_pos (show 2 ≤ p ∧ p < 4098 by omega)]
        refine wide_proj hc n c ⟨528 + (u - 528), _⟩ ⟨p - 2, by omega⟩ ?_ ⟨1024 + ch, by omega⟩ (by simp only; omega)
        show p - 2 + 16 = place X * 512 + (528 + ((u : ℕ) - 528))
        omega
      · rw [if_neg (fun e => h0 ((last_iff X).mp e)), dif_neg (by omega)]

/-- A tap's rows. -/
theorem tap_apply (s : Fin 64) (j : Fin 5) (r c : Fin 128) (t : Fin 4096) (ht : (t : ℕ) = place X * 512 + 128 * (s % 4) + r)
    (ch : Fin 2048) (hch : (ch : ℕ) = 128 * (s / 4) + c) : (X.tap s j (ix2 r c) : EReal) = padded A b ch (t + j) := by
  unfold Point.tap
  rw [View.readCov_eq_canon']
  have hu : (Point.tapRect s j).emb (ix2 r c) = (ix2 ⟨128 * (s % 4) + 14 + j + r, by omega⟩ ⟨128 * (s / 4 % 4) + c, by omega⟩ : S544x512.Idx) := by
    funext a
    apply Fin.ext
    refine (ValueKit.rect_emb_unit_val _ _ _ _ _).trans ?_
    fin_cases a <;> simp
  refine (congrArg (View.canon _) hu).trans (held_apply hc ⟨s / 16, by omega⟩ _ _ (t + j) ?_ ch ?_)
  · show (t : ℕ) + j + 14 = place X * 512 + (128 * (s % 4) + 14 + j + r)
    omega
  · show (ch : ℕ) = 512 * (s / 16) + (128 * (s / 4 % 4) + c)
    omega

/-- A strip holds its rows of its convolved channels. -/
theorem convolved_apply (s : Fin 64) (r c : Fin 128) (t : Fin 4096) (ht : (t : ℕ) = place X * 512 + 128 * (s % 4) + r)
    (ch : Fin 2048) (hch : (ch : ℕ) = 128 * (s / 4) + c) : (X.convolved s (ix2 r c) : EReal) = convolved A b t ch := by
  unfold Point.convolved
  refine (strip_apply _ _ _ r c).trans (congrArg₂ swish (congrArg₂ conv (funext fun j => tap_apply hc s j r c t ht ch hch)
    (funext fun j => ?_)) ?_)
  · refine ((X.harg11.readAt_unread X.x9 _ _).trans (congrArg X.x9 (funext fun a => Fin.ext ?_))).trans (hc.x9 j ch)
    fin_cases a <;> (simp; try omega)
  · refine ((X.harg12.readAt_unread X.x10 _ _).trans (congrArg X.x10 (funext fun a => Fin.ext ?_))).trans (hc.x10 ch)
    fin_cases a <;> (simp; try omega)

omit hc in
theorem query_not_mem (k l : Fin 32) (h : k ≠ l) (j : (queryRect k).shape.Idx) : (queryRect k).emb j ∉ (queryRect l).set := by
  intro hm
  rw [Rect.mem_set_unit] at hm
  have h1 := hm 1
  have h2 := hm 2
  have h3 := hm 3
  rw [ValueKit.rect_emb_unit_val] at h1 h2 h3
  have j1 := (j 1).2
  have j2 := (j 2).2
  have j3 := (j 3).2
  have hn : (k : ℕ) ≠ l := fun e => h (Fin.ext e)
  simp [Shape.size] at h1 h2 h3 j1 j2 j3
  omega

omit hc in
theorem key_not_mem (k l : Fin 32) (h : k ≠ l) (j : (keyRect k).shape.Idx) : (keyRect k).emb j ∉ (keyRect l).set := by
  intro hm
  rw [Rect.mem_set_unit] at hm
  have h1 := hm 1
  have h2 := hm 2
  have h3 := hm 3
  rw [ValueKit.rect_emb_unit_val] at h1 h2 h3
  have j1 := (j 1).2
  have j2 := (j 2).2
  have j3 := (j 3).2
  have hn : (k : ℕ) ≠ l := fun e => h (Fin.ext e)
  simp [Shape.size] at h1 h2 h3 j1 j2 j3
  omega

omit hc in
theorem tile_not_mem (k l : Fin 12) (h : k ≠ l) (j : (tileRect k).shape.Idx) : (tileRect k).emb j ∉ (tileRect l).set := by
  intro hm
  rw [Rect.mem_set_unit] at hm
  have h2 := hm 2
  rw [ValueKit.rect_emb_unit_val] at h2
  have j2 := (j 2).2
  have hn : (k : ℕ) ≠ l := fun e => h (Fin.ext e)
  simp [Shape.size] at h2 j2
  omega

omit hc in
theorem mem_strips : ∀ k : Fin 32, k ∈ strips := by decide
omit hc in
theorem mem_tiles : ∀ k : Fin 12, k ∈ tiles := by decide

omit hc in
/-- The list of a block's pieces, looked up in one of them. -/
theorem query_piece (k : Fin 32) (r c : Fin 128) : (View.canon X.queryPieces ((queryRect k).emb (ix4 0 0 r c)) : Elt Ideal .bf16) =
    X.convolved ⟨k, by omega⟩ (ix2 r c) := by
  unfold Point.queryPieces
  have h := canon_map (s := S1x4x512x256) (φ := .bf16) queryRect (fun k => queryStrip (X.convolved ⟨k, by omega⟩))
  have h2 := h query_not_mem k (ix4 0 0 r c)
  have h3 := h2 strips
  have h4 := h3 (mem_strips k)
  refine Eq.trans h4 ?_
  exact queryStrip_apply _ _ _

omit hc in
theorem key_piece (k : Fin 32) (r c : Fin 128) : (View.canon X.keyPieces ((keyRect k).emb (ix4 0 0 c r)) : Elt Ideal .bf16) =
    X.convolved ⟨32 + k, by omega⟩ (ix2 r c) := by
  unfold Point.keyPieces
  have h := canon_map (s := S1x2x1024x256) (φ := .bf16) keyRect (fun k => keyStrip (X.convolved ⟨32 + k, by omega⟩))
  have h2 := h key_not_mem k (ix4 0 0 c r)
  have h3 := h2 strips
  have h4 := h3 (mem_strips k)
  refine Eq.trans h4 ?_
  exact keyStrip_apply _ _ _

omit hc in
theorem tile_piece (k : Fin 12) (r : Fin 512) (c : Fin 256) : (View.canon X.tilePieces ((tileRect k).emb (ix3 0 r c)) : Elt Ideal .bf16) =
    X.tile k (ix3 0 r c) := by
  unfold Point.tilePieces
  have h := canon_map (s := S1x512x3072) (φ := .bf16) tileRect X.tile
  have h2 := h tile_not_mem k (ix3 0 r c)
  have h3 := h2 tiles
  have h4 := h3 (mem_tiles k)
  exact h4

/-- The queries. -/
theorem queries_apply (n : Fin 4) (r : Fin 512) (e : Fin 256) :
    (View.canon X.queryPieces (ix4 0 n r e) : EReal) = query A b n (rowAt X r) e := by
  have hk := place_lt X
  have hr : (rowAt X r : ℕ) = place X * 512 + r := rfl
  have hu : (ix4 0 n r e : S1x4x512x256.Idx) =
      (queryRect ⟨n * 8 + e / 128 * 4 + r / 128, by omega⟩).emb (ix4 0 0 ⟨r % 128, by omega⟩ ⟨e % 128, by omega⟩) := by
    funext a
    apply Fin.ext
    refine Eq.trans ?_ (ValueKit.rect_emb_unit_val _ _ _ _ _).symm
    fin_cases a <;> (simp; try omega)
  refine (congrArg (View.canon _) hu).trans ?_
  refine (query_piece _ _ _).trans (convolved_apply hc _ _ _ _ ?_ _ ?_)
  · show (rowAt X r : ℕ) = place X * 512 + 128 * ((n * 8 + e / 128 * 4 + r / 128) % 4) + r % 128
    omega
  · show (n : ℕ) * 256 + e = 128 * ((n * 8 + e / 128 * 4 + r / 128) / 4) + e % 128
    omega

/-- The keys. -/
theorem keys_apply (q : Fin 2) (e : Fin 1024) (r : Fin 256) (k : Fin 16) (hq : (k : ℕ) = place X * 2 + q) :
    (View.canon X.keyPieces (ix4 0 q e r) : EReal) = key A b k e r := by
  have hk := place_lt X
  have hu : (ix4 0 q e r : S1x2x1024x256.Idx) =
      (keyRect ⟨e / 128 * 4 + q * 2 + r / 128, by omega⟩).emb (ix4 0 0 ⟨e % 128, by omega⟩ ⟨r % 128, by omega⟩) := by
    funext a
    apply Fin.ext
    refine Eq.trans ?_ (ValueKit.rect_emb_unit_val _ _ _ _ _).symm
    fin_cases a <;> (simp; try omega)
  refine (congrArg (View.canon _) hu).trans ?_
  refine (key_piece _ _ _).trans (convolved_apply hc _ _ _ _ ?_ _ ?_)
  · show (k : ℕ) * 256 + r = place X * 512 + 128 * ((32 + (e / 128 * 4 + q * 2 + r / 128)) % 4) + r % 128
    omega
  · show 1024 + (e : ℕ) = 128 * ((32 + (e / 128 * 4 + q * 2 + r / 128)) / 4) + e % 128
    omega

/-- A product of a row of the tile and a column of the weight. -/
theorem tile_proj (k : Fin 12) (r : Fin 512) (c : Fin 256) (q : Fin 5136) (hq : (q : ℕ) = source k + c) :
    (∑ d, X.rows (ix2 r d) * (View.readAt (Elt Ideal) X.arg9.view (sourceRect k).toLoadRect (X.harg9.unread X.x7) : Vec Ideal S2048x256 .bf16) (ix2 d c) : EReal) =
      proj A b (rowAt X r) q := by
  have hs := source_le k
  refine Finset.sum_congr rfl fun d _ => congrArg₂ (· * ·) (rows_apply hc r d) ?_
  refine ((X.harg9.readAt_unread X.x7 _ _).trans (congrArg X.x7 (funext fun a => Fin.ext ?_))).trans
    ((hc.x7 d ⟨q, by omega⟩).trans (congrArg (A.w d) (Fin.ext rfl)))
  fin_cases a <;> (simp; try omega)

/-- The plain channels. -/
theorem tiles_apply (r : Fin 512) (n : Fin 3072) :
    (View.canon X.tilePieces (ix3 0 r n) : EReal) = plain A b (rowAt X r) n := by
  have hu : (ix3 0 r n : S1x512x3072.Idx) = (tileRect ⟨n / 256, by omega⟩).emb (ix3 0 r ⟨n % 256, by omega⟩) := by
    funext a
    apply Fin.ext
    refine Eq.trans ?_ (ValueKit.rect_emb_unit_val _ _ _ _ _).symm
    fin_cases a <;> (simp; try omega)
  refine (congrArg (View.canon _) hu).trans ?_
  refine (tile_piece _ _ _).trans ?_
  unfold Point.tile plain
  by_cases h1 : (n : ℕ) < 2048
  · rw [if_pos (show (n : ℕ) / 256 < 8 by omega)]
    refine (pay21_apply _ _ _ _).trans ?_
    by_cases h0 : (n : ℕ) < 1024
    · rw [if_pos h0]
      refine tile_proj hc ⟨n / 256, _⟩ r ⟨n % 256, _⟩ _ ?_
      show (n : ℕ) = source ⟨n / 256, _⟩ + n % 256
      rw [source, if_pos (show (n : ℕ) / 256 < 4 by omega)]
      simp only
      omega
    · rw [if_neg h0, if_pos h1]
      refine tile_proj hc ⟨n / 256, _⟩ r ⟨n % 256, _⟩ _ ?_
      show 2048 + (n : ℕ) = source ⟨n / 256, _⟩ + n % 256
      rw [source, if_neg (show ¬ (n : ℕ) / 256 < 4 by omega)]
      simp only
      omega
  · rw [if_neg (show ¬ (n : ℕ) / 256 < 8 by omega), if_neg (by omega), if_neg h1]
    refine (pay138_apply _ _ _ _).trans (congrArg Ideal.logistic (tile_proj hc ⟨n / 256, _⟩ r ⟨n % 256, _⟩ _ ?_))
    show 2048 + (n : ℕ) = source ⟨n / 256, _⟩ + n % 256
    rw [source, if_neg (show ¬ (n : ℕ) / 256 < 4 by omega)]
    simp only
    omega

/-- The gates. -/
theorem gates_apply (r : Fin 512) (l : Fin 128) :
    (View.canon X.gatePieces (ix3 0 r l) : EReal) = gate A b (rowAt X r) l := by
  have hu : (ix3 0 r l : S1x512x128.Idx) =
      (Rect.unit (s := S1x512x128) ![0, 0, 0] S1x512x128.size inb_S1x512x128_S1x512x128_0_0_0).emb (ix3 0 r l) := by
    funext a
    apply Fin.ext
    refine Eq.trans ?_ (ValueKit.rect_emb_unit_val _ _ _ _ _).symm
    fin_cases a <;> simp
  refine (congrArg (View.canon _) hu).trans ((View.canon_cons_emb _ _ _ _).trans ((pay172_apply _ _ _ _).trans ?_))
  refine Finset.sum_congr rfl fun d _ => congrArg₂ (· * ·) (rows_apply hc r d) ?_
  exact ((X.harg10.readAt_unread X.x8 _ _).trans (congrArg X.x8 (funext fun a => by fin_cases a <;> (apply Fin.ext; simp)))).trans (hc.x8 d l)

end Cert.Kernel4Ideal.InTile

end
-- ==== Proof.InValue.lean ====
/- What the input projection's program leaves in its four result arrays. -/
module

public import proofs.«01_k».proof.Proof.Gen.Kernel4Ideal.Value
public import Idealize.ShloMosaic.Lib.Pipeline.ValueKit
public import proofs.«01_k».proof.Proof.InTile

@[expose] public section

set_option maxRecDepth 65536

noncomputable section

namespace Cert.Kernel4Ideal.InValue

open Idealize.ShloMosaic Idealize.ShloMosaic.TcCoe Cert.Kernel4Ideal Cert.Kernel4Ideal.Gen Cert.Kernel4Ideal.InPieces
open Cert.Kernel4Ideal.InTile Cert.Inproj

variable (m : (ℓ : Loc nD τ sig) → Buf (Elt Ideal) ℓ)

/-- The argument arrays as functions of their coordinates. -/
def argsOf (c : Dev nD) : Args where
  x b r e := m ((c : Thread nD τ).loc main_arg0) (ix3 b r e)
  row r d := m ((c : Thread nD τ).loc main_arg1) (ix3 r 0 d)
  col r d := m ((c : Thread nD τ).loc main_arg2) (ix2 r d)
  mod b j e := m ((c : Thread nD τ).loc main_arg3) (ix3 b j e)
  gain e := m ((c : Thread nD τ).loc main_arg4) (ix2 0 e)
  w d n := m ((c : Thread nD τ).loc main_arg5) (ix2 d n)
  wg d l := m ((c : Thread nD τ).loc main_arg6) (ix2 d l)
  taps j e := m ((c : Thread nD τ).loc main_arg7) (ix2 j e)
  post e := m ((c : Thread nD τ).loc main_arg8) (ix2 0 e)

/-- The batch member of a grid point. -/
def bOf (t : Fin cfg0.N) : Fin 4 := ⟨t / 8, by have := t.isLt; have : cfg0.N = 32 := N_0; omega⟩
/-- A row of the tile of a grid point. -/
def rowOf (t : Fin cfg0.N) (r : Fin 512) : Fin 4096 := ⟨t % 8 * 512 + r, by omega⟩

theorem idx0 : ∀ t : Fin cfg0.N, win0_0.index t 0 = t / 8 ∧ win0_0.index t 1 = t % 8 ∧ win0_0.index t 2 = 0 :=
  (by decide +kernel : ∀ t : Fin grid0.N, _)
theorem idx1 : ∀ t : Fin cfg0.N, win0_1.index t 0 = t / 8 ∧ win0_1.index t 1 = t % 8 * 32 - 1 ∧ win0_1.index t 2 = 0 :=
  (by decide +kernel : ∀ t : Fin grid0.N, _)
theorem idx2 : ∀ t : Fin cfg0.N, win0_2.index t 0 = t / 8 ∧ win0_2.index t 1 = min (((t : ℕ) % 8 + 1) * 32) 255 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t / 8 ∧ win0_5.index t 1 = 0 ∧ win0_5.index t 2 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = t / 8 ∧ win0_11.index t 1 = t % 8 ∧ win0_11.index t 2 = 0 :=
  (by decide +kernel : ∀ t : Fin grid0.N, _)
theorem idx12 : ∀ t : Fin cfg0.N, win0_12.index t 0 = t / 8 ∧ win0_12.index t 1 = 0 ∧ win0_12.index t 2 = t % 8 ∧ win0_12.index t 3 = 0 :=
  (by decide +kernel : ∀ t : Fin grid0.N, _)
theorem idx13 : ∀ t : Fin cfg0.N, win0_13.index t 0 = t / 8 ∧ win0_13.index t 1 = t % 8 ∧ win0_13.index t 2 = 0 ∧ win0_13.index t 3 = 0 :=
  (by decide +kernel : ∀ t : Fin grid0.N, _)
theorem idx14 : ∀ t : Fin cfg0.N, win0_14.index t 0 = t / 8 ∧ win0_14.index t 1 = t % 8 ∧ win0_14.index t 2 = 0 :=
  (by decide +kernel : ∀ t : Fin grid0.N, _)
/-- The second grid coordinate counts the tiles. -/
theorem coord1 : ∀ t : Fin cfg0.N, ((grid0.coords t 1 : Fin _) : ℕ) = t % 8 :=
  (by decide +kernel : ∀ t : Fin grid0.N, _)

theorem x_eq (c : Dev nD) (t : Fin cfg0.N) (r : Fin 512) (e : Fin 2048) :
    (iblk m c 0 t (ix3 0 r e) : EReal) = (argsOf m c).x (bOf t) (rowOf t r) e := by
  show _ = m ((c : Thread nD τ).loc main_arg0) (ix3 (bOf t) (rowOf t r) e)
  unfold bOf rowOf
  blk_ext! [iblk, V, idx0 t]
/-- The sixteen rows before the tile; the first tile has none. -/
theorem before_eq (c : Dev nD) (t : Fin cfg0.N) (r : Fin 16) (e : Fin 2048) (u : Fin 4096) (hu : (u : ℕ) + 16 = t % 8 * 512 + r) :
    (iblk m c 1 t (ix3 0 r e) : EReal) = (argsOf m c).x (bOf t) u e := by
  have h : u = ⟨(t % 8 * 32 - 1) * 16 + r, by omega⟩ := Fin.ext (by simp only; omega)
  show _ = m ((c : Thread nD τ).loc main_arg0) (ix3 (bOf t) u e)
  rw [h]
  unfold bOf
  blk_ext! [iblk, V, idx1 t]
/-- The sixteen rows after it; the last tile has none. -/
theorem after_eq (c : Dev nD) (t : Fin cfg0.N) (r : Fin 16) (e : Fin 2048) (u : Fin 4096) (hu : (u : ℕ) = t % 8 * 512 + 512 + r) :
    (iblk m c 2 t (ix3 0 r e) : EReal) = (argsOf m c).x (bOf t) u e := by
  have h : u = ⟨min (((t : ℕ) % 8 + 1) * 32) 255 * 16 + r, by omega⟩ := Fin.ext (by simp only; omega)
  show _ = m ((c : Thread nD τ).loc main_arg0) (ix3 (bOf t) u e)
  rw [h]
  unfold bOf
  blk_ext! [iblk, V, idx2 t]
theorem row_eq (c : Dev nD) (t : Fin cfg0.N) (r : Fin 64) (d : Fin 1024) :
    (iblk m c 3 t (ix3 r 0 d) : EReal) = (argsOf m c).row r d := by
  show _ = m ((c : Thread nD τ).loc main_arg1) (ix3 r 0 d)
  blk_ext! [iblk, V, idx3 t]
theorem col_eq (c : Dev nD) (t : Fin cfg0.N) (r : Fin 64) (d : Fin 1024) :
    (iblk m c 4 t (ix2 r d) : EReal) = (argsOf m c).col r d := by
  show _ = m ((c : Thread nD τ).loc main_arg2) (ix2 r d)
  blk_ext! [iblk, V, idx4 t]
theorem mod_eq (c : Dev nD) (t : Fin cfg0.N) (j : Fin 6) (e : Fin 2048) :
    (iblk m c 5 t (ix3 0 j e) : EReal) = (argsOf m c).mod ⟨bOf t, by omega⟩ j e := by
  show _ = m ((c : Thread nD τ).loc main_arg3) (ix3 ⟨bOf t, _⟩ j e)
  unfold bOf
  blk_ext! [iblk, V, idx5 t]
theorem gain_eq (c : Dev nD) (t : Fin cfg0.N) (e : Fin 2048) :
    (iblk m c 6 t (ix2 0 e) : EReal) = (argsOf m c).gain e := by
  show _ = m ((c : Thread nD τ).loc main_arg4) (ix2 0 e)
  blk_ext! [iblk, V, idx6 t]
/-- The weight's block has fewer columns than the weight. -/
theorem w_eq (c : Dev nD) (t : Fin cfg0.N) (d : Fin 2048) (n : Fin 5120) :
    (X0_7 m c t (ix2 d n) : EReal) = (argsOf m c).w d ⟨n, by omega⟩ := by
  show _ = m ((c : Thread nD τ).loc main_arg5) (ix2 d ⟨n, _⟩)
  unfold X0_7 Pipeline.Window.fill
  rw [dif_pos (moved0_7 t (ix2 d n))]
  blk_ext! [iblk, V, idx7 t]
theorem wg_eq (c : Dev nD) (t : Fin cfg0.N) (d : Fin 2048) (l : Fin 128) :
    (iblk m c 8 t (ix2 d l) : EReal) = (argsOf m c).wg d l := by
  show _ = m ((c : Thread nD τ).loc main_arg6) (ix2 d l)
  blk_ext! [iblk, V, idx8 t]
theorem taps_eq (c : Dev nD) (t : Fin cfg0.N) (j : Fin 5) (e : Fin 2048) :
    (iblk m c 9 t (ix2 j e) : EReal) = (argsOf m c).taps j e := by
  show _ = m ((c : Thread nD τ).loc main_arg7) (ix2 j e)
  blk_ext! [iblk, V, idx9 t]
theorem post_eq (c : Dev nD) (t : Fin cfg0.N) (e : Fin 2048) :
    (iblk m c 10 t (ix2 0 e) : EReal) = (argsOf m c).post e := by
  show _ = m ((c : Thread nD τ).loc main_arg8) (ix2 0 e)
  blk_ext! [iblk, V, idx10 t]

/-- A grid point with its buffers. -/
def pt (c : Dev nD) (t : Fin cfg0.N) : Point Ideal where
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := ms0_12 t
  harg14 := hs0_12 t
  arg15 := ms0_13 t
  harg15 := hs0_13 t
  arg16 := ms0_14 t
  harg16 := hs0_14 t
  arg17 := scM0_0
  harg17 := Memref.isWhole_whole _
  arg18 := scM0_1
  harg18 := Memref.isWhole_whole _
  arg19 := scM0_2
  harg19 := Memref.isWhole_whole _
  arg20 := scM0_3
  harg20 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := X0_7 m c t
  x8 := iblk m c 8 t
  x9 := iblk m c 9 t
  x10 := iblk m c 10 t

/-- Its blocks are cut from the arguments. -/
theorem cut (c : Dev nD) (t : Fin cfg0.N) : Cut (pt m c t) (argsOf m c) (bOf t) where
  x0 r e := (x_eq m c t r e).trans (congrArg (fun q => (argsOf m c).x (bOf t) q e) (Fin.ext
    (congrArg (fun n => n * 512 + (r : ℕ)) (coord1 t).symm)))
  x1 r e u hu := before_eq m c t r e u (hu.trans (congrArg (fun n => n * 512 + (r : ℕ)) (coord1 t)))
  x2 r e u hu := after_eq m c t r e u (hu.trans (congrArg (fun n => n * 512 + 512 + (r : ℕ)) (coord1 t)))
  x3 := row_eq m c t
  x4 := col_eq m c t
  x5 := mod_eq m c t
  x6 := gain_eq m c t
  x7 := w_eq m c t
  x8 := wg_eq m c t
  x9 := taps_eq m c t
  x10 := post_eq m c t

/-- A row of its tile. -/
theorem rowAt_eq (c : Dev nD) (t : Fin cfg0.N) (r : Fin 512) : rowAt (pt m c t) r = rowOf t r :=
  Fin.ext (congrArg (fun n => n * 512 + (r : ℕ)) (coord1 t))

/-- What is left in a block is what its pieces hold. -/
theorem left11 (X : Point Ideal) (c : Dev nD) : out0_A_11 c X.i X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10 = View.canon X.tilePieces := by
  unfold out0_A_11
  rw [View.read_writes_junk_eq_canon]
  have h := Point.tiles_eq X c
  unfold Point.run at h
  exact congrArg View.canon h

theorem left12 (X : Point Ideal) (c : Dev nD) : out0_A_12 c X.i X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10 = View.canon X.queryPieces := by
  unfold out0_A_12
  rw [View.read_writes_junk_eq_canon]
  have h := Point.queries_eq X c
  unfold Point.run at h
  exact congrArg View.canon h

theorem left13 (X : Point Ideal) (c : Dev nD) : out0_A_13 c X.i X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10 = View.canon X.keyPieces := by
  unfold out0_A_13
  rw [View.read_writes_junk_eq_canon]
  have h := Point.keys_eq X c
  unfold Point.run at h
  exact congrArg View.canon h

theorem left14 (X : Point Ideal) (c : Dev nD) : out0_A_14 c X.i X.arg2 X.harg2 X.arg3 X.harg3 X.arg4 X.harg4 X.arg5 X.harg5 X.arg6 X.harg6 X.arg7 X.harg7 X.arg8 X.harg8 X.arg9 X.harg9 X.arg10 X.harg10 X.arg11 X.harg11 X.arg12 X.harg12 X.arg13 X.harg13 X.arg14 X.harg14 X.arg15 X.harg15 X.arg16 X.harg16 X.arg17 X.harg17 X.arg18 X.harg18 X.arg19 X.harg19 X.arg20 X.harg20 X.x0 X.x1 X.x2 X.x3 X.x4 X.x5 X.x6 X.x7 X.x8 X.x9 X.x10 = View.canon X.gatePieces := by
  unfold out0_A_14
  rw [View.read_writes_junk_eq_canon]
  have h := Point.gates_eq X c
  unfold Point.run at h
  exact congrArg View.canon h

theorem block11 (c : Dev nD) (t : Fin cfg0.N) : (outsAt0 m c t).1 = View.canon (pt m c t).tilePieces := by
  have h := left11 (pt m c t) c
  unfold pt at h ⊢
  dsimp only at h
  unfold outsAt0
  dsimp only
  exact h

theorem block12 (c : Dev nD) (t : Fin cfg0.N) : (outsAt0 m c t).2.1 = View.canon (pt m c t).queryPieces := by
  have h := left12 (pt m c t) c
  unfold pt at h ⊢
  dsimp only at h
  unfold outsAt0
  dsimp only
  exact h

theorem block13 (c : Dev nD) (t : Fin cfg0.N) : (outsAt0 m c t).2.2.1 = View.canon (pt m c t).keyPieces := by
  have h := left13 (pt m c t) c
  unfold pt at h ⊢
  dsimp only at h
  unfold outsAt0
  dsimp only
  exact h

theorem block14 (c : Dev nD) (t : Fin cfg0.N) : (outsAt0 m c t).2.2.2 = View.canon (pt m c t).gatePieces := by
  have h := left14 (pt m c t) c
  unfold pt at h ⊢
  dsimp only at h
  unfold outsAt0
  dsimp only
  exact h

/-- What a grid point leaves in its block of the plain channels. -/
theorem plain_out (c : Dev nD) (t : Fin cfg0.N) (r : Fin 512) (n : Fin 3072) :
    ((outsAt0 m c t).1 (ix3 0 r n) : EReal) = plain (argsOf m c) (bOf t) (rowOf t r) n := by
  refine (congrFun (block11 m c t) _).trans ?_
  exact (tiles_apply (cut m c t) r n).trans (congrArg (fun q => plain (argsOf m c) (bOf t) q n) (rowAt_eq m c t r))

/-- In its block of the queries. -/
theorem query_out (c : Dev nD) (t : Fin cfg0.N) (n : Fin 4) (r : Fin 512) (e : Fin 256) :
    ((outsAt0 m c t).2.1 (ix4 0 n r e) : EReal) = query (argsOf m c) (bOf t) n (rowOf t r) e := by
  refine (congrFun (block12 m c t) _).trans ?_
  exact (queries_apply (cut m c t) n r e).trans (congrArg (fun q => query (argsOf m c) (bOf t) n q e) (rowAt_eq m c t r))

/-- In its block of the keys. -/
theorem key_out (c : Dev nD) (t : Fin cfg0.N) (q : Fin 2) (e : Fin 1024) (r : Fin 256) :
    ((outsAt0 m c t).2.2.1 (ix4 0 q e r) : EReal) = key (argsOf m c) (bOf t) ⟨t % 8 * 2 + q, by omega⟩ e r := by
  refine (congrFun (block13 m c t) _).trans ?_
  exact keys_apply (cut m c t) q e r _ (congrArg (fun n => n * 2 + (q : ℕ)) (coord1 t).symm)

/-- In its block of the gates. -/
theorem gate_out (c : Dev nD) (t : Fin cfg0.N) (r : Fin 512) (l : Fin 128) :
    ((outsAt0 m c t).2.2.2 (ix3 0 r l) : EReal) = gate (argsOf m c) (bOf t) (rowOf t r) l := by
  refine (congrFun (block14 m c t) _).trans ?_
  exact (gates_apply (cut m c t) r l).trans (congrArg (fun q => gate (argsOf m c) (bOf t) q l) (rowAt_eq m c t r))

/-- The array of the plain channels. -/
def plains (c : Dev nD) : Vec Ideal S4x4096x3072 .bf16 := fun i => plain (argsOf m c) (i 0) (i 1) (i 2)

/-- An element of it, its coordinates given. -/
theorem plains_at (c : Dev nD) (i : S4x4096x3072.Idx) (b : Fin 4) (r : Fin 4096) (e : Fin 3072)
    (h0 : (i 0 : ℕ) = b) (h1 : (i 1 : ℕ) = r) (h2 : (i 2 : ℕ) = e) : plains m c i = plain (argsOf m c) b r e := by
  unfold plains
  congr 1 <;> apply Fin.ext <;> assumption

/-- It is what the run leaves. -/
theorem final11 (c : Dev nD) : (dats m 0 c).arrAt 11 cfg0.N = plains m c := by
  refine (dats m 0 c).arrAt_eq_of_covers 11 _ (by decide +kernel) fun t hf y => ?_
  blk_simp
  rw [after0_11]
  have h1 : (y 1 : ℕ) < 512 := (y 1).isLt
  have h2 : (y 2 : ℕ) < 3072 := (y 2).isLt
  have h0 : (y 0 : ℕ) < 1 := (y 0).isLt
  have hy : y = (ix3 0 ⟨(y 1 : ℕ), h1⟩ ⟨(y 2 : ℕ), h2⟩ : S1x512x3072.Idx) := by
    funext a
    fin_cases a <;> (apply Fin.ext; simp; try omega)
  refine (congrArg (outsAt0 m c t).1 hy).trans ((plain_out m c t _ _).trans ?_)
  have i11 := idx11 t
  have e0 : ((((cfg0.win 11).blk t).view.emb y 0 : Fin _) : ℕ) = t / 8 := by blk_simp; omega
  have e1 : ((((cfg0.win 11).blk t).view.emb y 1 : Fin _) : ℕ) = t % 8 * 512 + y 1 := by blk_simp; omega
  have e2 : ((((cfg0.win 11).blk t).view.emb y 2 : Fin _) : ℕ) = y 2 := by blk_simp; omega
  exact (plains_at m c _ (bOf t) (rowOf t _) _ e0 e1 e2).symm

/-- The array of the queries. -/
def queries (c : Dev nD) : Vec Ideal S4x4x4096x256 .bf16 := fun i => query (argsOf m c) (i 0) (i 1) (i 2) (i 3)

/-- An element of it, its coordinates given. -/
theorem queries_at (c : Dev nD) (i : S4x4x4096x256.Idx) (b : Fin 4) (p : Fin 4) (q : Fin 4096) (e : Fin 256)
    (h0 : (i 0 : ℕ) = b) (h1 : (i 1 : ℕ) = p) (h2 : (i 2 : ℕ) = q) (h3 : (i 3 : ℕ) = e) : queries m c i = query (argsOf m c) b p q e := by
  unfold queries
  congr 1 <;> apply Fin.ext <;> assumption

/-- It is what the run leaves. -/
theorem final12 (c : Dev nD) : (dats m 0 c).arrAt 12 cfg0.N = queries m c := by
  refine (dats m 0 c).arrAt_eq_of_covers 12 _ (by decide +kernel) fun t hf y => ?_
  blk_simp
  rw [after0_12]
  have h0 : (y 0 : ℕ) < 1 := (y 0).isLt
  have h1 : (y 1 : ℕ) < 4 := (y 1).isLt
  have h2 : (y 2 : ℕ) < 512 := (y 2).isLt
  have h3 : (y 3 : ℕ) < 256 := (y 3).isLt
  have hy : y = (ix4 0 ⟨(y 1 : ℕ), h1⟩ ⟨(y 2 : ℕ), h2⟩ ⟨(y 3 : ℕ), h3⟩ : S1x4x512x256.Idx) := by
    funext a
    fin_cases a <;> (apply Fin.ext; simp; try omega)
  refine (congrArg (outsAt0 m c t).2.1 hy).trans ((query_out m c t _ _ _).trans ?_)
  have i12 := idx12 t
  have e0 : ((((cfg0.win 12).blk t).view.emb y 0 : Fin _) : ℕ) = t / 8 := by blk_simp; omega
  have e1 : ((((cfg0.win 12).blk t).view.emb y 1 : Fin _) : ℕ) = y 1 := by blk_simp; omega
  have e2 : ((((cfg0.win 12).blk t).view.emb y 2 : Fin _) : ℕ) = t % 8 * 512 + y 2 := by blk_simp; omega
  have e3 : ((((cfg0.win 12).blk t).view.emb y 3 : Fin _) : ℕ) = y 3 := by blk_simp; omega
  exact (queries_at m c _ (bOf t) _ (rowOf t _) _ e0 e1 e2 e3).symm

/-- The array of the keys. -/
def keys (c : Dev nD) : Vec Ideal S4x16x1024x256 .bf16 := fun i => key (argsOf m c) (i 0) (i 1) (i 2) (i 3)

/-- An element of it, its coordinates given. -/
theorem keys_at (c : Dev nD) (i : S4x16x1024x256.Idx) (b : Fin 4) (p : Fin 16) (q : Fin 1024) (e : Fin 256)
    (h0 : (i 0 : ℕ) = b) (h1 : (i 1 : ℕ) = p) (h2 : (i 2 : ℕ) = q) (h3 : (i 3 : ℕ) = e) : keys m c i = key (argsOf m c) b p q e := by
  unfold keys
  congr 1 <;> apply Fin.ext <;> assumption

/-- It is what the run leaves. -/
theorem final13 (c : Dev nD) : (dats m 0 c).arrAt 13 cfg0.N = keys m c := by
  refine (dats m 0 c).arrAt_eq_of_covers 13 _ (by decide +kernel) fun t hf y => ?_
  blk_simp
  rw [after0_13]
  have h0 : (y 0 : ℕ) < 1 := (y 0).isLt
  have h1 : (y 1 : ℕ) < 2 := (y 1).isLt
  have h2 : (y 2 : ℕ) < 1024 := (y 2).isLt
  have h3 : (y 3 : ℕ) < 256 := (y 3).isLt
  have hy : y = (ix4 0 ⟨(y 1 : ℕ), h1⟩ ⟨(y 2 : ℕ), h2⟩ ⟨(y 3 : ℕ), h3⟩ : S1x2x1024x256.Idx) := by
    funext a
    fin_cases a <;> (apply Fin.ext; simp; try omega)
  refine (congrArg (outsAt0 m c t).2.2.1 hy).trans ((key_out m c t _ _ _).trans ?_)
  have i13 := idx13 t
  have e0 : ((((cfg0.win 13).blk t).view.emb y 0 : Fin _) : ℕ) = t / 8 := by blk_simp; omega
  have e1 : ((((cfg0.win 13).blk t).view.emb y 1 : Fin _) : ℕ) = t % 8 * 2 + y 1 := by blk_simp; omega
  have e2 : ((((cfg0.win 13).blk t).view.emb y 2 : Fin _) : ℕ) = y 2 := by blk_simp; omega
  have e3 : ((((cfg0.win 13).blk t).view.emb y 3 : Fin _) : ℕ) = y 3 := by blk_simp; omega
  exact (keys_at m c _ (bOf t) _ _ _ e0 e1 e2 e3).symm

/-- The array of the gates. -/
def gates (c : Dev nD) : Vec Ideal S4x4096x128 .f32 := fun i => gate (argsOf m c) (i 0) (i 1) (i 2)

/-- An element of it, its coordinates given. -/
theorem gates_at (c : Dev nD) (i : S4x4096x128.Idx) (b : Fin 4) (r : Fin 4096) (e : Fin 128)
    (h0 : (i 0 : ℕ) = b) (h1 : (i 1 : ℕ) = r) (h2 : (i 2 : ℕ) = e) : gates m c i = gate (argsOf m c) b r e := by
  unfold gates
  congr 1 <;> apply Fin.ext <;> assumption

/-- It is what the run leaves. -/
theorem final14 (c : Dev nD) : (dats m 0 c).arrAt 14 cfg0.N = gates m c := by
  refine (dats m 0 c).arrAt_eq_of_covers 14 _ (by decide +kernel) fun t hf y => ?_
  blk_simp
  rw [after0_14]
  have h1 : (y 1 : ℕ) < 512 := (y 1).isLt
  have h2 : (y 2 : ℕ) < 128 := (y 2).isLt
  have h0 : (y 0 : ℕ) < 1 := (y 0).isLt
  have hy : y = (ix3 0 ⟨(y 1 : ℕ), h1⟩ ⟨(y 2 : ℕ), h2⟩ : S1x512x128.Idx) := by
    funext a
    fin_cases a <;> (apply Fin.ext; simp; try omega)
  refine (congrArg (outsAt0 m c t).2.2.2 hy).trans ((gate_out m c t _ _).trans ?_)
  have i14 := idx14 t
  have e0 : ((((cfg0.win 14).blk t).view.emb y 0 : Fin _) : ℕ) = t / 8 := by blk_simp; omega
  have e1 : ((((cfg0.win 14).blk t).view.emb y 1 : Fin _) : ℕ) = t % 8 * 512 + y 1 := by blk_simp; omega
  have e2 : ((((cfg0.win 14).blk t).view.emb y 2 : Fin _) : ℕ) = y 2 := by blk_simp; omega
  exact (gates_at m c _ (bOf t) (rowOf t _) _ e0 e1 e2).symm

end Cert.Kernel4Ideal.InValue

end
-- ==== Proof.InReference.lean ====
/- The input projection's reference, element by element. -/
module

public import proofs.«01_k».proof.Proof.Gen.Reference4Ideal.Run
public import proofs.«01_k».proof.Proof.InSpec

@[expose] public section

noncomputable section

namespace Cert.Reference4Ideal.InReference

open Idealize.ShloMosaic Idealize.ShloMosaic.TcCoe Cert.Reference4Ideal Cert.Reference4Ideal.Gen Cert.Reference4Ideal.Value
open Cert.Outproj hiding Args
open Cert.Inproj

variable (m : (ℓ : Loc nD τ sig) → Buf (Elt Ideal) ℓ)

/-- The argument arrays as functions of their coordinates. -/
def argsOf (c : Dev nD) : Args where
  x b r e := m ((c.tc : Thread nD τ).loc main_arg0) (ix3 b r e)
  row r d := m ((c.tc : Thread nD τ).loc main_arg1) (ix3 r 0 d)
  col r d := m ((c.tc : Thread nD τ).loc main_arg2) (ix2 r d)
  mod b j e := m ((c.tc : Thread nD τ).loc main_arg3) (ix3 b j e)
  gain e := m ((c.tc : Thread nD τ).loc main_arg4) (ix2 0 e)
  w d n := m ((c.tc : Thread nD τ).loc main_arg5) (ix2 d n)
  wg d l := m ((c.tc : Thread nD τ).loc main_arg6) (ix2 d l)
  taps j e := m ((c.tc : Thread nD τ).loc main_arg7) (ix2 j e)
  post e := m ((c.tc : Thread nD τ).loc main_arg8) (ix2 0 e)

/-- The normed rows. -/
def rows (c : Dev nD) : FVec Ideal S4x4096x2048 .f32 :=
  addf (mulf (mulf (mulf (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048)))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048)))) (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![1, 2] bcast_S1x2048_S1x1x2048_1_2 (m ((c.tc : Thread nD τ).loc main_arg4))))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S4x1x2048 ![0, 1, 0] (m ((c.tc : Thread nD τ).loc main_arg3)) slices_S8x6x2048_S4x1x2048_0_1_0) shapeCasts_S4x1x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 0, 0] (m ((c.tc : Thread nD τ).loc main_arg3)) slices_S8x6x2048_S4x1x2048_0_0_0) shapeCasts_S4x1x2048_S4x2048)))

theorem rows_apply (c : Dev nD) (b : Fin 4) (t : Fin 4096) (e : Fin 2048) :
    (rows m c (ix3 b t e) : EReal) = normed (argsOf m c) b t e := by
  pointwise [rows]
  unfold normed
  refine Eq.trans ?_ (modulated_halves _ _ _ _ _).symm
  simp only [placed, beside_fore, beside_aft]
  rfl

/-- The channels the convolution takes. -/
def channels (c : Dev nD) : FVec Ideal S4x4096x2048 .f32 :=
  Host.dotGeneral dot_S4x4096x2048_S2048x2048_S4x4096x2048_2_0_01_1_n_n none (rows m c) (extf .f32 (extractStridedSlice S2048x2048 ![0, 1024] (m ((c.tc : Thread nD τ).loc main_arg5)) slices_S2048x5136_S2048x2048_0_1024) bitsLt_bf16_f32)

theorem channels_apply (c : Dev nD) (b : Fin 4) (t : Fin 4096) (ch : Fin 2048) :
    (channels m c (ix3 b t ch) : EReal) = proj (argsOf m c) b t ⟨1024 + ch, by omega⟩ := by
  unfold channels
  have h := fun d => rows_apply m c b t d
  generalize rows m c = z at h ⊢
  pointwise []
  exact Finset.sum_congr rfl fun d _ => congrArg₂ (· * ·) (h d) rfl

/-- The channels with two rows of zeros before and after. -/
def rimmed (z : FVec Ideal S4x4096x2048 .f32) : FVec Ideal S4x4100x2048 .f32 :=
  concatenate S4x4100x2048 1 [⟨S4x2x2048, ((broadcastInDim S4x2x2048 ![] bcast_S_S4x2x2048 (constant (F := Ideal) S_ .f32 0x00000000#32)) : (⟨S4x2x2048, .f32⟩ : BufTy).Contents (Elt Ideal))⟩, ⟨S4x4096x2048, (z : (⟨S4x4096x2048, .f32⟩ : BufTy).Contents (Elt Ideal))⟩, ⟨S4x2x2048, ((broadcastInDim S4x2x2048 ![] bcast_S_S4x2x2048 (constant (F := Ideal) S_ .f32 0x00000000#32)) : (⟨S4x2x2048, .f32⟩ : BufTy).Contents (Elt Ideal))⟩] concatenates_S4x2x2048_S4x4096x2048_S4x2x2048_S4x4100x2048_d1

theorem rimmed_apply (z : FVec Ideal S4x4096x2048 .f32) (b : Fin 4) (u : Fin 4100) (ch : Fin 2048) :
    (rimmed z (ix3 b u ch) : EReal) = if h : 2 ≤ (u : ℕ) ∧ (u : ℕ) < 4098 then z (ix3 b ⟨u - 2, by omega⟩ ch) else 0 := by
  pointwise [rimmed]
  by_cases h1 : (u : ℕ) < 2
  · rw [dif_pos h1, dif_neg (by omega)]
  · rw [dif_neg h1]
    by_cases h2 : (u : ℕ) - 2 < 4096
    · rw [dif_pos h2, dif_pos (by omega)]
    · rw [dif_neg h2, dif_neg (by omega)]

/-- The convolution. -/
def summed (c : Dev nD) (u : FVec Ideal S4x4100x2048 .f32) : FVec Ideal S4x4096x2048 .f32 :=
  addf (F := Ideal) (addf (addf (addf (mulf (extractStridedSlice S4x4096x2048 ![0, 0, 0] u slices_S4x4100x2048_S4x4096x2048_0_0_0) (broadcastInDim S4x4096x2048 ![0, 1, 2] bcast_S1x1x2048_S4x4096x2048_0_1_2 (broadcastInDim S1x1x2048 ![1, 2] bcast_S1x2048_S1x1x2048_1_2 (extractStridedSlice S1x2048 ![0, 0] (m ((c.tc : Thread nD τ).loc main_arg7)) slices_S5x2048_S1x2048_0_0)))) (mulf (extractStridedSlice S4x4096x2048 ![0, 1, 0] u slices_S4x4100x2048_S4x4096x2048_0_1_0) (broadcastInDim S4x4096x2048 ![0, 1, 2] bcast_S1x1x2048_S4x4096x2048_0_1_2 (broadcastInDim S1x1x2048 ![1, 2] bcast_S1x2048_S1x1x2048_1_2 (extractStridedSlice S1x2048 ![1, 0] (m ((c.tc : Thread nD τ).loc main_arg7)) slices_S5x2048_S1x2048_1_0))))) (mulf (extractStridedSlice S4x4096x2048 ![0, 2, 0] u slices_S4x4100x2048_S4x4096x2048_0_2_0) (broadcastInDim S4x4096x2048 ![0, 1, 2] bcast_S1x1x2048_S4x4096x2048_0_1_2 (broadcastInDim S1x1x2048 ![1, 2] bcast_S1x2048_S1x1x2048_1_2 (extractStridedSlice S1x2048 ![2, 0] (m ((c.tc : Thread nD τ).loc main_arg7)) slices_S5x2048_S1x2048_2_0))))) (mulf (extractStridedSlice S4x4096x2048 ![0, 3, 0] u slices_S4x4100x2048_S4x4096x2048_0_3_0) (broadcastInDim S4x4096x2048 ![0, 1, 2] bcast_S1x1x2048_S4x4096x2048_0_1_2 (broadcastInDim S1x1x2048 ![1, 2] bcast_S1x2048_S1x1x2048_1_2 (extractStridedSlice S1x2048 ![3, 0] (m ((c.tc : Thread nD τ).loc main_arg7)) slices_S5x2048_S1x2048_3_0))))) (mulf (extractStridedSlice S4x4096x2048 ![0, 4, 0] u slices_S4x4100x2048_S4x4096x2048_0_4_0) (broadcastInDim S4x4096x2048 ![0, 1, 2] bcast_S1x1x2048_S4x4096x2048_0_1_2 (broadcastInDim S1x1x2048 ![1, 2] bcast_S1x2048_S1x1x2048_1_2 (extractStridedSlice S1x2048 ![4, 0] (m ((c.tc : Thread nD τ).loc main_arg7)) slices_S5x2048_S1x2048_4_0))))

theorem summed_apply (c : Dev nD) (u : FVec Ideal S4x4100x2048 .f32) (b : Fin 4) (t : Fin 4096) (ch : Fin 2048) :
    (summed m c u (ix3 b t ch) : EReal) =
      conv (fun j => u (ix3 b ⟨t + j, by omega⟩ ch)) fun j => (argsOf m c).taps j ch := by
  have hu : ∀ p q : Fin 4100, (p : ℕ) = q → u (ix3 b p ch) = u (ix3 b q ch) := fun p q h => by rw [Fin.ext h]
  pointwise [summed]
  exact congrArg₂ (· + ·) (congrArg₂ (· + ·) (congrArg₂ (· + ·) (congrArg₂ (· + ·)
    (congrArg₂ (· * ·) (hu _ _ (by simp)) rfl) (congrArg₂ (· * ·) (hu _ _ (Nat.add_comm _ _)) rfl))
    (congrArg₂ (· * ·) (hu _ _ (Nat.add_comm _ _)) rfl)) (congrArg₂ (· * ·) (hu _ _ (Nat.add_comm _ _)) rfl))
    (congrArg₂ (· * ·) (hu _ _ (Nat.add_comm _ _)) rfl)

/-- The convolved channels. -/
def activated (c : Dev nD) (a : FVec Ideal S4x4096x2048 .f32) : FVec Ideal S4x4096x2048 .f32 :=
  mulf (F := Ideal) (mulf a (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf a))))) (broadcastInDim S4x4096x2048 ![0, 1, 2] bcast_S1x1x2048_S4x4096x2048_0_1_2 (broadcastInDim S1x1x2048 ![1, 2] bcast_S1x2048_S1x1x2048_1_2 (m ((c.tc : Thread nD τ).loc main_arg8))))

theorem activated_apply (c : Dev nD) (a : FVec Ideal S4x4096x2048 .f32) (b : Fin 4) (t : Fin 4096) (ch : Fin 2048) :
    (activated m c a (ix3 b t ch) : EReal) = swish (a (ix3 b t ch)) ((argsOf m c).post ch) := by
  pointwise [activated]
  rfl

/-- The convolution's result as one array. -/
def result (c : Dev nD) : FVec Ideal S4x4096x2048 .f32 := activated m c (summed m c (rimmed (channels m c)))

theorem result_apply (c : Dev nD) (b : Fin 4) (t : Fin 4096) (ch : Fin 2048) :
    (result m c (ix3 b t ch) : EReal) = convolved (argsOf m c) b t ch := by
  refine (activated_apply m c _ b t ch).trans (congrArg (swish · _) ?_)
  refine (summed_apply m c _ b t ch).trans (congrArg (conv · _) (funext fun j => ?_))
  refine (rimmed_apply _ b _ ch).trans ?_
  show _ = padded (argsOf m c) b ch (t + j)
  unfold padded
  by_cases h : 2 ≤ (t : ℕ) + j ∧ (t : ℕ) + j < 4098
  · rw [dif_pos h, dif_pos h]
    exact channels_apply m c b _ ch
  · rw [dif_neg h, dif_neg h]

theorem queries_eq (c : Dev nD) : res_main_v94 (F := Ideal) m c = truncf (F := Ideal) .bf16 (transpose S4x4x4096x256 [0, 2, 1, 3] (shapeCast _ (extractStridedSlice S4x4096x1024 ![0, 0, 0] (result m c) slices_S4x4096x2048_S4x4096x1024_0_0_0) shapeCasts_S4x4096x1024_S4x4096x4x256) transposes_S4x4096x4x256_S4x4x4096x256_0_2_1_3) bitsLt_bf16_f32 := by
  unfold res_main_v94 result activated summed rimmed channels rows
  rfl

theorem keys_eq (c : Dev nD) : res_main_v95 (F := Ideal) m c = truncf (F := Ideal) .bf16 (transpose S4x16x1024x256 [0, 1, 3, 2] (shapeCast _ (extractStridedSlice S4x4096x1024 ![0, 0, 1024] (result m c) slices_S4x4096x2048_S4x4096x1024_0_0_1024) shapeCasts_S4x4096x1024_S4x16x256x1024) transposes_S4x16x256x1024_S4x16x1024x256_0_1_3_2) bitsLt_bf16_f32 := by
  unfold res_main_v95 result activated summed rimmed channels rows
  rfl

/-- The queries. -/
theorem queries_apply (c : Dev nD) (b : Fin 4) (n : Fin 4) (t : Fin 4096) (e : Fin 256) :
    (res_main_v94 (F := Ideal) m c (ix4 b n t e) : EReal) = query (argsOf m c) b n t e := by
  rw [queries_eq]
  have h := fun ch => result_apply m c b t ch
  generalize result m c = z at h ⊢
  pointwise []
  exact h ⟨n * 256 + e, by omega⟩

/-- The keys. -/
theorem keys_apply (c : Dev nD) (b : Fin 4) (k : Fin 16) (e : Fin 1024) (r : Fin 256) :
    (res_main_v95 (F := Ideal) m c (ix4 b k e r) : EReal) = key (argsOf m c) b k e r := by
  rw [keys_eq]
  have h := fun t ch => result_apply m c b t ch
  generalize result m c = z at h ⊢
  pointwise []
  exact h ⟨k * 256 + r, by omega⟩ ⟨1024 + e, by omega⟩

theorem plain_eq (c : Dev nD) : res_main_v93 (F := Ideal) m c = truncf (F := Ideal) .bf16 ((concatenate S4x4096x3072 2 [⟨S4x4096x1024, ((Host.dotGeneral dot_S4x4096x2048_S2048x1024_S4x4096x1024_2_0_01_1_n_n none (rows m c) (extf .f32 (extractStridedSlice S2048x1024 ![0, 0] (m ((c.tc : Thread nD τ).loc main_arg5)) slices_S2048x5136_S2048x1024_0_0) bitsLt_bf16_f32)) : (⟨S4x4096x1024, .f32⟩ : BufTy).Contents (Elt Ideal))⟩, ⟨S4x4096x1024, ((Host.dotGeneral dot_S4x4096x2048_S2048x1024_S4x4096x1024_2_0_01_1_n_n none (rows m c) (extf .f32 (extractStridedSlice S2048x1024 ![0, 3072] (m ((c.tc : Thread nD τ).loc main_arg5)) slices_S2048x5136_S2048x1024_0_3072) bitsLt_bf16_f32)) : (⟨S4x4096x1024, .f32⟩ : BufTy).Contents (Elt Ideal))⟩, ⟨S4x4096x1024, ((Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (Host.dotGeneral dot_S4x4096x2048_S2048x1024_S4x4096x1024_2_0_01_1_n_n none (rows m c) (extf .f32 (extractStridedSlice S2048x1024 ![0, 4096] (m ((c.tc : Thread nD τ).loc main_arg5)) slices_S2048x5136_S2048x1024_0_4096) bitsLt_bf16_f32)))))) : (⟨S4x4096x1024, .f32⟩ : BufTy).Contents (Elt Ideal))⟩] concatenates_S4x4096x1024_S4x4096x1024_S4x4096x1024_S4x4096x3072_d2 : (⟨S4x4096x3072, .f32⟩ : BufTy).Contents (Elt Ideal))) bitsLt_bf16_f32 := by
  unfold res_main_v93 rows
  rfl

/-- The plain channels. -/
theorem plain_apply (c : Dev nD) (b : Fin 4) (t : Fin 4096) (n : Fin 3072) :
    (res_main_v93 (F := Ideal) m c (ix3 b t n) : EReal) = plain (argsOf m c) b t n := by
  rw [plain_eq]
  have h := fun d => rows_apply m c b t d
  generalize rows m c = z at h ⊢
  pointwise []
  have hs : ∀ q : Fin 5136, (∑ x, z (ix3 b t x) * m ((c.tc : Thread nD τ).loc main_arg5) (ix2 x q) : EReal) = proj (argsOf m c) b t q :=
    fun q => Finset.sum_congr rfl fun d _ => congrArg₂ (· * ·) (h d) rfl
  unfold plain
  by_cases h1 : (n : ℕ) < 1024
  · exact (dif_pos h1).trans ((hs _).trans (if_pos h1).symm)
  · refine (dif_neg h1).trans (Eq.trans ?_ (if_neg h1).symm)
    by_cases h2 : (n : ℕ) - 1024 < 1024
    · refine (dif_pos h2).trans (Eq.trans ((hs _).trans (congrArg (proj (argsOf m c) b t) (Fin.ext ?_))) (if_pos (show (n : ℕ) < 2048 by omega)).symm)
      show 3072 + ((n : ℕ) - 1024) = 2048 + n
      omega
    · refine (dif_neg h2).trans (Eq.trans (congrArg Ideal.logistic ((hs _).trans (congrArg (proj (argsOf m c) b t) (Fin.ext ?_)))) (if_neg (show ¬ (n : ℕ) < 2048 by omega)).symm)
      show 4096 + ((n : ℕ) - 1024 - 1024) = 2048 + n
      omega

/-- The gates as the run leaves them. -/
def gates (c : Dev nD) : FVec Ideal S4x4096x128 .f32 :=
  Host.dotGeneral dot_S4x4096x2048_S2048x128_S4x4096x128_2_0_01_1_n_n none (addf (mulf (mulf (mulf (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048)))) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048)))) (addf (m ((c.tc : Thread nD τ).loc main_arg0)) (broadcastInDim S4x4096x2048 ![0, 1, 2] bcast_S1x4096x2048_S4x4096x2048_0_1_2 (broadcastInDim S1x4096x2048 ![1, 2] bcast_S4096x2048_S1x4096x2048_1_2 (shapeCast _ (concatenate S64x64x2048 2 [⟨S64x64x1024, (broadcastInDim S64x64x1024 ![0, 1, 2] bcast_S64x1x1024_S64x64x1024_0_1_2 (m ((c.tc : Thread nD τ).loc main_arg1)))⟩, ⟨S64x64x1024, (broadcastInDim S64x64x1024 ![0, 1, 2] bcast_S1x64x1024_S64x64x1024_0_1_2 (broadcastInDim S1x64x1024 ![1, 2] bcast_S64x1024_S1x64x1024_1_2 (m ((c.tc : Thread nD τ).loc main_arg2))))⟩] concatenates_S64x64x1024_S64x64x1024_S64x64x2048_d2) shapeCasts_S64x64x2048_S4096x2048))))) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![1, 2] bcast_S1x2048_S1x1x2048_1_2 (m ((c.tc : Thread nD τ).loc main_arg4))))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (shapeCast _ (extractStridedSlice S4x1x2048 ![0, 1, 0] (m ((c.tc : Thread nD τ).loc main_arg3)) slices_S8x6x2048_S4x1x2048_0_1_0) shapeCasts_S4x1x2048_S4x2048))))) (broadcastInDim S4x4096x2048 ![0, 1, 2] bcast_S4x1x2048_S4x4096x2048_0_1_2 (broadcastInDim S4x1x2048 ![0, 2] bcast_S4x2048_S4x1x2048_0_2 (shapeCast _ (extractStridedSlice S4x1x2048 ![0, 0, 0] (m ((c.tc : Thread nD τ).loc main_arg3)) slices_S8x6x2048_S4x1x2048_0_0_0) shapeCasts_S4x1x2048_S4x2048)))) (extf .f32 (m ((c.tc : Thread nD τ).loc main_arg6)) bitsLt_bf16_f32)

/-- The gates. -/
theorem gates_apply (c : Dev nD) (b : Fin 4) (t : Fin 4096) (l : Fin 128) :
    (gates m c (ix3 b t l) : EReal) = gate (argsOf m c) b t l := by
  have e : gates m c = Host.dotGeneral (F := Ideal) dot_S4x4096x2048_S2048x128_S4x4096x128_2_0_01_1_n_n none (rows m c) (extf .f32 (m ((c.tc : Thread nD τ).loc main_arg6)) bitsLt_bf16_f32) := rfl
  rw [e]
  have h := fun d => rows_apply m c b t d
  generalize rows m c = z at h ⊢
  pointwise []
  exact Finset.sum_congr rfl fun d _ => congrArg₂ (· * ·) (h d) rfl

end Cert.Reference4Ideal.InReference

end
-- ==== Proof.CtxSpec.lean ====
/- The projection of the context, plainly: the normed rows, the keys after a convolution over five positions, the values
   and the gates. -/
module

public import proofs.«01_k».proof.Proof.InSpec

@[expose] public section

noncomputable section

namespace Cert.Context

open Idealize.ShloMosaic
open Cert.Outproj (modulated)
open Cert.Inproj (conv swish)

/-- The arguments, as functions of their coordinates. -/
structure Args where
  x : Fin 4 → Fin 256 → Fin 2048 → EReal
  mod : Fin 8 → Fin 6 → Fin 2048 → EReal
  gain : Fin 2048 → EReal
  w : Fin 2048 → Fin 5136 → EReal
  wg : Fin 2048 → Fin 128 → EReal
  taps : Fin 5 → Fin 2048 → EReal
  post : Fin 2048 → EReal

/-- The rows the weights are applied to; the context's row of the modulation is the fifth. -/
def normed (A : Args) (b : Fin 4) (t : Fin 256) (e : Fin 2048) : EReal :=
  modulated (A.x b t) A.gain (A.mod 4 1) (A.mod 4 0) e

/-- A channel of the projection. -/
def proj (A : Args) (b : Fin 4) (t : Fin 256) (n : Fin 5136) : EReal := ∑ d, normed A b t d * A.w d n

/-- A key channel before the convolution, at row `u - 2` of the context: zero outside it. -/
def padded (A : Args) (b : Fin 4) (ch : Fin 1024) (u : ℕ) : EReal :=
  if h : 2 ≤ u ∧ u < 258 then proj A b ⟨u - 2, by omega⟩ ⟨2048 + ch, by omega⟩ else 0

/-- A key: channel `e` at row `t`. -/
def key (A : Args) (b : Fin 4) (e : Fin 1024) (t : Fin 256) : EReal :=
  swish (conv (fun j => padded A b e (t + j)) fun j => A.taps j ⟨1024 + e, by omega⟩) (A.post ⟨1024 + e, by omega⟩)

/-- A value. -/
def value (A : Args) (b : Fin 4) (t : Fin 256) (e : Fin 1024) : EReal := proj A b t ⟨3072 + e, by omega⟩

/-- A gate before its own activation. -/
def gate (A : Args) (b : Fin 4) (t : Fin 256) (l : Fin 128) : EReal := ∑ d, normed A b t d * A.wg d l

end Cert.Context

end
-- ==== Proof.CtxBlock.lean ====
/- What the program of the context's projection writes at a grid point, element by element, in terms of the arrays its
   blocks are cut from. -/
module

public import Idealize.ShloMosaic.Lib.WholeRead
public import Idealize.ShloMosaic.Lib.Pipeline.ReadBack
public import Idealize.ShloMosaic.Lib.Pipeline.ValueKit
public import proofs.«01_k».proof.Proof.Gen.Kernel5Ideal.Frame
public import proofs.«01_k».proof.Proof.CtxSpec

@[expose] public section

set_option maxRecDepth 65536

noncomputable section

namespace Cert.Kernel5Ideal.CtxBlock

open Idealize.ShloMosaic Cert.Kernel5Ideal Cert.Kernel5Ideal.Gen
open Cert.Context
open Cert.Outproj (modulated)
open Cert.Inproj (conv swish modulated_congr)

/-- The normed rows. -/
theorem pay2_apply (x : Vec Ideal S1x256x2048 .f32) (g : Vec Ideal S1x2048 .f32) (scale shift : Vec Ideal S1x1x2048 .f32)
    (r : Fin 256) (e : Fin 2048) :
    (k0_pay2 (F := Ideal) x g scale shift (ix2 r e) : EReal) =
      modulated (fun e => x (ix3 0 r e)) (fun e => g (ix2 0 e)) (fun e => scale (ix3 0 0 e)) (fun e => shift (ix3 0 0 e)) e := by
  pointwise [k0_pay2]
  rfl

/-- The key channels, between eight rows of zeros and eight more. -/
theorem pay3_apply (x : Vec Ideal S1x256x2048 .f32) (g : Vec Ideal S1x2048 .f32) (scale shift : Vec Ideal S1x1x2048 .f32)
    (w : Vec Ideal S2048x1024 .bf16) (u : Fin 272) (c : Fin 1024) :
    (k0_pay3 (F := Ideal) x g scale shift w (ix2 u c) : EReal) =
      if h : 8 ≤ (u : ℕ) ∧ (u : ℕ) < 264 then ∑ d, k0_pay2 (F := Ideal) x g scale shift (ix2 ⟨u - 8, by omega⟩ d) * w (ix2 d c) else 0 := by
  unfold k0_pay3
  generalize k0_pay2 (F := Ideal) x g scale shift = z
  pointwise []
  by_cases h1 : (u : ℕ) < 8
  · rw [dif_pos h1, dif_neg (by omega)]
  · rw [dif_neg h1]
    by_cases h2 : (u : ℕ) - 8 < 256
    · rw [dif_pos h2, dif_pos (by omega)]
    · rw [dif_neg h2, dif_neg (by omega)]

/-- The keys, of the rows the first two taps read and the channels the others do. -/
theorem pay6_apply (x : Vec Ideal S1x256x2048 .f32) (g : Vec Ideal S1x2048 .f32) (scale shift : Vec Ideal S1x1x2048 .f32)
    (w : Vec Ideal S2048x1024 .bf16) (w0 w1 w2 w3 w4 p : Vec Ideal S1x1024 .f32) (r : Fin 256) (c : Fin 1024) :
    (k0_pay6 (F := Ideal) (k0_pay3 x g scale shift w) (k0_pay4 x g scale shift w w0) (k0_pay5 x g scale shift w) w1 w2 w3 w4 p
        (ix4 0 0 c r) : EReal) =
      swish (conv (fun j => k0_pay3 (F := Ideal) x g scale shift w (ix2 ⟨6 + (r + j), by omega⟩ c))
        ![w0 (ix2 0 c), w1 (ix2 0 c), w2 (ix2 0 c), w3 (ix2 0 c), w4 (ix2 0 c)]) (p (ix2 0 c)) := by
  have hz : ∀ (z : FVec Ideal S272x1024 .f32) (a b : Fin 272), (a : ℕ) = b → (z (ix2 a c) : EReal) = z (ix2 b c) :=
    fun z a b h => by rw [Fin.ext h]
  unfold k0_pay4 k0_pay5
  generalize k0_pay3 (F := Ideal) x g scale shift w = z
  pointwise [k0_pay6]
  refine congrArg (swish · _) ?_
  exact congrArg₂ (· + ·) (congrArg₂ (· + ·) (congrArg₂ (· + ·) (congrArg₂ (· + ·)
    (congrArg₂ (· * ·) (hz _ _ _ (by simp)) rfl) (congrArg₂ (· * ·) (hz _ _ _ (by simp; try omega)) rfl))
    (congrArg₂ (· * ·) (hz _ _ _ (by simp; try omega)) rfl)) (congrArg₂ (· * ·) (hz _ _ _ (by simp; try omega)) rfl))
    (congrArg₂ (· * ·) (hz _ _ _ (by simp; try omega)) rfl)

/-- The values. -/
theorem pay7_apply (h : FVec Ideal S256x2048 .bf16) (w : Vec Ideal S2048x1024 .bf16) (r : Fin 256) (c : Fin 1024) :
    (k0_pay7 (F := Ideal) h w (ix3 0 r c) : EReal) = ∑ d, h (ix2 r d) * w (ix2 d c) := by
  pointwise [k0_pay7]

/-- The gates. -/
theorem pay8_apply (h : FVec Ideal S256x2048 .bf16) (w : Vec Ideal S2048x128 .bf16) (r : Fin 256) (l : Fin 128) :
    (k0_pay1 (F := Ideal) (k0_pay8 h w) (ix3 0 r l) : EReal) = ∑ d, h (ix2 r d) * w (ix2 d l) := by
  pointwise [k0_pay1, k0_pay8]

/-- The grid point, the buffers the program is given there, and what the read ones hold. -/
structure Point (F : FTy → Type) [FloatOps F] where
  i : grid0.Coords
  arg1 : Memref sig .tc .vmem S1x256x2048 .f32
  harg1 : arg1.IsWhole
  arg2 : Memref sig .tc .vmem S1x6x2048 .f32
  harg2 : arg2.IsWhole
  arg3 : Memref sig .tc .vmem S1x2048 .f32
  harg3 : arg3.IsWhole
  arg4 : Memref sig .tc .vmem S2048x2048 .bf16
  harg4 : arg4.IsWhole
  arg5 : Memref sig .tc .vmem S2048x128 .bf16
  harg5 : arg5.IsWhole
  arg6 : Memref sig .tc .vmem S5x1024 .f32
  harg6 : arg6.IsWhole
  arg7 : Memref sig .tc .vmem S1x1024 .f32
  harg7 : arg7.IsWhole
  arg8 : Memref sig .tc .vmem S1x1x1024x256 .bf16
  harg8 : arg8.IsWhole
  arg9 : Memref sig .tc .vmem S1x256x1024 .bf16
  harg9 : arg9.IsWhole
  arg10 : Memref sig .tc .vmem S1x256x128 .f32
  harg10 : arg10.IsWhole
  x0 : Vec F S1x256x2048 .f32
  x1 : Vec F S1x6x2048 .f32
  x2 : Vec F S1x2048 .f32
  x3 : Vec F S2048x2048 .bf16
  x4 : Vec F S2048x128 .bf16
  x5 : Vec F S5x1024 .f32
  x6 : Vec F S1x1024 .f32

namespace Point
section
variable {F : FTy → Type} [FloatOps F] (X : Point F)

/-- The rows of the context. -/
def xs : Vec F S1x256x2048 .f32 :=
  View.readAt (Elt F) X.arg1.view (Rect.unit (s := S1x256x2048) ![0, 0, 0] S1x256x2048.size inb_S1x256x2048_S1x256x2048_0_0_0).toLoadRect (X.harg1.unread X.x0)
/-- The gains. -/
def gain : Vec F S1x2048 .f32 :=
  View.readAt (Elt F) X.arg3.view (Rect.unit (s := S1x2048) ![0, 0] S1x2048.size inb_S1x2048_S1x2048_0_0).toLoadRect (X.harg3.unread X.x2)
/-- The scale. -/
def scale : Vec F S1x1x2048 .f32 :=
  View.readAt (Elt F) X.arg2.view (Rect.unit (s := S1x6x2048) ![0, 1, 0] S1x1x2048.size inb_S1x6x2048_S1x1x2048_0_1_0).toLoadRect (X.harg2.unread X.x1)
/-- The shift. -/
def shift : Vec F S1x1x2048 .f32 :=
  View.readAt (Elt F) X.arg2.view (Rect.unit (s := S1x6x2048) ![0, 0, 0] S1x1x2048.size inb_S1x6x2048_S1x1x2048_0_0_0).toLoadRect (X.harg2.unread X.x1)
/-- The columns of the weight behind the keys. -/
def keyCols : Vec F S2048x1024 .bf16 :=
  View.readAt (Elt F) X.arg4.view (Rect.unit (s := S2048x2048) ![0, 0] S2048x1024.size inb_S2048x2048_S2048x1024_0_0).toLoadRect (X.harg4.unread X.x3)
/-- Those behind the values. -/
def valueCols : Vec F S2048x1024 .bf16 :=
  View.readAt (Elt F) X.arg4.view (Rect.unit (s := S2048x2048) ![0, 1024] S2048x1024.size inb_S2048x2048_S2048x1024_0_1024).toLoadRect (X.harg4.unread X.x3)
/-- The weight of the gates. -/
def gateCols : Vec F S2048x128 .bf16 :=
  View.readAt (Elt F) X.arg5.view (Rect.unit (s := S2048x128) ![0, 0] S2048x128.size inb_S2048x128_S2048x128_0_0).toLoadRect (X.harg5.unread X.x4)
/-- The output scale. -/
def post : Vec F S1x1024 .f32 :=
  View.readAt (Elt F) X.arg7.view (Rect.unit (s := S1x1024) ![0, 0] S1x1024.size inb_S1x1024_S1x1024_0_0).toLoadRect (X.harg7.unread X.x6)
/-- The weights of tap 0. -/
def tap0 : Vec F S1x1024 .f32 :=
  View.readAt (Elt F) X.arg6.view (Rect.unit (s := S5x1024) ![0, 0] S1x1024.size inb_S5x1024_S1x1024_0_0).toLoadRect (X.harg6.unread X.x5)
/-- The weights of tap 1. -/
def tap1 : Vec F S1x1024 .f32 :=
  View.readAt (Elt F) X.arg6.view (Rect.unit (s := S5x1024) ![1, 0] S1x1024.size inb_S5x1024_S1x1024_1_0).toLoadRect (X.harg6.unread X.x5)
/-- The weights of tap 2. -/
def tap2 : Vec F S1x1024 .f32 :=
  View.readAt (Elt F) X.arg6.view (Rect.unit (s := S5x1024) ![2, 0] S1x1024.size inb_S5x1024_S1x1024_2_0).toLoadRect (X.harg6.unread X.x5)
/-- The weights of tap 3. -/
def tap3 : Vec F S1x1024 .f32 :=
  View.readAt (Elt F) X.arg6.view (Rect.unit (s := S5x1024) ![3, 0] S1x1024.size inb_S5x1024_S1x1024_3_0).toLoadRect (X.harg6.unread X.x5)
/-- The weights of tap 4. -/
def tap4 : Vec F S1x1024 .f32 :=
  View.readAt (Elt F) X.arg6.view (Rect.unit (s := S5x1024) ![4, 0] S1x1024.size inb_S5x1024_S1x1024_4_0).toLoadRect (X.harg6.unread X.x5)

/-- The normed rows. -/
def rows : FVec F S256x2048 .bf16 := k0_pay2 X.xs X.gain X.scale X.shift

def keyPieces : List (View.Piece (Elt F) S1x1x1024x256 .bf16) :=
  [⟨Rect.unit (s := S1x1x1024x256) ![0, 0, 0, 0] S1x1x1024x256.size inb_S1x1x1024x256_S1x1x1024x256_0_0_0_0,
    k0_pay6 (k0_pay3 X.xs X.gain X.scale X.shift X.keyCols) (k0_pay4 X.xs X.gain X.scale X.shift X.keyCols X.tap0)
      (k0_pay5 X.xs X.gain X.scale X.shift X.keyCols) X.tap1 X.tap2 X.tap3 X.tap4 X.post⟩]

def valuePieces : List (View.Piece (Elt F) S1x256x1024 .bf16) :=
  [⟨Rect.unit (s := S1x256x1024) ![0, 0, 0] S1x256x1024.size inb_S1x256x1024_S1x256x1024_0_0_0, k0_pay7 X.rows X.valueCols⟩]

def gatePieces : List (View.Piece (Elt F) S1x256x128 .f32) :=
  [⟨Rect.unit (s := S1x256x128) ![0, 0, 0] S1x256x128.size inb_S1x256x128_S1x256x128_0_0_0, k0_pay1 (k0_pay8 X.rows X.gateCols)⟩]

/-- The run of the program at the point. -/
abbrev run (c : Dev nD) :=
  kernelRun0_A c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.x0 X.x1 X.x2 X.x3 X.x4 X.x5 X.x6

theorem keys_eq (c : Dev nD) : (X.run c).1 = X.keyPieces := by sl_kernel_rfl
theorem values_eq (c : Dev nD) : (X.run c).2.1 = X.valuePieces := by sl_kernel_rfl
theorem gates_eq (c : Dev nD) : (X.run c).2.2.1 = X.gatePieces := by sl_kernel_rfl
end
end Point

variable (X : Point Ideal)

/-- The blocks are those of batch member `b`. -/
structure Cut (A : Args) (b : Fin 4) : Prop where
  x0 : ∀ r e, (X.x0 (ix3 0 r e) : EReal) = A.x b r e
  x1 : ∀ j e, (X.x1 (ix3 0 j e) : EReal) = A.mod 4 j e
  x2 : ∀ e, (X.x2 (ix2 0 e) : EReal) = A.gain e
  x3 : ∀ d (n : Fin 2048), (X.x3 (ix2 d n) : EReal) = A.w d ⟨2048 + n, by omega⟩
  x4 : ∀ d l, (X.x4 (ix2 d l) : EReal) = A.wg d l
  x5 : ∀ j (e : Fin 1024), (X.x5 (ix2 j e) : EReal) = A.taps j ⟨1024 + e, by omega⟩
  x6 : ∀ e : Fin 1024, (X.x6 (ix2 0 e) : EReal) = A.post ⟨1024 + e, by omega⟩

variable {X} {A : Args} {b : Fin 4} (hc : Cut X A b)
include hc

theorem xs_apply (r : Fin 256) (e : Fin 2048) : (X.xs (ix3 0 r e) : EReal) = A.x b r e :=
  ((X.harg1.readAt_unread X.x0 _ _).trans (congrArg X.x0 (funext fun a => by fin_cases a <;> (apply Fin.ext; simp)))).trans (hc.x0 r e)
theorem gain_apply (e : Fin 2048) : (X.gain (ix2 0 e) : EReal) = A.gain e :=
  ((X.harg3.readAt_unread X.x2 _ _).trans (congrArg X.x2 (funext fun a => by fin_cases a <;> (apply Fin.ext; simp)))).trans (hc.x2 e)
theorem scale_apply (e : Fin 2048) : (X.scale (ix3 0 0 e) : EReal) = A.mod 4 1 e :=
  ((X.harg2.readAt_unread X.x1 _ _).trans (congrArg X.x1 (funext fun a => by fin_cases a <;> (apply Fin.ext; simp)))).trans (hc.x1 1 e)
theorem shift_apply (e : Fin 2048) : (X.shift (ix3 0 0 e) : EReal) = A.mod 4 0 e :=
  ((X.harg2.readAt_unread X.x1 _ _).trans (congrArg X.x1 (funext fun a => by fin_cases a <;> (apply Fin.ext; simp)))).trans (hc.x1 0 e)
theorem keyCols_apply (d : Fin 2048) (e : Fin 1024) : (X.keyCols (ix2 d e) : EReal) = A.w d ⟨2048 + e, by omega⟩ :=
  ((X.harg4.readAt_unread X.x3 _ _).trans (congrArg X.x3 (funext fun a => by fin_cases a <;> (apply Fin.ext; simp)))).trans (hc.x3 d ⟨e, by omega⟩)
theorem valueCols_apply (d : Fin 2048) (e : Fin 1024) : (X.valueCols (ix2 d e) : EReal) = A.w d ⟨3072 + e, by omega⟩ :=
  (((X.harg4.readAt_unread X.x3 _ _).trans (congrArg X.x3 (funext fun a => by fin_cases a <;> (apply Fin.ext; simp)))).trans (hc.x3 d ⟨1024 + e, by omega⟩)).trans
    (congrArg (A.w d) (Fin.ext (Nat.add_assoc 2048 1024 e).symm))
theorem gateCols_apply (d : Fin 2048) (l : Fin 128) : (X.gateCols (ix2 d l) : EReal) = A.wg d l :=
  ((X.harg5.readAt_unread X.x4 _ _).trans (congrArg X.x4 (funext fun a => by fin_cases a <;> (apply Fin.ext; simp)))).trans (hc.x4 d l)
theorem post_apply (e : Fin 1024) : (X.post (ix2 0 e) : EReal) = A.post ⟨1024 + e, by omega⟩ :=
  ((X.harg7.readAt_unread X.x6 _ _).trans (congrArg X.x6 (funext fun a => by fin_cases a <;> (apply Fin.ext; simp)))).trans (hc.x6 e)
theorem tap0_apply (e : Fin 1024) : (X.tap0 (ix2 0 e) : EReal) = A.taps 0 ⟨1024 + e, by omega⟩ :=
  ((X.harg6.readAt_unread X.x5 _ _).trans (congrArg X.x5 (funext fun a => by fin_cases a <;> (apply Fin.ext; simp)))).trans (hc.x5 0 e)
theorem tap1_apply (e : Fin 1024) : (X.tap1 (ix2 0 e) : EReal) = A.taps 1 ⟨1024 + e, by omega⟩ :=
  ((X.harg6.readAt_unread X.x5 _ _).trans (congrArg X.x5 (funext fun a => by fin_cases a <;> (apply Fin.ext; simp)))).trans (hc.x5 1 e)
theorem tap2_apply (e : Fin 1024) : (X.tap2 (ix2 0 e) : EReal) = A.taps 2 ⟨1024 + e, by omega⟩ :=
  ((X.harg6.readAt_unread X.x5 _ _).trans (congrArg X.x5 (funext fun a => by fin_cases a <;> (apply Fin.ext; simp)))).trans (hc.x5 2 e)
theorem tap3_apply (e : Fin 1024) : (X.tap3 (ix2 0 e) : EReal) = A.taps 3 ⟨1024 + e, by omega⟩ :=
  ((X.harg6.readAt_unread X.x5 _ _).trans (congrArg X.x5 (funext fun a => by fin_cases a <;> (apply Fin.ext; simp)))).trans (hc.x5 3 e)
theorem tap4_apply (e : Fin 1024) : (X.tap4 (ix2 0 e) : EReal) = A.taps 4 ⟨1024 + e, by omega⟩ :=
  ((X.harg6.readAt_unread X.x5 _ _).trans (congrArg X.x5 (funext fun a => by fin_cases a <;> (apply Fin.ext; simp)))).trans (hc.x5 4 e)

/-- The normed rows are the context's. -/
theorem rows_apply (r : Fin 256) (e : Fin 2048) :
    (k0_pay2 (F := Ideal) X.xs X.gain X.scale X.shift (ix2 r e) : EReal) = normed A b r e :=
  (pay2_apply _ _ _ _ r e).trans (modulated_congr (funext fun e => xs_apply hc r e) (funext fun e => gain_apply hc e)
    (funext fun e => scale_apply hc e) (funext fun e => shift_apply hc e))

/-- The channels a tap reads. -/
theorem padded_apply (u : Fin 272) (v : ℕ) (hv : (u : ℕ) = 6 + v) (c : Fin 1024) :
    (k0_pay3 (F := Ideal) X.xs X.gain X.scale X.shift X.keyCols (ix2 u c) : EReal) = padded A b c v := by
  refine (pay3_apply _ _ _ _ _ u c).trans ?_
  unfold padded
  by_cases h : 2 ≤ v ∧ v < 258
  · rw [dif_pos (show 8 ≤ (u : ℕ) ∧ (u : ℕ) < 264 by omega), dif_pos h]
    refine Finset.sum_congr rfl fun d _ => congrArg₂ (· * ·) ((rows_apply hc _ d).trans ?_) (keyCols_apply hc d c)
    exact congrArg (fun q => normed A b q d) (Fin.ext (by simp only; omega))
  · rw [dif_neg (show ¬(8 ≤ (u : ℕ) ∧ (u : ℕ) < 264) by omega), dif_neg h]

/-- The keys. -/
theorem keys_apply (e : Fin 1024) (r : Fin 256) : (View.canon X.keyPieces (ix4 0 0 e r) : EReal) = key A b e r := by
  have hu : (ix4 0 0 e r : S1x1x1024x256.Idx) = (Rect.unit (s := S1x1x1024x256) ![0, 0, 0, 0] S1x1x1024x256.size inb_S1x1x1024x256_S1x1x1024x256_0_0_0_0).emb (ix4 0 0 e r) := by
    funext a
    apply Fin.ext
    refine Eq.trans ?_ (ValueKit.rect_emb_unit_val _ _ _ _ _).symm
    fin_cases a <;> simp
  unfold Point.keyPieces
  refine (congrArg (View.canon _) hu).trans ((View.canon_cons_emb _ _ _ _).trans ((pay6_apply _ _ _ _ _ _ _ _ _ _ _ r e).trans ?_))
  refine congrArg₂ swish (congrArg₂ conv (funext fun j => padded_apply hc _ _ rfl e) (funext fun j => ?_)) (post_apply hc e)
  fin_cases j
  · exact tap0_apply hc e
  · exact tap1_apply hc e
  · exact tap2_apply hc e
  · exact tap3_apply hc e
  · exact tap4_apply hc e

/-- The values. -/
theorem values_apply (r : Fin 256) (e : Fin 1024) : (View.canon X.valuePieces (ix3 0 r e) : EReal) = value A b r e := by
  have hu : (ix3 0 r e : S1x256x1024.Idx) = (Rect.unit (s := S1x256x1024) ![0, 0, 0] S1x256x1024.size inb_S1x256x1024_S1x256x1024_0_0_0).emb (ix3 0 r e) := by
    funext a
    apply Fin.ext
    refine Eq.trans ?_ (ValueKit.rect_emb_unit_val _ _ _ _ _).symm
    fin_cases a <;> simp
  unfold Point.valuePieces
  refine (congrArg (View.canon _) hu).trans ((View.canon_cons_emb _ _ _ _).trans ((pay7_apply _ _ _ _).trans ?_))
  exact Finset.sum_congr rfl fun d _ => congrArg₂ (· * ·) (rows_apply hc r d) (valueCols_apply hc d e)

/-- The gates. -/
theorem gates_apply (r : Fin 256) (l : Fin 128) : (View.canon X.gatePieces (ix3 0 r l) : EReal) = gate A b r l := by
  have hu : (ix3 0 r l : S1x256x128.Idx) = (Rect.unit (s := S1x256x128) ![0, 0, 0] S1x256x128.size inb_S1x256x128_S1x256x128_0_0_0).emb (ix3 0 r l) := by
    funext a
    apply Fin.ext
    refine Eq.trans ?_ (ValueKit.rect_emb_unit_val _ _ _ _ _).symm
    fin_cases a <;> simp
  unfold Point.gatePieces
  refine (congrArg (View.canon _) hu).trans ((View.canon_cons_emb _ _ _ _).trans ((pay8_apply _ _ _ _).trans ?_))
  exact Finset.sum_congr rfl fun d _ => congrArg₂ (· * ·) (rows_apply hc r d) (gateCols_apply hc d l)

end Cert.Kernel5Ideal.CtxBlock

end
-- ==== Proof.CtxValue.lean ====
/- What the program of the context's projection leaves in its three result arrays. -/
module

public import proofs.«01_k».proof.Proof.Gen.Kernel5Ideal.Value
public import Idealize.ShloMosaic.Lib.Pipeline.ValueKit
public import proofs.«01_k».proof.Proof.CtxBlock

@[expose] public section

set_option maxRecDepth 65536

noncomputable section

namespace Cert.Kernel5Ideal.CtxValue

open Idealize.ShloMosaic Idealize.ShloMosaic.TcCoe Cert.Kernel5Ideal Cert.Kernel5Ideal.Gen Cert.Kernel5Ideal.CtxBlock Cert.Context

variable (m : (ℓ : Loc nD τ sig) → Buf (Elt Ideal) ℓ)

/-- The argument arrays as functions of their coordinates. -/
def argsOf (c : Dev nD) : Args where
  x b r e := m ((c : Thread nD τ).loc main_arg0) (ix3 b r e)
  mod b j e := m ((c : Thread nD τ).loc main_arg1) (ix3 b j e)
  gain e := m ((c : Thread nD τ).loc main_arg2) (ix2 0 e)
  w d n := m ((c : Thread nD τ).loc main_arg3) (ix2 d n)
  wg d l := m ((c : Thread nD τ).loc main_arg4) (ix2 d l)
  taps j e := m ((c : Thread nD τ).loc main_arg5) (ix2 j e)
  post e := m ((c : Thread nD τ).loc main_arg6) (ix2 0 e)

/-- The batch member of a grid point. -/
def bOf (t : Fin cfg0.N) : Fin 4 := ⟨t, by have := t.isLt; have : cfg0.N = 4 := N_0; omega⟩

theorem idx0 : ∀ t : Fin cfg0.N, win0_0.index t 0 = (t : ℕ) ∧ win0_0.index t 1 = 0 ∧ win0_0.index t 2 = 0 :=
  (by decide +kernel : ∀ t : Fin grid0.N, _)
theorem idx1 : ∀ t : Fin cfg0.N, win0_1.index t 0 = 4 ∧ win0_1.index t 1 = 0 ∧ win0_1.index t 2 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 1 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 1 :=
  (by decide +kernel : ∀ t : Fin grid0.N, _)
theorem idx6 : ∀ t : Fin cfg0.N, win0_6.index t 0 = 0 ∧ win0_6.index t 1 = 1 :=
  (by decide +kernel : ∀ t : Fin grid0.N, _)
theorem idx7 : ∀ t : Fin cfg0.N, win0_7.index t 0 = (t : ℕ) ∧ win0_7.index t 1 = 0 ∧ win0_7.index t 2 = 0 ∧ win0_7.index t 3 = 0 :=
  (by decide +kernel : ∀ t : Fin grid0.N, _)
theorem idx8 : ∀ t : Fin cfg0.N, win0_8.index t 0 = (t : ℕ) ∧ win0_8.index t 1 = 0 ∧ win0_8.index t 2 = 0 :=
  (by decide +kernel : ∀ t : Fin grid0.N, _)
theorem idx9 : ∀ t : Fin cfg0.N, win0_9.index t 0 = (t : ℕ) ∧ win0_9.index t 1 = 0 ∧ win0_9.index t 2 = 0 :=
  (by decide +kernel : ∀ t : Fin grid0.N, _)

theorem x_eq (c : Dev nD) (t : Fin cfg0.N) (r : Fin 256) (e : Fin 2048) :
    (iblk m c 0 t (ix3 0 r e) : EReal) = (argsOf m c).x (bOf t) r e := by
  show _ = m ((c : Thread nD τ).loc main_arg0) (ix3 (bOf t) r e)
  unfold bOf
  blk_ext! [iblk, V, idx0 t]
theorem mod_eq (c : Dev nD) (t : Fin cfg0.N) (j : Fin 6) (e : Fin 2048) :
    (iblk m c 1 t (ix3 0 j e) : EReal) = (argsOf m c).mod 4 j e := by
  show _ = m ((c : Thread nD τ).loc main_arg1) (ix3 4 j e)
  blk_ext! [iblk, V, idx1 t]
theorem gain_eq (c : Dev nD) (t : Fin cfg0.N) (e : Fin 2048) :
    (iblk m c 2 t (ix2 0 e) : EReal) = (argsOf m c).gain e := by
  show _ = m ((c : Thread nD τ).loc main_arg2) (ix2 0 e)
  blk_ext! [iblk, V, idx2 t]
theorem w_eq (c : Dev nD) (t : Fin cfg0.N) (d : Fin 2048) (n : Fin 2048) :
    (X0_3 m c t (ix2 d n) : EReal) = (argsOf m c).w d ⟨2048 + n, by omega⟩ := by
  show _ = m ((c : Thread nD τ).loc main_arg3) (ix2 d ⟨2048 + n, _⟩)
  unfold X0_3 Pipeline.Window.fill
  rw [dif_pos (moved0_3 t (ix2 d n))]
  blk_ext! [iblk, V, idx3 t]
theorem wg_eq (c : Dev nD) (t : Fin cfg0.N) (d : Fin 2048) (l : Fin 128) :
    (iblk m c 4 t (ix2 d l) : EReal) = (argsOf m c).wg d l := by
  show _ = m ((c : Thread nD τ).loc main_arg4) (ix2 d l)
  blk_ext! [iblk, V, idx4 t]
theorem taps_eq (c : Dev nD) (t : Fin cfg0.N) (j : Fin 5) (e : Fin 1024) :
    (iblk m c 5 t (ix2 j e) : EReal) = (argsOf m c).taps j ⟨1024 + e, by omega⟩ := by
  show _ = m ((c : Thread nD τ).loc main_arg5) (ix2 j ⟨1024 + e, _⟩)
  blk_ext! [iblk, V, idx5 t]
theorem post_eq (c : Dev nD) (t : Fin cfg0.N) (e : Fin 1024) :
    (iblk m c 6 t (ix2 0 e) : EReal) = (argsOf m c).post ⟨1024 + e, by omega⟩ := by
  show _ = m ((c : Thread nD τ).loc main_arg6) (ix2 0 ⟨1024 + e, _⟩)
  blk_ext! [iblk, V, idx6 t]

/-- A grid point with its buffers. -/
def pt (c : Dev nD) (t : Fin cfg0.N) : Point Ideal where
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  x0 := iblk m c 0 t
  x1 := iblk m c 1 t
  x2 := iblk m c 2 t
  x3 := X0_3 m c t
  x4 := iblk m c 4 t
  x5 := iblk m c 5 t
  x6 := iblk m c 6 t

/-- Its blocks are cut from the arguments. -/
theorem cut (c : Dev nD) (t : Fin cfg0.N) : Cut (pt m c t) (argsOf m c) (bOf t) where
  x0 := x_eq m c t
  x1 := mod_eq m c t
  x2 := gain_eq m c t
  x3 := w_eq m c t
  x4 := wg_eq m c t
  x5 := taps_eq m c t
  x6 := post_eq m c t

/-- What is left in a block is what its pieces hold. -/
theorem left7 (X : Point Ideal) (c : Dev nD) : out0_A_7 c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.x0 X.x1 X.x2 X.x3 X.x4 X.x5 X.x6 = View.canon X.keyPieces := by
  unfold out0_A_7
  rw [View.read_writes_junk_eq_canon]
  have h := Point.keys_eq X c
  unfold Point.run at h
  exact congrArg View.canon h

theorem block7 (c : Dev nD) (t : Fin cfg0.N) : (outsAt0 m c t).1 = View.canon (pt m c t).keyPieces := by
  have h := left7 (pt m c t) c
  unfold pt at h ⊢
  dsimp only at h
  unfold outsAt0
  dsimp only
  exact h

theorem left8 (X : Point Ideal) (c : Dev nD) : out0_A_8 c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.x0 X.x1 X.x2 X.x3 X.x4 X.x5 X.x6 = View.canon X.valuePieces := by
  unfold out0_A_8
  rw [View.read_writes_junk_eq_canon]
  have h := Point.values_eq X c
  unfold Point.run at h
  exact congrArg View.canon h

theorem block8 (c : Dev nD) (t : Fin cfg0.N) : (outsAt0 m c t).2.1 = View.canon (pt m c t).valuePieces := by
  have h := left8 (pt m c t) c
  unfold pt at h ⊢
  dsimp only at h
  unfold outsAt0
  dsimp only
  exact h

theorem left9 (X : Point Ideal) (c : Dev nD) : out0_A_9 c X.i X.arg1 X.harg1 X.arg2 X.harg2 X.arg3 X.harg3 X.arg4 X.harg4 X.arg5 X.harg5 X.arg6 X.harg6 X.arg7 X.harg7 X.arg8 X.harg8 X.arg9 X.harg9 X.arg10 X.harg10 X.x0 X.x1 X.x2 X.x3 X.x4 X.x5 X.x6 = View.canon X.gatePieces := by
  unfold out0_A_9
  rw [View.read_writes_junk_eq_canon]
  have h := Point.gates_eq X c
  unfold Point.run at h
  exact congrArg View.canon h

theorem block9 (c : Dev nD) (t : Fin cfg0.N) : (outsAt0 m c t).2.2 = View.canon (pt m c t).gatePieces := by
  have h := left9 (pt m c t) c
  unfold pt at h ⊢
  dsimp only at h
  unfold outsAt0
  dsimp only
  exact h

/-- The array of the keys. -/
def keys (c : Dev nD) : Vec Ideal S4x1x1024x256 .bf16 := fun i => key (argsOf m c) (i 0) (i 2) (i 3)

/-- An element of it, its coordinates given. -/
theorem keys_at (c : Dev nD) (i : S4x1x1024x256.Idx) (b : Fin 4) (q : Fin 1024) (e : Fin 256)
    (h0 : (i 0 : ℕ) = b) (h2 : (i 2 : ℕ) = q) (h3 : (i 3 : ℕ) = e) : keys m c i = key (argsOf m c) b q e := by
  unfold keys
  congr 1 <;> apply Fin.ext <;> assumption

/-- It is what the run leaves. -/
theorem final7 (c : Dev nD) : (dats m 0 c).arrAt 7 cfg0.N = keys m c := by
  refine (dats m 0 c).arrAt_eq_of_covers 7 _ (by decide +kernel) fun t hf y => ?_
  blk_simp
  rw [after0_7]
  have h0 : (y 0 : ℕ) < 1 := (y 0).isLt
  have h1 : (y 1 : ℕ) < 1 := (y 1).isLt
  have h2 : (y 2 : ℕ) < 1024 := (y 2).isLt
  have h3 : (y 3 : ℕ) < 256 := (y 3).isLt
  have hy : y = (ix4 0 0 ⟨(y 2 : ℕ), h2⟩ ⟨(y 3 : ℕ), h3⟩ : S1x1x1024x256.Idx) := by
    funext a
    fin_cases a <;> (apply Fin.ext; simp; try omega)
  refine (congrArg (outsAt0 m c t).1 hy).trans ((congrFun (block7 m c t) _).trans ((keys_apply (cut m c t) _ _).trans ?_))
  have i7 := idx7 t
  have e0 : ((((cfg0.win 7).blk t).view.emb y 0 : Fin _) : ℕ) = t := by blk_simp; omega
  have e2 : ((((cfg0.win 7).blk t).view.emb y 2 : Fin _) : ℕ) = y 2 := by blk_simp; omega
  have e3 : ((((cfg0.win 7).blk t).view.emb y 3 : Fin _) : ℕ) = y 3 := by blk_simp; omega
  exact (keys_at m c _ (bOf t) _ _ e0 e2 e3).symm

/-- The array of the values. -/
def values (c : Dev nD) : Vec Ideal S4x256x1024 .bf16 := fun i => value (argsOf m c) (i 0) (i 1) (i 2)

/-- An element of it, its coordinates given. -/
theorem values_at (c : Dev nD) (i : S4x256x1024.Idx) (b : Fin 4) (r : Fin 256) (e : Fin 1024)
    (h0 : (i 0 : ℕ) = b) (h1 : (i 1 : ℕ) = r) (h2 : (i 2 : ℕ) = e) : values m c i = value (argsOf m c) b r e := by
  unfold values
  congr 1 <;> apply Fin.ext <;> assumption

/-- It is what the run leaves. -/
theorem final8 (c : Dev nD) : (dats m 0 c).arrAt 8 cfg0.N = values m c := by
  refine (dats m 0 c).arrAt_eq_of_covers 8 _ (by decide +kernel) fun t hf y => ?_
  blk_simp
  rw [after0_8]
  have h0 : (y 0 : ℕ) < 1 := (y 0).isLt
  have h1 : (y 1 : ℕ) < 256 := (y 1).isLt
  have h2 : (y 2 : ℕ) < 1024 := (y 2).isLt
  have hy : y = (ix3 0 ⟨(y 1 : ℕ), h1⟩ ⟨(y 2 : ℕ), h2⟩ : S1x256x1024.Idx) := by
    funext a
    fin_cases a <;> (apply Fin.ext; simp; try omega)
  refine (congrArg (outsAt0 m c t).2.1 hy).trans ((congrFun (block8 m c t) _).trans ((values_apply (cut m c t) _ _).trans ?_))
  have i8 := idx8 t
  have e0 : ((((cfg0.win 8).blk t).view.emb y 0 : Fin _) : ℕ) = t := by blk_simp; omega
  have e1 : ((((cfg0.win 8).blk t).view.emb y 1 : Fin _) : ℕ) = y 1 := by blk_simp; omega
  have e2 : ((((cfg0.win 8).blk t).view.emb y 2 : Fin _) : ℕ) = y 2 := by blk_simp; omega
  exact (values_at m c _ (bOf t) _ _ e0 e1 e2).symm

/-- The array of the gates. -/
def gates (c : Dev nD) : Vec Ideal S4x256x128 .f32 := fun i => gate (argsOf m c) (i 0) (i 1) (i 2)

/-- An element of it, its coordinates given. -/
theorem gates_at (c : Dev nD) (i : S4x256x128.Idx) (b : Fin 4) (r : Fin 256) (e : Fin 128)
    (h0 : (i 0 : ℕ) = b) (h1 : (i 1 : ℕ) = r) (h2 : (i 2 : ℕ) = e) : gates m c i = gate (argsOf m c) b r e := by
  unfold gates
  congr 1 <;> apply Fin.ext <;> assumption

/-- It is what the run leaves. -/
theorem final9 (c : Dev nD) : (dats m 0 c).arrAt 9 cfg0.N = gates m c := by
  refine (dats m 0 c).arrAt_eq_of_covers 9 _ (by decide +kernel) fun t hf y => ?_
  blk_simp
  rw [after0_9]
  have h0 : (y 0 : ℕ) < 1 := (y 0).isLt
  have h1 : (y 1 : ℕ) < 256 := (y 1).isLt
  have h2 : (y 2 : ℕ) < 128 := (y 2).isLt
  have hy : y = (ix3 0 ⟨(y 1 : ℕ), h1⟩ ⟨(y 2 : ℕ), h2⟩ : S1x256x128.Idx) := by
    funext a
    fin_cases a <;> (apply Fin.ext; simp; try omega)
  refine (congrArg (outsAt0 m c t).2.2 hy).trans ((congrFun (block9 m c t) _).trans ((gates_apply (cut m c t) _ _).trans ?_))
  have i9 := idx9 t
  have e0 : ((((cfg0.win 9).blk t).view.emb y 0 : Fin _) : ℕ) = t := by blk_simp; omega
  have e1 : ((((cfg0.win 9).blk t).view.emb y 1 : Fin _) : ℕ) = y 1 := by blk_simp; omega
  have e2 : ((((cfg0.win 9).blk t).view.emb y 2 : Fin _) : ℕ) = y 2 := by blk_simp; omega
  exact (gates_at m c _ (bOf t) _ _ e0 e1 e2).symm

end Cert.Kernel5Ideal.CtxValue

end
-- ==== Proof.CtxReference.lean ====
/- The reference of the context's projection, element by element. -/
module

public import proofs.«01_k».proof.Proof.Gen.Reference5Ideal.Run
public import proofs.«01_k».proof.Proof.CtxSpec

@[expose] public section

noncomputable section

namespace Cert.Reference5Ideal.CtxReference

open Idealize.ShloMosaic Idealize.ShloMosaic.TcCoe Cert.Reference5Ideal Cert.Reference5Ideal.Gen Cert.Reference5Ideal.Value
open Cert.Context
open Cert.Outproj (modulated)
open Cert.Inproj (conv swish)

variable (m : (ℓ : Loc nD τ sig) → Buf (Elt Ideal) ℓ)

/-- The argument arrays as functions of their coordinates. -/
def argsOf (c : Dev nD) : Args where
  x b r e := m ((c.tc : Thread nD τ).loc main_arg0) (ix3 b r e)
  mod b j e := m ((c.tc : Thread nD τ).loc main_arg1) (ix3 b j e)
  gain e := m ((c.tc : Thread nD τ).loc main_arg2) (ix2 0 e)
  w d n := m ((c.tc : Thread nD τ).loc main_arg3) (ix2 d n)
  wg d l := m ((c.tc : Thread nD τ).loc main_arg4) (ix2 d l)
  taps j e := m ((c.tc : Thread nD τ).loc main_arg5) (ix2 j e)
  post e := m ((c.tc : Thread nD τ).loc main_arg6) (ix2 0 e)

/-- The normed rows. -/
def rows (c : Dev nD) : FVec Ideal S4x256x2048 .f32 :=
  addf (F := Ideal) (mulf (mulf (mulf (m ((c.tc : Thread nD τ).loc main_arg0)) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (m ((c.tc : Thread nD τ).loc main_arg0)) (m ((c.tc : Thread nD τ).loc main_arg0))) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![1, 2] bcast_S1x2048_S1x1x2048_1_2 (m ((c.tc : Thread nD τ).loc main_arg2))))) (broadcastInDim S4x256x2048 ![0, 1, 2] bcast_S1x1x2048_S4x256x2048_0_1_2 (addf (broadcastInDim S1x1x2048 ![] bcast_S_S1x1x2048 (constant S_ .f32 0x3F800000#32)) (broadcastInDim S1x1x2048 ![0, 2] bcast_S1x2048_S1x1x2048_0_2 (shapeCast _ (extractStridedSlice S1x1x2048 ![4, 1, 0] (m ((c.tc : Thread nD τ).loc main_arg1)) slices_S8x6x2048_S1x1x2048_4_1_0) shapeCasts_S1x1x2048_S1x2048))))) (broadcastInDim S4x256x2048 ![0, 1, 2] bcast_S1x1x2048_S4x256x2048_0_1_2 (broadcastInDim S1x1x2048 ![0, 2] bcast_S1x2048_S1x1x2048_0_2 (shapeCast _ (extractStridedSlice S1x1x2048 ![4, 0, 0] (m ((c.tc : Thread nD τ).loc main_arg1)) slices_S8x6x2048_S1x1x2048_4_0_0) shapeCasts_S1x1x2048_S1x2048)))

theorem rows_apply (c : Dev nD) (b : Fin 4) (t : Fin 256) (e : Fin 2048) :
    (rows m c (ix3 b t e) : EReal) = normed (argsOf m c) b t e := by
  pointwise [rows]
  rfl

/-- The channels the convolution takes. -/
def channels (c : Dev nD) : FVec Ideal S4x256x1024 .f32 :=
  Host.dotGeneral dot_S4x256x2048_S2048x1024_S4x256x1024_2_0_01_1_n_n none (rows m c) (extf .f32 (extractStridedSlice S2048x1024 ![0, 2048] (m ((c.tc : Thread nD τ).loc main_arg3)) slices_S2048x5136_S2048x1024_0_2048) bitsLt_bf16_f32)

theorem channels_apply (c : Dev nD) (b : Fin 4) (t : Fin 256) (ch : Fin 1024) :
    (channels m c (ix3 b t ch) : EReal) = proj (argsOf m c) b t ⟨2048 + ch, by omega⟩ := by
  unfold channels
  have h := fun d => rows_apply m c b t d
  generalize rows m c = z at h ⊢
  pointwise []
  exact Finset.sum_congr rfl fun d _ => congrArg₂ (· * ·) (h d) rfl

/-- The channels with two rows of zeros before and after. -/
def rimmed (z : FVec Ideal S4x256x1024 .f32) : FVec Ideal S4x260x1024 .f32 :=
  concatenate S4x260x1024 1 [⟨S4x2x1024, ((broadcastInDim S4x2x1024 ![] bcast_S_S4x2x1024 (constant (F := Ideal) S_ .f32 0x00000000#32)) : (⟨S4x2x1024, .f32⟩ : BufTy).Contents (Elt Ideal))⟩, ⟨S4x256x1024, (z : (⟨S4x256x1024, .f32⟩ : BufTy).Contents (Elt Ideal))⟩, ⟨S4x2x1024, ((broadcastInDim S4x2x1024 ![] bcast_S_S4x2x1024 (constant (F := Ideal) S_ .f32 0x00000000#32)) : (⟨S4x2x1024, .f32⟩ : BufTy).Contents (Elt Ideal))⟩] concatenates_S4x2x1024_S4x256x1024_S4x2x1024_S4x260x1024_d1

theorem rimmed_apply (z : FVec Ideal S4x256x1024 .f32) (b : Fin 4) (u : Fin 260) (ch : Fin 1024) :
    (rimmed z (ix3 b u ch) : EReal) = if h : 2 ≤ (u : ℕ) ∧ (u : ℕ) < 258 then z (ix3 b ⟨u - 2, by omega⟩ ch) else 0 := by
  pointwise [rimmed]
  by_cases h1 : (u : ℕ) < 2
  · rw [dif_pos h1, dif_neg (by omega)]
  · rw [dif_neg h1]
    by_cases h2 : (u : ℕ) - 2 < 256
    · rw [dif_pos h2, dif_pos (by omega)]
    · rw [dif_neg h2, dif_neg (by omega)]

/-- The convolution. -/
def summed (c : Dev nD) (u : FVec Ideal S4x260x1024 .f32) : FVec Ideal S4x256x1024 .f32 :=
  addf (F := Ideal) (addf (addf (addf (mulf (extractStridedSlice S4x256x1024 ![0, 0, 0] u slices_S4x260x1024_S4x256x1024_0_0_0) (broadcastInDim S4x256x1024 ![0, 1, 2] bcast_S1x1x1024_S4x256x1024_0_1_2 (broadcastInDim S1x1x1024 ![1, 2] bcast_S1x1024_S1x1x1024_1_2 (extractStridedSlice S1x1024 ![0, 1024] (m ((c.tc : Thread nD τ).loc main_arg5)) slices_S5x2048_S1x1024_0_1024)))) (mulf (extractStridedSlice S4x256x1024 ![0, 1, 0] u slices_S4x260x1024_S4x256x1024_0_1_0) (broadcastInDim S4x256x1024 ![0, 1, 2] bcast_S1x1x1024_S4x256x1024_0_1_2 (broadcastInDim S1x1x1024 ![1, 2] bcast_S1x1024_S1x1x1024_1_2 (extractStridedSlice S1x1024 ![1, 1024] (m ((c.tc : Thread nD τ).loc main_arg5)) slices_S5x2048_S1x1024_1_1024))))) (mulf (extractStridedSlice S4x256x1024 ![0, 2, 0] u slices_S4x260x1024_S4x256x1024_0_2_0) (broadcastInDim S4x256x1024 ![0, 1, 2] bcast_S1x1x1024_S4x256x1024_0_1_2 (broadcastInDim S1x1x1024 ![1, 2] bcast_S1x1024_S1x1x1024_1_2 (extractStridedSlice S1x1024 ![2, 1024] (m ((c.tc : Thread nD τ).loc main_arg5)) slices_S5x2048_S1x1024_2_1024))))) (mulf (extractStridedSlice S4x256x1024 ![0, 3, 0] u slices_S4x260x1024_S4x256x1024_0_3_0) (broadcastInDim S4x256x1024 ![0, 1, 2] bcast_S1x1x1024_S4x256x1024_0_1_2 (broadcastInDim S1x1x1024 ![1, 2] bcast_S1x1024_S1x1x1024_1_2 (extractStridedSlice S1x1024 ![3, 1024] (m ((c.tc : Thread nD τ).loc main_arg5)) slices_S5x2048_S1x1024_3_1024))))) (mulf (extractStridedSlice S4x256x1024 ![0, 4, 0] u slices_S4x260x1024_S4x256x1024_0_4_0) (broadcastInDim S4x256x1024 ![0, 1, 2] bcast_S1x1x1024_S4x256x1024_0_1_2 (broadcastInDim S1x1x1024 ![1, 2] bcast_S1x1024_S1x1x1024_1_2 (extractStridedSlice S1x1024 ![4, 1024] (m ((c.tc : Thread nD τ).loc main_arg5)) slices_S5x2048_S1x1024_4_1024))))

theorem summed_apply (c : Dev nD) (u : FVec Ideal S4x260x1024 .f32) (b : Fin 4) (t : Fin 256) (ch : Fin 1024) :
    (summed m c u (ix3 b t ch) : EReal) =
      conv (fun j => u (ix3 b ⟨t + j, by omega⟩ ch)) fun j => (argsOf m c).taps j ⟨1024 + ch, by omega⟩ := by
  have hu : ∀ p q : Fin 260, (p : ℕ) = q → u (ix3 b p ch) = u (ix3 b q ch) := fun p q h => by rw [Fin.ext h]
  pointwise [summed]
  exact congrArg₂ (· + ·) (congrArg₂ (· + ·) (congrArg₂ (· + ·) (congrArg₂ (· + ·)
    (congrArg₂ (· * ·) (hu _ _ (by simp)) rfl) (congrArg₂ (· * ·) (hu _ _ (Nat.add_comm _ _)) rfl))
    (congrArg₂ (· * ·) (hu _ _ (Nat.add_comm _ _)) rfl)) (congrArg₂ (· * ·) (hu _ _ (Nat.add_comm _ _)) rfl))
    (congrArg₂ (· * ·) (hu _ _ (Nat.add_comm _ _)) rfl)

/-- The convolved channels. -/
def activated (c : Dev nD) (a : FVec Ideal S4x256x1024 .f32) : FVec Ideal S4x256x1024 .f32 :=
  mulf (F := Ideal) (mulf a (Host.divf (broadcastInDim S4x256x1024 ![] bcast_S_S4x256x1024 (constant S_ .f32 0x3F800000#32)) (addf (broadcastInDim S4x256x1024 ![] bcast_S_S4x256x1024 (constant S_ .f32 0x3F800000#32)) (Host.exp (Host.negf a))))) (broadcastInDim S4x256x1024 ![0, 1, 2] bcast_S1x1x1024_S4x256x1024_0_1_2 (broadcastInDim S1x1x1024 ![1, 2] bcast_S1x1024_S1x1x1024_1_2 (extractStridedSlice S1x1024 ![0, 1024] (m ((c.tc : Thread nD τ).loc main_arg6)) slices_S1x2048_S1x1024_0_1024)))

theorem activated_apply (c : Dev nD) (a : FVec Ideal S4x256x1024 .f32) (b : Fin 4) (t : Fin 256) (ch : Fin 1024) :
    (activated m c a (ix3 b t ch) : EReal) = swish (a (ix3 b t ch)) ((argsOf m c).post ⟨1024 + ch, by omega⟩) := by
  pointwise [activated]
  rfl

/-- The convolution's result as one array. -/
def result (c : Dev nD) : FVec Ideal S4x256x1024 .f32 := activated m c (summed m c (rimmed (channels m c)))

theorem result_apply (c : Dev nD) (b : Fin 4) (t : Fin 256) (ch : Fin 1024) :
    (result m c (ix3 b t ch) : EReal) = key (argsOf m c) b ch t := by
  refine (activated_apply m c _ b t ch).trans (congrArg (swish · _) ?_)
  refine (summed_apply m c _ b t ch).trans (congrArg (conv · _) (funext fun j => ?_))
  refine (rimmed_apply _ b _ ch).trans ?_
  show _ = padded (argsOf m c) b ch (t + j)
  unfold padded
  by_cases h : 2 ≤ (t : ℕ) + j ∧ (t : ℕ) + j < 258
  · rw [dif_pos h, dif_pos h]
    exact channels_apply m c b _ ch
  · rw [dif_neg h, dif_neg h]

theorem keys_eq (c : Dev nD) : res_main_v69 (F := Ideal) m c = truncf (F := Ideal) .bf16 (transpose S4x1x1024x256 [0, 1, 3, 2] (shapeCast _ (result m c) shapeCasts_S4x256x1024_S4x1x256x1024) transposes_S4x1x256x1024_S4x1x1024x256_0_1_3_2) bitsLt_bf16_f32 := by
  unfold res_main_v69 result activated summed rimmed channels rows
  rfl

/-- The keys. -/
theorem keys_apply (c : Dev nD) (b : Fin 4) (e : Fin 1024) (r : Fin 256) :
    (res_main_v69 (F := Ideal) m c (ix4 b 0 e r) : EReal) = key (argsOf m c) b e r := by
  rw [keys_eq]
  have h := fun t ch => result_apply m c b t ch
  generalize result m c = z at h ⊢
  pointwise []
  exact h r e

/-- The values as the run leaves them. -/
def values (c : Dev nD) : FVec Ideal S4x256x1024 .bf16 :=
  truncf (F := Ideal) .bf16 (Host.dotGeneral dot_S4x256x2048_S2048x1024_S4x256x1024_2_0_01_1_n_n none (addf (mulf (mulf (mulf (m ((c.tc : Thread nD τ).loc main_arg0)) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (m ((c.tc : Thread nD τ).loc main_arg0)) (m ((c.tc : Thread nD τ).loc main_arg0))) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![1, 2] bcast_S1x2048_S1x1x2048_1_2 (m ((c.tc : Thread nD τ).loc main_arg2))))) (broadcastInDim S4x256x2048 ![0, 1, 2] bcast_S1x1x2048_S4x256x2048_0_1_2 (addf (broadcastInDim S1x1x2048 ![] bcast_S_S1x1x2048 (constant S_ .f32 0x3F800000#32)) (broadcastInDim S1x1x2048 ![0, 2] bcast_S1x2048_S1x1x2048_0_2 (shapeCast _ (extractStridedSlice S1x1x2048 ![4, 1, 0] (m ((c.tc : Thread nD τ).loc main_arg1)) slices_S8x6x2048_S1x1x2048_4_1_0) shapeCasts_S1x1x2048_S1x2048))))) (broadcastInDim S4x256x2048 ![0, 1, 2] bcast_S1x1x2048_S4x256x2048_0_1_2 (broadcastInDim S1x1x2048 ![0, 2] bcast_S1x2048_S1x1x2048_0_2 (shapeCast _ (extractStridedSlice S1x1x2048 ![4, 0, 0] (m ((c.tc : Thread nD τ).loc main_arg1)) slices_S8x6x2048_S1x1x2048_4_0_0) shapeCasts_S1x1x2048_S1x2048)))) (extf .f32 (extractStridedSlice S2048x1024 ![0, 3072] (m ((c.tc : Thread nD τ).loc main_arg3)) slices_S2048x5136_S2048x1024_0_3072) bitsLt_bf16_f32)) bitsLt_bf16_f32

/-- The values. -/
theorem values_apply (c : Dev nD) (b : Fin 4) (t : Fin 256) (e : Fin 1024) :
    (values m c (ix3 b t e) : EReal) = value (argsOf m c) b t e := by
  have ev : values m c = truncf (F := Ideal) .bf16 (Host.dotGeneral dot_S4x256x2048_S2048x1024_S4x256x1024_2_0_01_1_n_n none (rows m c) (extf .f32 (extractStridedSlice S2048x1024 ![0, 3072] (m ((c.tc : Thread nD τ).loc main_arg3)) slices_S2048x5136_S2048x1024_0_3072) bitsLt_bf16_f32)) bitsLt_bf16_f32 := rfl
  rw [ev]
  have h := fun d => rows_apply m c b t d
  generalize rows m c = z at h ⊢
  pointwise []
  exact Finset.sum_congr rfl fun d _ => congrArg₂ (· * ·) (h d) rfl

/-- The gates as the run leaves them. -/
def gates (c : Dev nD) : FVec Ideal S4x256x128 .f32 :=
  Host.dotGeneral dot_S4x256x2048_S2048x128_S4x256x128_2_0_01_1_n_n none (addf (mulf (mulf (mulf (m ((c.tc : Thread nD τ).loc main_arg0)) (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf (m ((c.tc : Thread nD τ).loc main_arg0)) (m ((c.tc : Thread nD τ).loc main_arg0))) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![1, 2] bcast_S1x2048_S1x1x2048_1_2 (m ((c.tc : Thread nD τ).loc main_arg2))))) (broadcastInDim S4x256x2048 ![0, 1, 2] bcast_S1x1x2048_S4x256x2048_0_1_2 (addf (broadcastInDim S1x1x2048 ![] bcast_S_S1x1x2048 (constant S_ .f32 0x3F800000#32)) (broadcastInDim S1x1x2048 ![0, 2] bcast_S1x2048_S1x1x2048_0_2 (shapeCast _ (extractStridedSlice S1x1x2048 ![4, 1, 0] (m ((c.tc : Thread nD τ).loc main_arg1)) slices_S8x6x2048_S1x1x2048_4_1_0) shapeCasts_S1x1x2048_S1x2048))))) (broadcastInDim S4x256x2048 ![0, 1, 2] bcast_S1x1x2048_S4x256x2048_0_1_2 (broadcastInDim S1x1x2048 ![0, 2] bcast_S1x2048_S1x1x2048_0_2 (shapeCast _ (extractStridedSlice S1x1x2048 ![4, 0, 0] (m ((c.tc : Thread nD τ).loc main_arg1)) slices_S8x6x2048_S1x1x2048_4_0_0) shapeCasts_S1x1x2048_S1x2048)))) (extf .f32 (m ((c.tc : Thread nD τ).loc main_arg4)) bitsLt_bf16_f32)

/-- The gates. -/
theorem gates_apply (c : Dev nD) (b : Fin 4) (t : Fin 256) (l : Fin 128) :
    (gates m c (ix3 b t l) : EReal) = gate (argsOf m c) b t l := by
  have e : gates m c = Host.dotGeneral (F := Ideal) dot_S4x256x2048_S2048x128_S4x256x128_2_0_01_1_n_n none (rows m c) (extf .f32 (m ((c.tc : Thread nD τ).loc main_arg4)) bitsLt_bf16_f32) := rfl
  rw [e]
  have h := fun d => rows_apply m c b t d
  generalize rows m c = z at h ⊢
  pointwise []
  exact Finset.sum_congr rfl fun d _ => congrArg₂ (· * ·) (h d) rfl

end Cert.Reference5Ideal.CtxReference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_as_prepared
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.LoopRun
public import proofs.«01_k».proof.Proof.Finish
public import proofs.«01_k».proof.Proof.KernelValue
public import proofs.«01_k».proof.Proof.Prepared
public import proofs.«01_k».proof.Proof.MlpValue
public import proofs.«01_k».proof.Proof.MlpReference
public import proofs.«01_k».proof.Proof.OutValue
public import proofs.«01_k».proof.Proof.OutReference
public import proofs.«01_k».proof.Proof.InValue
public import proofs.«01_k».proof.Proof.InReference
public import proofs.«01_k».proof.Proof.CtxValue
public import proofs.«01_k».proof.Proof.CtxReference
public import Idealize.ShloMosaic.Adequacy
public import Idealize.ShloMosaic.Init

@[expose] public section

noncomputable section

namespace Cert.Proof

open Idealize.ShloMosaic Idealize.SL.Sem Cert.Mlstm

/-- The arguments of the reference's memory, as functions of their coordinates. -/
def refArgs (m : (ℓ : Loc Cert.ReferenceIdeal.nD Cert.ReferenceIdeal.τ Cert.ReferenceIdeal.sig) → Buf (Elt Ideal) ℓ)
    (c : Dev Cert.ReferenceIdeal.nD) : Args :=
  Cert.ReferenceIdeal.Setup.argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))

/-- The reference's states after each trip of its loop. -/
def refStates (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.ReferenceIdeal.Recur.states (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))

/-- The reference runs, keeps its arguments, and has no semaphore to leave raised. -/
theorem reference_frame : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.LoopRun.run_iter m ρ (refStates m) (fun _ => rfl) (fun _ _ => rfl))

/-- The reference's first result is the recurrence's. -/
theorem reference_first (m : (ℓ : Loc Cert.ReferenceIdeal.nD Cert.ReferenceIdeal.τ Cert.ReferenceIdeal.sig) → Buf (Elt Ideal) ℓ)
    (c : Dev Cert.ReferenceIdeal.nD) (b h : Fin 4) (k : Fin 16) (r d : Fin 256) :
    Cert.ReferenceIdeal.Step.R_main_v142 (refStates m c 16)
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg8))
      (ix3 b (pos k r) (feat h d)) = result (refArgs m c) b h k r d :=
  Cert.ReferenceIdeal.Finish.result_apply (A := refArgs m c)
    (Cert.ReferenceIdeal.Recur.inv_states (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) 16 (le_refl _))
    _ _ (fun _ _ _ => rfl) (fun _ => rfl) b k r h d

/-- The kernel's results are the reference's. -/
theorem value : Cert.algebraic_KernelIdeal_ReferenceIdeal_pre_gates_as_prepared := by
  intro m ρ m' ρ' hpre hagree
  refine ⟨fun c => Cert.KernelIdeal.KernelValue.mixed m c,
    fun c => m ((c.tc : Thread Cert.KernelIdeal.nD Cert.KernelIdeal.τ).loc Cert.KernelIdeal.main_arg9),
    fun c => m ((c.tc : Thread Cert.KernelIdeal.nD Cert.KernelIdeal.τ).loc Cert.KernelIdeal.main_arg10), ?_, ?_⟩
  · refine (θ_run _ _ _).mono (fun _ h c => ?_) (Cert.KernelIdeal.Value.run_blocks m ρ)
    exact ⟨(h c).1.trans (Cert.KernelIdeal.KernelValue.final12 m c (Cert.Prepared.good hpre c)),
      (h c).2.1.trans (Cert.KernelIdeal.KernelValue.final13 m c),
      (h c).2.2.1.trans (Cert.KernelIdeal.KernelValue.final14 m c), (h c).2.2.2⟩
  · refine (θ_run _ _ _).mono (fun _ h c => ?_) (Cert.ReferenceIdeal.LoopRun.run_iter m' ρ' (refStates m') (fun _ => rfl) (fun _ _ => rfl))
    obtain ⟨e0, e1, e2, e3, e4, e5, e6, e7, e8, e9, e10⟩ := hagree c
    have eA : refArgs m' c = Cert.KernelIdeal.KernelValue.argsOf m c := by
      unfold refArgs
      rw [e0, e1, e2, e3, e4, e5, e6, e7, e8]
      rfl
    refine ⟨(h c).1.trans ?_, (h c).2.1.trans ?_, (h c).2.2.1.trans ?_, (h c).2.2.2⟩
    · funext i
      have h1 : (i 1 : ℕ) < 4096 := (i 1).isLt
      have h2 : (i 2 : ℕ) < 1024 := (i 2).isLt
      have hi : i = ix3 (i 0 : Fin 4) (pos ⟨(i 1 : ℕ) / 256, by omega⟩ ⟨(i 1 : ℕ) % 256, by omega⟩)
          (feat ⟨(i 2 : ℕ) / 256, by omega⟩ ⟨(i 2 : ℕ) % 256, by omega⟩) := by
        funext a
        fin_cases a <;> (apply Fin.ext; simp [pos, feat]; try omega)
      refine (congrArg _ hi).trans ((reference_first m' c _ _ _ _ _).trans ?_)
      rw [eA]
      rfl
    · rw [e9]
      rfl
    · rw [e10]
      rfl

/-- The MLP's reference runs, keeps its arguments, and has no semaphore to leave raised. -/
theorem mlp_reference_frame : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- The MLP kernel's result is its reference's. -/
theorem mlp_value : Cert.algebraic_Kernel2Ideal_Reference2Ideal := by
  intro m ρ m' ρ' hpre hagree
  refine ⟨fun c => Cert.Kernel2Ideal.MlpValue.output m c, ?_, ?_⟩
  · refine (θ_run _ _ _).mono (fun _ h c => ?_) (Cert.Kernel2Ideal.Value.run_blocks m ρ)
    exact ⟨(h c).1.trans (Cert.Kernel2Ideal.MlpValue.final6 m c), (h c).2⟩
  · refine (θ_run _ _ _).mono (fun _ h c => ?_) (Cert.Reference2Ideal.Value.run m' ρ')
    obtain ⟨e0, e1, e2, e3, e4, e5⟩ := hagree c
    have eA : Cert.Reference2Ideal.MlpReference.argsOf m' c = Cert.Kernel2Ideal.MlpValue.argsOf m c := by
      unfold Cert.Reference2Ideal.MlpReference.argsOf
      rw [e0, e1, e2, e3, e4, e5]
      rfl
    refine ⟨(h c).1.trans ?_, (h c).2⟩
    funext i
    have hi : i = ix3 (i 0 : Fin 4) (i 1 : Fin 4096) (i 2 : Fin 2048) := by
      funext a
      fin_cases a <;> rfl
    refine (congrArg _ hi).trans ((Cert.Reference2Ideal.MlpReference.result_apply m' c _ _ _).trans ?_)
    rw [eA]
    rfl

/-- The output projection's reference runs, keeps its arguments, and has no semaphore to leave raised. -/
theorem out_reference_frame : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run m ρ)

/-- The output projection's two results are its reference's. -/
theorem out_value : Cert.algebraic_Kernel3Ideal_Reference3Ideal := by
  intro m ρ m' ρ' hpre hagree
  refine ⟨fun c => Cert.Kernel3Ideal.OutValue.streamed m c, fun c => Cert.Kernel3Ideal.OutValue.normed m c, ?_, ?_⟩
  · refine (θ_run _ _ _).mono (fun _ h c => ?_) (Cert.Kernel3Ideal.Value.run_blocks m ρ)
    exact ⟨(h c).1.trans (Cert.Kernel3Ideal.OutValue.final8 m c), (h c).2.1.trans (Cert.Kernel3Ideal.OutValue.final9 m c), (h c).2.2⟩
  · refine (θ_run _ _ _).mono (fun _ h c => ?_) (Cert.Reference3Ideal.Value.run m' ρ')
    obtain ⟨e0, e1, e2, e3, e4, e5, e6, e7⟩ := hagree c
    have eA : Cert.Reference3Ideal.OutReference.argsOf m' c = Cert.Kernel3Ideal.OutValue.argsOf m c := by
      unfold Cert.Reference3Ideal.OutReference.argsOf
      rw [e0, e1, e2, e3, e4, e5, e6, e7]
      rfl
    have hi : ∀ i : Cert.Kernel3Ideal.S4x4096x2048.Idx, i = ix3 (i 0 : Fin 4) (i 1 : Fin 4096) (i 2 : Fin 2048) := by
      intro i
      funext a
      fin_cases a <;> rfl
    refine ⟨(h c).1.trans ?_, (h c).2.1.trans ?_, (h c).2.2⟩
    · funext i
      refine (congrArg (Cert.Reference3Ideal.OutReference.streamed m' c) (hi i)).trans
        ((Cert.Reference3Ideal.OutReference.stream_apply m' c _ _ _).trans ?_)
      rw [eA]
      rfl
    · funext i
      refine (congrArg _ (hi i)).trans ((Cert.Reference3Ideal.OutReference.result_apply m' c _ _ _).trans ?_)
      rw [eA]
      rfl

/-- The input projection's reference runs, keeps its arguments, and has no semaphore to leave raised. -/
theorem in_reference_frame : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run m ρ)

/-- The input projection's four results are its reference's. -/
theorem in_value : Cert.algebraic_Kernel4Ideal_Reference4Ideal := by
  intro m ρ m' ρ' hpre hagree
  refine ⟨fun c => Cert.Kernel4Ideal.InValue.plains m c, fun c => Cert.Kernel4Ideal.InValue.queries m c,
    fun c => Cert.Kernel4Ideal.InValue.keys m c, fun c => Cert.Kernel4Ideal.InValue.gates m c, ?_, ?_⟩
  · refine (θ_run _ _ _).mono (fun _ h c => ?_) (Cert.Kernel4Ideal.Value.run_blocks m ρ)
    exact ⟨(h c).1.trans (Cert.Kernel4Ideal.InValue.final11 m c), (h c).2.1.trans (Cert.Kernel4Ideal.InValue.final12 m c),
      (h c).2.2.1.trans (Cert.Kernel4Ideal.InValue.final13 m c), (h c).2.2.2.1.trans (Cert.Kernel4Ideal.InValue.final14 m c),
      (h c).2.2.2.2⟩
  · refine (θ_run _ _ _).mono (fun _ h c => ?_) (Cert.Reference4Ideal.Value.run m' ρ')
    obtain ⟨e0, e1, e2, e3, e4, e5, e6, e7, e8⟩ := hagree c
    have eA : Cert.Reference4Ideal.InReference.argsOf m' c = Cert.Kernel4Ideal.InValue.argsOf m c := by
      unfold Cert.Reference4Ideal.InReference.argsOf
      rw [e0, e1, e2, e3, e4, e5, e6, e7, e8]
      rfl
    refine ⟨(h c).1.trans ?_, (h c).2.1.trans ?_, (h c).2.2.1.trans ?_, (h c).2.2.2.1.trans ?_, (h c).2.2.2.2⟩
    · funext i
      have hi : i = ix3 (i 0 : Fin 4) (i 1 : Fin 4096) (i 2 : Fin 3072) := by
        funext a
        fin_cases a <;> rfl
      refine (congrArg _ hi).trans ((Cert.Reference4Ideal.InReference.plain_apply m' c _ _ _).trans ?_)
      rw [eA]
      rfl
    · funext i
      have hi : i = ix4 (i 0 : Fin 4) (i 1 : Fin 4) (i 2 : Fin 4096) (i 3 : Fin 256) := by
        funext a
        fin_cases a <;> rfl
      refine (congrArg _ hi).trans ((Cert.Reference4Ideal.InReference.queries_apply m' c _ _ _ _).trans ?_)
      rw [eA]
      rfl
    · funext i
      have hi : i = ix4 (i 0 : Fin 4) (i 1 : Fin 16) (i 2 : Fin 1024) (i 3 : Fin 256) := by
        funext a
        fin_cases a <;> rfl
      refine (congrArg _ hi).trans ((Cert.Reference4Ideal.InReference.keys_apply m' c _ _ _ _).trans ?_)
      rw [eA]
      rfl
    · funext i
      have hi : i = ix3 (i 0 : Fin 4) (i 1 : Fin 4096) (i 2 : Fin 128) := by
        funext a
        fin_cases a <;> rfl
      refine (congrArg (Cert.Reference4Ideal.InReference.gates m' c) hi).trans
        ((Cert.Reference4Ideal.InReference.gates_apply m' c _ _ _).trans ?_)
      rw [eA]
      rfl

/-- The reference of the context's projection runs, keeps its arguments, and has no semaphore to leave raised. -/
theorem ctx_reference_frame : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run m ρ)

/-- The three results of the context's projection are its reference's. -/
theorem ctx_value : Cert.algebraic_Kernel5Ideal_Reference5Ideal := by
  intro m ρ m' ρ' hpre hagree
  refine ⟨fun c => Cert.Kernel5Ideal.CtxValue.keys m c, fun c => Cert.Kernel5Ideal.CtxValue.values m c, fun c => Cert.Kernel5Ideal.CtxValue.gates m c, ?_, ?_⟩
  · refine (θ_run _ _ _).mono (fun _ h c => ?_) (Cert.Kernel5Ideal.Value.run_blocks m ρ)
    exact ⟨(h c).1.trans (Cert.Kernel5Ideal.CtxValue.final7 m c), (h c).2.1.trans (Cert.Kernel5Ideal.CtxValue.final8 m c),
      (h c).2.2.1.trans (Cert.Kernel5Ideal.CtxValue.final9 m c), (h c).2.2.2⟩
  · refine (θ_run _ _ _).mono (fun _ h c => ?_) (Cert.Reference5Ideal.Value.run m' ρ')
    obtain ⟨e0, e1, e2, e3, e4, e5, e6⟩ := hagree c
    have eA : Cert.Reference5Ideal.CtxReference.argsOf m' c = Cert.Kernel5Ideal.CtxValue.argsOf m c := by
      unfold Cert.Reference5Ideal.CtxReference.argsOf
      rw [e0, e1, e2, e3, e4, e5, e6]
      rfl
    refine ⟨(h c).1.trans ?_, (h c).2.1.trans ?_, (h c).2.2.1.trans ?_, (h c).2.2.2⟩
    · funext i
      have hi : i = ix4 (i 0 : Fin 4) 0 (i 2 : Fin 1024) (i 3 : Fin 256) := by
        funext a
        fin_cases a <;> first | rfl | exact Subsingleton.elim (α := Fin 1) _ _
      refine (congrArg _ hi).trans ((Cert.Reference5Ideal.CtxReference.keys_apply m' c _ _ _).trans ?_)
      rw [eA]
      rfl
    · funext i
      have hi : i = ix3 (i 0 : Fin 4) (i 1 : Fin 256) (i 2 : Fin 1024) := by
        funext a
        fin_cases a <;> rfl
      refine (congrArg (Cert.Reference5Ideal.CtxReference.values m' c) hi).trans ((Cert.Reference5Ideal.CtxReference.values_apply m' c _ _ _).trans ?_)
      rw [eA]
      rfl
    · funext i
      have hi : i = ix3 (i 0 : Fin 4) (i 1 : Fin 256) (i 2 : Fin 128) := by
        funext a
        fin_cases a <;> rfl
      refine (congrArg (Cert.Reference5Ideal.CtxReference.gates m' c) hi).trans ((Cert.Reference5Ideal.CtxReference.gates_apply m' c _ _ _).trans ?_)
      rw [eA]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_gates_as_prepared.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  mlp_reference_frame,
  fun m ρ _ => Cert.Kernel3.Gen.frame m ρ,
  fun m ρ _ => Cert.Kernel3Ideal.Gen.frame m ρ,
  out_reference_frame,
  fun m ρ _ => Cert.Kernel4.Gen.frame m ρ,
  fun m ρ _ => Cert.Kernel4Ideal.Gen.frame m ρ,
  in_reference_frame,
  fun m ρ _ => Cert.Kernel5.Gen.frame m ρ,
  fun m ρ _ => Cert.Kernel5Ideal.Gen.frame m ρ,
  ctx_reference_frame,
  IdealRules.named_const.statement Cert.KernelIdeal.κ "mask" .f32 0xF149F2CA#32 ⊥ rfl,
  value,
  trivial,
  mlp_value,
  trivial,
  out_value,
  trivial,
  in_value,
  trivial,
  ctx_value⟩

end Cert.Proof

end
